-- ==== Defs.lean ====
def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecIdeal_decoder_inputs [hPre_decoder_inputs : Cert.Pre_decoder_inputs.Facts] (m : (ℓ : Loc Cert.DecIdeal.nD Cert.DecIdeal.τ Cert.DecIdeal.sig) → Buf (Elt Ideal) ℓ) : Prop :=
  ∀ c : Dev Cert.DecIdeal.nD,
    (Cert.Pre_decoder_inputs.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4)) (m ((c.tc : Thread Cert.DecIdeal.nD Cert.DecIdeal.τ).loc Cert.DecIdeal.main_arg5)) (m ((c.tc : Thread Cert.DecIdeal.nD Cert.DecIdeal.τ).loc Cert.DecIdeal.main_arg6)) (m ((c.tc : Thread Cert.DecIdeal.nD Cert.DecIdeal.τ).loc Cert.DecIdeal.main_arg7)) (m ((c.tc : Thread Cert.DecIdeal.nD Cert.DecIdeal.τ).loc Cert.DecIdeal.main_arg8))).1 = (fun _ => 1#1)
    ∧ (Cert.Pre_decoder_inputs.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4)) (m ((c.tc : Thread Cert.DecIdeal.nD Cert.DecIdeal.τ).loc Cert.DecIdeal.main_arg5)) (m ((c.tc : Thread Cert.DecIdeal.nD Cert.DecIdeal.τ).loc Cert.DecIdeal.main_arg6)) (m ((c.tc : Thread Cert.DecIdeal.nD Cert.DecIdeal.τ).loc Cert.DecIdeal.main_arg7)) (m ((c.tc : Thread Cert.DecIdeal.nD Cert.DecIdeal.τ).loc Cert.DecIdeal.main_arg8))).2.1 = (fun _ => 1#1)
    ∧ (Cert.Pre_decoder_inputs.fn (F := Ideal) (m ((c.tc : Thread Cert.DecIdeal.nD Cert.DecIdeal.τ).loc Cert.DecIdeal.main_arg0)) (m ((c.tc : Thread Cert.DecIdeal.nD Cert.DecIdeal.τ).loc Cert.DecIdeal.main_arg1)) (m ((c.tc : Thread Cert.DecIdeal.nD Cert.DecIdeal.τ).loc Cert.DecIdeal.main_arg2)) (m ((c.tc : Thread Cert.DecIdeal.nD Cert.DecIdeal.τ).loc Cert.DecIdeal.main_arg3)) (m ((c.tc : Thread Cert.DecIdeal.nD Cert.DecIdeal.τ).loc Cert.DecIdeal.main_arg4)) (m ((c.tc : Thread Cert.DecIdeal.nD Cert.DecIdeal.τ).loc Cert.DecIdeal.main_arg5)) (m ((c.tc : Thread Cert.DecIdeal.nD Cert.DecIdeal.τ).loc Cert.DecIdeal.main_arg6)) (m ((c.tc : Thread Cert.DecIdeal.nD Cert.DecIdeal.τ).loc Cert.DecIdeal.main_arg7)) (m ((c.tc : Thread Cert.DecIdeal.nD Cert.DecIdeal.τ).loc Cert.DecIdeal.main_arg8))).2.2 = (fun _ => 1#1)

def Pre_DecRefIdeal (m : (ℓ : Loc Cert.DecRefIdeal.nD Cert.DecRefIdeal.τ Cert.DecRefIdeal.sig) → Buf (Elt Ideal) ℓ) : Prop :=
  True

def Pre_DecRefIdeal_decoder_inputs [hPre_decoder_inputs : Cert.Pre_decoder_inputs.Facts] (m : (ℓ : Loc Cert.DecRefIdeal.nD Cert.DecRefIdeal.τ Cert.DecRefIdeal.sig) → Buf (Elt Ideal) ℓ) : Prop :=
  ∀ c : Dev Cert.DecRefIdeal.nD,
    (Cert.Pre_decoder_inputs.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4)) (m ((c.tc : Thread Cert.DecRefIdeal.nD Cert.DecRefIdeal.τ).loc Cert.DecRefIdeal.main_arg5)) (m ((c.tc : Thread Cert.DecRefIdeal.nD Cert.DecRefIdeal.τ).loc Cert.DecRefIdeal.main_arg6)) (m ((c.tc : Thread Cert.DecRefIdeal.nD Cert.DecRefIdeal.τ).loc Cert.DecRefIdeal.main_arg7)) (m ((c.tc : Thread Cert.DecRefIdeal.nD Cert.DecRefIdeal.τ).loc Cert.DecRefIdeal.main_arg8))).1 = (fun _ => 1#1)
    ∧ (Cert.Pre_decoder_inputs.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4)) (m ((c.tc : Thread Cert.DecRefIdeal.nD Cert.DecRefIdeal.τ).loc Cert.DecRefIdeal.main_arg5)) (m ((c.tc : Thread Cert.DecRefIdeal.nD Cert.DecRefIdeal.τ).loc Cert.DecRefIdeal.main_arg6)) (m ((c.tc : Thread Cert.DecRefIdeal.nD Cert.DecRefIdeal.τ).loc Cert.DecRefIdeal.main_arg7)) (m ((c.tc : Thread Cert.DecRefIdeal.nD Cert.DecRefIdeal.τ).loc Cert.DecRefIdeal.main_arg8))).2.1 = (fun _ => 1#1)
    ∧ (Cert.Pre_decoder_inputs.fn (F := Ideal) (m ((c.tc : Thread Cert.DecRefIdeal.nD Cert.DecRefIdeal.τ).loc Cert.DecRefIdeal.main_arg0)) (m ((c.tc : Thread Cert.DecRefIdeal.nD Cert.DecRefIdeal.τ).loc Cert.DecRefIdeal.main_arg1)) (m ((c.tc : Thread Cert.DecRefIdeal.nD Cert.DecRefIdeal.τ).loc Cert.DecRefIdeal.main_arg2)) (m ((c.tc : Thread Cert.DecRefIdeal.nD Cert.DecRefIdeal.τ).loc Cert.DecRefIdeal.main_arg3)) (m ((c.tc : Thread Cert.DecRefIdeal.nD Cert.DecRefIdeal.τ).loc Cert.DecRefIdeal.main_arg4)) (m ((c.tc : Thread Cert.DecRefIdeal.nD Cert.DecRefIdeal.τ).loc Cert.DecRefIdeal.main_arg5)) (m ((c.tc : Thread Cert.DecRefIdeal.nD Cert.DecRefIdeal.τ).loc Cert.DecRefIdeal.main_arg6)) (m ((c.tc : Thread Cert.DecRefIdeal.nD Cert.DecRefIdeal.τ).loc Cert.DecRefIdeal.main_arg7)) (m ((c.tc : Thread Cert.DecRefIdeal.nD Cert.DecRefIdeal.τ).loc Cert.DecRefIdeal.main_arg8))).2.2 = (fun _ => 1#1)

def Pre_Enc (m : (ℓ : Loc Cert.Enc.nD Cert.Enc.τ Cert.Enc.sig) → Buf (Elt Bits) ℓ) : Prop :=
  True

def Pre_EncIdeal (m : (ℓ : Loc Cert.EncIdeal.nD Cert.EncIdeal.τ Cert.EncIdeal.sig) → Buf (Elt Ideal) ℓ) : Prop :=
  True

def Pre_EncIdeal_ids_in_range [hPre_ids_in_range : Cert.Pre_ids_in_range.Facts] (m : (ℓ : Loc Cert.EncIdeal.nD Cert.EncIdeal.τ Cert.EncIdeal.sig) → Buf (Elt Ideal) ℓ) : Prop :=
  ∀ c : Dev Cert.EncIdeal.nD,
    (Cert.Pre_ids_in_range.fn (F := Ideal) (m ((c.tc : Thread Cert.EncIdeal.nD Cert.EncIdeal.τ).loc Cert.EncIdeal.main_arg0)) (m ((c.tc : Thread Cert.EncIdeal.nD Cert.EncIdeal.τ).loc Cert.EncIdeal.main_arg1)) (m ((c.tc : Thread Cert.EncIdeal.nD Cert.EncIdeal.τ).loc Cert.EncIdeal.main_arg2)) (m ((c.tc : Thread Cert.EncIdeal.nD Cert.EncIdeal.τ).loc Cert.EncIdeal.main_arg3)) (m ((c.tc : Thread Cert.EncIdeal.nD Cert.EncIdeal.τ).loc Cert.EncIdeal.main_arg4)) (m ((c.tc : Thread Cert.EncIdeal.nD Cert.EncIdeal.τ).loc Cert.EncIdeal.main_arg5)) (m ((c.tc : Thread Cert.EncIdeal.nD Cert.EncIdeal.τ).loc Cert.EncIdeal.main_arg6)) (m ((c.tc : Thread Cert.EncIdeal.nD Cert.EncIdeal.τ).loc Cert.EncIdeal.main_arg7))) = (fun _ => 1#1)

def Pre_EncRefIdeal (m : (ℓ : Loc Cert.EncRefIdeal.nD Cert.EncRefIdeal.τ Cert.EncRefIdeal.sig) → Buf (Elt Ideal) ℓ) : Prop :=
  True

def Pre_EncRefIdeal_ids_in_range [hPre_ids_in_range : Cert.Pre_ids_in_range.Facts] (m : (ℓ : Loc Cert.EncRefIdeal.nD Cert.EncRefIdeal.τ Cert.EncRefIdeal.sig) → Buf (Elt Ideal) ℓ) : Prop :=
  ∀ c : Dev Cert.EncRefIdeal.nD,
    (Cert.Pre_ids_in_range.fn (F := Ideal) (m ((c.tc : Thread Cert.EncRefIdeal.nD Cert.EncRefIdeal.τ).loc Cert.EncRefIdeal.main_arg0)) (m ((c.tc : Thread Cert.EncRefIdeal.nD Cert.EncRefIdeal.τ).loc Cert.EncRefIdeal.main_arg1)) (m ((c.tc : Thread Cert.EncRefIdeal.nD Cert.EncRefIdeal.τ).loc Cert.EncRefIdeal.main_arg2)) (m ((c.tc : Thread Cert.EncRefIdeal.nD Cert.EncRefIdeal.τ).loc Cert.EncRefIdeal.main_arg3)) (m ((c.tc : Thread Cert.EncRefIdeal.nD Cert.EncRefIdeal.τ).loc Cert.EncRefIdeal.main_arg4)) (m ((c.tc : Thread Cert.EncRefIdeal.nD Cert.EncRefIdeal.τ).loc Cert.EncRefIdeal.main_arg5)) (m ((c.tc : Thread Cert.EncRefIdeal.nD Cert.EncRefIdeal.τ).loc Cert.EncRefIdeal.main_arg6)) (m ((c.tc : Thread Cert.EncRefIdeal.nD Cert.EncRefIdeal.τ).loc Cert.EncRefIdeal.main_arg7))) = (fun _ => 1#1)

def Pre_Layers (m : (ℓ : Loc Cert.Layers.nD Cert.Layers.τ Cert.Layers.sig) → Buf (Elt Bits) ℓ) : Prop :=
  True

def Pre_LayersIdeal (m : (ℓ : Loc Cert.LayersIdeal.nD Cert.LayersIdeal.τ Cert.LayersIdeal.sig) → Buf (Elt Ideal) ℓ) : Prop :=
  True

def Pre_LayersIdeal_layers_inputs [hPre_layers_inputs : Cert.Pre_layers_inputs.Facts] (m : (ℓ : Loc Cert.LayersIdeal.nD Cert.LayersIdeal.τ Cert.LayersIdeal.sig) → Buf (Elt Ideal) ℓ) : Prop :=
  ∀ c : Dev Cert.LayersIdeal.nD,
    (Cert.Pre_layers_inputs.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))).1 = (fun _ => 1#1)
    ∧ (Cert.Pre_layers_inputs.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))).2.1 = (fun _ => 1#1)
    ∧ (Cert.Pre_layers_inputs.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))).2.2.1 = (fun _ => 1#1)
    ∧ (Cert.Pre_layers_inputs.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))).2.2.2.1 = (fun _ => 1#1)
    ∧ (Cert.Pre_layers_inputs.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))).2.2.2.2.1 = (fun _ => 1#1)
    ∧ (Cert.Pre_layers_inputs.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))).2.2.2.2.2.1 = (fun _ => 1#1)
    ∧ (Cert.Pre_layers_inputs.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))).2.2.2.2.2.2 = (fun _ => 1#1)

def Pre_LayersRefIdeal (m : (ℓ : Loc Cert.LayersRefIdeal.nD Cert.LayersRefIdeal.τ Cert.LayersRefIdeal.sig) → Buf (Elt Ideal) ℓ) : Prop :=
  True

def Pre_LayersRefIdeal_layers_inputs [hPre_layers_inputs : Cert.Pre_layers_inputs.Facts] (m : (ℓ : Loc Cert.LayersRefIdeal.nD Cert.LayersRefIdeal.τ Cert.LayersRefIdeal.sig) → Buf (Elt Ideal) ℓ) : Prop :=
  ∀ c : Dev Cert.LayersRefIdeal.nD,
    (Cert.Pre_layers_inputs.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))).1 = (fun _ => 1#1)
    ∧ (Cert.Pre_layers_inputs.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))).2.1 = (fun _ => 1#1)
    ∧ (Cert.Pre_layers_inputs.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))).2.2.1 = (fun _ => 1#1)
    ∧ (Cert.Pre_layers_inputs.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))).2.2.2.1 = (fun _ => 1#1)
    ∧ (Cert.Pre_layers_inputs.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))).2.2.2.2.1 = (fun _ => 1#1)
    ∧ (Cert.Pre_layers_inputs.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))).2.2.2.2.2.1 = (fun _ => 1#1)
    ∧ (Cert.Pre_layers_inputs.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))).2.2.2.2.2.2 = (fun _ => 1#1)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3)
      ∧ r.2.mem ((c.tc : Thread Cert.Dec.nD Cert.Dec.τ).loc Cert.Dec.main_arg4) = m ((c.tc : Thread Cert.Dec.nD Cert.Dec.τ).loc Cert.Dec.main_arg4)
      ∧ r.2.mem ((c.tc : Thread Cert.Dec.nD Cert.Dec.τ).loc Cert.Dec.main_arg5) = m ((c.tc : Thread Cert.Dec.nD Cert.Dec.τ).loc Cert.Dec.main_arg5)
      ∧ r.2.mem ((c.tc : Thread Cert.Dec.nD Cert.Dec.τ).loc Cert.Dec.main_arg6) = m ((c.tc : Thread Cert.Dec.nD Cert.Dec.τ).loc Cert.Dec.main_arg6)
      ∧ r.2.mem ((c.tc : Thread Cert.Dec.nD Cert.Dec.τ).loc Cert.Dec.main_arg7) = m ((c.tc : Thread Cert.Dec.nD Cert.Dec.τ).loc Cert.Dec.main_arg7)
      ∧ r.2.mem ((c.tc : Thread Cert.Dec.nD Cert.Dec.τ).loc Cert.Dec.main_arg8) = m ((c.tc : Thread Cert.Dec.nD Cert.Dec.τ).loc Cert.Dec.main_arg8))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
      ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
      ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
      ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
      ∧ r.2.mem ((c.tc : Thread Cert.DecIdeal.nD Cert.DecIdeal.τ).loc Cert.DecIdeal.main_arg8) = m ((c.tc : Thread Cert.DecIdeal.nD Cert.DecIdeal.τ).loc Cert.DecIdeal.main_arg8))
      ∧ r.2.sem = fun _ => 0)

def quiescent_DecIdeal_pre_decoder_inputs [hDecIdeal : Cert.DecIdeal.Facts] [hPre_decoder_inputs : Cert.Pre_decoder_inputs.Facts] : Prop :=
  ∀ (m : (ℓ : Loc Cert.DecIdeal.nD Cert.DecIdeal.τ Cert.DecIdeal.sig) → Buf (Elt Ideal) ℓ) (g : Dev Cert.DecIdeal.nD → PrngReg), Pre_DecIdeal_decoder_inputs m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
      ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
      ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
      ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
      ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
      ∧ r.2.mem ((c.tc : Thread Cert.DecIdeal.nD Cert.DecIdeal.τ).loc Cert.DecIdeal.main_arg8) = m ((c.tc : Thread Cert.DecIdeal.nD Cert.DecIdeal.τ).loc Cert.DecIdeal.main_arg8))
      ∧ r.2.sem = fun _ => 0)

def quiescent_DecRefIdeal [hDecRefIdeal : Cert.DecRefIdeal.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m ((c.tc : Thread Cert.DecRefIdeal.nD Cert.DecRefIdeal.τ).loc Cert.DecRefIdeal.main_arg5)
      ∧ r.2.mem ((c.tc : Thread Cert.DecRefIdeal.nD Cert.DecRefIdeal.τ).loc Cert.DecRefIdeal.main_arg6) = m ((c.tc : Thread Cert.DecRefIdeal.nD Cert.DecRefIdeal.τ).loc Cert.DecRefIdeal.main_arg6)
      ∧ r.2.mem ((c.tc : Thread Cert.DecRefIdeal.nD Cert.DecRefIdeal.τ).loc Cert.DecRefIdeal.main_arg7) = m ((c.tc : Thread Cert.DecRefIdeal.nD Cert.DecRefIdeal.τ).loc Cert.DecRefIdeal.main_arg7)
      ∧ r.2.mem ((c.tc : Thread Cert.DecRefIdeal.nD Cert.DecRefIdeal.τ).loc Cert.DecRefIdeal.main_arg8) = m ((c.tc : Thread Cert.DecRefIdeal.nD Cert.DecRefIdeal.τ).loc Cert.DecRefIdeal.main_arg8))
      ∧ r.2.sem = fun _ => 0)

def quiescent_DecRefIdeal_pre_decoder_inputs [hDecRefIdeal : Cert.DecRefIdeal.Facts] [hPre_decoder_inputs : Cert.Pre_decoder_inputs.Facts] : Prop :=
  ∀ (m : (ℓ : Loc Cert.DecRefIdeal.nD Cert.DecRefIdeal.τ Cert.DecRefIdeal.sig) → Buf (Elt Ideal) ℓ) (g : Dev Cert.DecRefIdeal.nD → PrngReg), Pre_DecRefIdeal_decoder_inputs m →
    θ_run (Cert.DecRefIdeal.defs (F := Ideal)) (onTc (τ := Cert.DecRefIdeal.τ) (Cert.DecRefIdeal.main (F := Ideal))) ⟨m, fun _ => 0, g⟩ (fun r => (∀ c : Dev Cert.DecRefIdeal.nD,
      r.2.mem ((c.tc : Thread Cert.DecRefIdeal.nD Cert.DecRefIdeal.τ).loc Cert.DecRefIdeal.main_arg0) = m ((c.tc : Thread Cert.DecRefIdeal.nD Cert.DecRefIdeal.τ).loc Cert.DecRefIdeal.main_arg0)
      ∧ r.2.mem ((c.tc : Thread Cert.DecRefIdeal.nD Cert.DecRefIdeal.τ).loc Cert.DecRefIdeal.main_arg1) = m ((c.tc : Thread Cert.DecRefIdeal.nD Cert.DecRefIdeal.τ).loc Cert.DecRefIdeal.main_arg1)
      ∧ r.2.mem ((c.tc : Thread Cert.DecRefIdeal.nD Cert.DecRefIdeal.τ).loc Cert.DecRefIdeal.main_arg2) = m ((c.tc : Thread Cert.DecRefIdeal.nD Cert.DecRefIdeal.τ).loc Cert.DecRefIdeal.main_arg2)
      ∧ r.2.mem ((c.tc : Thread Cert.DecRefIdeal.nD Cert.DecRefIdeal.τ).loc Cert.DecRefIdeal.main_arg3) = m ((c.tc : Thread Cert.DecRefIdeal.nD Cert.DecRefIdeal.τ).loc Cert.DecRefIdeal.main_arg3)
      ∧ r.2.mem ((c.tc : Thread Cert.DecRefIdeal.nD Cert.DecRefIdeal.τ).loc Cert.DecRefIdeal.main_arg4) = m ((c.tc : Thread Cert.DecRefIdeal.nD Cert.DecRefIdeal.τ).loc Cert.DecRefIdeal.main_arg4)
      ∧ r.2.mem ((c.tc : Thread Cert.DecRefIdeal.nD Cert.DecRefIdeal.τ).loc Cert.DecRefIdeal.main_arg5) = m ((c.tc : Thread Cert.DecRefIdeal.nD Cert.DecRefIdeal.τ).loc Cert.DecRefIdeal.main_arg5)
      ∧ r.2.mem ((c.tc : Thread Cert.DecRefIdeal.nD Cert.DecRefIdeal.τ).loc Cert.DecRefIdeal.main_arg6) = m ((c.tc : Thread Cert.DecRefIdeal.nD Cert.DecRefIdeal.τ).loc Cert.DecRefIdeal.main_arg6)
      ∧ r.2.mem ((c.tc : Thread Cert.DecRefIdeal.nD Cert.DecRefIdeal.τ).loc Cert.DecRefIdeal.main_arg7) = m ((c.tc : Thread Cert.DecRefIdeal.nD Cert.DecRefIdeal.τ).loc Cert.DecRefIdeal.main_arg7)
      ∧ r.2.mem ((c.tc : Thread Cert.DecRefIdeal.nD Cert.DecRefIdeal.τ).loc Cert.DecRefIdeal.main_arg8) = m ((c.tc : Thread Cert.DecRefIdeal.nD Cert.DecRefIdeal.τ).loc Cert.DecRefIdeal.main_arg8))
      ∧ r.2.sem = fun _ => 0)

def quiescent_Enc [hEnc : Cert.Enc.Facts] : Prop :=
  ∀ (m : (ℓ : Loc Cert.Enc.nD Cert.Enc.τ Cert.Enc.sig) → Buf (Elt Bits) ℓ) (g : Dev Cert.Enc.nD → PrngReg), Pre_Enc m →
    θ_run (Cert.Enc.defs (F := Bits)) (onTc (τ := Cert.Enc.τ) (Cert.Enc.main (F := Bits))) ⟨m, fun _ => 0, g⟩ (fun r => (∀ c : Dev Cert.Enc.nD,
      r.2.mem ((c.tc : Thread Cert.Enc.nD Cert.Enc.τ).loc Cert.Enc.main_arg0) = m ((c.tc : Thread Cert.Enc.nD Cert.Enc.τ).loc Cert.Enc.main_arg0)
      ∧ r.2.mem ((c.tc : Thread Cert.Enc.nD Cert.Enc.τ).loc Cert.Enc.main_arg1) = m ((c.tc : Thread Cert.Enc.nD Cert.Enc.τ).loc Cert.Enc.main_arg1)
      ∧ r.2.mem ((c.tc : Thread Cert.Enc.nD Cert.Enc.τ).loc Cert.Enc.main_arg2) = m ((c.tc : Thread Cert.Enc.nD Cert.Enc.τ).loc Cert.Enc.main_arg2)
      ∧ r.2.mem ((c.tc : Thread Cert.Enc.nD Cert.Enc.τ).loc Cert.Enc.main_arg3) = m ((c.tc : Thread Cert.Enc.nD Cert.Enc.τ).loc Cert.Enc.main_arg3)
      ∧ r.2.mem ((c.tc : Thread Cert.Enc.nD Cert.Enc.τ).loc Cert.Enc.main_arg4) = m ((c.tc : Thread Cert.Enc.nD Cert.Enc.τ).loc Cert.Enc.main_arg4)
      ∧ r.2.mem ((c.tc : Thread Cert.Enc.nD Cert.Enc.τ).loc Cert.Enc.main_arg5) = m ((c.tc : Thread Cert.Enc.nD Cert.Enc.τ).loc Cert.Enc.main_arg5)
      ∧ r.2.mem ((c.tc : Thread Cert.Enc.nD Cert.Enc.τ).loc Cert.Enc.main_arg6) = m ((c.tc : Thread Cert.Enc.nD Cert.Enc.τ).loc Cert.Enc.main_arg6)
      ∧ r.2.mem ((c.tc : Thread Cert.Enc.nD Cert.Enc.τ).loc Cert.Enc.main_arg7) = m ((c.tc : Thread Cert.Enc.nD Cert.Enc.τ).loc Cert.Enc.main_arg7))
      ∧ r.2.sem = fun _ => 0)

def quiescent_EncIdeal [hEncIdeal : Cert.EncIdeal.Facts] : Prop :=
  ∀ (m : (ℓ : Loc Cert.EncIdeal.nD Cert.EncIdeal.τ Cert.EncIdeal.sig) → Buf (Elt Ideal) ℓ) (g : Dev Cert.EncIdeal.nD → PrngReg), Pre_EncIdeal m →
    θ_run (Cert.EncIdeal.defs (F := Ideal)) (onTc (τ := Cert.EncIdeal.τ) (Cert.EncIdeal.main (F := Ideal))) ⟨m, fun _ => 0, g⟩ (fun r => (∀ c : Dev Cert.EncIdeal.nD,
      r.2.mem ((c.tc : Thread Cert.EncIdeal.nD Cert.EncIdeal.τ).loc Cert.EncIdeal.main_arg0) = m ((c.tc : Thread Cert.EncIdeal.nD Cert.EncIdeal.τ).loc Cert.EncIdeal.main_arg0)
      ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
      ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
      ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
      ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
      ∧ r.2.mem ((c.tc : Thread Cert.EncIdeal.nD Cert.EncIdeal.τ).loc Cert.EncIdeal.main_arg5) = m ((c.tc : Thread Cert.EncIdeal.nD Cert.EncIdeal.τ).loc Cert.EncIdeal.main_arg5)
      ∧ r.2.mem ((c.tc : Thread Cert.EncIdeal.nD Cert.EncIdeal.τ).loc Cert.EncIdeal.main_arg6) = m ((c.tc : Thread Cert.EncIdeal.nD Cert.EncIdeal.τ).loc Cert.EncIdeal.main_arg6)
      ∧ r.2.mem ((c.tc : Thread Cert.EncIdeal.nD Cert.EncIdeal.τ).loc Cert.EncIdeal.main_arg7) = m ((c.tc : Thread Cert.EncIdeal.nD Cert.EncIdeal.τ).loc Cert.EncIdeal.main_arg7))
      ∧ r.2.sem = fun _ => 0)

def quiescent_EncIdeal_pre_ids_in_range [hEncIdeal : Cert.EncIdeal.Facts] [hPre_ids_in_range : Cert.Pre_ids_in_range.Facts] : Prop :=
  ∀ (m : (ℓ : Loc Cert.EncIdeal.nD Cert.EncIdeal.τ Cert.EncIdeal.sig) → Buf (Elt Ideal) ℓ) (g : Dev Cert.EncIdeal.nD → PrngReg), Pre_EncIdeal_ids_in_range m →
    θ_run (Cert.EncIdeal.defs (F := Ideal)) (onTc (τ := Cert.EncIdeal.τ) (Cert.EncIdeal.main (F := Ideal))) ⟨m, fun _ => 0, g⟩ (fun r => (∀ c : Dev Cert.EncIdeal.nD,
      r.2.mem ((c.tc : Thread Cert.EncIdeal.nD Cert.EncIdeal.τ).loc Cert.EncIdeal.main_arg0) = m ((c.tc : Thread Cert.EncIdeal.nD Cert.EncIdeal.τ).loc Cert.EncIdeal.main_arg0)
      ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
      ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
      ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
      ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
      ∧ r.2.mem ((c.tc : Thread Cert.EncIdeal.nD Cert.EncIdeal.τ).loc Cert.EncIdeal.main_arg5) = m ((c.tc : Thread Cert.EncIdeal.nD Cert.EncIdeal.τ).loc Cert.EncIdeal.main_arg5)
      ∧ r.2.mem ((c.tc : Thread Cert.EncIdeal.nD Cert.EncIdeal.τ).loc Cert.EncIdeal.main_arg6) = m ((c.tc : Thread Cert.EncIdeal.nD Cert.EncIdeal.τ).loc Cert.EncIdeal.main_arg6)
      ∧ r.2.mem ((c.tc : Thread Cert.EncIdeal.nD Cert.EncIdeal.τ).loc Cert.EncIdeal.main_arg7) = m ((c.tc : Thread Cert.EncIdeal.nD Cert.EncIdeal.τ).loc Cert.EncIdeal.main_arg7))
      ∧ r.2.sem = fun _ => 0)

def quiescent_EncRefIdeal [hEncRefIdeal : Cert.EncRefIdeal.Facts] : Prop :=
  ∀ (m : (ℓ : Loc Cert.EncRefIdeal.nD Cert.EncRefIdeal.τ Cert.EncRefIdeal.sig) → Buf (Elt Ideal) ℓ) (g : Dev Cert.EncRefIdeal.nD → PrngReg), Pre_EncRefIdeal m →
    θ_run (Cert.EncRefIdeal.defs (F := Ideal)) (onTc (τ := Cert.EncRefIdeal.τ) (Cert.EncRefIdeal.main (F := Ideal))) ⟨m, fun _ => 0, g⟩ (fun r => (∀ c : Dev Cert.EncRefIdeal.nD,
      r.2.mem ((c.tc : Thread Cert.EncRefIdeal.nD Cert.EncRefIdeal.τ).loc Cert.EncRefIdeal.main_arg0) = m ((c.tc : Thread Cert.EncRefIdeal.nD Cert.EncRefIdeal.τ).loc Cert.EncRefIdeal.main_arg0)
      ∧ r.2.mem ((c.tc : Thread Cert.EncRefIdeal.nD Cert.EncRefIdeal.τ).loc Cert.EncRefIdeal.main_arg1) = m ((c.tc : Thread Cert.EncRefIdeal.nD Cert.EncRefIdeal.τ).loc Cert.EncRefIdeal.main_arg1)
      ∧ r.2.mem ((c.tc : Thread Cert.EncRefIdeal.nD Cert.EncRefIdeal.τ).loc Cert.EncRefIdeal.main_arg2) = m ((c.tc : Thread Cert.EncRefIdeal.nD Cert.EncRefIdeal.τ).loc Cert.EncRefIdeal.main_arg2)
      ∧ r.2.mem ((c.tc : Thread Cert.EncRefIdeal.nD Cert.EncRefIdeal.τ).loc Cert.EncRefIdeal.main_arg3) = m ((c.tc : Thread Cert.EncRefIdeal.nD Cert.EncRefIdeal.τ).loc Cert.EncRefIdeal.main_arg3)
      ∧ r.2.mem ((c.tc : Thread Cert.EncRefIdeal.nD Cert.EncRefIdeal.τ).loc Cert.EncRefIdeal.main_arg4) = m ((c.tc : Thread Cert.EncRefIdeal.nD Cert.EncRefIdeal.τ).loc Cert.EncRefIdeal.main_arg4)
      ∧ r.2.mem ((c.tc : Thread Cert.EncRefIdeal.nD Cert.EncRefIdeal.τ).loc Cert.EncRefIdeal.main_arg5) = m ((c.tc : Thread Cert.EncRefIdeal.nD Cert.EncRefIdeal.τ).loc Cert.EncRefIdeal.main_arg5)
      ∧ r.2.mem ((c.tc : Thread Cert.EncRefIdeal.nD Cert.EncRefIdeal.τ).loc Cert.EncRefIdeal.main_arg6) = m ((c.tc : Thread Cert.EncRefIdeal.nD Cert.EncRefIdeal.τ).loc Cert.EncRefIdeal.main_arg6)
      ∧ r.2.mem ((c.tc : Thread Cert.EncRefIdeal.nD Cert.EncRefIdeal.τ).loc Cert.EncRefIdeal.main_arg7) = m ((c.tc : Thread Cert.EncRefIdeal.nD Cert.EncRefIdeal.τ).loc Cert.EncRefIdeal.main_arg7))
      ∧ r.2.sem = fun _ => 0)

def quiescent_EncRefIdeal_pre_ids_in_range [hEncRefIdeal : Cert.EncRefIdeal.Facts] [hPre_ids_in_range : Cert.Pre_ids_in_range.Facts] : Prop :=
  ∀ (m : (ℓ : Loc Cert.EncRefIdeal.nD Cert.EncRefIdeal.τ Cert.EncRefIdeal.sig) → Buf (Elt Ideal) ℓ) (g : Dev Cert.EncRefIdeal.nD → PrngReg), Pre_EncRefIdeal_ids_in_range m →
    θ_run (Cert.EncRefIdeal.defs (F := Ideal)) (onTc (τ := Cert.EncRefIdeal.τ) (Cert.EncRefIdeal.main (F := Ideal))) ⟨m, fun _ => 0, g⟩ (fun r => (∀ c : Dev Cert.EncRefIdeal.nD,
      r.2.mem ((c.tc : Thread Cert.EncRefIdeal.nD Cert.EncRefIdeal.τ).loc Cert.EncRefIdeal.main_arg0) = m ((c.tc : Thread Cert.EncRefIdeal.nD Cert.EncRefIdeal.τ).loc Cert.EncRefIdeal.main_arg0)
      ∧ r.2.mem ((c.tc : Thread Cert.EncRefIdeal.nD Cert.EncRefIdeal.τ).loc Cert.EncRefIdeal.main_arg1) = m ((c.tc : Thread Cert.EncRefIdeal.nD Cert.EncRefIdeal.τ).loc Cert.EncRefIdeal.main_arg1)
      ∧ r.2.mem ((c.tc : Thread Cert.EncRefIdeal.nD Cert.EncRefIdeal.τ).loc Cert.EncRefIdeal.main_arg2) = m ((c.tc : Thread Cert.EncRefIdeal.nD Cert.EncRefIdeal.τ).loc Cert.EncRefIdeal.main_arg2)
      ∧ r.2.mem ((c.tc : Thread Cert.EncRefIdeal.nD Cert.EncRefIdeal.τ).loc Cert.EncRefIdeal.main_arg3) = m ((c.tc : Thread Cert.EncRefIdeal.nD Cert.EncRefIdeal.τ).loc Cert.EncRefIdeal.main_arg3)
      ∧ r.2.mem ((c.tc : Thread Cert.EncRefIdeal.nD Cert.EncRefIdeal.τ).loc Cert.EncRefIdeal.main_arg4) = m ((c.tc : Thread Cert.EncRefIdeal.nD Cert.EncRefIdeal.τ).loc Cert.EncRefIdeal.main_arg4)
      ∧ r.2.mem ((c.tc : Thread Cert.EncRefIdeal.nD Cert.EncRefIdeal.τ).loc Cert.EncRefIdeal.main_arg5) = m ((c.tc : Thread Cert.EncRefIdeal.nD Cert.EncRefIdeal.τ).loc Cert.EncRefIdeal.main_arg5)
      ∧ r.2.mem ((c.tc : Thread Cert.EncRefIdeal.nD Cert.EncRefIdeal.τ).loc Cert.EncRefIdeal.main_arg6) = m ((c.tc : Thread Cert.EncRefIdeal.nD Cert.EncRefIdeal.τ).loc Cert.EncRefIdeal.main_arg6)
      ∧ r.2.mem ((c.tc : Thread Cert.EncRefIdeal.nD Cert.EncRefIdeal.τ).loc Cert.EncRefIdeal.main_arg7) = m ((c.tc : Thread Cert.EncRefIdeal.nD Cert.EncRefIdeal.τ).loc Cert.EncRefIdeal.main_arg7))
      ∧ r.2.sem = fun _ => 0)

def quiescent_Layers [hLayers : Cert.Layers.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10)
      ∧ r.2.mem ((c.tc : Thread Cert.Layers.nD Cert.Layers.τ).loc Cert.Layers.main_arg11) = m ((c.tc : Thread Cert.Layers.nD Cert.Layers.τ).loc Cert.Layers.main_arg11)
      ∧ r.2.mem ((c.tc : Thread Cert.Layers.nD Cert.Layers.τ).loc Cert.Layers.main_arg12) = m ((c.tc : Thread Cert.Layers.nD Cert.Layers.τ).loc Cert.Layers.main_arg12)
      ∧ r.2.mem ((c.tc : Thread Cert.Layers.nD Cert.Layers.τ).loc Cert.Layers.main_arg13) = m ((c.tc : Thread Cert.Layers.nD Cert.Layers.τ).loc Cert.Layers.main_arg13))
      ∧ r.2.sem = fun _ => 0)

def quiescent_LayersIdeal [hLayersIdeal : Cert.LayersIdeal.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13))
      ∧ r.2.sem = fun _ => 0)

def quiescent_LayersIdeal_pre_layers_inputs [hLayersIdeal : Cert.LayersIdeal.Facts] [hPre_layers_inputs : Cert.Pre_layers_inputs.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal_layers_inputs m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13))
      ∧ r.2.sem = fun _ => 0)

def quiescent_LayersRefIdeal [hLayersRefIdeal : Cert.LayersRefIdeal.Facts] : Prop :=
  ∀ (m : (ℓ : Loc Cert.LayersRefIdeal.nD Cert.LayersRefIdeal.τ Cert.LayersRefIdeal.sig) → Buf (Elt Ideal) ℓ) (g : Dev Cert.LayersRefIdeal.nD → PrngReg), Pre_LayersRefIdeal m →
    θ_run (Cert.LayersRefIdeal.defs (F := Ideal)) (onTc (τ := Cert.LayersRefIdeal.τ) (Cert.LayersRefIdeal.main (F := Ideal))) ⟨m, fun _ => 0, g⟩ (fun r => (∀ c : Dev Cert.LayersRefIdeal.nD,
      r.2.mem ((c.tc : Thread Cert.LayersRefIdeal.nD Cert.LayersRefIdeal.τ).loc Cert.LayersRefIdeal.main_arg0) = m ((c.tc : Thread Cert.LayersRefIdeal.nD Cert.LayersRefIdeal.τ).loc Cert.LayersRefIdeal.main_arg0)
      ∧ r.2.mem ((c.tc : Thread Cert.LayersRefIdeal.nD Cert.LayersRefIdeal.τ).loc Cert.LayersRefIdeal.main_arg1) = m ((c.tc : Thread Cert.LayersRefIdeal.nD Cert.LayersRefIdeal.τ).loc Cert.LayersRefIdeal.main_arg1)
      ∧ r.2.mem ((c.tc : Thread Cert.LayersRefIdeal.nD Cert.LayersRefIdeal.τ).loc Cert.LayersRefIdeal.main_arg2) = m ((c.tc : Thread Cert.LayersRefIdeal.nD Cert.LayersRefIdeal.τ).loc Cert.LayersRefIdeal.main_arg2)
      ∧ r.2.mem ((c.tc : Thread Cert.LayersRefIdeal.nD Cert.LayersRefIdeal.τ).loc Cert.LayersRefIdeal.main_arg3) = m ((c.tc : Thread Cert.LayersRefIdeal.nD Cert.LayersRefIdeal.τ).loc Cert.LayersRefIdeal.main_arg3)
      ∧ r.2.mem ((c.tc : Thread Cert.LayersRefIdeal.nD Cert.LayersRefIdeal.τ).loc Cert.LayersRefIdeal.main_arg4) = m ((c.tc : Thread Cert.LayersRefIdeal.nD Cert.LayersRefIdeal.τ).loc Cert.LayersRefIdeal.main_arg4)
      ∧ r.2.mem ((c.tc : Thread Cert.LayersRefIdeal.nD Cert.LayersRefIdeal.τ).loc Cert.LayersRefIdeal.main_arg5) = m ((c.tc : Thread Cert.LayersRefIdeal.nD Cert.LayersRefIdeal.τ).loc Cert.LayersRefIdeal.main_arg5)
      ∧ r.2.mem ((c.tc : Thread Cert.LayersRefIdeal.nD Cert.LayersRefIdeal.τ).loc Cert.LayersRefIdeal.main_arg6) = m ((c.tc : Thread Cert.LayersRefIdeal.nD Cert.LayersRefIdeal.τ).loc Cert.LayersRefIdeal.main_arg6)
      ∧ r.2.mem ((c.tc : Thread Cert.LayersRefIdeal.nD Cert.LayersRefIdeal.τ).loc Cert.LayersRefIdeal.main_arg7) = m ((c.tc : Thread Cert.LayersRefIdeal.nD Cert.LayersRefIdeal.τ).loc Cert.LayersRefIdeal.main_arg7)
      ∧ r.2.mem ((c.tc : Thread Cert.LayersRefIdeal.nD Cert.LayersRefIdeal.τ).loc Cert.LayersRefIdeal.main_arg8) = m ((c.tc : Thread Cert.LayersRefIdeal.nD Cert.LayersRefIdeal.τ).loc Cert.LayersRefIdeal.main_arg8)
      ∧ r.2.mem ((c.tc : Thread Cert.LayersRefIdeal.nD Cert.LayersRefIdeal.τ).loc Cert.LayersRefIdeal.main_arg9) = m ((c.tc : Thread Cert.LayersRefIdeal.nD Cert.LayersRefIdeal.τ).loc Cert.LayersRefIdeal.main_arg9)
      ∧ r.2.mem ((c.tc : Thread Cert.LayersRefIdeal.nD Cert.LayersRefIdeal.τ).loc Cert.LayersRefIdeal.main_arg10) = m ((c.tc : Thread Cert.LayersRefIdeal.nD Cert.LayersRefIdeal.τ).loc Cert.LayersRefIdeal.main_arg10)
      ∧ r.2.mem ((c.tc : Thread Cert.LayersRefIdeal.nD Cert.LayersRefIdeal.τ).loc Cert.LayersRefIdeal.main_arg11) = m ((c.tc : Thread Cert.LayersRefIdeal.nD Cert.LayersRefIdeal.τ).loc Cert.LayersRefIdeal.main_arg11)
      ∧ r.2.mem ((c.tc : Thread Cert.LayersRefIdeal.nD Cert.LayersRefIdeal.τ).loc Cert.LayersRefIdeal.main_arg12) = m ((c.tc : Thread Cert.LayersRefIdeal.nD Cert.LayersRefIdeal.τ).loc Cert.LayersRefIdeal.main_arg12)
      ∧ r.2.mem ((c.tc : Thread Cert.LayersRefIdeal.nD Cert.LayersRefIdeal.τ).loc Cert.LayersRefIdeal.main_arg13) = m ((c.tc : Thread Cert.LayersRefIdeal.nD Cert.LayersRefIdeal.τ).loc Cert.LayersRefIdeal.main_arg13))
      ∧ r.2.sem = fun _ => 0)

def quiescent_LayersRefIdeal_pre_layers_inputs [hLayersRefIdeal : Cert.LayersRefIdeal.Facts] [hPre_layers_inputs : Cert.Pre_layers_inputs.Facts] : Prop :=
  ∀ (m : (ℓ : Loc Cert.LayersRefIdeal.nD Cert.LayersRefIdeal.τ Cert.LayersRefIdeal.sig) → Buf (Elt Ideal) ℓ) (g : Dev Cert.LayersRefIdeal.nD → PrngReg), Pre_LayersRefIdeal_layers_inputs m →
    θ_run (Cert.LayersRefIdeal.defs (F := Ideal)) (onTc (τ := Cert.LayersRefIdeal.τ) (Cert.LayersRefIdeal.main (F := Ideal))) ⟨m, fun _ => 0, g⟩ (fun r => (∀ c : Dev Cert.LayersRefIdeal.nD,
      r.2.mem ((c.tc : Thread Cert.LayersRefIdeal.nD Cert.LayersRefIdeal.τ).loc Cert.LayersRefIdeal.main_arg0) = m ((c.tc : Thread Cert.LayersRefIdeal.nD Cert.LayersRefIdeal.τ).loc Cert.LayersRefIdeal.main_arg0)
      ∧ r.2.mem ((c.tc : Thread Cert.LayersRefIdeal.nD Cert.LayersRefIdeal.τ).loc Cert.LayersRefIdeal.main_arg1) = m ((c.tc : Thread Cert.LayersRefIdeal.nD Cert.LayersRefIdeal.τ).loc Cert.LayersRefIdeal.main_arg1)
      ∧ r.2.mem ((c.tc : Thread Cert.LayersRefIdeal.nD Cert.LayersRefIdeal.τ).loc Cert.LayersRefIdeal.main_arg2) = m ((c.tc : Thread Cert.LayersRefIdeal.nD Cert.LayersRefIdeal.τ).loc Cert.LayersRefIdeal.main_arg2)
      ∧ r.2.mem ((c.tc : Thread Cert.LayersRefIdeal.nD Cert.LayersRefIdeal.τ).loc Cert.LayersRefIdeal.main_arg3) = m ((c.tc : Thread Cert.LayersRefIdeal.nD Cert.LayersRefIdeal.τ).loc Cert.LayersRefIdeal.main_arg3)
      ∧ r.2.mem ((c.tc : Thread Cert.LayersRefIdeal.nD Cert.LayersRefIdeal.τ).loc Cert.LayersRefIdeal.main_arg4) = m ((c.tc : Thread Cert.LayersRefIdeal.nD Cert.LayersRefIdeal.τ).loc Cert.LayersRefIdeal.main_arg4)
      ∧ r.2.mem ((c.tc : Thread Cert.LayersRefIdeal.nD Cert.LayersRefIdeal.τ).loc Cert.LayersRefIdeal.main_arg5) = m ((c.tc : Thread Cert.LayersRefIdeal.nD Cert.LayersRefIdeal.τ).loc Cert.LayersRefIdeal.main_arg5)
      ∧ r.2.mem ((c.tc : Thread Cert.LayersRefIdeal.nD Cert.LayersRefIdeal.τ).loc Cert.LayersRefIdeal.main_arg6) = m ((c.tc : Thread Cert.LayersRefIdeal.nD Cert.LayersRefIdeal.τ).loc Cert.LayersRefIdeal.main_arg6)
      ∧ r.2.mem ((c.tc : Thread Cert.LayersRefIdeal.nD Cert.LayersRefIdeal.τ).loc Cert.LayersRefIdeal.main_arg7) = m ((c.tc : Thread Cert.LayersRefIdeal.nD Cert.LayersRefIdeal.τ).loc Cert.LayersRefIdeal.main_arg7)
      ∧ r.2.mem ((c.tc : Thread Cert.LayersRefIdeal.nD Cert.LayersRefIdeal.τ).loc Cert.LayersRefIdeal.main_arg8) = m ((c.tc : Thread Cert.LayersRefIdeal.nD Cert.LayersRefIdeal.τ).loc Cert.LayersRefIdeal.main_arg8)
      ∧ r.2.mem ((c.tc : Thread Cert.LayersRefIdeal.nD Cert.LayersRefIdeal.τ).loc Cert.LayersRefIdeal.main_arg9) = m ((c.tc : Thread Cert.LayersRefIdeal.nD Cert.LayersRefIdeal.τ).loc Cert.LayersRefIdeal.main_arg9)
      ∧ r.2.mem ((c.tc : Thread Cert.LayersRefIdeal.nD Cert.LayersRefIdeal.τ).loc Cert.LayersRefIdeal.main_arg10) = m ((c.tc : Thread Cert.LayersRefIdeal.nD Cert.LayersRefIdeal.τ).loc Cert.LayersRefIdeal.main_arg10)
      ∧ r.2.mem ((c.tc : Thread Cert.LayersRefIdeal.nD Cert.LayersRefIdeal.τ).loc Cert.LayersRefIdeal.main_arg11) = m ((c.tc : Thread Cert.LayersRefIdeal.nD Cert.LayersRefIdeal.τ).loc Cert.LayersRefIdeal.main_arg11)
      ∧ r.2.mem ((c.tc : Thread Cert.LayersRefIdeal.nD Cert.LayersRefIdeal.τ).loc Cert.LayersRefIdeal.main_arg12) = m ((c.tc : Thread Cert.LayersRefIdeal.nD Cert.LayersRefIdeal.τ).loc Cert.LayersRefIdeal.main_arg12)
      ∧ r.2.mem ((c.tc : Thread Cert.LayersRefIdeal.nD Cert.LayersRefIdeal.τ).loc Cert.LayersRefIdeal.main_arg13) = m ((c.tc : Thread Cert.LayersRefIdeal.nD Cert.LayersRefIdeal.τ).loc Cert.LayersRefIdeal.main_arg13))
      ∧ r.2.sem = fun _ => 0)

def preserves_Dec_DecIdeal : Prop :=
  IdealRules.named_const.Statement Cert.DecIdeal.κ "rs96" .f32 0x3DD105EC#32 (((Real.sqrt 96)⁻¹ : ℝ) : EReal)
  ∧ IdealRules.named_const.Statement Cert.DecIdeal.κ "gelu_cubic" .bf16 0x3D37#16 ((12003091 / 268435456 : ℝ) : EReal)
  ∧ IdealRules.named_const.Statement Cert.DecIdeal.κ "gelu_scale" .bf16 0x3F4C#16 ((6693141 / 8388608 : ℝ) : EReal)

def algebraic_DecIdeal_DecRefIdeal_pre_decoder_inputs [hDecIdeal : Cert.DecIdeal.Facts] [hDecRefIdeal : Cert.DecRefIdeal.Facts] [hPre_decoder_inputs : Cert.Pre_decoder_inputs.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecRefIdeal.nD Cert.DecRefIdeal.τ Cert.DecRefIdeal.sig) → Buf (Elt Ideal) ℓ) (g' : Dev Cert.DecRefIdeal.nD → PrngReg), Pre_DecIdeal_decoder_inputs m →
    (∀ c : Dev Cert.DecIdeal.nD,
      m' ((c.tc : Thread Cert.DecRefIdeal.nD Cert.DecRefIdeal.τ).loc Cert.DecRefIdeal.main_arg0) = m ((c.tc : Thread Cert.DecIdeal.nD Cert.DecIdeal.τ).loc Cert.DecIdeal.main_arg0)
      ∧ m' ((c.tc : Thread Cert.DecRefIdeal.nD Cert.DecRefIdeal.τ).loc Cert.DecRefIdeal.main_arg1) = m ((c.tc : Thread Cert.DecIdeal.nD Cert.DecIdeal.τ).loc Cert.DecIdeal.main_arg1)
      ∧ m' ((c.tc : Thread Cert.DecRefIdeal.nD Cert.DecRefIdeal.τ).loc Cert.DecRefIdeal.main_arg2) = m ((c.tc : Thread Cert.DecIdeal.nD Cert.DecIdeal.τ).loc Cert.DecIdeal.main_arg2)
      ∧ m' ((c.tc : Thread Cert.DecRefIdeal.nD Cert.DecRefIdeal.τ).loc Cert.DecRefIdeal.main_arg3) = m ((c.tc : Thread Cert.DecIdeal.nD Cert.DecIdeal.τ).loc Cert.DecIdeal.main_arg3)
      ∧ m' ((c.tc : Thread Cert.DecRefIdeal.nD Cert.DecRefIdeal.τ).loc Cert.DecRefIdeal.main_arg4) = m ((c.tc : Thread Cert.DecIdeal.nD Cert.DecIdeal.τ).loc Cert.DecIdeal.main_arg4)
      ∧ m' ((c.tc : Thread Cert.DecRefIdeal.nD Cert.DecRefIdeal.τ).loc Cert.DecRefIdeal.main_arg5) = m ((c.tc : Thread Cert.DecIdeal.nD Cert.DecIdeal.τ).loc Cert.DecIdeal.main_arg5)
      ∧ m' ((c.tc : Thread Cert.DecRefIdeal.nD Cert.DecRefIdeal.τ).loc Cert.DecRefIdeal.main_arg6) = m ((c.tc : Thread Cert.DecIdeal.nD Cert.DecIdeal.τ).loc Cert.DecIdeal.main_arg6)
      ∧ m' ((c.tc : Thread Cert.DecRefIdeal.nD Cert.DecRefIdeal.τ).loc Cert.DecRefIdeal.main_arg7) = m ((c.tc : Thread Cert.DecIdeal.nD Cert.DecIdeal.τ).loc Cert.DecIdeal.main_arg7)
      ∧ m' ((c.tc : Thread Cert.DecRefIdeal.nD Cert.DecRefIdeal.τ).loc Cert.DecRefIdeal.main_arg8) = m ((c.tc : Thread Cert.DecIdeal.nD Cert.DecIdeal.τ).loc Cert.DecIdeal.main_arg8)) →
    ∃ (v0 : (c : Dev Cert.DecIdeal.nD) → Buf (Elt Ideal) ((c.tc : Thread Cert.DecIdeal.nD Cert.DecIdeal.τ).loc Cert.DecIdeal.main_v0)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v0) = v0 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3)
          ∧ r.2.mem ((c.tc : Thread Cert.DecIdeal.nD Cert.DecIdeal.τ).loc Cert.DecIdeal.main_arg4) = m ((c.tc : Thread Cert.DecIdeal.nD Cert.DecIdeal.τ).loc Cert.DecIdeal.main_arg4)
          ∧ r.2.mem ((c.tc : Thread Cert.DecIdeal.nD Cert.DecIdeal.τ).loc Cert.DecIdeal.main_arg5) = m ((c.tc : Thread Cert.DecIdeal.nD Cert.DecIdeal.τ).loc Cert.DecIdeal.main_arg5)
          ∧ r.2.mem ((c.tc : Thread Cert.DecIdeal.nD Cert.DecIdeal.τ).loc Cert.DecIdeal.main_arg6) = m ((c.tc : Thread Cert.DecIdeal.nD Cert.DecIdeal.τ).loc Cert.DecIdeal.main_arg6)
          ∧ r.2.mem ((c.tc : Thread Cert.DecIdeal.nD Cert.DecIdeal.τ).loc Cert.DecIdeal.main_arg7) = m ((c.tc : Thread Cert.DecIdeal.nD Cert.DecIdeal.τ).loc Cert.DecIdeal.main_arg7)
          ∧ r.2.mem ((c.tc : Thread Cert.DecIdeal.nD Cert.DecIdeal.τ).loc Cert.DecIdeal.main_arg8) = m ((c.tc : Thread Cert.DecIdeal.nD Cert.DecIdeal.τ).loc Cert.DecIdeal.main_arg8))
      ∧ θ_run (Cert.DecRefIdeal.defs (F := Ideal)) (onTc (τ := Cert.DecRefIdeal.τ) (Cert.DecRefIdeal.main (F := Ideal))) ⟨m', fun _ => 0, g'⟩ (fun r => ∀ c : Dev Cert.DecRefIdeal.nD,
          r.2.mem ((c.tc : Thread Cert.DecRefIdeal.nD Cert.DecRefIdeal.τ).loc Cert.DecRefIdeal.main_v80) = v0 c
          ∧ r.2.mem ((c.tc : Thread Cert.DecRefIdeal.nD Cert.DecRefIdeal.τ).loc Cert.DecRefIdeal.main_arg0) = m' ((c.tc : Thread Cert.DecRefIdeal.nD Cert.DecRefIdeal.τ).loc Cert.DecRefIdeal.main_arg0)
          ∧ r.2.mem ((c.tc : Thread Cert.DecRefIdeal.nD Cert.DecRefIdeal.τ).loc Cert.DecRefIdeal.main_arg1) = m' ((c.tc : Thread Cert.DecRefIdeal.nD Cert.DecRefIdeal.τ).loc Cert.DecRefIdeal.main_arg1)
          ∧ r.2.mem ((c.tc : Thread Cert.DecRefIdeal.nD Cert.DecRefIdeal.τ).loc Cert.DecRefIdeal.main_arg2) = m' ((c.tc : Thread Cert.DecRefIdeal.nD Cert.DecRefIdeal.τ).loc Cert.DecRefIdeal.main_arg2)
          ∧ r.2.mem ((c.tc : Thread Cert.DecRefIdeal.nD Cert.DecRefIdeal.τ).loc Cert.DecRefIdeal.main_arg3) = m' ((c.tc : Thread Cert.DecRefIdeal.nD Cert.DecRefIdeal.τ).loc Cert.DecRefIdeal.main_arg3)
          ∧ r.2.mem ((c.tc : Thread Cert.DecRefIdeal.nD Cert.DecRefIdeal.τ).loc Cert.DecRefIdeal.main_arg4) = m' ((c.tc : Thread Cert.DecRefIdeal.nD Cert.DecRefIdeal.τ).loc Cert.DecRefIdeal.main_arg4)
          ∧ r.2.mem ((c.tc : Thread Cert.DecRefIdeal.nD Cert.DecRefIdeal.τ).loc Cert.DecRefIdeal.main_arg5) = m' ((c.tc : Thread Cert.DecRefIdeal.nD Cert.DecRefIdeal.τ).loc Cert.DecRefIdeal.main_arg5)
          ∧ r.2.mem ((c.tc : Thread Cert.DecRefIdeal.nD Cert.DecRefIdeal.τ).loc Cert.DecRefIdeal.main_arg6) = m' ((c.tc : Thread Cert.DecRefIdeal.nD Cert.DecRefIdeal.τ).loc Cert.DecRefIdeal.main_arg6)
          ∧ r.2.mem ((c.tc : Thread Cert.DecRefIdeal.nD Cert.DecRefIdeal.τ).loc Cert.DecRefIdeal.main_arg7) = m' ((c.tc : Thread Cert.DecRefIdeal.nD Cert.DecRefIdeal.τ).loc Cert.DecRefIdeal.main_arg7)
          ∧ r.2.mem ((c.tc : Thread Cert.DecRefIdeal.nD Cert.DecRefIdeal.τ).loc Cert.DecRefIdeal.main_arg8) = m' ((c.tc : Thread Cert.DecRefIdeal.nD Cert.DecRefIdeal.τ).loc Cert.DecRefIdeal.main_arg8))

def preserves_Enc_EncIdeal : Prop :=
  IdealRules.named_const.Statement Cert.EncIdeal.κ "gelu_cubic" .bf16 0x3D37#16 ((12003091 / 268435456 : ℝ) : EReal)
  ∧ IdealRules.named_const.Statement Cert.EncIdeal.κ "gelu_scale" .bf16 0x3F4C#16 ((6693141 / 8388608 : ℝ) : EReal)

def algebraic_EncIdeal_EncRefIdeal_pre_ids_in_range [hEncIdeal : Cert.EncIdeal.Facts] [hEncRefIdeal : Cert.EncRefIdeal.Facts] [hPre_ids_in_range : Cert.Pre_ids_in_range.Facts] : Prop :=
  ∀ (m : (ℓ : Loc Cert.EncIdeal.nD Cert.EncIdeal.τ Cert.EncIdeal.sig) → Buf (Elt Ideal) ℓ) (g : Dev Cert.EncIdeal.nD → PrngReg)
    (m' : (ℓ : Loc Cert.EncRefIdeal.nD Cert.EncRefIdeal.τ Cert.EncRefIdeal.sig) → Buf (Elt Ideal) ℓ) (g' : Dev Cert.EncRefIdeal.nD → PrngReg), Pre_EncIdeal_ids_in_range m →
    (∀ c : Dev Cert.EncIdeal.nD,
      m' ((c.tc : Thread Cert.EncRefIdeal.nD Cert.EncRefIdeal.τ).loc Cert.EncRefIdeal.main_arg0) = m ((c.tc : Thread Cert.EncIdeal.nD Cert.EncIdeal.τ).loc Cert.EncIdeal.main_arg0)
      ∧ m' ((c.tc : Thread Cert.EncRefIdeal.nD Cert.EncRefIdeal.τ).loc Cert.EncRefIdeal.main_arg1) = m ((c.tc : Thread Cert.EncIdeal.nD Cert.EncIdeal.τ).loc Cert.EncIdeal.main_arg1)
      ∧ m' ((c.tc : Thread Cert.EncRefIdeal.nD Cert.EncRefIdeal.τ).loc Cert.EncRefIdeal.main_arg2) = m ((c.tc : Thread Cert.EncIdeal.nD Cert.EncIdeal.τ).loc Cert.EncIdeal.main_arg2)
      ∧ m' ((c.tc : Thread Cert.EncRefIdeal.nD Cert.EncRefIdeal.τ).loc Cert.EncRefIdeal.main_arg3) = m ((c.tc : Thread Cert.EncIdeal.nD Cert.EncIdeal.τ).loc Cert.EncIdeal.main_arg3)
      ∧ m' ((c.tc : Thread Cert.EncRefIdeal.nD Cert.EncRefIdeal.τ).loc Cert.EncRefIdeal.main_arg4) = m ((c.tc : Thread Cert.EncIdeal.nD Cert.EncIdeal.τ).loc Cert.EncIdeal.main_arg4)
      ∧ m' ((c.tc : Thread Cert.EncRefIdeal.nD Cert.EncRefIdeal.τ).loc Cert.EncRefIdeal.main_arg5) = m ((c.tc : Thread Cert.EncIdeal.nD Cert.EncIdeal.τ).loc Cert.EncIdeal.main_arg5)
      ∧ m' ((c.tc : Thread Cert.EncRefIdeal.nD Cert.EncRefIdeal.τ).loc Cert.EncRefIdeal.main_arg6) = m ((c.tc : Thread Cert.EncIdeal.nD Cert.EncIdeal.τ).loc Cert.EncIdeal.main_arg6)
      ∧ m' ((c.tc : Thread Cert.EncRefIdeal.nD Cert.EncRefIdeal.τ).loc Cert.EncRefIdeal.main_arg7) = m ((c.tc : Thread Cert.EncIdeal.nD Cert.EncIdeal.τ).loc Cert.EncIdeal.main_arg7)) →
    ∃ (v0 : (c : Dev Cert.EncIdeal.nD) → Buf (Elt Ideal) ((c.tc : Thread Cert.EncIdeal.nD Cert.EncIdeal.τ).loc Cert.EncIdeal.main_v0)),
      θ_run (Cert.EncIdeal.defs (F := Ideal)) (onTc (τ := Cert.EncIdeal.τ) (Cert.EncIdeal.main (F := Ideal))) ⟨m, fun _ => 0, g⟩ (fun r => ∀ c : Dev Cert.EncIdeal.nD,
          r.2.mem ((c.tc : Thread Cert.EncIdeal.nD Cert.EncIdeal.τ).loc Cert.EncIdeal.main_v0) = v0 c
          ∧ r.2.mem ((c.tc : Thread Cert.EncIdeal.nD Cert.EncIdeal.τ).loc Cert.EncIdeal.main_arg0) = m ((c.tc : Thread Cert.EncIdeal.nD Cert.EncIdeal.τ).loc Cert.EncIdeal.main_arg0)
          ∧ r.2.mem ((c.tc : Thread Cert.EncIdeal.nD Cert.EncIdeal.τ).loc Cert.EncIdeal.main_arg1) = m ((c.tc : Thread Cert.EncIdeal.nD Cert.EncIdeal.τ).loc Cert.EncIdeal.main_arg1)
          ∧ r.2.mem ((c.tc : Thread Cert.EncIdeal.nD Cert.EncIdeal.τ).loc Cert.EncIdeal.main_arg2) = m ((c.tc : Thread Cert.EncIdeal.nD Cert.EncIdeal.τ).loc Cert.EncIdeal.main_arg2)
          ∧ r.2.mem ((c.tc : Thread Cert.EncIdeal.nD Cert.EncIdeal.τ).loc Cert.EncIdeal.main_arg3) = m ((c.tc : Thread Cert.EncIdeal.nD Cert.EncIdeal.τ).loc Cert.EncIdeal.main_arg3)
          ∧ r.2.mem ((c.tc : Thread Cert.EncIdeal.nD Cert.EncIdeal.τ).loc Cert.EncIdeal.main_arg4) = m ((c.tc : Thread Cert.EncIdeal.nD Cert.EncIdeal.τ).loc Cert.EncIdeal.main_arg4)
          ∧ r.2.mem ((c.tc : Thread Cert.EncIdeal.nD Cert.EncIdeal.τ).loc Cert.EncIdeal.main_arg5) = m ((c.tc : Thread Cert.EncIdeal.nD Cert.EncIdeal.τ).loc Cert.EncIdeal.main_arg5)
          ∧ r.2.mem ((c.tc : Thread Cert.EncIdeal.nD Cert.EncIdeal.τ).loc Cert.EncIdeal.main_arg6) = m ((c.tc : Thread Cert.EncIdeal.nD Cert.EncIdeal.τ).loc Cert.EncIdeal.main_arg6)
          ∧ r.2.mem ((c.tc : Thread Cert.EncIdeal.nD Cert.EncIdeal.τ).loc Cert.EncIdeal.main_arg7) = m ((c.tc : Thread Cert.EncIdeal.nD Cert.EncIdeal.τ).loc Cert.EncIdeal.main_arg7))
      ∧ θ_run (Cert.EncRefIdeal.defs (F := Ideal)) (onTc (τ := Cert.EncRefIdeal.τ) (Cert.EncRefIdeal.main (F := Ideal))) ⟨m', fun _ => 0, g'⟩ (fun r => ∀ c : Dev Cert.EncRefIdeal.nD,
          r.2.mem ((c.tc : Thread Cert.EncRefIdeal.nD Cert.EncRefIdeal.τ).loc Cert.EncRefIdeal.main_v74) = v0 c
          ∧ r.2.mem ((c.tc : Thread Cert.EncRefIdeal.nD Cert.EncRefIdeal.τ).loc Cert.EncRefIdeal.main_arg0) = m' ((c.tc : Thread Cert.EncRefIdeal.nD Cert.EncRefIdeal.τ).loc Cert.EncRefIdeal.main_arg0)
          ∧ r.2.mem ((c.tc : Thread Cert.EncRefIdeal.nD Cert.EncRefIdeal.τ).loc Cert.EncRefIdeal.main_arg1) = m' ((c.tc : Thread Cert.EncRefIdeal.nD Cert.EncRefIdeal.τ).loc Cert.EncRefIdeal.main_arg1)
          ∧ r.2.mem ((c.tc : Thread Cert.EncRefIdeal.nD Cert.EncRefIdeal.τ).loc Cert.EncRefIdeal.main_arg2) = m' ((c.tc : Thread Cert.EncRefIdeal.nD Cert.EncRefIdeal.τ).loc Cert.EncRefIdeal.main_arg2)
          ∧ r.2.mem ((c.tc : Thread Cert.EncRefIdeal.nD Cert.EncRefIdeal.τ).loc Cert.EncRefIdeal.main_arg3) = m' ((c.tc : Thread Cert.EncRefIdeal.nD Cert.EncRefIdeal.τ).loc Cert.EncRefIdeal.main_arg3)
          ∧ r.2.mem ((c.tc : Thread Cert.EncRefIdeal.nD Cert.EncRefIdeal.τ).loc Cert.EncRefIdeal.main_arg4) = m' ((c.tc : Thread Cert.EncRefIdeal.nD Cert.EncRefIdeal.τ).loc Cert.EncRefIdeal.main_arg4)
          ∧ r.2.mem ((c.tc : Thread Cert.EncRefIdeal.nD Cert.EncRefIdeal.τ).loc Cert.EncRefIdeal.main_arg5) = m' ((c.tc : Thread Cert.EncRefIdeal.nD Cert.EncRefIdeal.τ).loc Cert.EncRefIdeal.main_arg5)
          ∧ r.2.mem ((c.tc : Thread Cert.EncRefIdeal.nD Cert.EncRefIdeal.τ).loc Cert.EncRefIdeal.main_arg6) = m' ((c.tc : Thread Cert.EncRefIdeal.nD Cert.EncRefIdeal.τ).loc Cert.EncRefIdeal.main_arg6)
          ∧ r.2.mem ((c.tc : Thread Cert.EncRefIdeal.nD Cert.EncRefIdeal.τ).loc Cert.EncRefIdeal.main_arg7) = m' ((c.tc : Thread Cert.EncRefIdeal.nD Cert.EncRefIdeal.τ).loc Cert.EncRefIdeal.main_arg7))

def preserves_Layers_LayersIdeal : Prop :=
  IdealRules.named_const.Statement Cert.LayersIdeal.κ "mask" .f32 0xF149F2CA#32 ⊥

def algebraic_LayersIdeal_LayersRefIdeal_pre_layers_inputs [hLayersIdeal : Cert.LayersIdeal.Facts] [hLayersRefIdeal : Cert.LayersRefIdeal.Facts] [hPre_layers_inputs : Cert.Pre_layers_inputs.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersRefIdeal.nD Cert.LayersRefIdeal.τ Cert.LayersRefIdeal.sig) → Buf (Elt Ideal) ℓ) (g' : Dev Cert.LayersRefIdeal.nD → PrngReg), Pre_LayersIdeal_layers_inputs m →
    (∀ c : Dev Cert.LayersIdeal.nD,
      m' ((c.tc : Thread Cert.LayersRefIdeal.nD Cert.LayersRefIdeal.τ).loc Cert.LayersRefIdeal.main_arg0) = m ((c.tc : Thread Cert.LayersIdeal.nD Cert.LayersIdeal.τ).loc Cert.LayersIdeal.main_arg0)
      ∧ m' ((c.tc : Thread Cert.LayersRefIdeal.nD Cert.LayersRefIdeal.τ).loc Cert.LayersRefIdeal.main_arg1) = m ((c.tc : Thread Cert.LayersIdeal.nD Cert.LayersIdeal.τ).loc Cert.LayersIdeal.main_arg1)
      ∧ m' ((c.tc : Thread Cert.LayersRefIdeal.nD Cert.LayersRefIdeal.τ).loc Cert.LayersRefIdeal.main_arg2) = m ((c.tc : Thread Cert.LayersIdeal.nD Cert.LayersIdeal.τ).loc Cert.LayersIdeal.main_arg2)
      ∧ m' ((c.tc : Thread Cert.LayersRefIdeal.nD Cert.LayersRefIdeal.τ).loc Cert.LayersRefIdeal.main_arg3) = m ((c.tc : Thread Cert.LayersIdeal.nD Cert.LayersIdeal.τ).loc Cert.LayersIdeal.main_arg3)
      ∧ m' ((c.tc : Thread Cert.LayersRefIdeal.nD Cert.LayersRefIdeal.τ).loc Cert.LayersRefIdeal.main_arg4) = m ((c.tc : Thread Cert.LayersIdeal.nD Cert.LayersIdeal.τ).loc Cert.LayersIdeal.main_arg4)
      ∧ m' ((c.tc : Thread Cert.LayersRefIdeal.nD Cert.LayersRefIdeal.τ).loc Cert.LayersRefIdeal.main_arg5) = m ((c.tc : Thread Cert.LayersIdeal.nD Cert.LayersIdeal.τ).loc Cert.LayersIdeal.main_arg5)
      ∧ m' ((c.tc : Thread Cert.LayersRefIdeal.nD Cert.LayersRefIdeal.τ).loc Cert.LayersRefIdeal.main_arg6) = m ((c.tc : Thread Cert.LayersIdeal.nD Cert.LayersIdeal.τ).loc Cert.LayersIdeal.main_arg6)
      ∧ m' ((c.tc : Thread Cert.LayersRefIdeal.nD Cert.LayersRefIdeal.τ).loc Cert.LayersRefIdeal.main_arg7) = m ((c.tc : Thread Cert.LayersIdeal.nD Cert.LayersIdeal.τ).loc Cert.LayersIdeal.main_arg7)
      ∧ m' ((c.tc : Thread Cert.LayersRefIdeal.nD Cert.LayersRefIdeal.τ).loc Cert.LayersRefIdeal.main_arg8) = m ((c.tc : Thread Cert.LayersIdeal.nD Cert.LayersIdeal.τ).loc Cert.LayersIdeal.main_arg8)
      ∧ m' ((c.tc : Thread Cert.LayersRefIdeal.nD Cert.LayersRefIdeal.τ).loc Cert.LayersRefIdeal.main_arg9) = m ((c.tc : Thread Cert.LayersIdeal.nD Cert.LayersIdeal.τ).loc Cert.LayersIdeal.main_arg9)
      ∧ m' ((c.tc : Thread Cert.LayersRefIdeal.nD Cert.LayersRefIdeal.τ).loc Cert.LayersRefIdeal.main_arg10) = m ((c.tc : Thread Cert.LayersIdeal.nD Cert.LayersIdeal.τ).loc Cert.LayersIdeal.main_arg10)
      ∧ m' ((c.tc : Thread Cert.LayersRefIdeal.nD Cert.LayersRefIdeal.τ).loc Cert.LayersRefIdeal.main_arg11) = m ((c.tc : Thread Cert.LayersIdeal.nD Cert.LayersIdeal.τ).loc Cert.LayersIdeal.main_arg11)
      ∧ m' ((c.tc : Thread Cert.LayersRefIdeal.nD Cert.LayersRefIdeal.τ).loc Cert.LayersRefIdeal.main_arg12) = m ((c.tc : Thread Cert.LayersIdeal.nD Cert.LayersIdeal.τ).loc Cert.LayersIdeal.main_arg12)
      ∧ m' ((c.tc : Thread Cert.LayersRefIdeal.nD Cert.LayersRefIdeal.τ).loc Cert.LayersRefIdeal.main_arg13) = m ((c.tc : Thread Cert.LayersIdeal.nD Cert.LayersIdeal.τ).loc Cert.LayersIdeal.main_arg13)) →
    ∃ (v0 : (c : Dev Cert.LayersIdeal.nD) → Buf (Elt Ideal) ((c.tc : Thread Cert.LayersIdeal.nD Cert.LayersIdeal.τ).loc Cert.LayersIdeal.main_v0_0)) (v1 : (c : Dev Cert.LayersIdeal.nD) → Buf (Elt Ideal) ((c.tc : Thread Cert.LayersIdeal.nD Cert.LayersIdeal.τ).loc Cert.LayersIdeal.main_v0_1)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v0_0) = v0 c
          ∧ r.2.mem ((c.tc : Thread Cert.LayersIdeal.nD Cert.LayersIdeal.τ).loc Cert.LayersIdeal.main_v0_1) = v1 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
          ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
          ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
          ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13))
      ∧ θ_run (Cert.LayersRefIdeal.defs (F := Ideal)) (onTc (τ := Cert.LayersRefIdeal.τ) (Cert.LayersRefIdeal.main (F := Ideal))) ⟨m', fun _ => 0, g'⟩ (fun r => ∀ c : Dev Cert.LayersRefIdeal.nD,
          r.2.mem ((c.tc : Thread Cert.LayersRefIdeal.nD Cert.LayersRefIdeal.τ).loc Cert.LayersRefIdeal.main_v606) = v0 c
          ∧ r.2.mem ((c.tc : Thread Cert.LayersRefIdeal.nD Cert.LayersRefIdeal.τ).loc Cert.LayersRefIdeal.main_v608) = v1 c
          ∧ r.2.mem ((c.tc : Thread Cert.LayersRefIdeal.nD Cert.LayersRefIdeal.τ).loc Cert.LayersRefIdeal.main_arg0) = m' ((c.tc : Thread Cert.LayersRefIdeal.nD Cert.LayersRefIdeal.τ).loc Cert.LayersRefIdeal.main_arg0)
          ∧ r.2.mem ((c.tc : Thread Cert.LayersRefIdeal.nD Cert.LayersRefIdeal.τ).loc Cert.LayersRefIdeal.main_arg1) = m' ((c.tc : Thread Cert.LayersRefIdeal.nD Cert.LayersRefIdeal.τ).loc Cert.LayersRefIdeal.main_arg1)
          ∧ r.2.mem ((c.tc : Thread Cert.LayersRefIdeal.nD Cert.LayersRefIdeal.τ).loc Cert.LayersRefIdeal.main_arg2) = m' ((c.tc : Thread Cert.LayersRefIdeal.nD Cert.LayersRefIdeal.τ).loc Cert.LayersRefIdeal.main_arg2)
          ∧ r.2.mem ((c.tc : Thread Cert.LayersRefIdeal.nD Cert.LayersRefIdeal.τ).loc Cert.LayersRefIdeal.main_arg3) = m' ((c.tc : Thread Cert.LayersRefIdeal.nD Cert.LayersRefIdeal.τ).loc Cert.LayersRefIdeal.main_arg3)
          ∧ r.2.mem ((c.tc : Thread Cert.LayersRefIdeal.nD Cert.LayersRefIdeal.τ).loc Cert.LayersRefIdeal.main_arg4) = m' ((c.tc : Thread Cert.LayersRefIdeal.nD Cert.LayersRefIdeal.τ).loc Cert.LayersRefIdeal.main_arg4)
          ∧ r.2.mem ((c.tc : Thread Cert.LayersRefIdeal.nD Cert.LayersRefIdeal.τ).loc Cert.LayersRefIdeal.main_arg5) = m' ((c.tc : Thread Cert.LayersRefIdeal.nD Cert.LayersRefIdeal.τ).loc Cert.LayersRefIdeal.main_arg5)
          ∧ r.2.mem ((c.tc : Thread Cert.LayersRefIdeal.nD Cert.LayersRefIdeal.τ).loc Cert.LayersRefIdeal.main_arg6) = m' ((c.tc : Thread Cert.LayersRefIdeal.nD Cert.LayersRefIdeal.τ).loc Cert.LayersRefIdeal.main_arg6)
          ∧ r.2.mem ((c.tc : Thread Cert.LayersRefIdeal.nD Cert.LayersRefIdeal.τ).loc Cert.LayersRefIdeal.main_arg7) = m' ((c.tc : Thread Cert.LayersRefIdeal.nD Cert.LayersRefIdeal.τ).loc Cert.LayersRefIdeal.main_arg7)
          ∧ r.2.mem ((c.tc : Thread Cert.LayersRefIdeal.nD Cert.LayersRefIdeal.τ).loc Cert.LayersRefIdeal.main_arg8) = m' ((c.tc : Thread Cert.LayersRefIdeal.nD Cert.LayersRefIdeal.τ).loc Cert.LayersRefIdeal.main_arg8)
          ∧ r.2.mem ((c.tc : Thread Cert.LayersRefIdeal.nD Cert.LayersRefIdeal.τ).loc Cert.LayersRefIdeal.main_arg9) = m' ((c.tc : Thread Cert.LayersRefIdeal.nD Cert.LayersRefIdeal.τ).loc Cert.LayersRefIdeal.main_arg9)
          ∧ r.2.mem ((c.tc : Thread Cert.LayersRefIdeal.nD Cert.LayersRefIdeal.τ).loc Cert.LayersRefIdeal.main_arg10) = m' ((c.tc : Thread Cert.LayersRefIdeal.nD Cert.LayersRefIdeal.τ).loc Cert.LayersRefIdeal.main_arg10)
          ∧ r.2.mem ((c.tc : Thread Cert.LayersRefIdeal.nD Cert.LayersRefIdeal.τ).loc Cert.LayersRefIdeal.main_arg11) = m' ((c.tc : Thread Cert.LayersRefIdeal.nD Cert.LayersRefIdeal.τ).loc Cert.LayersRefIdeal.main_arg11)
          ∧ r.2.mem ((c.tc : Thread Cert.LayersRefIdeal.nD Cert.LayersRefIdeal.τ).loc Cert.LayersRefIdeal.main_arg12) = m' ((c.tc : Thread Cert.LayersRefIdeal.nD Cert.LayersRefIdeal.τ).loc Cert.LayersRefIdeal.main_arg12)
          ∧ r.2.mem ((c.tc : Thread Cert.LayersRefIdeal.nD Cert.LayersRefIdeal.τ).loc Cert.LayersRefIdeal.main_arg13) = m' ((c.tc : Thread Cert.LayersRefIdeal.nD Cert.LayersRefIdeal.τ).loc Cert.LayersRefIdeal.main_arg13))

def Claim : Prop :=
  ∃ (hDec : Cert.Dec.Facts) (hDecIdeal : Cert.DecIdeal.Facts) (hDecRefIdeal : Cert.DecRefIdeal.Facts) (hEnc : Cert.Enc.Facts) (hEncIdeal : Cert.EncIdeal.Facts) (hEncRefIdeal : Cert.EncRefIdeal.Facts) (hLayers : Cert.Layers.Facts) (hLayersIdeal : Cert.LayersIdeal.Facts) (hLayersRefIdeal : Cert.LayersRefIdeal.Facts) (hPre_decoder_inputs : Cert.Pre_decoder_inputs.Facts) (hPre_ids_in_range : Cert.Pre_ids_in_range.Facts) (hPre_layers_inputs : Cert.Pre_layers_inputs.Facts),
    quiescent_Dec (hDec := hDec)
    ∧ quiescent_DecIdeal (hDecIdeal := hDecIdeal)
    ∧ quiescent_DecIdeal_pre_decoder_inputs (hDecIdeal := hDecIdeal) (hPre_decoder_inputs := hPre_decoder_inputs)
    ∧ quiescent_DecRefIdeal (hDecRefIdeal := hDecRefIdeal)
    ∧ quiescent_DecRefIdeal_pre_decoder_inputs (hDecRefIdeal := hDecRefIdeal) (hPre_decoder_inputs := hPre_decoder_inputs)
    ∧ quiescent_Enc (hEnc := hEnc)
    ∧ quiescent_EncIdeal (hEncIdeal := hEncIdeal)
    ∧ quiescent_EncIdeal_pre_ids_in_range (hEncIdeal := hEncIdeal) (hPre_ids_in_range := hPre_ids_in_range)
    ∧ quiescent_EncRefIdeal (hEncRefIdeal := hEncRefIdeal)
    ∧ quiescent_EncRefIdeal_pre_ids_in_range (hEncRefIdeal := hEncRefIdeal) (hPre_ids_in_range := hPre_ids_in_range)
    ∧ quiescent_Layers (hLayers := hLayers)
    ∧ quiescent_LayersIdeal (hLayersIdeal := hLayersIdeal)
    ∧ quiescent_LayersIdeal_pre_layers_inputs (hLayersIdeal := hLayersIdeal) (hPre_layers_inputs := hPre_layers_inputs)
    ∧ quiescent_LayersRefIdeal (hLayersRefIdeal := hLayersRefIdeal)
    ∧ quiescent_LayersRefIdeal_pre_layers_inputs (hLayersRefIdeal := hLayersRefIdeal) (hPre_layers_inputs := hPre_layers_inputs)
    ∧ preserves_Dec_DecIdeal
    ∧ algebraic_DecIdeal_DecRefIdeal_pre_decoder_inputs (hDecIdeal := hDecIdeal) (hDecRefIdeal := hDecRefIdeal) (hPre_decoder_inputs := hPre_decoder_inputs)
    ∧ preserves_Enc_EncIdeal
    ∧ algebraic_EncIdeal_EncRefIdeal_pre_ids_in_range (hEncIdeal := hEncIdeal) (hEncRefIdeal := hEncRefIdeal) (hPre_ids_in_range := hPre_ids_in_range)
    ∧ preserves_Layers_LayersIdeal
    ∧ algebraic_LayersIdeal_LayersRefIdeal_pre_layers_inputs (hLayersIdeal := hLayersIdeal) (hLayersRefIdeal := hLayersRefIdeal) (hPre_layers_inputs := hPre_layers_inputs)
-- ==== Pre_decoder_inputs.lean ====
abbrev S8x2048 : Shape := ⟨2, ![8, 2048]⟩
abbrev S8x16x768 : Shape := ⟨3, ![8, 16, 768]⟩
abbrev S256x768 : Shape := ⟨2, ![256, 768]⟩
abbrev S768x768 : Shape := ⟨2, ![768, 768]⟩
abbrev S768x2048 : Shape := ⟨2, ![768, 2048]⟩
abbrev S2048x768 : Shape := ⟨2, ![2048, 768]⟩
abbrev S768x256 : Shape := ⟨2, ![768, 256]⟩
abbrev S_ : Shape := ⟨0, ![]⟩

class Facts : Prop where
  bcast_S_S8x2048 : S_.BroadcastsInDim S8x2048 (![] : Fin 0 → Fin S8x2048.rank)
  bcast_S_S768x768 : S_.BroadcastsInDim S768x768 (![] : Fin 0 → Fin S768x768.rank)
  bcast_S_S8x16x768 : S_.BroadcastsInDim S8x16x768 (![] : Fin 0 → Fin S8x16x768.rank)

variable [Facts]

def fn {F : FTy → Type} [FloatOps F] (main_arg0 : IVec S8x2048 32) (main_arg1 : FVec F S8x16x768 .f32) (main_arg2 : FVec F S8x16x768 .f32) (main_arg3 : FVec F S256x768 .f32) (main_arg4 : FVec F S768x768 .f32) (main_arg5 : FVec F S768x768 .f32) (main_arg6 : FVec F S768x2048 .f32) (main_arg7 : FVec F S2048x768 .f32) (main_arg8 : FVec F S768x256 .f32) : IVec S8x2048 1 × IVec S768x768 1 × IVec S8x16x768 1 :=
  let main_c : IVec S_ 32 := constantI S_ 32 0#32
  let main_v0 : IVec S8x2048 32 := broadcastInDim S8x2048 ![] bcast_S_S8x2048 main_c
  let main_v1 : IVec S8x2048 1 := cmpi .sge main_arg0 main_v0
  let main_c_0 : IVec S_ 32 := constantI S_ 32 256#32
  let main_v2 : IVec S8x2048 32 := broadcastInDim S8x2048 ![] bcast_S_S8x2048 main_c_0
  let main_v3 : IVec S8x2048 1 := cmpi .slt main_arg0 main_v2
  let main_v4 : IVec S8x2048 1 := andi main_v1 main_v3
  let main_v5 : FVec F S768x768 .f32 := Host.absf main_arg4
  let main_cst : FVec F S_ .f32 := constant S_ .f32 0x7F800000#32
  let main_v6 : FVec F S768x768 .f32 := broadcastInDim S768x768 ![] bcast_S_S768x768 main_cst
  let main_v7 : IVec S768x768 1 := cmpf .olt main_v5 main_v6
  let main_v8 : FVec F S8x16x768 .f32 := Host.absf main_arg1
  let main_cst_1 : FVec F S_ .f32 := constant S_ .f32 0x7F800000#32
  let main_v9 : FVec F S8x16x768 .f32 := broadcastInDim S8x16x768 ![] bcast_S_S8x16x768 main_cst_1
  let main_v10 : IVec S8x16x768 1 := cmpf .olt main_v8 main_v9
  (main_v4, main_v7, main_v10)
-- ==== Pre_ids_in_range.lean ====
abbrev S8x2048 : Shape := ⟨2, ![8, 2048]⟩
abbrev S256x512 : Shape := ⟨2, ![256, 512]⟩
abbrev S512x512 : Shape := ⟨2, ![512, 512]⟩
abbrev S512x2048 : Shape := ⟨2, ![512, 2048]⟩
abbrev S2048x512 : Shape := ⟨2, ![2048, 512]⟩
abbrev S_ : Shape := ⟨0, ![]⟩

class Facts : Prop where
  bcast_S_S8x2048 : S_.BroadcastsInDim S8x2048 (![] : Fin 0 → Fin S8x2048.rank)

variable [Facts]

def fn {F : FTy → Type} [FloatOps F] (main_arg0 : IVec S8x2048 32) (main_arg1 : FVec F S256x512 .f32) (main_arg2 : FVec F S512x512 .f32) (main_arg3 : FVec F S512x512 .f32) (main_arg4 : FVec F S512x512 .f32) (main_arg5 : FVec F S512x512 .f32) (main_arg6 : FVec F S512x2048 .f32) (main_arg7 : FVec F S2048x512 .f32) : IVec S8x2048 1 :=
  let main_c : IVec S_ 32 := constantI S_ 32 0#32
  let main_v0 : IVec S8x2048 32 := broadcastInDim S8x2048 ![] bcast_S_S8x2048 main_c
  let main_v1 : IVec S8x2048 1 := cmpi .sge main_arg0 main_v0
  let main_c_0 : IVec S_ 32 := constantI S_ 32 256#32
  let main_v2 : IVec S8x2048 32 := broadcastInDim S8x2048 ![] bcast_S_S8x2048 main_c_0
  let main_v3 : IVec S8x2048 1 := cmpi .slt main_arg0 main_v2
  let main_v4 : IVec S8x2048 1 := andi main_v1 main_v3
  main_v4
-- ==== Pre_layers_inputs.lean ====
abbrev S128x512 : Shape := ⟨2, ![128, 512]⟩
abbrev S512x512 : Shape := ⟨2, ![512, 512]⟩
abbrev S6x512x512 : Shape := ⟨3, ![6, 512, 512]⟩
abbrev S1024x768 : Shape := ⟨2, ![1024, 768]⟩
abbrev S768x768 : Shape := ⟨2, ![768, 768]⟩
abbrev S_ : Shape := ⟨0, ![]⟩

class Facts : Prop where
  bcast_S_S128x512 : S_.BroadcastsInDim S128x512 (![] : Fin 0 → Fin S128x512.rank)
  bcast_S_S512x512 : S_.BroadcastsInDim S512x512 (![] : Fin 0 → Fin S512x512.rank)
  bcast_S_S6x512x512 : S_.BroadcastsInDim S6x512x512 (![] : Fin 0 → Fin S6x512x512.rank)

variable [Facts]

def fn_part1 {F : FTy → Type} [FloatOps F] (main_arg6 : FVec F S6x512x512 .f32) (main_v2 : IVec S128x512 1) (main_v5 : IVec S512x512 1) (main_v8 : IVec S512x512 1) (main_v11 : IVec S6x512x512 1) (main_v14 : IVec S6x512x512 1) (main_v17 : IVec S6x512x512 1) : IVec S128x512 1 × IVec S512x512 1 × IVec S512x512 1 × IVec S6x512x512 1 × IVec S6x512x512 1 × IVec S6x512x512 1 × IVec S6x512x512 1 :=
  let main_v18 : FVec F S6x512x512 .f32 := Host.absf main_arg6
  let main_cst_5 : FVec F S_ .f32 := constant S_ .f32 0x7F800000#32
  let main_v19 : FVec F S6x512x512 .f32 := broadcastInDim S6x512x512 ![] bcast_S_S6x512x512 main_cst_5
  let main_v20 : IVec S6x512x512 1 := cmpf .olt main_v18 main_v19
  (main_v2, main_v5, main_v8, main_v11, main_v14, main_v17, main_v20)

def fn {F : FTy → Type} [FloatOps F] (main_arg0 : FVec F S128x512 .f32) (main_arg1 : FVec F S512x512 .f32) (main_arg2 : FVec F S512x512 .f32) (main_arg3 : FVec F S6x512x512 .f32) (main_arg4 : FVec F S6x512x512 .f32) (main_arg5 : FVec F S6x512x512 .f32) (main_arg6 : FVec F S6x512x512 .f32) (main_arg7 : FVec F S6x512x512 .f32) (main_arg8 : FVec F S6x512x512 .f32) (main_arg9 : FVec F S6x512x512 .f32) (main_arg10 : FVec F S6x512x512 .f32) (main_arg11 : FVec F S1024x768 .f32) (main_arg12 : FVec F S768x768 .f32) (main_arg13 : FVec F S768x768 .f32) : IVec S128x512 1 × IVec S512x512 1 × IVec S512x512 1 × IVec S6x512x512 1 × IVec S6x512x512 1 × IVec S6x512x512 1 × IVec S6x512x512 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512x512 .f32 := Host.absf main_arg2
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  let main_v9 : FVec F S6x512x512 .f32 := Host.absf main_arg3
  let main_cst_2 : FVec F S_ .f32 := constant S_ .f32 0x7F800000#32
  let main_v10 : FVec F S6x512x512 .f32 := broadcastInDim S6x512x512 ![] bcast_S_S6x512x512 main_cst_2
  let main_v11 : IVec S6x512x512 1 := cmpf .olt main_v9 main_v10
  let main_v12 : FVec F S6x512x512 .f32 := Host.absf main_arg4
  let main_cst_3 : FVec F S_ .f32 := constant S_ .f32 0x7F800000#32
  let main_v13 : FVec F S6x512x512 .f32 := broadcastInDim S6x512x512 ![] bcast_S_S6x512x512 main_cst_3
  let main_v14 : IVec S6x512x512 1 := cmpf .olt main_v12 main_v13
  let main_v15 : FVec F S6x512x512 .f32 := Host.absf main_arg5
  let main_cst_4 : FVec F S_ .f32 := constant S_ .f32 0x7F800000#32
  let main_v16 : FVec F S6x512x512 .f32 := broadcastInDim S6x512x512 ![] bcast_S_S6x512x512 main_cst_4
  let main_v17 : IVec S6x512x512 1 := cmpf .olt main_v15 main_v16
  fn_part1 (F := F) main_arg6 main_v2 main_v5 main_v8 main_v11 main_v14 main_v17
-- ==== Dec.lean ====
abbrev S8x2048 : Shape := ⟨2, ![8, 2048]⟩
abbrev S8x16x768 : Shape := ⟨3, ![8, 16, 768]⟩
abbrev S256x768 : Shape := ⟨2, ![256, 768]⟩
abbrev S768x768 : Shape := ⟨2, ![768, 768]⟩
abbrev S768x2048 : Shape := ⟨2, ![768, 2048]⟩
abbrev S2048x768 : Shape := ⟨2, ![2048, 768]⟩
abbrev S768x256 : Shape := ⟨2, ![768, 256]⟩
abbrev S16x1x1024 : Shape := ⟨3, ![16, 1, 1024]⟩
abbrev S8x2048x256 : Shape := ⟨3, ![8, 2048, 256]⟩
abbrev S1x1x1024 : Shape := ⟨3, ![1, 1, 1024]⟩
abbrev S1x16x768 : Shape := ⟨3, ![1, 16, 768]⟩
abbrev S1x1024x256 : Shape := ⟨3, ![1, 1024, 256]⟩
abbrev S1x1024 : Shape := ⟨2, ![1, 1024]⟩
abbrev S256x1024 : Shape := ⟨2, ![256, 1024]⟩
abbrev S1024x768 : Shape := ⟨2, ![1024, 768]⟩
abbrev S1024 : Shape := ⟨1, ![1024]⟩
abbrev S1024x1 : Shape := ⟨2, ![1024, 1]⟩
abbrev S16x768 : Shape := ⟨2, ![16, 768]⟩
abbrev S1x768 : Shape := ⟨2, ![1, 768]⟩
abbrev S1024x16 : Shape := ⟨2, ![1024, 16]⟩
abbrev S1024x128 : Shape := ⟨2, ![1024, 128]⟩
abbrev S128x128 : Shape := ⟨2, ![128, 128]⟩
abbrev S128x768 : Shape := ⟨2, ![128, 768]⟩
abbrev S1024x2048 : Shape := ⟨2, ![1024, 2048]⟩
abbrev S1024x256 : Shape := ⟨2, ![1024, 256]⟩

abbrev nBuf : Space → Nat
  | .hbm => 17
  | .vmem => 14
  | .smem => 0
  | _ => 0

abbrev bufTy : (tb : Table) → Fin (tcTables nBuf tb) → BufTy
  | .hbm, ⟨0, _⟩ => ⟨S8x2048, .i32⟩
  | .hbm, ⟨1, _⟩ => ⟨S8x16x768, .f32⟩
  | .hbm, ⟨2, _⟩ => ⟨S8x16x768, .f32⟩
  | .hbm, ⟨3, _⟩ => ⟨S256x768, .f32⟩
  | .hbm, ⟨4, _⟩ => ⟨S768x768, .f32⟩
  | .hbm, ⟨5, _⟩ => ⟨S768x768, .f32⟩
  | .hbm, ⟨6, _⟩ => ⟨S768x2048, .f32⟩
  | .hbm, ⟨7, _⟩ => ⟨S2048x768, .f32⟩
  | .hbm, ⟨8, _⟩ => ⟨S768x256, .f32⟩
  | .hbm, ⟨9, _⟩ => ⟨S16x1x1024, .i32⟩
  | .hbm, ⟨10, _⟩ => ⟨S256x768, .bf16⟩
  | .hbm, ⟨11, _⟩ => ⟨S768x768, .bf16⟩
  | .hbm, ⟨12, _⟩ => ⟨S768x768, .bf16⟩
  | .hbm, ⟨13, _⟩ => ⟨S768x2048, .bf16⟩
  | .hbm, ⟨14, _⟩ => ⟨S2048x768, .bf16⟩
  | .hbm, ⟨15, _⟩ => ⟨S768x256, .bf16⟩
  | .hbm, ⟨16, _⟩ => ⟨S8x2048x256, .f32⟩
  | .local _ .vmem, ⟨0, _⟩ => ⟨S1x1x1024, .i32⟩
  | .local _ .vmem, ⟨1, _⟩ => ⟨S1x1x1024, .i32⟩
  | .local _ .vmem, ⟨2, _⟩ => ⟨S1x16x768, .f32⟩
  | .local _ .vmem, ⟨3, _⟩ => ⟨S1x16x768, .f32⟩
  | .local _ .vmem, ⟨4, _⟩ => ⟨S1x16x768, .f32⟩
  | .local _ .vmem, ⟨5, _⟩ => ⟨S1x16x768, .f32⟩
  | .local _ .vmem, ⟨6, _⟩ => ⟨S256x768, .bf16⟩
  | .local _ .vmem, ⟨7, _⟩ => ⟨S768x768, .bf16⟩
  | .local _ .vmem, ⟨8, _⟩ => ⟨S768x768, .bf16⟩
  | .local _ .vmem, ⟨9, _⟩ => ⟨S768x2048, .bf16⟩
  | .local _ .vmem, ⟨10, _⟩ => ⟨S2048x768, .bf16⟩
  | .local _ .vmem, ⟨11, _⟩ => ⟨S768x256, .bf16⟩
  | .local _ .vmem, ⟨12, _⟩ => ⟨S1x1024x256, .f32⟩
  | .local _ .vmem, ⟨13, _⟩ => ⟨S1x1024x256, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DecIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | "rs96" => some (((Real.sqrt 96)⁻¹ : ℝ) : EReal)
  | _ => none
-- ==== DecRefIdeal.lean ====
abbrev S8x2048 : Shape := ⟨2, ![8, 2048]⟩
abbrev S8x16x768 : Shape := ⟨3, ![8, 16, 768]⟩
abbrev S256x768 : Shape := ⟨2, ![256, 768]⟩
abbrev S768x768 : Shape := ⟨2, ![768, 768]⟩
abbrev S768x2048 : Shape := ⟨2, ![768, 2048]⟩
abbrev S2048x768 : Shape := ⟨2, ![2048, 768]⟩
abbrev S768x256 : Shape := ⟨2, ![768, 256]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x768 : Shape := ⟨3, ![8, 2048, 768]⟩
abbrev S8x2048x8x96 : Shape := ⟨4, ![8, 2048, 8, 96]⟩
abbrev S8x8x2048x96 : Shape := ⟨4, ![8, 8, 2048, 96]⟩
abbrev S8x16x8x96 : Shape := ⟨4, ![8, 16, 8, 96]⟩
abbrev S8x8x16x96 : Shape := ⟨4, ![8, 8, 16, 96]⟩
abbrev S8x8x2048x16 : Shape := ⟨4, ![8, 8, 2048, 16]⟩
abbrev S8x8x2048 : Shape := ⟨3, ![8, 8, 2048]⟩
abbrev S8x8x2048x1 : Shape := ⟨4, ![8, 8, 2048, 1]⟩
abbrev S8x2048x2048 : Shape := ⟨3, ![8, 2048, 2048]⟩
abbrev S8x2048x256 : Shape := ⟨3, ![8, 2048, 256]⟩

abbrev nBuf : Space → Nat
  | .hbm => 198
  | .vmem => 0
  | .smem => 0
  | _ => 0

abbrev hbmTy0_0 (i : Nat) : BufTy := match i % 128 with
  | 0 => ⟨S8x2048, .i32⟩
  | 1 => ⟨S8x16x768, .f32⟩
  | 2 => ⟨S8x16x768, .f32⟩
  | 3 => ⟨S256x768, .f32⟩
  | 4 => ⟨S768x768, .f32⟩
  | 5 => ⟨S768x768, .f32⟩
  | 6 => ⟨S768x2048, .f32⟩
  | 7 => ⟨S2048x768, .f32⟩
  | 8 => ⟨S768x256, .f32⟩
  | 9 => ⟨S_, .i32⟩
  | 10 => ⟨S8x2048, .i32⟩
  | 11 => ⟨S8x2048, .i1⟩
  | 12 => ⟨S_, .i32⟩
  | 13 => ⟨S8x2048, .i32⟩
  | 14 => ⟨S8x2048, .i32⟩
  | 15 => ⟨S8x2048, .i32⟩
  | 16 => ⟨S8x2048x1, .i32⟩
  | 17 => ⟨S1, .i32⟩
  | 18 => ⟨S_, .i32⟩
  | 19 => ⟨S8x2048x1, .i32⟩
  | 20 => ⟨S8x2048x1, .i1⟩
  | 21 => ⟨S1x1x1, .i32⟩
  | 22 => ⟨S8x2048x1, .i32⟩
  | 23 => ⟨S8x2048x1, .i1⟩
  | 24 => ⟨S8x2048x1, .i1⟩
  | 25 => ⟨S_, .i1⟩
  | 26 => ⟨S8x2048, .i1⟩
  | 27 => ⟨S8x2048x768, .f32⟩
  | 28 => ⟨S8x2048x768, .i1⟩
  | 29 => ⟨S_, .f32⟩
  | 30 => ⟨S8x2048x768, .f32⟩
  | 31 => ⟨S8x2048x768, .f32⟩
  | 32 => ⟨S_, .f32⟩
  | 33 => ⟨S8x2048, .f32⟩
  | 34 => ⟨S8x2048x1, .f32⟩
  | 35 => ⟨S_, .f32⟩
  | 36 => ⟨S8x2048x1, .f32⟩
  | 37 => ⟨S8x2048x1, .f32⟩
  | 38 => ⟨S_, .i32⟩
  | 39 => ⟨S_, .f32⟩
  | 40 => ⟨S8x2048, .f32⟩
  | 41 => ⟨S8x2048x1, .f32⟩
  | 42 => ⟨S_, .f32⟩
  | 43 => ⟨S8x2048x1, .f32⟩
  | 44 => ⟨S8x2048x1, .f32⟩
  | 45 => ⟨S8x2048x768, .f32⟩
  | 46 => ⟨S8x2048x768, .f32⟩
  | 47 => ⟨S8x2048x768, .f32⟩
  | 48 => ⟨S_, .f32⟩
  | 49 => ⟨S_, .f32⟩
  | 50 => ⟨S_, .f32⟩
  | 51 => ⟨S_, .f32⟩
  | 52 => ⟨S8x2048, .f32⟩
  | 53 => ⟨S8x2048x1, .f32⟩
  | 54 => ⟨S8x2048x1, .f32⟩
  | 55 => ⟨S8x2048x1, .f32⟩
  | 56 => ⟨S_, .f32⟩
  | 57 => ⟨S_, .i1⟩
  | 58 => ⟨S_, .f32⟩
  | 59 => ⟨S_, .f32⟩
  | 60 => ⟨S8x2048x1, .f32⟩
  | 61 => ⟨S8x2048x1, .f32⟩
  | 62 => ⟨S8x2048x768, .f32⟩
  | 63 => ⟨S8x2048x768, .f32⟩
  | 64 => ⟨S_, .f32⟩
  | 65 => ⟨S8x2048x1, .f32⟩
  | 66 => ⟨S8x2048x1, .f32⟩
  | 67 => ⟨S8x2048x1, .f32⟩
  | 68 => ⟨S8x2048x768, .f32⟩
  | 69 => ⟨S8x2048x768, .f32⟩
  | 70 => ⟨S8x2048x768, .f32⟩
  | 71 => ⟨S8x2048x8x96, .f32⟩
  | 72 => ⟨S8x8x2048x96, .f32⟩
  | 73 => ⟨S8x16x8x96, .f32⟩
  | 74 => ⟨S8x8x16x96, .f32⟩
  | 75 => ⟨S8x16x8x96, .f32⟩
  | 76 => ⟨S8x8x16x96, .f32⟩
  | 77 => ⟨S8x8x2048x16, .f32⟩
  | 78 => ⟨S_, .f32⟩
  | 79 => ⟨S_, .f32⟩
  | 80 => ⟨S8x8x2048x16, .f32⟩
  | 81 => ⟨S8x8x2048x16, .f32⟩
  | 82 => ⟨S_, .f32⟩
  | 83 => ⟨S8x8x2048, .f32⟩
  | 84 => ⟨S_, .f32⟩
  | 85 => ⟨S8x8x2048, .f32⟩
  | 86 => ⟨S8x8x2048, .f32⟩
  | 87 => ⟨S8x8x2048x1, .f32⟩
  | 88 => ⟨S8x8x2048x16, .f32⟩
  | 89 => ⟨S8x8x2048x16, .f32⟩
  | 90 => ⟨S8x8x2048x16, .f32⟩
  | 91 => ⟨S_, .f32⟩
  | 92 => ⟨S8x8x2048, .f32⟩
  | 93 => ⟨S8x8x2048x1, .f32⟩
  | 94 => ⟨S8x8x2048x16, .f32⟩
  | 95 => ⟨S8x8x2048x16, .f32⟩
  | 96 => ⟨S8x8x2048x96, .f32⟩
  | 97 => ⟨S8x2048x8x96, .f32⟩
  | 98 => ⟨S8x2048x768, .f32⟩
  | 99 => ⟨S8x2048x768, .f32⟩
  | 100 => ⟨S8x2048x768, .f32⟩
  | 101 => ⟨S_, .f32⟩
  | 102 => ⟨S8x2048, .f32⟩
  | 103 => ⟨S8x2048x1, .f32⟩
  | 104 => ⟨S_, .f32⟩
  | 105 => ⟨S8x2048x1, .f32⟩
  | 106 => ⟨S8x2048x1, .f32⟩
  | 107 => ⟨S_, .i32⟩
  | 108 => ⟨S_, .f32⟩
  | 109 => ⟨S8x2048, .f32⟩
  | 110 => ⟨S8x2048x1, .f32⟩
  | 111 => ⟨S_, .f32⟩
  | 112 => ⟨S8x2048x1, .f32⟩
  | 113 => ⟨S8x2048x1, .f32⟩
  | 114 => ⟨S8x2048x768, .f32⟩
  | 115 => ⟨S8x2048x768, .f32⟩
  | 116 => ⟨S8x2048x768, .f32⟩
  | 117 => ⟨S_, .f32⟩
  | 118 => ⟨S_, .f32⟩
  | 119 => ⟨S_, .f32⟩
  | 120 => ⟨S_, .f32⟩
  | 121 => ⟨S8x2048, .f32⟩
  | 122 => ⟨S8x2048x1, .f32⟩
  | 123 => ⟨S8x2048x1, .f32⟩
  | 124 => ⟨S8x2048x1, .f32⟩
  | 125 => ⟨S_, .f32⟩
  | 126 => ⟨S_, .i1⟩
  | 127 => ⟨S_, .f32⟩
  | _ => ⟨S8x2048, .i32⟩

abbrev hbmTy0_1 (i : Nat) : BufTy := match i % 128 with
  | 0 => ⟨S_, .f32⟩
  | 1 => ⟨S8x2048x1, .f32⟩
  | 2 => ⟨S8x2048x1, .f32⟩
  | 3 => ⟨S8x2048x768, .f32⟩
  | 4 => ⟨S8x2048x768, .f32⟩
  | 5 => ⟨S_, .f32⟩
  | 6 => ⟨S8x2048x1, .f32⟩
  | 7 => ⟨S8x2048x1, .f32⟩
  | 8 => ⟨S8x2048x1, .f32⟩
  | 9 => ⟨S8x2048x768, .f32⟩
  | 10 => ⟨S8x2048x768, .f32⟩
  | 11 => ⟨S8x2048x2048, .f32⟩
  | 12 => ⟨S8x2048x2048, .f32⟩
  | 13 => ⟨S8x2048x2048, .f32⟩
  | 14 => ⟨S_, .f32⟩
  | 15 => ⟨S8x2048x2048, .f32⟩
  | 16 => ⟨S8x2048x2048, .f32⟩
  | 17 => ⟨S8x2048x2048, .f32⟩
  | 18 => ⟨S_, .f32⟩
  | 19 => ⟨S8x2048x2048, .f32⟩
  | 20 => ⟨S8x2048x2048, .f32⟩
  | 21 => ⟨S8x2048x2048, .f32⟩
  | 22 => ⟨S_, .f32⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x768, .f32⟩
  | 30 => ⟨S8x2048x768, .f32⟩
  | 31 => ⟨S_, .f32⟩
  | 32 => ⟨S8x2048, .f32⟩
  | 33 => ⟨S8x2048x1, .f32⟩
  | 34 => ⟨S_, .f32⟩
  | 35 => ⟨S8x2048x1, .f32⟩
  | 36 => ⟨S8x2048x1, .f32⟩
  | 37 => ⟨S_, .i32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .f32⟩
  | 44 => ⟨S8x2048x768, .f32⟩
  | 45 => ⟨S8x2048x768, .f32⟩
  | 46 => ⟨S8x2048x768, .f32⟩
  | 47 => ⟨S_, .f32⟩
  | 48 => ⟨S_, .f32⟩
  | 49 => ⟨S_, .f32⟩
  | 50 => ⟨S_, .f32⟩
  | 51 => ⟨S8x2048, .f32⟩
  | 52 => ⟨S8x2048x1, .f32⟩
  | 53 => ⟨S8x2048x1, .f32⟩
  | 54 => ⟨S8x2048x1, .f32⟩
  | 55 => ⟨S_, .f32⟩
  | 56 => ⟨S_, .i1⟩
  | 57 => ⟨S_, .f32⟩
  | 58 => ⟨S_, .f32⟩
  | 59 => ⟨S8x2048x1, .f32⟩
  | 60 => ⟨S8x2048x1, .f32⟩
  | 61 => ⟨S8x2048x768, .f32⟩
  | 62 => ⟨S8x2048x768, .f32⟩
  | 63 => ⟨S_, .f32⟩
  | 64 => ⟨S8x2048x1, .f32⟩
  | 65 => ⟨S8x2048x1, .f32⟩
  | 66 => ⟨S8x2048x1, .f32⟩
  | 67 => ⟨S8x2048x768, .f32⟩
  | 68 => ⟨S8x2048x768, .f32⟩
  | 69 => ⟨S8x2048x256, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_v2 : Ref sig .tc := ⟨.hbm, 34, rfl⟩
abbrev main_cst_0 : Ref sig .tc := ⟨.hbm, 35, rfl⟩
abbrev main_v3 : Ref sig .tc := ⟨.hbm, 36, rfl⟩
abbrev main_v4 : Ref sig .tc := ⟨.hbm, 37, rfl⟩
abbrev main_c : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_cst_3 : Ref sig .tc := ⟨.hbm, 56, rfl⟩
abbrev main_call1_v13 : Ref sig .tc := ⟨.hbm, 57, rfl⟩
abbrev main_call1_cst_4 : Ref sig .tc := ⟨.hbm, 58, rfl⟩
abbrev main_call1_call0_v0 : Ref sig .tc := ⟨.hbm, 59, rfl⟩
abbrev main_call1_call0_v1 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_cst_1 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_cst_2 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_cst_3 : Ref sig .tc := ⟨.hbm, 82, rfl⟩
abbrev main_v24 : Ref sig .tc := ⟨.hbm, 83, rfl⟩
abbrev main_cst_4 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_5 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_cst_6 : Ref sig .tc := ⟨.hbm, 101, rfl⟩
abbrev main_v40 : Ref sig .tc := ⟨.hbm, 102, rfl⟩
abbrev main_v41 : Ref sig .tc := ⟨.hbm, 103, rfl⟩
abbrev main_cst_7 : Ref sig .tc := ⟨.hbm, 104, rfl⟩
abbrev main_v42 : Ref sig .tc := ⟨.hbm, 105, rfl⟩
abbrev main_v43 : Ref sig .tc := ⟨.hbm, 106, rfl⟩
abbrev main_c_8 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_cst_3 : Ref sig .tc := ⟨.hbm, 125, rfl⟩
abbrev main_call2_v13 : Ref sig .tc := ⟨.hbm, 126, rfl⟩
abbrev main_call2_cst_4 : Ref sig .tc := ⟨.hbm, 127, rfl⟩
abbrev main_call2_call0_v0 : Ref sig .tc := ⟨.hbm, 128, rfl⟩
abbrev main_call2_call0_v1 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_cst_9 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_cst_10 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_cst_11 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_cst_12 : Ref sig .tc := ⟨.hbm, 150, rfl⟩
abbrev main_v61 : Ref sig .tc := ⟨.hbm, 151, rfl⟩
abbrev main_v62 : Ref sig .tc := ⟨.hbm, 152, rfl⟩
abbrev main_cst_13 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_cst_14 : Ref sig .tc := ⟨.hbm, 159, rfl⟩
abbrev main_v68 : Ref sig .tc := ⟨.hbm, 160, rfl⟩
abbrev main_v69 : Ref sig .tc := ⟨.hbm, 161, rfl⟩
abbrev main_cst_15 : Ref sig .tc := ⟨.hbm, 162, rfl⟩
abbrev main_v70 : Ref sig .tc := ⟨.hbm, 163, rfl⟩
abbrev main_v71 : Ref sig .tc := ⟨.hbm, 164, rfl⟩
abbrev main_c_16 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_cst_0 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_v7 : Ref sig .tc := ⟨.hbm, 175, rfl⟩
abbrev main_call3_cst_1 : Ref sig .tc := ⟨.hbm, 176, rfl⟩
abbrev main_call3_v8 : Ref sig .tc := ⟨.hbm, 177, rfl⟩
abbrev main_call3_cst_2 : Ref sig .tc := ⟨.hbm, 178, rfl⟩
abbrev main_call3_v9 : Ref sig .tc := ⟨.hbm, 179, rfl⟩
abbrev main_call3_v10 : Ref sig .tc := ⟨.hbm, 180, rfl⟩
abbrev main_call3_v11 : Ref sig .tc := ⟨.hbm, 181, rfl⟩
abbrev main_call3_v12 : Ref sig .tc := ⟨.hbm, 182, rfl⟩
abbrev main_call3_cst_3 : Ref sig .tc := ⟨.hbm, 183, rfl⟩
abbrev main_call3_v13 : Ref sig .tc := ⟨.hbm, 184, rfl⟩
abbrev main_call3_cst_4 : Ref sig .tc := ⟨.hbm, 185, rfl⟩
abbrev main_call3_call0_v0 : Ref sig .tc := ⟨.hbm, 186, rfl⟩
abbrev main_call3_call0_v1 : Ref sig .tc := ⟨.hbm, 187, rfl⟩
abbrev main_v72 : Ref sig .tc := ⟨.hbm, 188, rfl⟩
abbrev main_v73 : Ref sig .tc := ⟨.hbm, 189, rfl⟩
abbrev main_v74 : Ref sig .tc := ⟨.hbm, 190, rfl⟩
abbrev main_cst_17 : Ref sig .tc := ⟨.hbm, 191, rfl⟩
abbrev main_v75 : Ref sig .tc := ⟨.hbm, 192, rfl⟩
abbrev main_v76 : Ref sig .tc := ⟨.hbm, 193, rfl⟩
abbrev main_v77 : Ref sig .tc := ⟨.hbm, 194, rfl⟩
abbrev main_v78 : Ref sig .tc := ⟨.hbm, 195, rfl⟩
abbrev main_v79 : Ref sig .tc := ⟨.hbm, 196, rfl⟩
abbrev main_v80 : Ref sig .tc := ⟨.hbm, 197, rfl⟩

abbrev nD : Nat := 1
abbrev τ : Topo := Topo.v7x

variable {F : FTy → Type} [FloatOps F]
-- ==== Enc.lean ====
abbrev S8x2048 : Shape := ⟨2, ![8, 2048]⟩
abbrev S256x512 : Shape := ⟨2, ![256, 512]⟩
abbrev S512x512 : Shape := ⟨2, ![512, 512]⟩
abbrev S512x2048 : Shape := ⟨2, ![512, 2048]⟩
abbrev S2048x512 : Shape := ⟨2, ![2048, 512]⟩
abbrev S32x1x512 : Shape := ⟨3, ![32, 1, 512]⟩
abbrev S32x4x512 : Shape := ⟨3, ![32, 4, 512]⟩
abbrev S1x1x512 : Shape := ⟨3, ![1, 1, 512]⟩
abbrev S1x4x512 : Shape := ⟨3, ![1, 4, 512]⟩
abbrev S1x512 : Shape := ⟨2, ![1, 512]⟩
abbrev S512 : Shape := ⟨1, ![512]⟩
abbrev S512x1 : Shape := ⟨2, ![512, 1]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S128x1024 : Shape := ⟨2, ![128, 1024]⟩
abbrev S1024x512 : Shape := ⟨2, ![1024, 512]⟩
abbrev S4x512 : Shape := ⟨2, ![4, 512]⟩

abbrev nBuf : Space → Nat
  | .hbm => 17
  | .vmem => 11
  | .smem => 0
  | _ => 0

abbrev bufTy : (tb : Table) → Fin (tcTables nBuf tb) → BufTy
  | .hbm, ⟨0, _⟩ => ⟨S8x2048, .i32⟩
  | .hbm, ⟨1, _⟩ => ⟨S256x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x2048, .f32⟩
  | .hbm, ⟨7, _⟩ => ⟨S2048x512, .f32⟩
  | .hbm, ⟨8, _⟩ => ⟨S32x1x512, .i32⟩
  | .hbm, ⟨9, _⟩ => ⟨S256x512, .bf16⟩
  | .hbm, ⟨10, _⟩ => ⟨S512x512, .bf16⟩
  | .hbm, ⟨11, _⟩ => ⟨S512x512, .bf16⟩
  | .hbm, ⟨12, _⟩ => ⟨S512x512, .bf16⟩
  | .hbm, ⟨13, _⟩ => ⟨S512x512, .bf16⟩
  | .hbm, ⟨14, _⟩ => ⟨S512x2048, .bf16⟩
  | .hbm, ⟨15, _⟩ => ⟨S2048x512, .bf16⟩
  | .hbm, ⟨16, _⟩ => ⟨S32x4x512, .f32⟩
  | .local _ .vmem, ⟨0, _⟩ => ⟨S1x1x512, .i32⟩
  | .local _ .vmem, ⟨1, _⟩ => ⟨S1x1x512, .i32⟩
  | .local _ .vmem, ⟨2, _⟩ => ⟨S256x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x2048, .bf16⟩
  | .local _ .vmem, ⟨8, _⟩ => ⟨S2048x512, .bf16⟩
  | .local _ .vmem, ⟨9, _⟩ => ⟨S1x4x512, .f32⟩
  | .local _ .vmem, ⟨10, _⟩ => ⟨S1x4x512, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EncIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | _ => none
-- ==== EncRefIdeal.lean ====
abbrev S8x2048 : Shape := ⟨2, ![8, 2048]⟩
abbrev S256x512 : Shape := ⟨2, ![256, 512]⟩
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S8x2048x1 : Shape := ⟨3, ![8, 2048, 1]⟩
abbrev S1 : Shape := ⟨1, ![1]⟩
abbrev S1x1x1 : Shape := ⟨3, ![1, 1, 1]⟩
abbrev S8x2048x512 : Shape := ⟨3, ![8, 2048, 512]⟩
abbrev S128x128x512 : Shape := ⟨3, ![128, 128, 512]⟩
abbrev S128x128 : Shape := ⟨2, ![128, 128]⟩
abbrev S128x128x1 : Shape := ⟨3, ![128, 128, 1]⟩
abbrev S128x128x8x64 : Shape := ⟨4, ![128, 128, 8, 64]⟩
abbrev S128x8x128x64 : Shape := ⟨4, ![128, 8, 128, 64]⟩
abbrev S128x8x128x128 : Shape := ⟨4, ![128, 8, 128, 128]⟩
abbrev S128x8x128 : Shape := ⟨3, ![128, 8, 128]⟩
abbrev S128x8x128x1 : Shape := ⟨4, ![128, 8, 128, 1]⟩
abbrev S128x128x2048 : Shape := ⟨3, ![128, 128, 2048]⟩
abbrev S128x512 : Shape := ⟨2, ![128, 512]⟩
abbrev S32x4x512 : Shape := ⟨3, ![32, 4, 512]⟩

abbrev nBuf : Space → Nat
  | .hbm => 167
  | .vmem => 0
  | .smem => 0
  | _ => 0

abbrev hbmTy0_0 (i : Nat) : BufTy := match i % 128 with
  | 0 => ⟨S8x2048, .i32⟩
  | 1 => ⟨S256x512, .f32⟩
  | 2 => ⟨S512x512, .f32⟩
  | 3 => ⟨S512x512, .f32⟩
  | 4 => ⟨S512x512, .f32⟩
  | 5 => ⟨S512x512, .f32⟩
  | 6 => ⟨S512x2048, .f32⟩
  | 7 => ⟨S2048x512, .f32⟩
  | 8 => ⟨S_, .i32⟩
  | 9 => ⟨S8x2048, .i32⟩
  | 10 => ⟨S8x2048, .i1⟩
  | 11 => ⟨S_, .i32⟩
  | 12 => ⟨S8x2048, .i32⟩
  | 13 => ⟨S8x2048, .i32⟩
  | 14 => ⟨S8x2048, .i32⟩
  | 15 => ⟨S8x2048x1, .i32⟩
  | 16 => ⟨S1, .i32⟩
  | 17 => ⟨S_, .i32⟩
  | 18 => ⟨S8x2048x1, .i32⟩
  | 19 => ⟨S8x2048x1, .i1⟩
  | 20 => ⟨S1x1x1, .i32⟩
  | 21 => ⟨S8x2048x1, .i32⟩
  | 22 => ⟨S8x2048x1, .i1⟩
  | 23 => ⟨S8x2048x1, .i1⟩
  | 24 => ⟨S_, .i1⟩
  | 25 => ⟨S8x2048, .i1⟩
  | 26 => ⟨S8x2048x512, .f32⟩
  | 27 => ⟨S8x2048x512, .i1⟩
  | 28 => ⟨S_, .f32⟩
  | 29 => ⟨S8x2048x512, .f32⟩
  | 30 => ⟨S8x2048x512, .f32⟩
  | 31 => ⟨S128x128x512, .f32⟩
  | 32 => ⟨S_, .f32⟩
  | 33 => ⟨S128x128, .f32⟩
  | 34 => ⟨S128x128x1, .f32⟩
  | 35 => ⟨S_, .f32⟩
  | 36 => ⟨S128x128x1, .f32⟩
  | 37 => ⟨S128x128x1, .f32⟩
  | 38 => ⟨S_, .i32⟩
  | 39 => ⟨S_, .f32⟩
  | 40 => ⟨S128x128, .f32⟩
  | 41 => ⟨S128x128x1, .f32⟩
  | 42 => ⟨S_, .f32⟩
  | 43 => ⟨S128x128x1, .f32⟩
  | 44 => ⟨S128x128x1, .f32⟩
  | 45 => ⟨S128x128x512, .f32⟩
  | 46 => ⟨S128x128x512, .f32⟩
  | 47 => ⟨S128x128x512, .f32⟩
  | 48 => ⟨S_, .f32⟩
  | 49 => ⟨S_, .f32⟩
  | 50 => ⟨S_, .f32⟩
  | 51 => ⟨S_, .f32⟩
  | 52 => ⟨S128x128, .f32⟩
  | 53 => ⟨S128x128x1, .f32⟩
  | 54 => ⟨S128x128x1, .f32⟩
  | 55 => ⟨S128x128x1, .f32⟩
  | 56 => ⟨S_, .f32⟩
  | 57 => ⟨S_, .i1⟩
  | 58 => ⟨S_, .f32⟩
  | 59 => ⟨S_, .f32⟩
  | 60 => ⟨S128x128x1, .f32⟩
  | 61 => ⟨S128x128x1, .f32⟩
  | 62 => ⟨S128x128x512, .f32⟩
  | 63 => ⟨S128x128x512, .f32⟩
  | 64 => ⟨S_, .f32⟩
  | 65 => ⟨S128x128x1, .f32⟩
  | 66 => ⟨S128x128x1, .f32⟩
  | 67 => ⟨S128x128x1, .f32⟩
  | 68 => ⟨S128x128x512, .f32⟩
  | 69 => ⟨S128x128x512, .f32⟩
  | 70 => ⟨S128x128x512, .f32⟩
  | 71 => ⟨S128x128x512, .f32⟩
  | 72 => ⟨S128x128x512, .f32⟩
  | 73 => ⟨S128x128x8x64, .f32⟩
  | 74 => ⟨S128x8x128x64, .f32⟩
  | 75 => ⟨S128x128x8x64, .f32⟩
  | 76 => ⟨S128x8x128x64, .f32⟩
  | 77 => ⟨S128x128x8x64, .f32⟩
  | 78 => ⟨S128x8x128x64, .f32⟩
  | 79 => ⟨S128x8x128x128, .f32⟩
  | 80 => ⟨S_, .f32⟩
  | 81 => ⟨S_, .f32⟩
  | 82 => ⟨S128x8x128x128, .f32⟩
  | 83 => ⟨S128x8x128x128, .f32⟩
  | 84 => ⟨S_, .f32⟩
  | 85 => ⟨S128x8x128, .f32⟩
  | 86 => ⟨S_, .f32⟩
  | 87 => ⟨S128x8x128, .f32⟩
  | 88 => ⟨S128x8x128, .f32⟩
  | 89 => ⟨S128x8x128x1, .f32⟩
  | 90 => ⟨S128x8x128x128, .f32⟩
  | 91 => ⟨S128x8x128x128, .f32⟩
  | 92 => ⟨S128x8x128x128, .f32⟩
  | 93 => ⟨S_, .f32⟩
  | 94 => ⟨S128x8x128, .f32⟩
  | 95 => ⟨S128x8x128x1, .f32⟩
  | 96 => ⟨S128x8x128x128, .f32⟩
  | 97 => ⟨S128x8x128x128, .f32⟩
  | 98 => ⟨S128x8x128x64, .f32⟩
  | 99 => ⟨S128x128x8x64, .f32⟩
  | 100 => ⟨S128x128x512, .f32⟩
  | 101 => ⟨S128x128x512, .f32⟩
  | 102 => ⟨S128x128x512, .f32⟩
  | 103 => ⟨S_, .f32⟩
  | 104 => ⟨S128x128, .f32⟩
  | 105 => ⟨S128x128x1, .f32⟩
  | 106 => ⟨S_, .f32⟩
  | 107 => ⟨S128x128x1, .f32⟩
  | 108 => ⟨S128x128x1, .f32⟩
  | 109 => ⟨S_, .i32⟩
  | 110 => ⟨S_, .f32⟩
  | 111 => ⟨S128x128, .f32⟩
  | 112 => ⟨S128x128x1, .f32⟩
  | 113 => ⟨S_, .f32⟩
  | 114 => ⟨S128x128x1, .f32⟩
  | 115 => ⟨S128x128x1, .f32⟩
  | 116 => ⟨S128x128x512, .f32⟩
  | 117 => ⟨S128x128x512, .f32⟩
  | 118 => ⟨S128x128x512, .f32⟩
  | 119 => ⟨S_, .f32⟩
  | 120 => ⟨S_, .f32⟩
  | 121 => ⟨S_, .f32⟩
  | 122 => ⟨S_, .f32⟩
  | 123 => ⟨S128x128, .f32⟩
  | 124 => ⟨S128x128x1, .f32⟩
  | 125 => ⟨S128x128x1, .f32⟩
  | 126 => ⟨S128x128x1, .f32⟩
  | 127 => ⟨S_, .f32⟩
  | _ => ⟨S8x2048, .i32⟩

abbrev hbmTy0_1 (i : Nat) : BufTy := match i % 128 with
  | 0 => ⟨S_, .i1⟩
  | 1 => ⟨S_, .f32⟩
  | 2 => ⟨S_, .f32⟩
  | 3 => ⟨S128x128x1, .f32⟩
  | 4 => ⟨S128x128x1, .f32⟩
  | 5 => ⟨S128x128x512, .f32⟩
  | 6 => ⟨S128x128x512, .f32⟩
  | 7 => ⟨S_, .f32⟩
  | 8 => ⟨S128x128x1, .f32⟩
  | 9 => ⟨S128x128x1, .f32⟩
  | 10 => ⟨S128x128x1, .f32⟩
  | 11 => ⟨S128x128x512, .f32⟩
  | 12 => ⟨S128x128x512, .f32⟩
  | 13 => ⟨S128x128x2048, .f32⟩
  | 14 => ⟨S128x128x2048, .f32⟩
  | 15 => ⟨S128x128x2048, .f32⟩
  | 16 => ⟨S_, .f32⟩
  | 17 => ⟨S128x128x2048, .f32⟩
  | 18 => ⟨S128x128x2048, .f32⟩
  | 19 => ⟨S128x128x2048, .f32⟩
  | 20 => ⟨S_, .f32⟩
  | 21 => ⟨S128x128x2048, .f32⟩
  | 22 => ⟨S128x128x2048, .f32⟩
  | 23 => ⟨S128x128x2048, .f32⟩
  | 24 => ⟨S_, .f32⟩
  | 25 => ⟨S128x128x2048, .f32⟩
  | 26 => ⟨S128x128x2048, .f32⟩
  | 27 => ⟨S_, .f32⟩
  | 28 => ⟨S128x128x2048, .f32⟩
  | 29 => ⟨S128x128x2048, .f32⟩
  | 30 => ⟨S128x128x2048, .f32⟩
  | 31 => ⟨S128x128x512, .f32⟩
  | 32 => ⟨S128x128x512, .f32⟩
  | 33 => ⟨S_, .f32⟩
  | 34 => ⟨S128x512, .f32⟩
  | 35 => ⟨S_, .f32⟩
  | 36 => ⟨S128x512, .f32⟩
  | 37 => ⟨S128x512, .f32⟩
  | 38 => ⟨S32x4x512, .f32⟩
  | _ => ⟨S8x2048, .i32⟩

abbrev hbmTy (i : Nat) : BufTy := match i / 128 with
  | 0 => hbmTy0_0 i
  | 1 => hbmTy0_1 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_c : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_cst_3 : Ref sig .tc := ⟨.hbm, 56, rfl⟩
abbrev main_call1_v13 : Ref sig .tc := ⟨.hbm, 57, rfl⟩
abbrev main_call1_cst_4 : Ref sig .tc := ⟨.hbm, 58, rfl⟩
abbrev main_call1_call0_v0 : Ref sig .tc := ⟨.hbm, 59, rfl⟩
abbrev main_call1_call0_v1 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_cst_1 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_2 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_cst_3 : Ref sig .tc := ⟨.hbm, 84, rfl⟩
abbrev main_v27 : Ref sig .tc := ⟨.hbm, 85, rfl⟩
abbrev main_cst_4 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_cst_5 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_6 : Ref sig .tc := ⟨.hbm, 103, rfl⟩
abbrev main_v43 : Ref sig .tc := ⟨.hbm, 104, rfl⟩
abbrev main_v44 : Ref sig .tc := ⟨.hbm, 105, rfl⟩
abbrev main_cst_7 : Ref sig .tc := ⟨.hbm, 106, rfl⟩
abbrev main_v45 : Ref sig .tc := ⟨.hbm, 107, rfl⟩
abbrev main_v46 : Ref sig .tc := ⟨.hbm, 108, rfl⟩
abbrev main_c_8 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_v12 : Ref sig .tc := ⟨.hbm, 126, rfl⟩
abbrev main_call2_cst_3 : Ref sig .tc := ⟨.hbm, 127, rfl⟩
abbrev main_call2_v13 : Ref sig .tc := ⟨.hbm, 128, rfl⟩
abbrev main_call2_cst_4 : Ref sig .tc := ⟨.hbm, 129, rfl⟩
abbrev main_call2_call0_v0 : Ref sig .tc := ⟨.hbm, 130, rfl⟩
abbrev main_call2_call0_v1 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_cst_9 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_v56 : Ref sig .tc := ⟨.hbm, 142, rfl⟩
abbrev main_v57 : Ref sig .tc := ⟨.hbm, 143, rfl⟩
abbrev main_cst_10 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_cst_11 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_cst_12 : Ref sig .tc := ⟨.hbm, 152, rfl⟩
abbrev main_v64 : Ref sig .tc := ⟨.hbm, 153, rfl⟩
abbrev main_v65 : Ref sig .tc := ⟨.hbm, 154, rfl⟩
abbrev main_cst_13 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_cst_14 : Ref sig .tc := ⟨.hbm, 161, rfl⟩
abbrev main_v71 : Ref sig .tc := ⟨.hbm, 162, rfl⟩
abbrev main_cst_15 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩

abbrev nD : Nat := 1
abbrev τ : Topo := Topo.v7x

variable {F : FTy → Type} [FloatOps F]
-- ==== Layers.lean ====
abbrev S128x512 : Shape := ⟨2, ![128, 512]⟩
abbrev S512x512 : Shape := ⟨2, ![512, 512]⟩
abbrev S6x512x512 : Shape := ⟨3, ![6, 512, 512]⟩
abbrev S1024x768 : Shape := ⟨2, ![1024, 768]⟩
abbrev S768x768 : Shape := ⟨2, ![768, 768]⟩
abbrev S128x768 : Shape := ⟨2, ![128, 768]⟩
abbrev S1x512x512 : Shape := ⟨3, ![1, 512, 512]⟩
abbrev S128x128 : Shape := ⟨2, ![128, 128]⟩
abbrev S1x512 : Shape := ⟨2, ![1, 512]⟩
abbrev S128 : Shape := ⟨1, ![128]⟩
abbrev S128x1 : Shape := ⟨2, ![128, 1]⟩
abbrev S128x1024 : Shape := ⟨2, ![128, 1024]⟩
abbrev S1024x512 : Shape := ⟨2, ![1024, 512]⟩

abbrev nBuf : Space → Nat
  | .hbm => 29
  | .vmem => 26
  | .smem => 0
  | _ => 0

abbrev bufTy : (tb : Table) → Fin (tcTables nBuf tb) → BufTy
  | .hbm, ⟨0, _⟩ => ⟨S128x512, .f32⟩
  | .hbm, ⟨1, _⟩ => ⟨S512x512, .f32⟩
  | .hbm, ⟨2, _⟩ => ⟨S512x512, .f32⟩
  | .hbm, ⟨3, _⟩ => ⟨S6x512x512, .f32⟩
  | .hbm, ⟨4, _⟩ => ⟨S6x512x512, .f32⟩
  | .hbm, ⟨5, _⟩ => ⟨S6x512x512, .f32⟩
  | .hbm, ⟨6, _⟩ => ⟨S6x512x512, .f32⟩
  | .hbm, ⟨7, _⟩ => ⟨S6x512x512, .f32⟩
  | .hbm, ⟨8, _⟩ => ⟨S6x512x512, .f32⟩
  | .hbm, ⟨9, _⟩ => ⟨S6x512x512, .f32⟩
  | .hbm, ⟨10, _⟩ => ⟨S6x512x512, .f32⟩
  | .hbm, ⟨11, _⟩ => ⟨S1024x768, .f32⟩
  | .hbm, ⟨12, _⟩ => ⟨S768x768, .f32⟩
  | .hbm, ⟨13, _⟩ => ⟨S768x768, .f32⟩
  | .hbm, ⟨14, _⟩ => ⟨S512x512, .bf16⟩
  | .hbm, ⟨15, _⟩ => ⟨S512x512, .bf16⟩
  | .hbm, ⟨16, _⟩ => ⟨S6x512x512, .bf16⟩
  | .hbm, ⟨17, _⟩ => ⟨S6x512x512, .bf16⟩
  | .hbm, ⟨18, _⟩ => ⟨S6x512x512, .bf16⟩
  | .hbm, ⟨19, _⟩ => ⟨S6x512x512, .bf16⟩
  | .hbm, ⟨20, _⟩ => ⟨S6x512x512, .bf16⟩
  | .hbm, ⟨21, _⟩ => ⟨S6x512x512, .bf16⟩
  | .hbm, ⟨22, _⟩ => ⟨S6x512x512, .bf16⟩
  | .hbm, ⟨23, _⟩ => ⟨S6x512x512, .bf16⟩
  | .hbm, ⟨24, _⟩ => ⟨S1024x768, .bf16⟩
  | .hbm, ⟨25, _⟩ => ⟨S768x768, .bf16⟩
  | .hbm, ⟨26, _⟩ => ⟨S768x768, .bf16⟩
  | .hbm, ⟨27, _⟩ => ⟨S128x768, .f32⟩
  | .hbm, ⟨28, _⟩ => ⟨S128x768, .f32⟩
  | .local _ .vmem, ⟨0, _⟩ => ⟨S128x512, .f32⟩
  | .local _ .vmem, ⟨1, _⟩ => ⟨S512x512, .bf16⟩
  | .local _ .vmem, ⟨2, _⟩ => ⟨S512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1024x768, .bf16⟩
  | .local _ .vmem, ⟨20, _⟩ => ⟨S768x768, .bf16⟩
  | .local _ .vmem, ⟨21, _⟩ => ⟨S768x768, .bf16⟩
  | .local _ .vmem, ⟨22, _⟩ => ⟨S128x768, .f32⟩
  | .local _ .vmem, ⟨23, _⟩ => ⟨S128x768, .f32⟩
  | .local _ .vmem, ⟨24, _⟩ => ⟨S128x512, .f32⟩
  | .local _ .vmem, ⟨25, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_v0_0 : Ref sig .tc := ⟨.hbm, 27, rfl⟩
abbrev main_v0_1 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32_176 : BitVec 32 := 5#32
  let v625 : BitVec 1 := Scalar.cmpi .eq arg0 c5_i32_176
  let v626 : BitVec 32 := Scalar.extui v625
  let c0_i32_177 : BitVec 32 := 0#32
  let v627 : BitVec 1 := Scalar.cmpi .ne v626 c0_i32_177
  v627

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S768x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S768x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== LayersIdeal.lean ====
variable {F : FTy → Type} [FloatOps F] [Named F]
def κ : String → Option EReal := fun
  | "mask" => some ⊥
  | _ => none
-- ==== LayersRefIdeal.lean ====
abbrev S128x512 : Shape := ⟨2, ![128, 512]⟩
abbrev S512x512 : Shape := ⟨2, ![512, 512]⟩
abbrev S6x512x512 : Shape := ⟨3, ![6, 512, 512]⟩
abbrev S1024x768 : Shape := ⟨2, ![1024, 768]⟩
abbrev S768x768 : Shape := ⟨2, ![768, 768]⟩
abbrev S8x16x512 : Shape := ⟨3, ![8, 16, 512]⟩
abbrev S1x512x512 : Shape := ⟨3, ![1, 512, 512]⟩
abbrev S8x16x8x64 : Shape := ⟨4, ![8, 16, 8, 64]⟩
abbrev S8x8x16x64 : Shape := ⟨4, ![8, 8, 16, 64]⟩
abbrev S8x8x16x16 : Shape := ⟨4, ![8, 8, 16, 16]⟩
abbrev S_ : Shape := ⟨0, ![]⟩
abbrev S8x8x16 : Shape := ⟨3, ![8, 8, 16]⟩
abbrev S8x8x16x1 : Shape := ⟨4, ![8, 8, 16, 1]⟩
abbrev S8x16 : Shape := ⟨2, ![8, 16]⟩
abbrev S8x16x1 : Shape := ⟨3, ![8, 16, 1]⟩
abbrev S8x16x1024 : Shape := ⟨3, ![8, 16, 1024]⟩
abbrev S8x16x768 : Shape := ⟨3, ![8, 16, 768]⟩
abbrev S128x768 : Shape := ⟨2, ![128, 768]⟩

abbrev nBuf : Space → Nat
  | .hbm => 959
  | .vmem => 0
  | .smem => 0
  | _ => 0

abbrev hbmTy0_0 (i : Nat) : BufTy := match i % 128 with
  | 0 => ⟨S128x512, .f32⟩
  | 1 => ⟨S512x512, .f32⟩
  | 2 => ⟨S512x512, .f32⟩
  | 3 => ⟨S6x512x512, .f32⟩
  | 4 => ⟨S6x512x512, .f32⟩
  | 5 => ⟨S6x512x512, .f32⟩
  | 6 => ⟨S6x512x512, .f32⟩
  | 7 => ⟨S6x512x512, .f32⟩
  | 8 => ⟨S6x512x512, .f32⟩
  | 9 => ⟨S6x512x512, .f32⟩
  | 10 => ⟨S6x512x512, .f32⟩
  | 11 => ⟨S1024x768, .f32⟩
  | 12 => ⟨S768x768, .f32⟩
  | 13 => ⟨S768x768, .f32⟩
  | 14 => ⟨S8x16x512, .f32⟩
  | 15 => ⟨S8x16x512, .f32⟩
  | 16 => ⟨S8x16x512, .f32⟩
  | 17 => ⟨S1x512x512, .f32⟩
  | 18 => ⟨S512x512, .f32⟩
  | 19 => ⟨S1x512x512, .f32⟩
  | 20 => ⟨S512x512, .f32⟩
  | 21 => ⟨S8x16x512, .f32⟩
  | 22 => ⟨S8x16x512, .f32⟩
  | 23 => ⟨S8x16x512, .f32⟩
  | 24 => ⟨S8x16x512, .f32⟩
  | 25 => ⟨S8x16x512, .f32⟩
  | 26 => ⟨S8x16x512, .f32⟩
  | 27 => ⟨S1x512x512, .f32⟩
  | 28 => ⟨S512x512, .f32⟩
  | 29 => ⟨S1x512x512, .f32⟩
  | 30 => ⟨S512x512, .f32⟩
  | 31 => ⟨S8x16x512, .f32⟩
  | 32 => ⟨S8x16x512, .f32⟩
  | 33 => ⟨S8x16x512, .f32⟩
  | 34 => ⟨S8x16x512, .f32⟩
  | 35 => ⟨S8x16x512, .f32⟩
  | 36 => ⟨S8x16x512, .f32⟩
  | 37 => ⟨S1x512x512, .f32⟩
  | 38 => ⟨S512x512, .f32⟩
  | 39 => ⟨S1x512x512, .f32⟩
  | 40 => ⟨S512x512, .f32⟩
  | 41 => ⟨S8x16x512, .f32⟩
  | 42 => ⟨S8x16x512, .f32⟩
  | 43 => ⟨S8x16x512, .f32⟩
  | 44 => ⟨S8x16x512, .f32⟩
  | 45 => ⟨S8x16x512, .f32⟩
  | 46 => ⟨S8x16x512, .f32⟩
  | 47 => ⟨S8x16x8x64, .f32⟩
  | 48 => ⟨S8x8x16x64, .f32⟩
  | 49 => ⟨S8x16x8x64, .f32⟩
  | 50 => ⟨S8x8x16x64, .f32⟩
  | 51 => ⟨S8x8x16x16, .f32⟩
  | 52 => ⟨S8x16x8x64, .f32⟩
  | 53 => ⟨S8x8x16x64, .f32⟩
  | 54 => ⟨S8x16x8x64, .f32⟩
  | 55 => ⟨S8x8x16x64, .f32⟩
  | 56 => ⟨S8x8x16x16, .f32⟩
  | 57 => ⟨S8x8x16x16, .f32⟩
  | 58 => ⟨S_, .f32⟩
  | 59 => ⟨S8x8x16x16, .f32⟩
  | 60 => ⟨S8x8x16x16, .f32⟩
  | 61 => ⟨S_, .f32⟩
  | 62 => ⟨S8x8x16, .f32⟩
  | 63 => ⟨S_, .f32⟩
  | 64 => ⟨S8x8x16, .f32⟩
  | 65 => ⟨S8x8x16, .f32⟩
  | 66 => ⟨S8x8x16x1, .f32⟩
  | 67 => ⟨S8x8x16x16, .f32⟩
  | 68 => ⟨S8x8x16x16, .f32⟩
  | 69 => ⟨S8x8x16x16, .f32⟩
  | 70 => ⟨S_, .f32⟩
  | 71 => ⟨S8x8x16, .f32⟩
  | 72 => ⟨S8x8x16x1, .f32⟩
  | 73 => ⟨S8x8x16x16, .f32⟩
  | 74 => ⟨S8x8x16x16, .f32⟩
  | 75 => ⟨S8x16x8x64, .f32⟩
  | 76 => ⟨S8x8x16x64, .f32⟩
  | 77 => ⟨S8x8x16x64, .f32⟩
  | 78 => ⟨S8x16x8x64, .f32⟩
  | 79 => ⟨S8x16x512, .f32⟩
  | 80 => ⟨S8x16x8x64, .f32⟩
  | 81 => ⟨S8x8x16x64, .f32⟩
  | 82 => ⟨S8x8x16x64, .f32⟩
  | 83 => ⟨S8x16x8x64, .f32⟩
  | 84 => ⟨S8x16x512, .f32⟩
  | 85 => ⟨S1x512x512, .f32⟩
  | 86 => ⟨S512x512, .f32⟩
  | 87 => ⟨S1x512x512, .f32⟩
  | 88 => ⟨S512x512, .f32⟩
  | 89 => ⟨S8x16x512, .f32⟩
  | 90 => ⟨S8x16x512, .f32⟩
  | 91 => ⟨S8x16x512, .f32⟩
  | 92 => ⟨S8x16x512, .f32⟩
  | 93 => ⟨S8x16x512, .f32⟩
  | 94 => ⟨S8x16x512, .f32⟩
  | 95 => ⟨S8x16x512, .f32⟩
  | 96 => ⟨S_, .f32⟩
  | 97 => ⟨S8x16, .f32⟩
  | 98 => ⟨S8x16x1, .f32⟩
  | 99 => ⟨S_, .f32⟩
  | 100 => ⟨S8x16x1, .f32⟩
  | 101 => ⟨S8x16x1, .f32⟩
  | 102 => ⟨S_, .i32⟩
  | 103 => ⟨S_, .f32⟩
  | 104 => ⟨S8x16, .f32⟩
  | 105 => ⟨S8x16x1, .f32⟩
  | 106 => ⟨S_, .f32⟩
  | 107 => ⟨S8x16x1, .f32⟩
  | 108 => ⟨S8x16x1, .f32⟩
  | 109 => ⟨S8x16x512, .f32⟩
  | 110 => ⟨S8x16x512, .f32⟩
  | 111 => ⟨S8x16x512, .f32⟩
  | 112 => ⟨S_, .f32⟩
  | 113 => ⟨S_, .f32⟩
  | 114 => ⟨S_, .f32⟩
  | 115 => ⟨S_, .f32⟩
  | 116 => ⟨S8x16, .f32⟩
  | 117 => ⟨S8x16x1, .f32⟩
  | 118 => ⟨S8x16x1, .f32⟩
  | 119 => ⟨S8x16x1, .f32⟩
  | 120 => ⟨S_, .f32⟩
  | 121 => ⟨S_, .i1⟩
  | 122 => ⟨S_, .f32⟩
  | 123 => ⟨S_, .f32⟩
  | 124 => ⟨S8x16x1, .f32⟩
  | 125 => ⟨S8x16x1, .f32⟩
  | 126 => ⟨S8x16x512, .f32⟩
  | 127 => ⟨S8x16x512, .f32⟩
  | _ => ⟨S128x512, .f32⟩

abbrev hbmTy0_1 (i : Nat) : BufTy := match i % 128 with
  | 0 => ⟨S_, .f32⟩
  | 1 => ⟨S8x16x1, .f32⟩
  | 2 => ⟨S8x16x1, .f32⟩
  | 3 => ⟨S8x16x1, .f32⟩
  | 4 => ⟨S8x16x512, .f32⟩
  | 5 => ⟨S8x16x512, .f32⟩
  | 6 => ⟨S8x16x512, .f32⟩
  | 7 => ⟨S_, .f32⟩
  | 8 => ⟨S8x16, .f32⟩
  | 9 => ⟨S8x16x1, .f32⟩
  | 10 => ⟨S_, .f32⟩
  | 11 => ⟨S8x16x1, .f32⟩
  | 12 => ⟨S8x16x1, .f32⟩
  | 13 => ⟨S_, .i32⟩
  | 14 => ⟨S_, .f32⟩
  | 15 => ⟨S8x16, .f32⟩
  | 16 => ⟨S8x16x1, .f32⟩
  | 17 => ⟨S_, .f32⟩
  | 18 => ⟨S8x16x1, .f32⟩
  | 19 => ⟨S8x16x1, .f32⟩
  | 20 => ⟨S8x16x512, .f32⟩
  | 21 => ⟨S8x16x512, .f32⟩
  | 22 => ⟨S8x16x512, .f32⟩
  | 23 => ⟨S_, .f32⟩
  | 24 => ⟨S_, .f32⟩
  | 25 => ⟨S_, .f32⟩
  | 26 => ⟨S_, .f32⟩
  | 27 => ⟨S8x16, .f32⟩
  | 28 => ⟨S8x16x1, .f32⟩
  | 29 => ⟨S8x16x1, .f32⟩
  | 30 => ⟨S8x16x1, .f32⟩
  | 31 => ⟨S_, .f32⟩
  | 32 => ⟨S_, .i1⟩
  | 33 => ⟨S_, .f32⟩
  | 34 => ⟨S_, .f32⟩
  | 35 => ⟨S8x16x1, .f32⟩
  | 36 => ⟨S8x16x1, .f32⟩
  | 37 => ⟨S8x16x512, .f32⟩
  | 38 => ⟨S8x16x512, .f32⟩
  | 39 => ⟨S_, .f32⟩
  | 40 => ⟨S8x16x1, .f32⟩
  | 41 => ⟨S8x16x1, .f32⟩
  | 42 => ⟨S8x16x1, .f32⟩
  | 43 => ⟨S8x16x512, .f32⟩
  | 44 => ⟨S8x16x512, .f32⟩
  | 45 => ⟨S1x512x512, .f32⟩
  | 46 => ⟨S512x512, .f32⟩
  | 47 => ⟨S1x512x512, .f32⟩
  | 48 => ⟨S512x512, .f32⟩
  | 49 => ⟨S8x16x512, .f32⟩
  | 50 => ⟨S8x16x512, .f32⟩
  | 51 => ⟨S8x16x512, .f32⟩
  | 52 => ⟨S8x16x512, .f32⟩
  | 53 => ⟨S8x16x512, .f32⟩
  | 54 => ⟨S8x16x512, .f32⟩
  | 55 => ⟨S1x512x512, .f32⟩
  | 56 => ⟨S512x512, .f32⟩
  | 57 => ⟨S1x512x512, .f32⟩
  | 58 => ⟨S512x512, .f32⟩
  | 59 => ⟨S8x16x512, .f32⟩
  | 60 => ⟨S8x16x512, .f32⟩
  | 61 => ⟨S8x16x512, .f32⟩
  | 62 => ⟨S8x16x512, .f32⟩
  | 63 => ⟨S8x16x512, .f32⟩
  | 64 => ⟨S8x16x512, .f32⟩
  | 65 => ⟨S1x512x512, .f32⟩
  | 66 => ⟨S512x512, .f32⟩
  | 67 => ⟨S1x512x512, .f32⟩
  | 68 => ⟨S512x512, .f32⟩
  | 69 => ⟨S8x16x512, .f32⟩
  | 70 => ⟨S8x16x512, .f32⟩
  | 71 => ⟨S8x16x512, .f32⟩
  | 72 => ⟨S8x16x512, .f32⟩
  | 73 => ⟨S8x16x512, .f32⟩
  | 74 => ⟨S8x16x512, .f32⟩
  | 75 => ⟨S8x16x8x64, .f32⟩
  | 76 => ⟨S8x8x16x64, .f32⟩
  | 77 => ⟨S8x16x8x64, .f32⟩
  | 78 => ⟨S8x8x16x64, .f32⟩
  | 79 => ⟨S8x8x16x16, .f32⟩
  | 80 => ⟨S8x16x8x64, .f32⟩
  | 81 => ⟨S8x8x16x64, .f32⟩
  | 82 => ⟨S8x16x8x64, .f32⟩
  | 83 => ⟨S8x8x16x64, .f32⟩
  | 84 => ⟨S8x8x16x16, .f32⟩
  | 85 => ⟨S8x8x16x16, .f32⟩
  | 86 => ⟨S_, .f32⟩
  | 87 => ⟨S8x8x16x16, .f32⟩
  | 88 => ⟨S8x8x16x16, .f32⟩
  | 89 => ⟨S_, .f32⟩
  | 90 => ⟨S8x8x16, .f32⟩
  | 91 => ⟨S_, .f32⟩
  | 92 => ⟨S8x8x16, .f32⟩
  | 93 => ⟨S8x8x16, .f32⟩
  | 94 => ⟨S8x8x16x1, .f32⟩
  | 95 => ⟨S8x8x16x16, .f32⟩
  | 96 => ⟨S8x8x16x16, .f32⟩
  | 97 => ⟨S8x8x16x16, .f32⟩
  | 98 => ⟨S_, .f32⟩
  | 99 => ⟨S8x8x16, .f32⟩
  | 100 => ⟨S8x8x16x1, .f32⟩
  | 101 => ⟨S8x8x16x16, .f32⟩
  | 102 => ⟨S8x8x16x16, .f32⟩
  | 103 => ⟨S8x16x8x64, .f32⟩
  | 104 => ⟨S8x8x16x64, .f32⟩
  | 105 => ⟨S8x8x16x64, .f32⟩
  | 106 => ⟨S8x16x8x64, .f32⟩
  | 107 => ⟨S8x16x512, .f32⟩
  | 108 => ⟨S8x16x8x64, .f32⟩
  | 109 => ⟨S8x8x16x64, .f32⟩
  | 110 => ⟨S8x8x16x64, .f32⟩
  | 111 => ⟨S8x16x8x64, .f32⟩
  | 112 => ⟨S8x16x512, .f32⟩
  | 113 => ⟨S1x512x512, .f32⟩
  | 114 => ⟨S512x512, .f32⟩
  | 115 => ⟨S1x512x512, .f32⟩
  | 116 => ⟨S512x512, .f32⟩
  | 117 => ⟨S8x16x512, .f32⟩
  | 118 => ⟨S8x16x512, .f32⟩
  | 119 => ⟨S8x16x512, .f32⟩
  | 120 => ⟨S8x16x512, .f32⟩
  | 121 => ⟨S8x16x512, .f32⟩
  | 122 => ⟨S8x16x512, .f32⟩
  | 123 => ⟨S8x16x512, .f32⟩
  | 124 => ⟨S_, .f32⟩
  | 125 => ⟨S8x16, .f32⟩
  | 126 => ⟨S8x16x1, .f32⟩
  | 127 => ⟨S_, .f32⟩
  | _ => ⟨S128x512, .f32⟩

abbrev hbmTy0_2 (i : Nat) : BufTy := match i % 128 with
  | 0 => ⟨S8x16x1, .f32⟩
  | 1 => ⟨S8x16x1, .f32⟩
  | 2 => ⟨S_, .i32⟩
  | 3 => ⟨S_, .f32⟩
  | 4 => ⟨S8x16, .f32⟩
  | 5 => ⟨S8x16x1, .f32⟩
  | 6 => ⟨S_, .f32⟩
  | 7 => ⟨S8x16x1, .f32⟩
  | 8 => ⟨S8x16x1, .f32⟩
  | 9 => ⟨S8x16x512, .f32⟩
  | 10 => ⟨S8x16x512, .f32⟩
  | 11 => ⟨S8x16x512, .f32⟩
  | 12 => ⟨S_, .f32⟩
  | 13 => ⟨S_, .f32⟩
  | 14 => ⟨S_, .f32⟩
  | 15 => ⟨S_, .f32⟩
  | 16 => ⟨S8x16, .f32⟩
  | 17 => ⟨S8x16x1, .f32⟩
  | 18 => ⟨S8x16x1, .f32⟩
  | 19 => ⟨S8x16x1, .f32⟩
  | 20 => ⟨S_, .f32⟩
  | 21 => ⟨S_, .i1⟩
  | 22 => ⟨S_, .f32⟩
  | 23 => ⟨S_, .f32⟩
  | 24 => ⟨S8x16x1, .f32⟩
  | 25 => ⟨S8x16x1, .f32⟩
  | 26 => ⟨S8x16x512, .f32⟩
  | 27 => ⟨S8x16x512, .f32⟩
  | 28 => ⟨S_, .f32⟩
  | 29 => ⟨S8x16x1, .f32⟩
  | 30 => ⟨S8x16x1, .f32⟩
  | 31 => ⟨S8x16x1, .f32⟩
  | 32 => ⟨S8x16x512, .f32⟩
  | 33 => ⟨S8x16x512, .f32⟩
  | 34 => ⟨S8x16x512, .f32⟩
  | 35 => ⟨S_, .f32⟩
  | 36 => ⟨S8x16, .f32⟩
  | 37 => ⟨S8x16x1, .f32⟩
  | 38 => ⟨S_, .f32⟩
  | 39 => ⟨S8x16x1, .f32⟩
  | 40 => ⟨S8x16x1, .f32⟩
  | 41 => ⟨S_, .i32⟩
  | 42 => ⟨S_, .f32⟩
  | 43 => ⟨S8x16, .f32⟩
  | 44 => ⟨S8x16x1, .f32⟩
  | 45 => ⟨S_, .f32⟩
  | 46 => ⟨S8x16x1, .f32⟩
  | 47 => ⟨S8x16x1, .f32⟩
  | 48 => ⟨S8x16x512, .f32⟩
  | 49 => ⟨S8x16x512, .f32⟩
  | 50 => ⟨S8x16x512, .f32⟩
  | 51 => ⟨S_, .f32⟩
  | 52 => ⟨S_, .f32⟩
  | 53 => ⟨S_, .f32⟩
  | 54 => ⟨S_, .f32⟩
  | 55 => ⟨S8x16, .f32⟩
  | 56 => ⟨S8x16x1, .f32⟩
  | 57 => ⟨S8x16x1, .f32⟩
  | 58 => ⟨S8x16x1, .f32⟩
  | 59 => ⟨S_, .f32⟩
  | 60 => ⟨S_, .i1⟩
  | 61 => ⟨S_, .f32⟩
  | 62 => ⟨S_, .f32⟩
  | 63 => ⟨S8x16x1, .f32⟩
  | 64 => ⟨S8x16x1, .f32⟩
  | 65 => ⟨S8x16x512, .f32⟩
  | 66 => ⟨S8x16x512, .f32⟩
  | 67 => ⟨S_, .f32⟩
  | 68 => ⟨S8x16x1, .f32⟩
  | 69 => ⟨S8x16x1, .f32⟩
  | 70 => ⟨S8x16x1, .f32⟩
  | 71 => ⟨S8x16x512, .f32⟩
  | 72 => ⟨S8x16x512, .f32⟩
  | 73 => ⟨S1x512x512, .f32⟩
  | 74 => ⟨S512x512, .f32⟩
  | 75 => ⟨S1x512x512, .f32⟩
  | 76 => ⟨S512x512, .f32⟩
  | 77 => ⟨S8x16x512, .f32⟩
  | 78 => ⟨S8x16x512, .f32⟩
  | 79 => ⟨S8x16x512, .f32⟩
  | 80 => ⟨S8x16x512, .f32⟩
  | 81 => ⟨S8x16x512, .f32⟩
  | 82 => ⟨S8x16x512, .f32⟩
  | 83 => ⟨S1x512x512, .f32⟩
  | 84 => ⟨S512x512, .f32⟩
  | 85 => ⟨S1x512x512, .f32⟩
  | 86 => ⟨S512x512, .f32⟩
  | 87 => ⟨S8x16x512, .f32⟩
  | 88 => ⟨S8x16x512, .f32⟩
  | 89 => ⟨S8x16x512, .f32⟩
  | 90 => ⟨S8x16x512, .f32⟩
  | 91 => ⟨S8x16x512, .f32⟩
  | 92 => ⟨S8x16x512, .f32⟩
  | 93 => ⟨S1x512x512, .f32⟩
  | 94 => ⟨S512x512, .f32⟩
  | 95 => ⟨S1x512x512, .f32⟩
  | 96 => ⟨S512x512, .f32⟩
  | 97 => ⟨S8x16x512, .f32⟩
  | 98 => ⟨S8x16x512, .f32⟩
  | 99 => ⟨S8x16x512, .f32⟩
  | 100 => ⟨S8x16x512, .f32⟩
  | 101 => ⟨S8x16x512, .f32⟩
  | 102 => ⟨S8x16x512, .f32⟩
  | 103 => ⟨S8x16x8x64, .f32⟩
  | 104 => ⟨S8x8x16x64, .f32⟩
  | 105 => ⟨S8x16x8x64, .f32⟩
  | 106 => ⟨S8x8x16x64, .f32⟩
  | 107 => ⟨S8x8x16x16, .f32⟩
  | 108 => ⟨S8x16x8x64, .f32⟩
  | 109 => ⟨S8x8x16x64, .f32⟩
  | 110 => ⟨S8x16x8x64, .f32⟩
  | 111 => ⟨S8x8x16x64, .f32⟩
  | 112 => ⟨S8x8x16x16, .f32⟩
  | 113 => ⟨S8x8x16x16, .f32⟩
  | 114 => ⟨S_, .f32⟩
  | 115 => ⟨S8x8x16x16, .f32⟩
  | 116 => ⟨S8x8x16x16, .f32⟩
  | 117 => ⟨S_, .f32⟩
  | 118 => ⟨S8x8x16, .f32⟩
  | 119 => ⟨S_, .f32⟩
  | 120 => ⟨S8x8x16, .f32⟩
  | 121 => ⟨S8x8x16, .f32⟩
  | 122 => ⟨S8x8x16x1, .f32⟩
  | 123 => ⟨S8x8x16x16, .f32⟩
  | 124 => ⟨S8x8x16x16, .f32⟩
  | 125 => ⟨S8x8x16x16, .f32⟩
  | 126 => ⟨S_, .f32⟩
  | 127 => ⟨S8x8x16, .f32⟩
  | _ => ⟨S128x512, .f32⟩

abbrev hbmTy0_3 (i : Nat) : BufTy := match i % 128 with
  | 0 => ⟨S8x8x16x1, .f32⟩
  | 1 => ⟨S8x8x16x16, .f32⟩
  | 2 => ⟨S8x8x16x16, .f32⟩
  | 3 => ⟨S8x16x8x64, .f32⟩
  | 4 => ⟨S8x8x16x64, .f32⟩
  | 5 => ⟨S8x8x16x64, .f32⟩
  | 6 => ⟨S8x16x8x64, .f32⟩
  | 7 => ⟨S8x16x512, .f32⟩
  | 8 => ⟨S8x16x8x64, .f32⟩
  | 9 => ⟨S8x8x16x64, .f32⟩
  | 10 => ⟨S8x8x16x64, .f32⟩
  | 11 => ⟨S8x16x8x64, .f32⟩
  | 12 => ⟨S8x16x512, .f32⟩
  | 13 => ⟨S1x512x512, .f32⟩
  | 14 => ⟨S512x512, .f32⟩
  | 15 => ⟨S1x512x512, .f32⟩
  | 16 => ⟨S512x512, .f32⟩
  | 17 => ⟨S8x16x512, .f32⟩
  | 18 => ⟨S8x16x512, .f32⟩
  | 19 => ⟨S8x16x512, .f32⟩
  | 20 => ⟨S8x16x512, .f32⟩
  | 21 => ⟨S8x16x512, .f32⟩
  | 22 => ⟨S8x16x512, .f32⟩
  | 23 => ⟨S8x16x512, .f32⟩
  | 24 => ⟨S_, .f32⟩
  | 25 => ⟨S8x16, .f32⟩
  | 26 => ⟨S8x16x1, .f32⟩
  | 27 => ⟨S_, .f32⟩
  | 28 => ⟨S8x16x1, .f32⟩
  | 29 => ⟨S8x16x1, .f32⟩
  | 30 => ⟨S_, .i32⟩
  | 31 => ⟨S_, .f32⟩
  | 32 => ⟨S8x16, .f32⟩
  | 33 => ⟨S8x16x1, .f32⟩
  | 34 => ⟨S_, .f32⟩
  | 35 => ⟨S8x16x1, .f32⟩
  | 36 => ⟨S8x16x1, .f32⟩
  | 37 => ⟨S8x16x512, .f32⟩
  | 38 => ⟨S8x16x512, .f32⟩
  | 39 => ⟨S8x16x512, .f32⟩
  | 40 => ⟨S_, .f32⟩
  | 41 => ⟨S_, .f32⟩
  | 42 => ⟨S_, .f32⟩
  | 43 => ⟨S_, .f32⟩
  | 44 => ⟨S8x16, .f32⟩
  | 45 => ⟨S8x16x1, .f32⟩
  | 46 => ⟨S8x16x1, .f32⟩
  | 47 => ⟨S8x16x1, .f32⟩
  | 48 => ⟨S_, .f32⟩
  | 49 => ⟨S_, .i1⟩
  | 50 => ⟨S_, .f32⟩
  | 51 => ⟨S_, .f32⟩
  | 52 => ⟨S8x16x1, .f32⟩
  | 53 => ⟨S8x16x1, .f32⟩
  | 54 => ⟨S8x16x512, .f32⟩
  | 55 => ⟨S8x16x512, .f32⟩
  | 56 => ⟨S_, .f32⟩
  | 57 => ⟨S8x16x1, .f32⟩
  | 58 => ⟨S8x16x1, .f32⟩
  | 59 => ⟨S8x16x1, .f32⟩
  | 60 => ⟨S8x16x512, .f32⟩
  | 61 => ⟨S8x16x512, .f32⟩
  | 62 => ⟨S8x16x512, .f32⟩
  | 63 => ⟨S_, .f32⟩
  | 64 => ⟨S8x16, .f32⟩
  | 65 => ⟨S8x16x1, .f32⟩
  | 66 => ⟨S_, .f32⟩
  | 67 => ⟨S8x16x1, .f32⟩
  | 68 => ⟨S8x16x1, .f32⟩
  | 69 => ⟨S_, .i32⟩
  | 70 => ⟨S_, .f32⟩
  | 71 => ⟨S8x16, .f32⟩
  | 72 => ⟨S8x16x1, .f32⟩
  | 73 => ⟨S_, .f32⟩
  | 74 => ⟨S8x16x1, .f32⟩
  | 75 => ⟨S8x16x1, .f32⟩
  | 76 => ⟨S8x16x512, .f32⟩
  | 77 => ⟨S8x16x512, .f32⟩
  | 78 => ⟨S8x16x512, .f32⟩
  | 79 => ⟨S_, .f32⟩
  | 80 => ⟨S_, .f32⟩
  | 81 => ⟨S_, .f32⟩
  | 82 => ⟨S_, .f32⟩
  | 83 => ⟨S8x16, .f32⟩
  | 84 => ⟨S8x16x1, .f32⟩
  | 85 => ⟨S8x16x1, .f32⟩
  | 86 => ⟨S8x16x1, .f32⟩
  | 87 => ⟨S_, .f32⟩
  | 88 => ⟨S_, .i1⟩
  | 89 => ⟨S_, .f32⟩
  | 90 => ⟨S_, .f32⟩
  | 91 => ⟨S8x16x1, .f32⟩
  | 92 => ⟨S8x16x1, .f32⟩
  | 93 => ⟨S8x16x512, .f32⟩
  | 94 => ⟨S8x16x512, .f32⟩
  | 95 => ⟨S_, .f32⟩
  | 96 => ⟨S8x16x1, .f32⟩
  | 97 => ⟨S8x16x1, .f32⟩
  | 98 => ⟨S8x16x1, .f32⟩
  | 99 => ⟨S8x16x512, .f32⟩
  | 100 => ⟨S8x16x512, .f32⟩
  | 101 => ⟨S1x512x512, .f32⟩
  | 102 => ⟨S512x512, .f32⟩
  | 103 => ⟨S1x512x512, .f32⟩
  | 104 => ⟨S512x512, .f32⟩
  | 105 => ⟨S8x16x512, .f32⟩
  | 106 => ⟨S8x16x512, .f32⟩
  | 107 => ⟨S8x16x512, .f32⟩
  | 108 => ⟨S8x16x512, .f32⟩
  | 109 => ⟨S8x16x512, .f32⟩
  | 110 => ⟨S8x16x512, .f32⟩
  | 111 => ⟨S1x512x512, .f32⟩
  | 112 => ⟨S512x512, .f32⟩
  | 113 => ⟨S1x512x512, .f32⟩
  | 114 => ⟨S512x512, .f32⟩
  | 115 => ⟨S8x16x512, .f32⟩
  | 116 => ⟨S8x16x512, .f32⟩
  | 117 => ⟨S8x16x512, .f32⟩
  | 118 => ⟨S8x16x512, .f32⟩
  | 119 => ⟨S8x16x512, .f32⟩
  | 120 => ⟨S8x16x512, .f32⟩
  | 121 => ⟨S1x512x512, .f32⟩
  | 122 => ⟨S512x512, .f32⟩
  | 123 => ⟨S1x512x512, .f32⟩
  | 124 => ⟨S512x512, .f32⟩
  | 125 => ⟨S8x16x512, .f32⟩
  | 126 => ⟨S8x16x512, .f32⟩
  | 127 => ⟨S8x16x512, .f32⟩
  | _ => ⟨S128x512, .f32⟩

abbrev hbmTy0_4 (i : Nat) : BufTy := match i % 128 with
  | 0 => ⟨S8x16x512, .f32⟩
  | 1 => ⟨S8x16x512, .f32⟩
  | 2 => ⟨S8x16x512, .f32⟩
  | 3 => ⟨S8x16x8x64, .f32⟩
  | 4 => ⟨S8x8x16x64, .f32⟩
  | 5 => ⟨S8x16x8x64, .f32⟩
  | 6 => ⟨S8x8x16x64, .f32⟩
  | 7 => ⟨S8x8x16x16, .f32⟩
  | 8 => ⟨S8x16x8x64, .f32⟩
  | 9 => ⟨S8x8x16x64, .f32⟩
  | 10 => ⟨S8x16x8x64, .f32⟩
  | 11 => ⟨S8x8x16x64, .f32⟩
  | 12 => ⟨S8x8x16x16, .f32⟩
  | 13 => ⟨S8x8x16x16, .f32⟩
  | 14 => ⟨S_, .f32⟩
  | 15 => ⟨S8x8x16x16, .f32⟩
  | 16 => ⟨S8x8x16x16, .f32⟩
  | 17 => ⟨S_, .f32⟩
  | 18 => ⟨S8x8x16, .f32⟩
  | 19 => ⟨S_, .f32⟩
  | 20 => ⟨S8x8x16, .f32⟩
  | 21 => ⟨S8x8x16, .f32⟩
  | 22 => ⟨S8x8x16x1, .f32⟩
  | 23 => ⟨S8x8x16x16, .f32⟩
  | 24 => ⟨S8x8x16x16, .f32⟩
  | 25 => ⟨S8x8x16x16, .f32⟩
  | 26 => ⟨S_, .f32⟩
  | 27 => ⟨S8x8x16, .f32⟩
  | 28 => ⟨S8x8x16x1, .f32⟩
  | 29 => ⟨S8x8x16x16, .f32⟩
  | 30 => ⟨S8x8x16x16, .f32⟩
  | 31 => ⟨S8x16x8x64, .f32⟩
  | 32 => ⟨S8x8x16x64, .f32⟩
  | 33 => ⟨S8x8x16x64, .f32⟩
  | 34 => ⟨S8x16x8x64, .f32⟩
  | 35 => ⟨S8x16x512, .f32⟩
  | 36 => ⟨S8x16x8x64, .f32⟩
  | 37 => ⟨S8x8x16x64, .f32⟩
  | 38 => ⟨S8x8x16x64, .f32⟩
  | 39 => ⟨S8x16x8x64, .f32⟩
  | 40 => ⟨S8x16x512, .f32⟩
  | 41 => ⟨S1x512x512, .f32⟩
  | 42 => ⟨S512x512, .f32⟩
  | 43 => ⟨S1x512x512, .f32⟩
  | 44 => ⟨S512x512, .f32⟩
  | 45 => ⟨S8x16x512, .f32⟩
  | 46 => ⟨S8x16x512, .f32⟩
  | 47 => ⟨S8x16x512, .f32⟩
  | 48 => ⟨S8x16x512, .f32⟩
  | 49 => ⟨S8x16x512, .f32⟩
  | 50 => ⟨S8x16x512, .f32⟩
  | 51 => ⟨S8x16x512, .f32⟩
  | 52 => ⟨S_, .f32⟩
  | 53 => ⟨S8x16, .f32⟩
  | 54 => ⟨S8x16x1, .f32⟩
  | 55 => ⟨S_, .f32⟩
  | 56 => ⟨S8x16x1, .f32⟩
  | 57 => ⟨S8x16x1, .f32⟩
  | 58 => ⟨S_, .i32⟩
  | 59 => ⟨S_, .f32⟩
  | 60 => ⟨S8x16, .f32⟩
  | 61 => ⟨S8x16x1, .f32⟩
  | 62 => ⟨S_, .f32⟩
  | 63 => ⟨S8x16x1, .f32⟩
  | 64 => ⟨S8x16x1, .f32⟩
  | 65 => ⟨S8x16x512, .f32⟩
  | 66 => ⟨S8x16x512, .f32⟩
  | 67 => ⟨S8x16x512, .f32⟩
  | 68 => ⟨S_, .f32⟩
  | 69 => ⟨S_, .f32⟩
  | 70 => ⟨S_, .f32⟩
  | 71 => ⟨S_, .f32⟩
  | 72 => ⟨S8x16, .f32⟩
  | 73 => ⟨S8x16x1, .f32⟩
  | 74 => ⟨S8x16x1, .f32⟩
  | 75 => ⟨S8x16x1, .f32⟩
  | 76 => ⟨S_, .f32⟩
  | 77 => ⟨S_, .i1⟩
  | 78 => ⟨S_, .f32⟩
  | 79 => ⟨S_, .f32⟩
  | 80 => ⟨S8x16x1, .f32⟩
  | 81 => ⟨S8x16x1, .f32⟩
  | 82 => ⟨S8x16x512, .f32⟩
  | 83 => ⟨S8x16x512, .f32⟩
  | 84 => ⟨S_, .f32⟩
  | 85 => ⟨S8x16x1, .f32⟩
  | 86 => ⟨S8x16x1, .f32⟩
  | 87 => ⟨S8x16x1, .f32⟩
  | 88 => ⟨S8x16x512, .f32⟩
  | 89 => ⟨S8x16x512, .f32⟩
  | 90 => ⟨S8x16x512, .f32⟩
  | 91 => ⟨S_, .f32⟩
  | 92 => ⟨S8x16, .f32⟩
  | 93 => ⟨S8x16x1, .f32⟩
  | 94 => ⟨S_, .f32⟩
  | 95 => ⟨S8x16x1, .f32⟩
  | 96 => ⟨S8x16x1, .f32⟩
  | 97 => ⟨S_, .i32⟩
  | 98 => ⟨S_, .f32⟩
  | 99 => ⟨S8x16, .f32⟩
  | 100 => ⟨S8x16x1, .f32⟩
  | 101 => ⟨S_, .f32⟩
  | 102 => ⟨S8x16x1, .f32⟩
  | 103 => ⟨S8x16x1, .f32⟩
  | 104 => ⟨S8x16x512, .f32⟩
  | 105 => ⟨S8x16x512, .f32⟩
  | 106 => ⟨S8x16x512, .f32⟩
  | 107 => ⟨S_, .f32⟩
  | 108 => ⟨S_, .f32⟩
  | 109 => ⟨S_, .f32⟩
  | 110 => ⟨S_, .f32⟩
  | 111 => ⟨S8x16, .f32⟩
  | 112 => ⟨S8x16x1, .f32⟩
  | 113 => ⟨S8x16x1, .f32⟩
  | 114 => ⟨S8x16x1, .f32⟩
  | 115 => ⟨S_, .f32⟩
  | 116 => ⟨S_, .i1⟩
  | 117 => ⟨S_, .f32⟩
  | 118 => ⟨S_, .f32⟩
  | 119 => ⟨S8x16x1, .f32⟩
  | 120 => ⟨S8x16x1, .f32⟩
  | 121 => ⟨S8x16x512, .f32⟩
  | 122 => ⟨S8x16x512, .f32⟩
  | 123 => ⟨S_, .f32⟩
  | 124 => ⟨S8x16x1, .f32⟩
  | 125 => ⟨S8x16x1, .f32⟩
  | 126 => ⟨S8x16x1, .f32⟩
  | 127 => ⟨S8x16x512, .f32⟩
  | _ => ⟨S128x512, .f32⟩

abbrev hbmTy0_5 (i : Nat) : BufTy := match i % 128 with
  | 0 => ⟨S8x16x512, .f32⟩
  | 1 => ⟨S1x512x512, .f32⟩
  | 2 => ⟨S512x512, .f32⟩
  | 3 => ⟨S1x512x512, .f32⟩
  | 4 => ⟨S512x512, .f32⟩
  | 5 => ⟨S8x16x512, .f32⟩
  | 6 => ⟨S8x16x512, .f32⟩
  | 7 => ⟨S8x16x512, .f32⟩
  | 8 => ⟨S8x16x512, .f32⟩
  | 9 => ⟨S8x16x512, .f32⟩
  | 10 => ⟨S8x16x512, .f32⟩
  | 11 => ⟨S1x512x512, .f32⟩
  | 12 => ⟨S512x512, .f32⟩
  | 13 => ⟨S1x512x512, .f32⟩
  | 14 => ⟨S512x512, .f32⟩
  | 15 => ⟨S8x16x512, .f32⟩
  | 16 => ⟨S8x16x512, .f32⟩
  | 17 => ⟨S8x16x512, .f32⟩
  | 18 => ⟨S8x16x512, .f32⟩
  | 19 => ⟨S8x16x512, .f32⟩
  | 20 => ⟨S8x16x512, .f32⟩
  | 21 => ⟨S1x512x512, .f32⟩
  | 22 => ⟨S512x512, .f32⟩
  | 23 => ⟨S1x512x512, .f32⟩
  | 24 => ⟨S512x512, .f32⟩
  | 25 => ⟨S8x16x512, .f32⟩
  | 26 => ⟨S8x16x512, .f32⟩
  | 27 => ⟨S8x16x512, .f32⟩
  | 28 => ⟨S8x16x512, .f32⟩
  | 29 => ⟨S8x16x512, .f32⟩
  | 30 => ⟨S8x16x512, .f32⟩
  | 31 => ⟨S8x16x8x64, .f32⟩
  | 32 => ⟨S8x8x16x64, .f32⟩
  | 33 => ⟨S8x16x8x64, .f32⟩
  | 34 => ⟨S8x8x16x64, .f32⟩
  | 35 => ⟨S8x8x16x16, .f32⟩
  | 36 => ⟨S8x16x8x64, .f32⟩
  | 37 => ⟨S8x8x16x64, .f32⟩
  | 38 => ⟨S8x16x8x64, .f32⟩
  | 39 => ⟨S8x8x16x64, .f32⟩
  | 40 => ⟨S8x8x16x16, .f32⟩
  | 41 => ⟨S8x8x16x16, .f32⟩
  | 42 => ⟨S_, .f32⟩
  | 43 => ⟨S8x8x16x16, .f32⟩
  | 44 => ⟨S8x8x16x16, .f32⟩
  | 45 => ⟨S_, .f32⟩
  | 46 => ⟨S8x8x16, .f32⟩
  | 47 => ⟨S_, .f32⟩
  | 48 => ⟨S8x8x16, .f32⟩
  | 49 => ⟨S8x8x16, .f32⟩
  | 50 => ⟨S8x8x16x1, .f32⟩
  | 51 => ⟨S8x8x16x16, .f32⟩
  | 52 => ⟨S8x8x16x16, .f32⟩
  | 53 => ⟨S8x8x16x16, .f32⟩
  | 54 => ⟨S_, .f32⟩
  | 55 => ⟨S8x8x16, .f32⟩
  | 56 => ⟨S8x8x16x1, .f32⟩
  | 57 => ⟨S8x8x16x16, .f32⟩
  | 58 => ⟨S8x8x16x16, .f32⟩
  | 59 => ⟨S8x16x8x64, .f32⟩
  | 60 => ⟨S8x8x16x64, .f32⟩
  | 61 => ⟨S8x8x16x64, .f32⟩
  | 62 => ⟨S8x16x8x64, .f32⟩
  | 63 => ⟨S8x16x512, .f32⟩
  | 64 => ⟨S8x16x8x64, .f32⟩
  | 65 => ⟨S8x8x16x64, .f32⟩
  | 66 => ⟨S8x8x16x64, .f32⟩
  | 67 => ⟨S8x16x8x64, .f32⟩
  | 68 => ⟨S8x16x512, .f32⟩
  | 69 => ⟨S1x512x512, .f32⟩
  | 70 => ⟨S512x512, .f32⟩
  | 71 => ⟨S1x512x512, .f32⟩
  | 72 => ⟨S512x512, .f32⟩
  | 73 => ⟨S8x16x512, .f32⟩
  | 74 => ⟨S8x16x512, .f32⟩
  | 75 => ⟨S8x16x512, .f32⟩
  | 76 => ⟨S8x16x512, .f32⟩
  | 77 => ⟨S8x16x512, .f32⟩
  | 78 => ⟨S8x16x512, .f32⟩
  | 79 => ⟨S8x16x512, .f32⟩
  | 80 => ⟨S_, .f32⟩
  | 81 => ⟨S8x16, .f32⟩
  | 82 => ⟨S8x16x1, .f32⟩
  | 83 => ⟨S_, .f32⟩
  | 84 => ⟨S8x16x1, .f32⟩
  | 85 => ⟨S8x16x1, .f32⟩
  | 86 => ⟨S_, .i32⟩
  | 87 => ⟨S_, .f32⟩
  | 88 => ⟨S8x16, .f32⟩
  | 89 => ⟨S8x16x1, .f32⟩
  | 90 => ⟨S_, .f32⟩
  | 91 => ⟨S8x16x1, .f32⟩
  | 92 => ⟨S8x16x1, .f32⟩
  | 93 => ⟨S8x16x512, .f32⟩
  | 94 => ⟨S8x16x512, .f32⟩
  | 95 => ⟨S8x16x512, .f32⟩
  | 96 => ⟨S_, .f32⟩
  | 97 => ⟨S_, .f32⟩
  | 98 => ⟨S_, .f32⟩
  | 99 => ⟨S_, .f32⟩
  | 100 => ⟨S8x16, .f32⟩
  | 101 => ⟨S8x16x1, .f32⟩
  | 102 => ⟨S8x16x1, .f32⟩
  | 103 => ⟨S8x16x1, .f32⟩
  | 104 => ⟨S_, .f32⟩
  | 105 => ⟨S_, .i1⟩
  | 106 => ⟨S_, .f32⟩
  | 107 => ⟨S_, .f32⟩
  | 108 => ⟨S8x16x1, .f32⟩
  | 109 => ⟨S8x16x1, .f32⟩
  | 110 => ⟨S8x16x512, .f32⟩
  | 111 => ⟨S8x16x512, .f32⟩
  | 112 => ⟨S_, .f32⟩
  | 113 => ⟨S8x16x1, .f32⟩
  | 114 => ⟨S8x16x1, .f32⟩
  | 115 => ⟨S8x16x1, .f32⟩
  | 116 => ⟨S8x16x512, .f32⟩
  | 117 => ⟨S8x16x512, .f32⟩
  | 118 => ⟨S8x16x512, .f32⟩
  | 119 => ⟨S_, .f32⟩
  | 120 => ⟨S8x16, .f32⟩
  | 121 => ⟨S8x16x1, .f32⟩
  | 122 => ⟨S_, .f32⟩
  | 123 => ⟨S8x16x1, .f32⟩
  | 124 => ⟨S8x16x1, .f32⟩
  | 125 => ⟨S_, .i32⟩
  | 126 => ⟨S_, .f32⟩
  | 127 => ⟨S8x16, .f32⟩
  | _ => ⟨S128x512, .f32⟩

abbrev hbmTy0_6 (i : Nat) : BufTy := match i % 128 with
  | 0 => ⟨S8x16x1, .f32⟩
  | 1 => ⟨S_, .f32⟩
  | 2 => ⟨S8x16x1, .f32⟩
  | 3 => ⟨S8x16x1, .f32⟩
  | 4 => ⟨S8x16x512, .f32⟩
  | 5 => ⟨S8x16x512, .f32⟩
  | 6 => ⟨S8x16x512, .f32⟩
  | 7 => ⟨S_, .f32⟩
  | 8 => ⟨S_, .f32⟩
  | 9 => ⟨S_, .f32⟩
  | 10 => ⟨S_, .f32⟩
  | 11 => ⟨S8x16, .f32⟩
  | 12 => ⟨S8x16x1, .f32⟩
  | 13 => ⟨S8x16x1, .f32⟩
  | 14 => ⟨S8x16x1, .f32⟩
  | 15 => ⟨S_, .f32⟩
  | 16 => ⟨S_, .i1⟩
  | 17 => ⟨S_, .f32⟩
  | 18 => ⟨S_, .f32⟩
  | 19 => ⟨S8x16x1, .f32⟩
  | 20 => ⟨S8x16x1, .f32⟩
  | 21 => ⟨S8x16x512, .f32⟩
  | 22 => ⟨S8x16x512, .f32⟩
  | 23 => ⟨S_, .f32⟩
  | 24 => ⟨S8x16x1, .f32⟩
  | 25 => ⟨S8x16x1, .f32⟩
  | 26 => ⟨S8x16x1, .f32⟩
  | 27 => ⟨S8x16x512, .f32⟩
  | 28 => ⟨S8x16x512, .f32⟩
  | 29 => ⟨S1x512x512, .f32⟩
  | 30 => ⟨S512x512, .f32⟩
  | 31 => ⟨S1x512x512, .f32⟩
  | 32 => ⟨S512x512, .f32⟩
  | 33 => ⟨S8x16x512, .f32⟩
  | 34 => ⟨S8x16x512, .f32⟩
  | 35 => ⟨S8x16x512, .f32⟩
  | 36 => ⟨S8x16x512, .f32⟩
  | 37 => ⟨S8x16x512, .f32⟩
  | 38 => ⟨S8x16x512, .f32⟩
  | 39 => ⟨S1x512x512, .f32⟩
  | 40 => ⟨S512x512, .f32⟩
  | 41 => ⟨S1x512x512, .f32⟩
  | 42 => ⟨S512x512, .f32⟩
  | 43 => ⟨S8x16x512, .f32⟩
  | 44 => ⟨S8x16x512, .f32⟩
  | 45 => ⟨S8x16x512, .f32⟩
  | 46 => ⟨S8x16x512, .f32⟩
  | 47 => ⟨S8x16x512, .f32⟩
  | 48 => ⟨S8x16x512, .f32⟩
  | 49 => ⟨S1x512x512, .f32⟩
  | 50 => ⟨S512x512, .f32⟩
  | 51 => ⟨S1x512x512, .f32⟩
  | 52 => ⟨S512x512, .f32⟩
  | 53 => ⟨S8x16x512, .f32⟩
  | 54 => ⟨S8x16x512, .f32⟩
  | 55 => ⟨S8x16x512, .f32⟩
  | 56 => ⟨S8x16x512, .f32⟩
  | 57 => ⟨S8x16x512, .f32⟩
  | 58 => ⟨S8x16x512, .f32⟩
  | 59 => ⟨S8x16x8x64, .f32⟩
  | 60 => ⟨S8x8x16x64, .f32⟩
  | 61 => ⟨S8x16x8x64, .f32⟩
  | 62 => ⟨S8x8x16x64, .f32⟩
  | 63 => ⟨S8x8x16x16, .f32⟩
  | 64 => ⟨S8x16x8x64, .f32⟩
  | 65 => ⟨S8x8x16x64, .f32⟩
  | 66 => ⟨S8x16x8x64, .f32⟩
  | 67 => ⟨S8x8x16x64, .f32⟩
  | 68 => ⟨S8x8x16x16, .f32⟩
  | 69 => ⟨S8x8x16x16, .f32⟩
  | 70 => ⟨S_, .f32⟩
  | 71 => ⟨S8x8x16x16, .f32⟩
  | 72 => ⟨S8x8x16x16, .f32⟩
  | 73 => ⟨S_, .f32⟩
  | 74 => ⟨S8x8x16, .f32⟩
  | 75 => ⟨S_, .f32⟩
  | 76 => ⟨S8x8x16, .f32⟩
  | 77 => ⟨S8x8x16, .f32⟩
  | 78 => ⟨S8x8x16x1, .f32⟩
  | 79 => ⟨S8x8x16x16, .f32⟩
  | 80 => ⟨S8x8x16x16, .f32⟩
  | 81 => ⟨S8x8x16x16, .f32⟩
  | 82 => ⟨S_, .f32⟩
  | 83 => ⟨S8x8x16, .f32⟩
  | 84 => ⟨S8x8x16x1, .f32⟩
  | 85 => ⟨S8x8x16x16, .f32⟩
  | 86 => ⟨S8x8x16x16, .f32⟩
  | 87 => ⟨S8x16x8x64, .f32⟩
  | 88 => ⟨S8x8x16x64, .f32⟩
  | 89 => ⟨S8x8x16x64, .f32⟩
  | 90 => ⟨S8x16x8x64, .f32⟩
  | 91 => ⟨S8x16x512, .f32⟩
  | 92 => ⟨S8x16x8x64, .f32⟩
  | 93 => ⟨S8x8x16x64, .f32⟩
  | 94 => ⟨S8x8x16x64, .f32⟩
  | 95 => ⟨S8x16x8x64, .f32⟩
  | 96 => ⟨S8x16x512, .f32⟩
  | 97 => ⟨S1x512x512, .f32⟩
  | 98 => ⟨S512x512, .f32⟩
  | 99 => ⟨S1x512x512, .f32⟩
  | 100 => ⟨S512x512, .f32⟩
  | 101 => ⟨S8x16x512, .f32⟩
  | 102 => ⟨S8x16x512, .f32⟩
  | 103 => ⟨S8x16x512, .f32⟩
  | 104 => ⟨S8x16x512, .f32⟩
  | 105 => ⟨S8x16x512, .f32⟩
  | 106 => ⟨S8x16x512, .f32⟩
  | 107 => ⟨S8x16x512, .f32⟩
  | 108 => ⟨S_, .f32⟩
  | 109 => ⟨S8x16, .f32⟩
  | 110 => ⟨S8x16x1, .f32⟩
  | 111 => ⟨S_, .f32⟩
  | 112 => ⟨S8x16x1, .f32⟩
  | 113 => ⟨S8x16x1, .f32⟩
  | 114 => ⟨S_, .i32⟩
  | 115 => ⟨S_, .f32⟩
  | 116 => ⟨S8x16, .f32⟩
  | 117 => ⟨S8x16x1, .f32⟩
  | 118 => ⟨S_, .f32⟩
  | 119 => ⟨S8x16x1, .f32⟩
  | 120 => ⟨S8x16x1, .f32⟩
  | 121 => ⟨S8x16x512, .f32⟩
  | 122 => ⟨S8x16x512, .f32⟩
  | 123 => ⟨S8x16x512, .f32⟩
  | 124 => ⟨S_, .f32⟩
  | 125 => ⟨S_, .f32⟩
  | 126 => ⟨S_, .f32⟩
  | 127 => ⟨S_, .f32⟩
  | _ => ⟨S128x512, .f32⟩

abbrev hbmTy0_7 (i : Nat) : BufTy := match i % 128 with
  | 0 => ⟨S8x16, .f32⟩
  | 1 => ⟨S8x16x1, .f32⟩
  | 2 => ⟨S8x16x1, .f32⟩
  | 3 => ⟨S8x16x1, .f32⟩
  | 4 => ⟨S_, .f32⟩
  | 5 => ⟨S_, .i1⟩
  | 6 => ⟨S_, .f32⟩
  | 7 => ⟨S_, .f32⟩
  | 8 => ⟨S8x16x1, .f32⟩
  | 9 => ⟨S8x16x1, .f32⟩
  | 10 => ⟨S8x16x512, .f32⟩
  | 11 => ⟨S8x16x512, .f32⟩
  | 12 => ⟨S_, .f32⟩
  | 13 => ⟨S8x16x1, .f32⟩
  | 14 => ⟨S8x16x1, .f32⟩
  | 15 => ⟨S8x16x1, .f32⟩
  | 16 => ⟨S8x16x512, .f32⟩
  | 17 => ⟨S8x16x512, .f32⟩
  | 18 => ⟨S8x16x512, .f32⟩
  | 19 => ⟨S_, .f32⟩
  | 20 => ⟨S8x16, .f32⟩
  | 21 => ⟨S8x16x1, .f32⟩
  | 22 => ⟨S_, .f32⟩
  | 23 => ⟨S8x16x1, .f32⟩
  | 24 => ⟨S8x16x1, .f32⟩
  | 25 => ⟨S_, .i32⟩
  | 26 => ⟨S_, .f32⟩
  | 27 => ⟨S8x16, .f32⟩
  | 28 => ⟨S8x16x1, .f32⟩
  | 29 => ⟨S_, .f32⟩
  | 30 => ⟨S8x16x1, .f32⟩
  | 31 => ⟨S8x16x1, .f32⟩
  | 32 => ⟨S8x16x512, .f32⟩
  | 33 => ⟨S8x16x512, .f32⟩
  | 34 => ⟨S8x16x512, .f32⟩
  | 35 => ⟨S_, .f32⟩
  | 36 => ⟨S_, .f32⟩
  | 37 => ⟨S_, .f32⟩
  | 38 => ⟨S_, .f32⟩
  | 39 => ⟨S8x16, .f32⟩
  | 40 => ⟨S8x16x1, .f32⟩
  | 41 => ⟨S8x16x1, .f32⟩
  | 42 => ⟨S8x16x1, .f32⟩
  | 43 => ⟨S_, .f32⟩
  | 44 => ⟨S_, .i1⟩
  | 45 => ⟨S_, .f32⟩
  | 46 => ⟨S_, .f32⟩
  | 47 => ⟨S8x16x1, .f32⟩
  | 48 => ⟨S8x16x1, .f32⟩
  | 49 => ⟨S8x16x512, .f32⟩
  | 50 => ⟨S8x16x512, .f32⟩
  | 51 => ⟨S_, .f32⟩
  | 52 => ⟨S8x16x1, .f32⟩
  | 53 => ⟨S8x16x1, .f32⟩
  | 54 => ⟨S8x16x1, .f32⟩
  | 55 => ⟨S8x16x512, .f32⟩
  | 56 => ⟨S8x16x512, .f32⟩
  | 57 => ⟨S8x16x1024, .f32⟩
  | 58 => ⟨S8x16x768, .f32⟩
  | 59 => ⟨S8x16x768, .f32⟩
  | 60 => ⟨S128x768, .f32⟩
  | 61 => ⟨S8x16x768, .f32⟩
  | 62 => ⟨S128x768, .f32⟩
  | _ => ⟨S128x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S128x512, .f32⟩

abbrev bufTy : (tb : Table) → Fin (tcTables nBuf tb) → BufTy
  | .hbm, ⟨i, _⟩ => hbmTy i
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst : Ref sig .tc := ⟨.hbm, 58, rfl⟩
abbrev main_v44 : Ref sig .tc := ⟨.hbm, 59, rfl⟩
abbrev main_v45 : Ref sig .tc := ⟨.hbm, 60, rfl⟩
abbrev main_cst_0 : Ref sig .tc := ⟨.hbm, 61, rfl⟩
abbrev main_v46 : Ref sig .tc := ⟨.hbm, 62, rfl⟩
abbrev main_cst_1 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_2 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_3 : Ref sig .tc := ⟨.hbm, 96, rfl⟩
abbrev main_v78 : Ref sig .tc := ⟨.hbm, 97, rfl⟩
abbrev main_v79 : Ref sig .tc := ⟨.hbm, 98, rfl⟩
abbrev main_cst_4 : Ref sig .tc := ⟨.hbm, 99, rfl⟩
abbrev main_v80 : Ref sig .tc := ⟨.hbm, 100, rfl⟩
abbrev main_v81 : Ref sig .tc := ⟨.hbm, 101, rfl⟩
abbrev main_c : Ref sig .tc := ⟨.hbm, 102, rfl⟩
abbrev main_call0_cst : Ref sig .tc := ⟨.hbm, 103, rfl⟩
abbrev main_call0_v0 : Ref sig .tc := ⟨.hbm, 104, rfl⟩
abbrev main_call0_v1 : Ref sig .tc := ⟨.hbm, 105, rfl⟩
abbrev main_call0_cst_0 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_v5 : Ref sig .tc := ⟨.hbm, 110, rfl⟩
abbrev main_call0_v6 : Ref sig .tc := ⟨.hbm, 111, rfl⟩
abbrev main_call0_v7 : Ref sig .tc := ⟨.hbm, 112, rfl⟩
abbrev main_call0_cst_1 : Ref sig .tc := ⟨.hbm, 113, rfl⟩
abbrev main_call0_v8 : Ref sig .tc := ⟨.hbm, 114, rfl⟩
abbrev main_call0_cst_2 : Ref sig .tc := ⟨.hbm, 115, rfl⟩
abbrev main_call0_v9 : Ref sig .tc := ⟨.hbm, 116, rfl⟩
abbrev main_call0_v10 : Ref sig .tc := ⟨.hbm, 117, rfl⟩
abbrev main_call0_v11 : Ref sig .tc := ⟨.hbm, 118, rfl⟩
abbrev main_call0_v12 : Ref sig .tc := ⟨.hbm, 119, rfl⟩
abbrev main_call0_cst_3 : Ref sig .tc := ⟨.hbm, 120, rfl⟩
abbrev main_call0_v13 : Ref sig .tc := ⟨.hbm, 121, rfl⟩
abbrev main_call0_cst_4 : Ref sig .tc := ⟨.hbm, 122, rfl⟩
abbrev main_call0_call0_v0 : Ref sig .tc := ⟨.hbm, 123, rfl⟩
abbrev main_call0_call0_v1 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_5 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_6 : Ref sig .tc := ⟨.hbm, 135, rfl⟩
abbrev main_v91 : Ref sig .tc := ⟨.hbm, 136, rfl⟩
abbrev main_v92 : Ref sig .tc := ⟨.hbm, 137, rfl⟩
abbrev main_cst_7 : Ref sig .tc := ⟨.hbm, 138, rfl⟩
abbrev main_v93 : Ref sig .tc := ⟨.hbm, 139, rfl⟩
abbrev main_v94 : Ref sig .tc := ⟨.hbm, 140, rfl⟩
abbrev main_c_8 : Ref sig .tc := ⟨.hbm, 141, rfl⟩
abbrev main_call1_cst : Ref sig .tc := ⟨.hbm, 142, rfl⟩
abbrev main_call1_v0 : Ref sig .tc := ⟨.hbm, 143, rfl⟩
abbrev main_call1_v1 : Ref sig .tc := ⟨.hbm, 144, rfl⟩
abbrev main_call1_cst_0 : Ref sig .tc := ⟨.hbm, 145, rfl⟩
abbrev main_call1_v2 : Ref sig .tc := ⟨.hbm, 146, rfl⟩
abbrev main_call1_v3 : Ref sig .tc := ⟨.hbm, 147, rfl⟩
abbrev main_call1_v4 : Ref sig .tc := ⟨.hbm, 148, rfl⟩
abbrev main_call1_v5 : Ref sig .tc := ⟨.hbm, 149, rfl⟩
abbrev main_call1_v6 : Ref sig .tc := ⟨.hbm, 150, rfl⟩
abbrev main_call1_v7 : Ref sig .tc := ⟨.hbm, 151, rfl⟩
abbrev main_call1_cst_1 : Ref sig .tc := ⟨.hbm, 152, rfl⟩
abbrev main_call1_v8 : Ref sig .tc := ⟨.hbm, 153, rfl⟩
abbrev main_call1_cst_2 : Ref sig .tc := ⟨.hbm, 154, rfl⟩
abbrev main_call1_v9 : Ref sig .tc := ⟨.hbm, 155, rfl⟩
abbrev main_call1_v10 : Ref sig .tc := ⟨.hbm, 156, rfl⟩
abbrev main_call1_v11 : Ref sig .tc := ⟨.hbm, 157, rfl⟩
abbrev main_call1_v12 : Ref sig .tc := ⟨.hbm, 158, rfl⟩
abbrev main_call1_cst_3 : Ref sig .tc := ⟨.hbm, 159, rfl⟩
abbrev main_call1_v13 : Ref sig .tc := ⟨.hbm, 160, rfl⟩
abbrev main_call1_cst_4 : Ref sig .tc := ⟨.hbm, 161, rfl⟩
abbrev main_call1_call0_v0 : Ref sig .tc := ⟨.hbm, 162, rfl⟩
abbrev main_call1_call0_v1 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_cst_9 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_cst_10 : Ref sig .tc := ⟨.hbm, 214, rfl⟩
abbrev main_v144 : Ref sig .tc := ⟨.hbm, 215, rfl⟩
abbrev main_v145 : Ref sig .tc := ⟨.hbm, 216, rfl⟩
abbrev main_cst_11 : Ref sig .tc := ⟨.hbm, 217, rfl⟩
abbrev main_v146 : Ref sig .tc := ⟨.hbm, 218, rfl⟩
abbrev main_cst_12 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_13 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_v176 : Ref sig .tc := ⟨.hbm, 250, rfl⟩
abbrev main_v177 : Ref sig .tc := ⟨.hbm, 251, rfl⟩
abbrev main_cst_14 : Ref sig .tc := ⟨.hbm, 252, rfl⟩
abbrev main_v178 : Ref sig .tc := ⟨.hbm, 253, rfl⟩
abbrev main_v179 : Ref sig .tc := ⟨.hbm, 254, rfl⟩
abbrev main_cst_15 : Ref sig .tc := ⟨.hbm, 255, rfl⟩
abbrev main_v180 : Ref sig .tc := ⟨.hbm, 256, rfl⟩
abbrev main_v181 : Ref sig .tc := ⟨.hbm, 257, rfl⟩
abbrev main_c_16 : Ref sig .tc := ⟨.hbm, 258, rfl⟩
abbrev main_call2_cst : Ref sig .tc := ⟨.hbm, 259, rfl⟩
abbrev main_call2_v0 : Ref sig .tc := ⟨.hbm, 260, rfl⟩
abbrev main_call2_v1 : Ref sig .tc := ⟨.hbm, 261, rfl⟩
abbrev main_call2_cst_0 : Ref sig .tc := ⟨.hbm, 262, rfl⟩
abbrev main_call2_v2 : Ref sig .tc := ⟨.hbm, 263, rfl⟩
abbrev main_call2_v3 : Ref sig .tc := ⟨.hbm, 264, rfl⟩
abbrev main_call2_v4 : Ref sig .tc := ⟨.hbm, 265, rfl⟩
abbrev main_call2_v5 : Ref sig .tc := ⟨.hbm, 266, rfl⟩
abbrev main_call2_v6 : Ref sig .tc := ⟨.hbm, 267, rfl⟩
abbrev main_call2_v7 : Ref sig .tc := ⟨.hbm, 268, rfl⟩
abbrev main_call2_cst_1 : Ref sig .tc := ⟨.hbm, 269, rfl⟩
abbrev main_call2_v8 : Ref sig .tc := ⟨.hbm, 270, rfl⟩
abbrev main_call2_cst_2 : Ref sig .tc := ⟨.hbm, 271, rfl⟩
abbrev main_call2_v9 : Ref sig .tc := ⟨.hbm, 272, rfl⟩
abbrev main_call2_v10 : Ref sig .tc := ⟨.hbm, 273, rfl⟩
abbrev main_call2_v11 : Ref sig .tc := ⟨.hbm, 274, rfl⟩
abbrev main_call2_v12 : Ref sig .tc := ⟨.hbm, 275, rfl⟩
abbrev main_call2_cst_3 : Ref sig .tc := ⟨.hbm, 276, rfl⟩
abbrev main_call2_v13 : Ref sig .tc := ⟨.hbm, 277, rfl⟩
abbrev main_call2_cst_4 : Ref sig .tc := ⟨.hbm, 278, rfl⟩
abbrev main_call2_call0_v0 : Ref sig .tc := ⟨.hbm, 279, rfl⟩
abbrev main_call2_call0_v1 : Ref sig .tc := ⟨.hbm, 280, rfl⟩
abbrev main_v182 : Ref sig .tc := ⟨.hbm, 281, rfl⟩
abbrev main_v183 : Ref sig .tc := ⟨.hbm, 282, rfl⟩
abbrev main_v184 : Ref sig .tc := ⟨.hbm, 283, rfl⟩
abbrev main_cst_17 : Ref sig .tc := ⟨.hbm, 284, rfl⟩
abbrev main_v185 : Ref sig .tc := ⟨.hbm, 285, rfl⟩
abbrev main_v186 : Ref sig .tc := ⟨.hbm, 286, rfl⟩
abbrev main_v187 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_cst_18 : Ref sig .tc := ⟨.hbm, 291, rfl⟩
abbrev main_v191 : Ref sig .tc := ⟨.hbm, 292, rfl⟩
abbrev main_v192 : Ref sig .tc := ⟨.hbm, 293, rfl⟩
abbrev main_cst_19 : Ref sig .tc := ⟨.hbm, 294, rfl⟩
abbrev main_v193 : Ref sig .tc := ⟨.hbm, 295, rfl⟩
abbrev main_v194 : Ref sig .tc := ⟨.hbm, 296, rfl⟩
abbrev main_c_20 : Ref sig .tc := ⟨.hbm, 297, rfl⟩
abbrev main_call3_cst : Ref sig .tc := ⟨.hbm, 298, rfl⟩
abbrev main_call3_v0 : Ref sig .tc := ⟨.hbm, 299, rfl⟩
abbrev main_call3_v1 : Ref sig .tc := ⟨.hbm, 300, rfl⟩
abbrev main_call3_cst_0 : Ref sig .tc := ⟨.hbm, 301, rfl⟩
abbrev main_call3_v2 : Ref sig .tc := ⟨.hbm, 302, rfl⟩
abbrev main_call3_v3 : Ref sig .tc := ⟨.hbm, 303, rfl⟩
abbrev main_call3_v4 : Ref sig .tc := ⟨.hbm, 304, rfl⟩
abbrev main_call3_v5 : Ref sig .tc := ⟨.hbm, 305, rfl⟩
abbrev main_call3_v6 : Ref sig .tc := ⟨.hbm, 306, rfl⟩
abbrev main_call3_v7 : Ref sig .tc := ⟨.hbm, 307, rfl⟩
abbrev main_call3_cst_1 : Ref sig .tc := ⟨.hbm, 308, rfl⟩
abbrev main_call3_v8 : Ref sig .tc := ⟨.hbm, 309, rfl⟩
abbrev main_call3_cst_2 : Ref sig .tc := ⟨.hbm, 310, rfl⟩
abbrev main_call3_v9 : Ref sig .tc := ⟨.hbm, 311, rfl⟩
abbrev main_call3_v10 : Ref sig .tc := ⟨.hbm, 312, rfl⟩
abbrev main_call3_v11 : Ref sig .tc := ⟨.hbm, 313, rfl⟩
abbrev main_call3_v12 : Ref sig .tc := ⟨.hbm, 314, rfl⟩
abbrev main_call3_cst_3 : Ref sig .tc := ⟨.hbm, 315, rfl⟩
abbrev main_call3_v13 : Ref sig .tc := ⟨.hbm, 316, rfl⟩
abbrev main_call3_cst_4 : Ref sig .tc := ⟨.hbm, 317, rfl⟩
abbrev main_call3_call0_v0 : Ref sig .tc := ⟨.hbm, 318, rfl⟩
abbrev main_call3_call0_v1 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_cst_21 : Ref sig .tc := ⟨.hbm, 323, rfl⟩
abbrev main_v198 : Ref sig .tc := ⟨.hbm, 324, rfl⟩
abbrev main_v199 : Ref sig .tc := ⟨.hbm, 325, rfl⟩
abbrev main_v200 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_v219 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_v227 : Ref sig .tc := ⟨.hbm, 353, rfl⟩
abbrev main_v228 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_cst_22 : Ref sig .tc := ⟨.hbm, 370, rfl⟩
abbrev main_v244 : Ref sig .tc := ⟨.hbm, 371, rfl⟩
abbrev main_v245 : Ref sig .tc := ⟨.hbm, 372, rfl⟩
abbrev main_cst_23 : Ref sig .tc := ⟨.hbm, 373, rfl⟩
abbrev main_v246 : Ref sig .tc := ⟨.hbm, 374, rfl⟩
abbrev main_cst_24 : Ref sig .tc := ⟨.hbm, 375, rfl⟩
abbrev main_v247 : Ref sig .tc := ⟨.hbm, 376, rfl⟩
abbrev main_v248 : Ref sig .tc := ⟨.hbm, 377, rfl⟩
abbrev main_v249 : Ref sig .tc := ⟨.hbm, 378, rfl⟩
abbrev main_v250 : Ref sig .tc := ⟨.hbm, 379, rfl⟩
abbrev main_v251 : Ref sig .tc := ⟨.hbm, 380, rfl⟩
abbrev main_v252 : Ref sig .tc := ⟨.hbm, 381, rfl⟩
abbrev main_cst_25 : Ref sig .tc := ⟨.hbm, 382, rfl⟩
abbrev main_v253 : Ref sig .tc := ⟨.hbm, 383, rfl⟩
abbrev main_v254 : Ref sig .tc := ⟨.hbm, 384, rfl⟩
abbrev main_v255 : Ref sig .tc := ⟨.hbm, 385, rfl⟩
abbrev main_v256 : Ref sig .tc := ⟨.hbm, 386, rfl⟩
abbrev main_v257 : Ref sig .tc := ⟨.hbm, 387, rfl⟩
abbrev main_v258 : Ref sig .tc := ⟨.hbm, 388, rfl⟩
abbrev main_v259 : Ref sig .tc := ⟨.hbm, 389, rfl⟩
abbrev main_v260 : Ref sig .tc := ⟨.hbm, 390, rfl⟩
abbrev main_v261 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_v265 : Ref sig .tc := ⟨.hbm, 395, rfl⟩
abbrev main_v266 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_cst_26 : Ref sig .tc := ⟨.hbm, 408, rfl⟩
abbrev main_v278 : Ref sig .tc := ⟨.hbm, 409, rfl⟩
abbrev main_v279 : Ref sig .tc := ⟨.hbm, 410, rfl⟩
abbrev main_cst_27 : Ref sig .tc := ⟨.hbm, 411, rfl⟩
abbrev main_v280 : Ref sig .tc := ⟨.hbm, 412, rfl⟩
abbrev main_v281 : Ref sig .tc := ⟨.hbm, 413, rfl⟩
abbrev main_c_28 : Ref sig .tc := ⟨.hbm, 414, rfl⟩
abbrev main_call4_cst : Ref sig .tc := ⟨.hbm, 415, rfl⟩
abbrev main_call4_v0 : Ref sig .tc := ⟨.hbm, 416, rfl⟩
abbrev main_call4_v1 : Ref sig .tc := ⟨.hbm, 417, rfl⟩
abbrev main_call4_cst_0 : Ref sig .tc := ⟨.hbm, 418, rfl⟩
abbrev main_call4_v2 : Ref sig .tc := ⟨.hbm, 419, rfl⟩
abbrev main_call4_v3 : Ref sig .tc := ⟨.hbm, 420, rfl⟩
abbrev main_call4_v4 : Ref sig .tc := ⟨.hbm, 421, rfl⟩
abbrev main_call4_v5 : Ref sig .tc := ⟨.hbm, 422, rfl⟩
abbrev main_call4_v6 : Ref sig .tc := ⟨.hbm, 423, rfl⟩
abbrev main_call4_v7 : Ref sig .tc := ⟨.hbm, 424, rfl⟩
abbrev main_call4_cst_1 : Ref sig .tc := ⟨.hbm, 425, rfl⟩
abbrev main_call4_v8 : Ref sig .tc := ⟨.hbm, 426, rfl⟩
abbrev main_call4_cst_2 : Ref sig .tc := ⟨.hbm, 427, rfl⟩
abbrev main_call4_v9 : Ref sig .tc := ⟨.hbm, 428, rfl⟩
abbrev main_call4_v10 : Ref sig .tc := ⟨.hbm, 429, rfl⟩
abbrev main_call4_v11 : Ref sig .tc := ⟨.hbm, 430, rfl⟩
abbrev main_call4_v12 : Ref sig .tc := ⟨.hbm, 431, rfl⟩
abbrev main_call4_cst_3 : Ref sig .tc := ⟨.hbm, 432, rfl⟩
abbrev main_call4_v13 : Ref sig .tc := ⟨.hbm, 433, rfl⟩
abbrev main_call4_cst_4 : Ref sig .tc := ⟨.hbm, 434, rfl⟩
abbrev main_call4_call0_v0 : Ref sig .tc := ⟨.hbm, 435, rfl⟩
abbrev main_call4_call0_v1 : Ref sig .tc := ⟨.hbm, 436, rfl⟩
abbrev main_v282 : Ref sig .tc := ⟨.hbm, 437, rfl⟩
abbrev main_v283 : Ref sig .tc := ⟨.hbm, 438, rfl⟩
abbrev main_v284 : Ref sig .tc := ⟨.hbm, 439, rfl⟩
abbrev main_cst_29 : Ref sig .tc := ⟨.hbm, 440, rfl⟩
abbrev main_v285 : Ref sig .tc := ⟨.hbm, 441, rfl⟩
abbrev main_v286 : Ref sig .tc := ⟨.hbm, 442, rfl⟩
abbrev main_v287 : Ref sig .tc := ⟨.hbm, 443, rfl⟩
abbrev main_v288 : Ref sig .tc := ⟨.hbm, 444, rfl⟩
abbrev main_v289 : Ref sig .tc := ⟨.hbm, 445, rfl⟩
abbrev main_v290 : Ref sig .tc := ⟨.hbm, 446, rfl⟩
abbrev main_cst_30 : Ref sig .tc := ⟨.hbm, 447, rfl⟩
abbrev main_v291 : Ref sig .tc := ⟨.hbm, 448, rfl⟩
abbrev main_v292 : Ref sig .tc := ⟨.hbm, 449, rfl⟩
abbrev main_cst_31 : Ref sig .tc := ⟨.hbm, 450, rfl⟩
abbrev main_v293 : Ref sig .tc := ⟨.hbm, 451, rfl⟩
abbrev main_v294 : Ref sig .tc := ⟨.hbm, 452, rfl⟩
abbrev main_c_32 : Ref sig .tc := ⟨.hbm, 453, rfl⟩
abbrev main_call5_cst : Ref sig .tc := ⟨.hbm, 454, rfl⟩
abbrev main_call5_v0 : Ref sig .tc := ⟨.hbm, 455, rfl⟩
abbrev main_call5_v1 : Ref sig .tc := ⟨.hbm, 456, rfl⟩
abbrev main_call5_cst_0 : Ref sig .tc := ⟨.hbm, 457, rfl⟩
abbrev main_call5_v2 : Ref sig .tc := ⟨.hbm, 458, rfl⟩
abbrev main_call5_v3 : Ref sig .tc := ⟨.hbm, 459, rfl⟩
abbrev main_call5_v4 : Ref sig .tc := ⟨.hbm, 460, rfl⟩
abbrev main_call5_v5 : Ref sig .tc := ⟨.hbm, 461, rfl⟩
abbrev main_call5_v6 : Ref sig .tc := ⟨.hbm, 462, rfl⟩
abbrev main_call5_v7 : Ref sig .tc := ⟨.hbm, 463, rfl⟩
abbrev main_call5_cst_1 : Ref sig .tc := ⟨.hbm, 464, rfl⟩
abbrev main_call5_v8 : Ref sig .tc := ⟨.hbm, 465, rfl⟩
abbrev main_call5_cst_2 : Ref sig .tc := ⟨.hbm, 466, rfl⟩
abbrev main_call5_v9 : Ref sig .tc := ⟨.hbm, 467, rfl⟩
abbrev main_call5_v10 : Ref sig .tc := ⟨.hbm, 468, rfl⟩
abbrev main_call5_v11 : Ref sig .tc := ⟨.hbm, 469, rfl⟩
abbrev main_call5_v12 : Ref sig .tc := ⟨.hbm, 470, rfl⟩
abbrev main_call5_cst_3 : Ref sig .tc := ⟨.hbm, 471, rfl⟩
abbrev main_call5_v13 : Ref sig .tc := ⟨.hbm, 472, rfl⟩
abbrev main_call5_cst_4 : Ref sig .tc := ⟨.hbm, 473, rfl⟩
abbrev main_call5_call0_v0 : Ref sig .tc := ⟨.hbm, 474, rfl⟩
abbrev main_call5_call0_v1 : Ref sig .tc := ⟨.hbm, 475, rfl⟩
abbrev main_v295 : Ref sig .tc := ⟨.hbm, 476, rfl⟩
abbrev main_v296 : Ref sig .tc := ⟨.hbm, 477, rfl⟩
abbrev main_v297 : Ref sig .tc := ⟨.hbm, 478, rfl⟩
abbrev main_cst_33 : Ref sig .tc := ⟨.hbm, 479, rfl⟩
abbrev main_v298 : Ref sig .tc := ⟨.hbm, 480, rfl⟩
abbrev main_v299 : Ref sig .tc := ⟨.hbm, 481, rfl⟩
abbrev main_v300 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_v304 : Ref sig .tc := ⟨.hbm, 486, rfl⟩
abbrev main_v305 : Ref sig .tc := ⟨.hbm, 487, rfl⟩
abbrev main_v306 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩
abbrev main_v310 : Ref sig .tc := ⟨.hbm, 492, rfl⟩
abbrev main_v311 : Ref sig .tc := ⟨.hbm, 493, rfl⟩
abbrev main_v312 : Ref sig .tc := ⟨.hbm, 494, rfl⟩
abbrev main_v313 : Ref sig .tc := ⟨.hbm, 495, rfl⟩
abbrev main_v314 : Ref sig .tc := ⟨.hbm, 496, rfl⟩
abbrev main_v315 : Ref sig .tc := ⟨.hbm, 497, rfl⟩
abbrev main_v316 : Ref sig .tc := ⟨.hbm, 498, rfl⟩
abbrev main_v317 : Ref sig .tc := ⟨.hbm, 499, rfl⟩
abbrev main_v318 : Ref sig .tc := ⟨.hbm, 500, rfl⟩
abbrev main_v319 : Ref sig .tc := ⟨.hbm, 501, rfl⟩
abbrev main_v320 : Ref sig .tc := ⟨.hbm, 502, rfl⟩
abbrev main_v321 : Ref sig .tc := ⟨.hbm, 503, rfl⟩
abbrev main_v322 : Ref sig .tc := ⟨.hbm, 504, rfl⟩
abbrev main_v323 : Ref sig .tc := ⟨.hbm, 505, rfl⟩
abbrev main_v324 : Ref sig .tc := ⟨.hbm, 506, rfl⟩
abbrev main_v325 : Ref sig .tc := ⟨.hbm, 507, rfl⟩
abbrev main_v326 : Ref sig .tc := ⟨.hbm, 508, rfl⟩
abbrev main_v327 : Ref sig .tc := ⟨.hbm, 509, rfl⟩
abbrev main_v328 : Ref sig .tc := ⟨.hbm, 510, rfl⟩
abbrev main_v329 : Ref sig .tc := ⟨.hbm, 511, rfl⟩
abbrev main_v330 : Ref sig .tc := ⟨.hbm, 512, rfl⟩
abbrev main_v331 : Ref sig .tc := ⟨.hbm, 513, rfl⟩
abbrev main_v332 : Ref sig .tc := ⟨.hbm, 514, rfl⟩
abbrev main_v333 : Ref sig .tc := ⟨.hbm, 515, rfl⟩
abbrev main_v334 : Ref sig .tc := ⟨.hbm, 516, rfl⟩
abbrev main_v335 : Ref sig .tc := ⟨.hbm, 517, rfl⟩
abbrev main_v336 : Ref sig .tc := ⟨.hbm, 518, rfl⟩
abbrev main_v337 : Ref sig .tc := ⟨.hbm, 519, rfl⟩
abbrev main_v338 : Ref sig .tc := ⟨.hbm, 520, rfl⟩
abbrev main_v339 : Ref sig .tc := ⟨.hbm, 521, rfl⟩
abbrev main_v340 : Ref sig .tc := ⟨.hbm, 522, rfl⟩
abbrev main_v341 : Ref sig .tc := ⟨.hbm, 523, rfl⟩
abbrev main_v342 : Ref sig .tc := ⟨.hbm, 524, rfl⟩
abbrev main_v343 : Ref sig .tc := ⟨.hbm, 525, rfl⟩
abbrev main_cst_34 : Ref sig .tc := ⟨.hbm, 526, rfl⟩
abbrev main_v344 : Ref sig .tc := ⟨.hbm, 527, rfl⟩
abbrev main_v345 : Ref sig .tc := ⟨.hbm, 528, rfl⟩
abbrev main_cst_35 : Ref sig .tc := ⟨.hbm, 529, rfl⟩
abbrev main_v346 : Ref sig .tc := ⟨.hbm, 530, rfl⟩
abbrev main_cst_36 : Ref sig .tc := ⟨.hbm, 531, rfl⟩
abbrev main_v347 : Ref sig .tc := ⟨.hbm, 532, rfl⟩
abbrev main_v348 : Ref sig .tc := ⟨.hbm, 533, rfl⟩
abbrev main_v349 : Ref sig .tc := ⟨.hbm, 534, rfl⟩
abbrev main_v350 : Ref sig .tc := ⟨.hbm, 535, rfl⟩
abbrev main_v351 : Ref sig .tc := ⟨.hbm, 536, rfl⟩
abbrev main_v352 : Ref sig .tc := ⟨.hbm, 537, rfl⟩
abbrev main_cst_37 : Ref sig .tc := ⟨.hbm, 538, rfl⟩
abbrev main_v353 : Ref sig .tc := ⟨.hbm, 539, rfl⟩
abbrev main_v354 : Ref sig .tc := ⟨.hbm, 540, rfl⟩
abbrev main_v355 : Ref sig .tc := ⟨.hbm, 541, rfl⟩
abbrev main_v356 : Ref sig .tc := ⟨.hbm, 542, rfl⟩
abbrev main_v357 : Ref sig .tc := ⟨.hbm, 543, rfl⟩
abbrev main_v358 : Ref sig .tc := ⟨.hbm, 544, rfl⟩
abbrev main_v359 : Ref sig .tc := ⟨.hbm, 545, rfl⟩
abbrev main_v360 : Ref sig .tc := ⟨.hbm, 546, rfl⟩
abbrev main_v361 : Ref sig .tc := ⟨.hbm, 547, rfl⟩
abbrev main_v362 : Ref sig .tc := ⟨.hbm, 548, rfl⟩
abbrev main_v363 : Ref sig .tc := ⟨.hbm, 549, rfl⟩
abbrev main_v364 : Ref sig .tc := ⟨.hbm, 550, rfl⟩
abbrev main_v365 : Ref sig .tc := ⟨.hbm, 551, rfl⟩
abbrev main_v366 : Ref sig .tc := ⟨.hbm, 552, rfl⟩
abbrev main_v367 : Ref sig .tc := ⟨.hbm, 553, rfl⟩
abbrev main_v368 : Ref sig .tc := ⟨.hbm, 554, rfl⟩
abbrev main_v369 : Ref sig .tc := ⟨.hbm, 555, rfl⟩
abbrev main_v370 : Ref sig .tc := ⟨.hbm, 556, rfl⟩
abbrev main_v371 : Ref sig .tc := ⟨.hbm, 557, rfl⟩
abbrev main_v372 : Ref sig .tc := ⟨.hbm, 558, rfl⟩
abbrev main_v373 : Ref sig .tc := ⟨.hbm, 559, rfl⟩
abbrev main_v374 : Ref sig .tc := ⟨.hbm, 560, rfl⟩
abbrev main_v375 : Ref sig .tc := ⟨.hbm, 561, rfl⟩
abbrev main_v376 : Ref sig .tc := ⟨.hbm, 562, rfl⟩
abbrev main_v377 : Ref sig .tc := ⟨.hbm, 563, rfl⟩
abbrev main_cst_38 : Ref sig .tc := ⟨.hbm, 564, rfl⟩
abbrev main_v378 : Ref sig .tc := ⟨.hbm, 565, rfl⟩
abbrev main_v379 : Ref sig .tc := ⟨.hbm, 566, rfl⟩
abbrev main_cst_39 : Ref sig .tc := ⟨.hbm, 567, rfl⟩
abbrev main_v380 : Ref sig .tc := ⟨.hbm, 568, rfl⟩
abbrev main_v381 : Ref sig .tc := ⟨.hbm, 569, rfl⟩
abbrev main_c_40 : Ref sig .tc := ⟨.hbm, 570, rfl⟩
abbrev main_call6_cst : Ref sig .tc := ⟨.hbm, 571, rfl⟩
abbrev main_call6_v0 : Ref sig .tc := ⟨.hbm, 572, rfl⟩
abbrev main_call6_v1 : Ref sig .tc := ⟨.hbm, 573, rfl⟩
abbrev main_call6_cst_0 : Ref sig .tc := ⟨.hbm, 574, rfl⟩
abbrev main_call6_v2 : Ref sig .tc := ⟨.hbm, 575, rfl⟩
abbrev main_call6_v3 : Ref sig .tc := ⟨.hbm, 576, rfl⟩
abbrev main_call6_v4 : Ref sig .tc := ⟨.hbm, 577, rfl⟩
abbrev main_call6_v5 : Ref sig .tc := ⟨.hbm, 578, rfl⟩
abbrev main_call6_v6 : Ref sig .tc := ⟨.hbm, 579, rfl⟩
abbrev main_call6_v7 : Ref sig .tc := ⟨.hbm, 580, rfl⟩
abbrev main_call6_cst_1 : Ref sig .tc := ⟨.hbm, 581, rfl⟩
abbrev main_call6_v8 : Ref sig .tc := ⟨.hbm, 582, rfl⟩
abbrev main_call6_cst_2 : Ref sig .tc := ⟨.hbm, 583, rfl⟩
abbrev main_call6_v9 : Ref sig .tc := ⟨.hbm, 584, rfl⟩
abbrev main_call6_v10 : Ref sig .tc := ⟨.hbm, 585, rfl⟩
abbrev main_call6_v11 : Ref sig .tc := ⟨.hbm, 586, rfl⟩
abbrev main_call6_v12 : Ref sig .tc := ⟨.hbm, 587, rfl⟩
abbrev main_call6_cst_3 : Ref sig .tc := ⟨.hbm, 588, rfl⟩
abbrev main_call6_v13 : Ref sig .tc := ⟨.hbm, 589, rfl⟩
abbrev main_call6_cst_4 : Ref sig .tc := ⟨.hbm, 590, rfl⟩
abbrev main_call6_call0_v0 : Ref sig .tc := ⟨.hbm, 591, rfl⟩
abbrev main_call6_call0_v1 : Ref sig .tc := ⟨.hbm, 592, rfl⟩
abbrev main_v382 : Ref sig .tc := ⟨.hbm, 593, rfl⟩
abbrev main_v383 : Ref sig .tc := ⟨.hbm, 594, rfl⟩
abbrev main_v384 : Ref sig .tc := ⟨.hbm, 595, rfl⟩
abbrev main_cst_41 : Ref sig .tc := ⟨.hbm, 596, rfl⟩
abbrev main_v385 : Ref sig .tc := ⟨.hbm, 597, rfl⟩
abbrev main_v386 : Ref sig .tc := ⟨.hbm, 598, rfl⟩
abbrev main_v387 : Ref sig .tc := ⟨.hbm, 599, rfl⟩
abbrev main_v388 : Ref sig .tc := ⟨.hbm, 600, rfl⟩
abbrev main_v389 : Ref sig .tc := ⟨.hbm, 601, rfl⟩
abbrev main_v390 : Ref sig .tc := ⟨.hbm, 602, rfl⟩
abbrev main_cst_42 : Ref sig .tc := ⟨.hbm, 603, rfl⟩
abbrev main_v391 : Ref sig .tc := ⟨.hbm, 604, rfl⟩
abbrev main_v392 : Ref sig .tc := ⟨.hbm, 605, rfl⟩
abbrev main_cst_43 : Ref sig .tc := ⟨.hbm, 606, rfl⟩
abbrev main_v393 : Ref sig .tc := ⟨.hbm, 607, rfl⟩
abbrev main_v394 : Ref sig .tc := ⟨.hbm, 608, rfl⟩
abbrev main_c_44 : Ref sig .tc := ⟨.hbm, 609, rfl⟩
abbrev main_call7_cst : Ref sig .tc := ⟨.hbm, 610, rfl⟩
abbrev main_call7_v0 : Ref sig .tc := ⟨.hbm, 611, rfl⟩
abbrev main_call7_v1 : Ref sig .tc := ⟨.hbm, 612, rfl⟩
abbrev main_call7_cst_0 : Ref sig .tc := ⟨.hbm, 613, rfl⟩
abbrev main_call7_v2 : Ref sig .tc := ⟨.hbm, 614, rfl⟩
abbrev main_call7_v3 : Ref sig .tc := ⟨.hbm, 615, rfl⟩
abbrev main_call7_v4 : Ref sig .tc := ⟨.hbm, 616, rfl⟩
abbrev main_call7_v5 : Ref sig .tc := ⟨.hbm, 617, rfl⟩
abbrev main_call7_v6 : Ref sig .tc := ⟨.hbm, 618, rfl⟩
abbrev main_call7_v7 : Ref sig .tc := ⟨.hbm, 619, rfl⟩
abbrev main_call7_cst_1 : Ref sig .tc := ⟨.hbm, 620, rfl⟩
abbrev main_call7_v8 : Ref sig .tc := ⟨.hbm, 621, rfl⟩
abbrev main_call7_cst_2 : Ref sig .tc := ⟨.hbm, 622, rfl⟩
abbrev main_call7_v9 : Ref sig .tc := ⟨.hbm, 623, rfl⟩
abbrev main_call7_v10 : Ref sig .tc := ⟨.hbm, 624, rfl⟩
abbrev main_call7_v11 : Ref sig .tc := ⟨.hbm, 625, rfl⟩
abbrev main_call7_v12 : Ref sig .tc := ⟨.hbm, 626, rfl⟩
abbrev main_call7_cst_3 : Ref sig .tc := ⟨.hbm, 627, rfl⟩
abbrev main_call7_v13 : Ref sig .tc := ⟨.hbm, 628, rfl⟩
abbrev main_call7_cst_4 : Ref sig .tc := ⟨.hbm, 629, rfl⟩
abbrev main_call7_call0_v0 : Ref sig .tc := ⟨.hbm, 630, rfl⟩
abbrev main_call7_call0_v1 : Ref sig .tc := ⟨.hbm, 631, rfl⟩
abbrev main_v395 : Ref sig .tc := ⟨.hbm, 632, rfl⟩
abbrev main_v396 : Ref sig .tc := ⟨.hbm, 633, rfl⟩
abbrev main_v397 : Ref sig .tc := ⟨.hbm, 634, rfl⟩
abbrev main_cst_45 : Ref sig .tc := ⟨.hbm, 635, rfl⟩
abbrev main_v398 : Ref sig .tc := ⟨.hbm, 636, rfl⟩
abbrev main_v399 : Ref sig .tc := ⟨.hbm, 637, rfl⟩
abbrev main_v400 : Ref sig .tc := ⟨.hbm, 638, rfl⟩
abbrev main_v401 : Ref sig .tc := ⟨.hbm, 639, rfl⟩
abbrev main_v402 : Ref sig .tc := ⟨.hbm, 640, rfl⟩
abbrev main_v403 : Ref sig .tc := ⟨.hbm, 641, rfl⟩
abbrev main_v404 : Ref sig .tc := ⟨.hbm, 642, rfl⟩
abbrev main_v405 : Ref sig .tc := ⟨.hbm, 643, rfl⟩
abbrev main_v406 : Ref sig .tc := ⟨.hbm, 644, rfl⟩
abbrev main_v407 : Ref sig .tc := ⟨.hbm, 645, rfl⟩
abbrev main_v408 : Ref sig .tc := ⟨.hbm, 646, rfl⟩
abbrev main_v409 : Ref sig .tc := ⟨.hbm, 647, rfl⟩
abbrev main_v410 : Ref sig .tc := ⟨.hbm, 648, rfl⟩
abbrev main_v411 : Ref sig .tc := ⟨.hbm, 649, rfl⟩
abbrev main_v412 : Ref sig .tc := ⟨.hbm, 650, rfl⟩
abbrev main_v413 : Ref sig .tc := ⟨.hbm, 651, rfl⟩
abbrev main_v414 : Ref sig .tc := ⟨.hbm, 652, rfl⟩
abbrev main_v415 : Ref sig .tc := ⟨.hbm, 653, rfl⟩
abbrev main_v416 : Ref sig .tc := ⟨.hbm, 654, rfl⟩
abbrev main_v417 : Ref sig .tc := ⟨.hbm, 655, rfl⟩
abbrev main_v418 : Ref sig .tc := ⟨.hbm, 656, rfl⟩
abbrev main_v419 : Ref sig .tc := ⟨.hbm, 657, rfl⟩
abbrev main_v420 : Ref sig .tc := ⟨.hbm, 658, rfl⟩
abbrev main_v421 : Ref sig .tc := ⟨.hbm, 659, rfl⟩
abbrev main_v422 : Ref sig .tc := ⟨.hbm, 660, rfl⟩
abbrev main_v423 : Ref sig .tc := ⟨.hbm, 661, rfl⟩
abbrev main_v424 : Ref sig .tc := ⟨.hbm, 662, rfl⟩
abbrev main_v425 : Ref sig .tc := ⟨.hbm, 663, rfl⟩
abbrev main_v426 : Ref sig .tc := ⟨.hbm, 664, rfl⟩
abbrev main_v427 : Ref sig .tc := ⟨.hbm, 665, rfl⟩
abbrev main_v428 : Ref sig .tc := ⟨.hbm, 666, rfl⟩
abbrev main_v429 : Ref sig .tc := ⟨.hbm, 667, rfl⟩
abbrev main_v430 : Ref sig .tc := ⟨.hbm, 668, rfl⟩
abbrev main_v431 : Ref sig .tc := ⟨.hbm, 669, rfl⟩
abbrev main_v432 : Ref sig .tc := ⟨.hbm, 670, rfl⟩
abbrev main_v433 : Ref sig .tc := ⟨.hbm, 671, rfl⟩
abbrev main_v434 : Ref sig .tc := ⟨.hbm, 672, rfl⟩
abbrev main_v435 : Ref sig .tc := ⟨.hbm, 673, rfl⟩
abbrev main_v436 : Ref sig .tc := ⟨.hbm, 674, rfl⟩
abbrev main_v437 : Ref sig .tc := ⟨.hbm, 675, rfl⟩
abbrev main_v438 : Ref sig .tc := ⟨.hbm, 676, rfl⟩
abbrev main_v439 : Ref sig .tc := ⟨.hbm, 677, rfl⟩
abbrev main_v440 : Ref sig .tc := ⟨.hbm, 678, rfl⟩
abbrev main_v441 : Ref sig .tc := ⟨.hbm, 679, rfl⟩
abbrev main_v442 : Ref sig .tc := ⟨.hbm, 680, rfl⟩
abbrev main_v443 : Ref sig .tc := ⟨.hbm, 681, rfl⟩
abbrev main_cst_46 : Ref sig .tc := ⟨.hbm, 682, rfl⟩
abbrev main_v444 : Ref sig .tc := ⟨.hbm, 683, rfl⟩
abbrev main_v445 : Ref sig .tc := ⟨.hbm, 684, rfl⟩
abbrev main_cst_47 : Ref sig .tc := ⟨.hbm, 685, rfl⟩
abbrev main_v446 : Ref sig .tc := ⟨.hbm, 686, rfl⟩
abbrev main_cst_48 : Ref sig .tc := ⟨.hbm, 687, rfl⟩
abbrev main_v447 : Ref sig .tc := ⟨.hbm, 688, rfl⟩
abbrev main_v448 : Ref sig .tc := ⟨.hbm, 689, rfl⟩
abbrev main_v449 : Ref sig .tc := ⟨.hbm, 690, rfl⟩
abbrev main_v450 : Ref sig .tc := ⟨.hbm, 691, rfl⟩
abbrev main_v451 : Ref sig .tc := ⟨.hbm, 692, rfl⟩
abbrev main_v452 : Ref sig .tc := ⟨.hbm, 693, rfl⟩
abbrev main_cst_49 : Ref sig .tc := ⟨.hbm, 694, rfl⟩
abbrev main_v453 : Ref sig .tc := ⟨.hbm, 695, rfl⟩
abbrev main_v454 : Ref sig .tc := ⟨.hbm, 696, rfl⟩
abbrev main_v455 : Ref sig .tc := ⟨.hbm, 697, rfl⟩
abbrev main_v456 : Ref sig .tc := ⟨.hbm, 698, rfl⟩
abbrev main_v457 : Ref sig .tc := ⟨.hbm, 699, rfl⟩
abbrev main_v458 : Ref sig .tc := ⟨.hbm, 700, rfl⟩
abbrev main_v459 : Ref sig .tc := ⟨.hbm, 701, rfl⟩
abbrev main_v460 : Ref sig .tc := ⟨.hbm, 702, rfl⟩
abbrev main_v461 : Ref sig .tc := ⟨.hbm, 703, rfl⟩
abbrev main_v462 : Ref sig .tc := ⟨.hbm, 704, rfl⟩
abbrev main_v463 : Ref sig .tc := ⟨.hbm, 705, rfl⟩
abbrev main_v464 : Ref sig .tc := ⟨.hbm, 706, rfl⟩
abbrev main_v465 : Ref sig .tc := ⟨.hbm, 707, rfl⟩
abbrev main_v466 : Ref sig .tc := ⟨.hbm, 708, rfl⟩
abbrev main_v467 : Ref sig .tc := ⟨.hbm, 709, rfl⟩
abbrev main_v468 : Ref sig .tc := ⟨.hbm, 710, rfl⟩
abbrev main_v469 : Ref sig .tc := ⟨.hbm, 711, rfl⟩
abbrev main_v470 : Ref sig .tc := ⟨.hbm, 712, rfl⟩
abbrev main_v471 : Ref sig .tc := ⟨.hbm, 713, rfl⟩
abbrev main_v472 : Ref sig .tc := ⟨.hbm, 714, rfl⟩
abbrev main_v473 : Ref sig .tc := ⟨.hbm, 715, rfl⟩
abbrev main_v474 : Ref sig .tc := ⟨.hbm, 716, rfl⟩
abbrev main_v475 : Ref sig .tc := ⟨.hbm, 717, rfl⟩
abbrev main_v476 : Ref sig .tc := ⟨.hbm, 718, rfl⟩
abbrev main_v477 : Ref sig .tc := ⟨.hbm, 719, rfl⟩
abbrev main_cst_50 : Ref sig .tc := ⟨.hbm, 720, rfl⟩
abbrev main_v478 : Ref sig .tc := ⟨.hbm, 721, rfl⟩
abbrev main_v479 : Ref sig .tc := ⟨.hbm, 722, rfl⟩
abbrev main_cst_51 : Ref sig .tc := ⟨.hbm, 723, rfl⟩
abbrev main_v480 : Ref sig .tc := ⟨.hbm, 724, rfl⟩
abbrev main_v481 : Ref sig .tc := ⟨.hbm, 725, rfl⟩
abbrev main_c_52 : Ref sig .tc := ⟨.hbm, 726, rfl⟩
abbrev main_call8_cst : Ref sig .tc := ⟨.hbm, 727, rfl⟩
abbrev main_call8_v0 : Ref sig .tc := ⟨.hbm, 728, rfl⟩
abbrev main_call8_v1 : Ref sig .tc := ⟨.hbm, 729, rfl⟩
abbrev main_call8_cst_0 : Ref sig .tc := ⟨.hbm, 730, rfl⟩
abbrev main_call8_v2 : Ref sig .tc := ⟨.hbm, 731, rfl⟩
abbrev main_call8_v3 : Ref sig .tc := ⟨.hbm, 732, rfl⟩
abbrev main_call8_v4 : Ref sig .tc := ⟨.hbm, 733, rfl⟩
abbrev main_call8_v5 : Ref sig .tc := ⟨.hbm, 734, rfl⟩
abbrev main_call8_v6 : Ref sig .tc := ⟨.hbm, 735, rfl⟩
abbrev main_call8_v7 : Ref sig .tc := ⟨.hbm, 736, rfl⟩
abbrev main_call8_cst_1 : Ref sig .tc := ⟨.hbm, 737, rfl⟩
abbrev main_call8_v8 : Ref sig .tc := ⟨.hbm, 738, rfl⟩
abbrev main_call8_cst_2 : Ref sig .tc := ⟨.hbm, 739, rfl⟩
abbrev main_call8_v9 : Ref sig .tc := ⟨.hbm, 740, rfl⟩
abbrev main_call8_v10 : Ref sig .tc := ⟨.hbm, 741, rfl⟩
abbrev main_call8_v11 : Ref sig .tc := ⟨.hbm, 742, rfl⟩
abbrev main_call8_v12 : Ref sig .tc := ⟨.hbm, 743, rfl⟩
abbrev main_call8_cst_3 : Ref sig .tc := ⟨.hbm, 744, rfl⟩
abbrev main_call8_v13 : Ref sig .tc := ⟨.hbm, 745, rfl⟩
abbrev main_call8_cst_4 : Ref sig .tc := ⟨.hbm, 746, rfl⟩
abbrev main_call8_call0_v0 : Ref sig .tc := ⟨.hbm, 747, rfl⟩
abbrev main_call8_call0_v1 : Ref sig .tc := ⟨.hbm, 748, rfl⟩
abbrev main_v482 : Ref sig .tc := ⟨.hbm, 749, rfl⟩
abbrev main_v483 : Ref sig .tc := ⟨.hbm, 750, rfl⟩
abbrev main_v484 : Ref sig .tc := ⟨.hbm, 751, rfl⟩
abbrev main_cst_53 : Ref sig .tc := ⟨.hbm, 752, rfl⟩
abbrev main_v485 : Ref sig .tc := ⟨.hbm, 753, rfl⟩
abbrev main_v486 : Ref sig .tc := ⟨.hbm, 754, rfl⟩
abbrev main_v487 : Ref sig .tc := ⟨.hbm, 755, rfl⟩
abbrev main_v488 : Ref sig .tc := ⟨.hbm, 756, rfl⟩
abbrev main_v489 : Ref sig .tc := ⟨.hbm, 757, rfl⟩
abbrev main_v490 : Ref sig .tc := ⟨.hbm, 758, rfl⟩
abbrev main_cst_54 : Ref sig .tc := ⟨.hbm, 759, rfl⟩
abbrev main_v491 : Ref sig .tc := ⟨.hbm, 760, rfl⟩
abbrev main_v492 : Ref sig .tc := ⟨.hbm, 761, rfl⟩
abbrev main_cst_55 : Ref sig .tc := ⟨.hbm, 762, rfl⟩
abbrev main_v493 : Ref sig .tc := ⟨.hbm, 763, rfl⟩
abbrev main_v494 : Ref sig .tc := ⟨.hbm, 764, rfl⟩
abbrev main_c_56 : Ref sig .tc := ⟨.hbm, 765, rfl⟩
abbrev main_call9_cst : Ref sig .tc := ⟨.hbm, 766, rfl⟩
abbrev main_call9_v0 : Ref sig .tc := ⟨.hbm, 767, rfl⟩
abbrev main_call9_v1 : Ref sig .tc := ⟨.hbm, 768, rfl⟩
abbrev main_call9_cst_0 : Ref sig .tc := ⟨.hbm, 769, rfl⟩
abbrev main_call9_v2 : Ref sig .tc := ⟨.hbm, 770, rfl⟩
abbrev main_call9_v3 : Ref sig .tc := ⟨.hbm, 771, rfl⟩
abbrev main_call9_v4 : Ref sig .tc := ⟨.hbm, 772, rfl⟩
abbrev main_call9_v5 : Ref sig .tc := ⟨.hbm, 773, rfl⟩
abbrev main_call9_v6 : Ref sig .tc := ⟨.hbm, 774, rfl⟩
abbrev main_call9_v7 : Ref sig .tc := ⟨.hbm, 775, rfl⟩
abbrev main_call9_cst_1 : Ref sig .tc := ⟨.hbm, 776, rfl⟩
abbrev main_call9_v8 : Ref sig .tc := ⟨.hbm, 777, rfl⟩
abbrev main_call9_cst_2 : Ref sig .tc := ⟨.hbm, 778, rfl⟩
abbrev main_call9_v9 : Ref sig .tc := ⟨.hbm, 779, rfl⟩
abbrev main_call9_v10 : Ref sig .tc := ⟨.hbm, 780, rfl⟩
abbrev main_call9_v11 : Ref sig .tc := ⟨.hbm, 781, rfl⟩
abbrev main_call9_v12 : Ref sig .tc := ⟨.hbm, 782, rfl⟩
abbrev main_call9_cst_3 : Ref sig .tc := ⟨.hbm, 783, rfl⟩
abbrev main_call9_v13 : Ref sig .tc := ⟨.hbm, 784, rfl⟩
abbrev main_call9_cst_4 : Ref sig .tc := ⟨.hbm, 785, rfl⟩
abbrev main_call9_call0_v0 : Ref sig .tc := ⟨.hbm, 786, rfl⟩
abbrev main_call9_call0_v1 : Ref sig .tc := ⟨.hbm, 787, rfl⟩
abbrev main_v495 : Ref sig .tc := ⟨.hbm, 788, rfl⟩
abbrev main_v496 : Ref sig .tc := ⟨.hbm, 789, rfl⟩
abbrev main_v497 : Ref sig .tc := ⟨.hbm, 790, rfl⟩
abbrev main_cst_57 : Ref sig .tc := ⟨.hbm, 791, rfl⟩
abbrev main_v498 : Ref sig .tc := ⟨.hbm, 792, rfl⟩
abbrev main_v499 : Ref sig .tc := ⟨.hbm, 793, rfl⟩
abbrev main_v500 : Ref sig .tc := ⟨.hbm, 794, rfl⟩
abbrev main_v501 : Ref sig .tc := ⟨.hbm, 795, rfl⟩
abbrev main_v502 : Ref sig .tc := ⟨.hbm, 796, rfl⟩
abbrev main_v503 : Ref sig .tc := ⟨.hbm, 797, rfl⟩
abbrev main_v504 : Ref sig .tc := ⟨.hbm, 798, rfl⟩
abbrev main_v505 : Ref sig .tc := ⟨.hbm, 799, rfl⟩
abbrev main_v506 : Ref sig .tc := ⟨.hbm, 800, rfl⟩
abbrev main_v507 : Ref sig .tc := ⟨.hbm, 801, rfl⟩
abbrev main_v508 : Ref sig .tc := ⟨.hbm, 802, rfl⟩
abbrev main_v509 : Ref sig .tc := ⟨.hbm, 803, rfl⟩
abbrev main_v510 : Ref sig .tc := ⟨.hbm, 804, rfl⟩
abbrev main_v511 : Ref sig .tc := ⟨.hbm, 805, rfl⟩
abbrev main_v512 : Ref sig .tc := ⟨.hbm, 806, rfl⟩
abbrev main_v513 : Ref sig .tc := ⟨.hbm, 807, rfl⟩
abbrev main_v514 : Ref sig .tc := ⟨.hbm, 808, rfl⟩
abbrev main_v515 : Ref sig .tc := ⟨.hbm, 809, rfl⟩
abbrev main_v516 : Ref sig .tc := ⟨.hbm, 810, rfl⟩
abbrev main_v517 : Ref sig .tc := ⟨.hbm, 811, rfl⟩
abbrev main_v518 : Ref sig .tc := ⟨.hbm, 812, rfl⟩
abbrev main_v519 : Ref sig .tc := ⟨.hbm, 813, rfl⟩
abbrev main_v520 : Ref sig .tc := ⟨.hbm, 814, rfl⟩
abbrev main_v521 : Ref sig .tc := ⟨.hbm, 815, rfl⟩
abbrev main_v522 : Ref sig .tc := ⟨.hbm, 816, rfl⟩
abbrev main_v523 : Ref sig .tc := ⟨.hbm, 817, rfl⟩
abbrev main_v524 : Ref sig .tc := ⟨.hbm, 818, rfl⟩
abbrev main_v525 : Ref sig .tc := ⟨.hbm, 819, rfl⟩
abbrev main_v526 : Ref sig .tc := ⟨.hbm, 820, rfl⟩
abbrev main_v527 : Ref sig .tc := ⟨.hbm, 821, rfl⟩
abbrev main_v528 : Ref sig .tc := ⟨.hbm, 822, rfl⟩
abbrev main_v529 : Ref sig .tc := ⟨.hbm, 823, rfl⟩
abbrev main_v530 : Ref sig .tc := ⟨.hbm, 824, rfl⟩
abbrev main_v531 : Ref sig .tc := ⟨.hbm, 825, rfl⟩
abbrev main_v532 : Ref sig .tc := ⟨.hbm, 826, rfl⟩
abbrev main_v533 : Ref sig .tc := ⟨.hbm, 827, rfl⟩
abbrev main_v534 : Ref sig .tc := ⟨.hbm, 828, rfl⟩
abbrev main_v535 : Ref sig .tc := ⟨.hbm, 829, rfl⟩
abbrev main_v536 : Ref sig .tc := ⟨.hbm, 830, rfl⟩
abbrev main_v537 : Ref sig .tc := ⟨.hbm, 831, rfl⟩
abbrev main_v538 : Ref sig .tc := ⟨.hbm, 832, rfl⟩
abbrev main_v539 : Ref sig .tc := ⟨.hbm, 833, rfl⟩
abbrev main_v540 : Ref sig .tc := ⟨.hbm, 834, rfl⟩
abbrev main_v541 : Ref sig .tc := ⟨.hbm, 835, rfl⟩
abbrev main_v542 : Ref sig .tc := ⟨.hbm, 836, rfl⟩
abbrev main_v543 : Ref sig .tc := ⟨.hbm, 837, rfl⟩
abbrev main_cst_58 : Ref sig .tc := ⟨.hbm, 838, rfl⟩
abbrev main_v544 : Ref sig .tc := ⟨.hbm, 839, rfl⟩
abbrev main_v545 : Ref sig .tc := ⟨.hbm, 840, rfl⟩
abbrev main_cst_59 : Ref sig .tc := ⟨.hbm, 841, rfl⟩
abbrev main_v546 : Ref sig .tc := ⟨.hbm, 842, rfl⟩
abbrev main_cst_60 : Ref sig .tc := ⟨.hbm, 843, rfl⟩
abbrev main_v547 : Ref sig .tc := ⟨.hbm, 844, rfl⟩
abbrev main_v548 : Ref sig .tc := ⟨.hbm, 845, rfl⟩
abbrev main_v549 : Ref sig .tc := ⟨.hbm, 846, rfl⟩
abbrev main_v550 : Ref sig .tc := ⟨.hbm, 847, rfl⟩
abbrev main_v551 : Ref sig .tc := ⟨.hbm, 848, rfl⟩
abbrev main_v552 : Ref sig .tc := ⟨.hbm, 849, rfl⟩
abbrev main_cst_61 : Ref sig .tc := ⟨.hbm, 850, rfl⟩
abbrev main_v553 : Ref sig .tc := ⟨.hbm, 851, rfl⟩
abbrev main_v554 : Ref sig .tc := ⟨.hbm, 852, rfl⟩
abbrev main_v555 : Ref sig .tc := ⟨.hbm, 853, rfl⟩
abbrev main_v556 : Ref sig .tc := ⟨.hbm, 854, rfl⟩
abbrev main_v557 : Ref sig .tc := ⟨.hbm, 855, rfl⟩
abbrev main_v558 : Ref sig .tc := ⟨.hbm, 856, rfl⟩
abbrev main_v559 : Ref sig .tc := ⟨.hbm, 857, rfl⟩
abbrev main_v560 : Ref sig .tc := ⟨.hbm, 858, rfl⟩
abbrev main_v561 : Ref sig .tc := ⟨.hbm, 859, rfl⟩
abbrev main_v562 : Ref sig .tc := ⟨.hbm, 860, rfl⟩
abbrev main_v563 : Ref sig .tc := ⟨.hbm, 861, rfl⟩
abbrev main_v564 : Ref sig .tc := ⟨.hbm, 862, rfl⟩
abbrev main_v565 : Ref sig .tc := ⟨.hbm, 863, rfl⟩
abbrev main_v566 : Ref sig .tc := ⟨.hbm, 864, rfl⟩
abbrev main_v567 : Ref sig .tc := ⟨.hbm, 865, rfl⟩
abbrev main_v568 : Ref sig .tc := ⟨.hbm, 866, rfl⟩
abbrev main_v569 : Ref sig .tc := ⟨.hbm, 867, rfl⟩
abbrev main_v570 : Ref sig .tc := ⟨.hbm, 868, rfl⟩
abbrev main_v571 : Ref sig .tc := ⟨.hbm, 869, rfl⟩
abbrev main_v572 : Ref sig .tc := ⟨.hbm, 870, rfl⟩
abbrev main_v573 : Ref sig .tc := ⟨.hbm, 871, rfl⟩
abbrev main_v574 : Ref sig .tc := ⟨.hbm, 872, rfl⟩
abbrev main_v575 : Ref sig .tc := ⟨.hbm, 873, rfl⟩
abbrev main_v576 : Ref sig .tc := ⟨.hbm, 874, rfl⟩
abbrev main_v577 : Ref sig .tc := ⟨.hbm, 875, rfl⟩
abbrev main_cst_62 : Ref sig .tc := ⟨.hbm, 876, rfl⟩
abbrev main_v578 : Ref sig .tc := ⟨.hbm, 877, rfl⟩
abbrev main_v579 : Ref sig .tc := ⟨.hbm, 878, rfl⟩
abbrev main_cst_63 : Ref sig .tc := ⟨.hbm, 879, rfl⟩
abbrev main_v580 : Ref sig .tc := ⟨.hbm, 880, rfl⟩
abbrev main_v581 : Ref sig .tc := ⟨.hbm, 881, rfl⟩
abbrev main_c_64 : Ref sig .tc := ⟨.hbm, 882, rfl⟩
abbrev main_call10_cst : Ref sig .tc := ⟨.hbm, 883, rfl⟩
abbrev main_call10_v0 : Ref sig .tc := ⟨.hbm, 884, rfl⟩
abbrev main_call10_v1 : Ref sig .tc := ⟨.hbm, 885, rfl⟩
abbrev main_call10_cst_0 : Ref sig .tc := ⟨.hbm, 886, rfl⟩
abbrev main_call10_v2 : Ref sig .tc := ⟨.hbm, 887, rfl⟩
abbrev main_call10_v3 : Ref sig .tc := ⟨.hbm, 888, rfl⟩
abbrev main_call10_v4 : Ref sig .tc := ⟨.hbm, 889, rfl⟩
abbrev main_call10_v5 : Ref sig .tc := ⟨.hbm, 890, rfl⟩
abbrev main_call10_v6 : Ref sig .tc := ⟨.hbm, 891, rfl⟩
abbrev main_call10_v7 : Ref sig .tc := ⟨.hbm, 892, rfl⟩
abbrev main_call10_cst_1 : Ref sig .tc := ⟨.hbm, 893, rfl⟩
abbrev main_call10_v8 : Ref sig .tc := ⟨.hbm, 894, rfl⟩
abbrev main_call10_cst_2 : Ref sig .tc := ⟨.hbm, 895, rfl⟩
abbrev main_call10_v9 : Ref sig .tc := ⟨.hbm, 896, rfl⟩
abbrev main_call10_v10 : Ref sig .tc := ⟨.hbm, 897, rfl⟩
abbrev main_call10_v11 : Ref sig .tc := ⟨.hbm, 898, rfl⟩
abbrev main_call10_v12 : Ref sig .tc := ⟨.hbm, 899, rfl⟩
abbrev main_call10_cst_3 : Ref sig .tc := ⟨.hbm, 900, rfl⟩
abbrev main_call10_v13 : Ref sig .tc := ⟨.hbm, 901, rfl⟩
abbrev main_call10_cst_4 : Ref sig .tc := ⟨.hbm, 902, rfl⟩
abbrev main_call10_call0_v0 : Ref sig .tc := ⟨.hbm, 903, rfl⟩
abbrev main_call10_call0_v1 : Ref sig .tc := ⟨.hbm, 904, rfl⟩
abbrev main_v582 : Ref sig .tc := ⟨.hbm, 905, rfl⟩
abbrev main_v583 : Ref sig .tc := ⟨.hbm, 906, rfl⟩
abbrev main_v584 : Ref sig .tc := ⟨.hbm, 907, rfl⟩
abbrev main_cst_65 : Ref sig .tc := ⟨.hbm, 908, rfl⟩
abbrev main_v585 : Ref sig .tc := ⟨.hbm, 909, rfl⟩
abbrev main_v586 : Ref sig .tc := ⟨.hbm, 910, rfl⟩
abbrev main_v587 : Ref sig .tc := ⟨.hbm, 911, rfl⟩
abbrev main_v588 : Ref sig .tc := ⟨.hbm, 912, rfl⟩
abbrev main_v589 : Ref sig .tc := ⟨.hbm, 913, rfl⟩
abbrev main_v590 : Ref sig .tc := ⟨.hbm, 914, rfl⟩
abbrev main_cst_66 : Ref sig .tc := ⟨.hbm, 915, rfl⟩
abbrev main_v591 : Ref sig .tc := ⟨.hbm, 916, rfl⟩
abbrev main_v592 : Ref sig .tc := ⟨.hbm, 917, rfl⟩
abbrev main_cst_67 : Ref sig .tc := ⟨.hbm, 918, rfl⟩
abbrev main_v593 : Ref sig .tc := ⟨.hbm, 919, rfl⟩
abbrev main_v594 : Ref sig .tc := ⟨.hbm, 920, rfl⟩
abbrev main_c_68 : Ref sig .tc := ⟨.hbm, 921, rfl⟩
abbrev main_call11_cst : Ref sig .tc := ⟨.hbm, 922, rfl⟩
abbrev main_call11_v0 : Ref sig .tc := ⟨.hbm, 923, rfl⟩
abbrev main_call11_v1 : Ref sig .tc := ⟨.hbm, 924, rfl⟩
abbrev main_call11_cst_0 : Ref sig .tc := ⟨.hbm, 925, rfl⟩
abbrev main_call11_v2 : Ref sig .tc := ⟨.hbm, 926, rfl⟩
abbrev main_call11_v3 : Ref sig .tc := ⟨.hbm, 927, rfl⟩
abbrev main_call11_v4 : Ref sig .tc := ⟨.hbm, 928, rfl⟩
abbrev main_call11_v5 : Ref sig .tc := ⟨.hbm, 929, rfl⟩
abbrev main_call11_v6 : Ref sig .tc := ⟨.hbm, 930, rfl⟩
abbrev main_call11_v7 : Ref sig .tc := ⟨.hbm, 931, rfl⟩
abbrev main_call11_cst_1 : Ref sig .tc := ⟨.hbm, 932, rfl⟩
abbrev main_call11_v8 : Ref sig .tc := ⟨.hbm, 933, rfl⟩
abbrev main_call11_cst_2 : Ref sig .tc := ⟨.hbm, 934, rfl⟩
abbrev main_call11_v9 : Ref sig .tc := ⟨.hbm, 935, rfl⟩
abbrev main_call11_v10 : Ref sig .tc := ⟨.hbm, 936, rfl⟩
abbrev main_call11_v11 : Ref sig .tc := ⟨.hbm, 937, rfl⟩
abbrev main_call11_v12 : Ref sig .tc := ⟨.hbm, 938, rfl⟩
abbrev main_call11_cst_3 : Ref sig .tc := ⟨.hbm, 939, rfl⟩
abbrev main_call11_v13 : Ref sig .tc := ⟨.hbm, 940, rfl⟩
abbrev main_call11_cst_4 : Ref sig .tc := ⟨.hbm, 941, rfl⟩
abbrev main_call11_call0_v0 : Ref sig .tc := ⟨.hbm, 942, rfl⟩
abbrev main_call11_call0_v1 : Ref sig .tc := ⟨.hbm, 943, rfl⟩
abbrev main_v595 : Ref sig .tc := ⟨.hbm, 944, rfl⟩
abbrev main_v596 : Ref sig .tc := ⟨.hbm, 945, rfl⟩
abbrev main_v597 : Ref sig .tc := ⟨.hbm, 946, rfl⟩
abbrev main_cst_69 : Ref sig .tc := ⟨.hbm, 947, rfl⟩
abbrev main_v598 : Ref sig .tc := ⟨.hbm, 948, rfl⟩
abbrev main_v599 : Ref sig .tc := ⟨.hbm, 949, rfl⟩
abbrev main_v600 : Ref sig .tc := ⟨.hbm, 950, rfl⟩
abbrev main_v601 : Ref sig .tc := ⟨.hbm, 951, rfl⟩
abbrev main_v602 : Ref sig .tc := ⟨.hbm, 952, rfl⟩
abbrev main_v603 : Ref sig .tc := ⟨.hbm, 953, rfl⟩
abbrev main_v604 : Ref sig .tc := ⟨.hbm, 954, rfl⟩
abbrev main_v605 : Ref sig .tc := ⟨.hbm, 955, rfl⟩
abbrev main_v606 : Ref sig .tc := ⟨.hbm, 956, rfl⟩
abbrev main_v607 : Ref sig .tc := ⟨.hbm, 957, rfl⟩
abbrev main_v608 : Ref sig .tc := ⟨.hbm, 958, rfl⟩

abbrev nD : Nat := 1
abbrev τ : Topo := Topo.v7x

variable {F : FTy → Type} [FloatOps F]
-- ==== Proof.Rows.lean ====
module

public import Idealize.ShloMosaic.PureOps.Ideal
public import Idealize.ShloMosaic.Lib.Pointwise

@[expose] public section

/-! The mathematics of the model's layers on single rows of extended reals. -/

noncomputable section

namespace Cert.Rows

open Idealize.ShloMosaic

/-- The mean of a row, by the count `c`. -/
def mean {n : Nat} (c : EReal) (x : Fin n → EReal) : EReal := Ideal.div (∑ k, x k) c

/-- Layer normalisation of a row without scale and shift: centred, divided by the root of the variance plus `e`. -/
def ln {n : Nat} (c e : EReal) (x : Fin n → EReal) (j : Fin n) : EReal :=
  Ideal.div (x j - mean c x) (Ideal.sqrt (Ideal.div (∑ k, (x k - mean c x) * (x k - mean c x)) c + e))

/-- A row times a matrix. -/
def mul {n p : Nat} (x : Fin n → EReal) (w : Fin n → Fin p → EReal) (j : Fin p) : EReal := ∑ k, x k * w k j

/-- The tanh form of the Gaussian error linear unit, its four constants as arguments. -/
def gelu (a b h o x : EReal) : EReal := x * (h * (o + Ideal.tanh (b * (x + a * (x * x * x)))))

/-- The softmax of a row of scores, shifted by the row's maximum. -/
def soft {T : Nat} (s : Fin T → EReal) (t : Fin T) : EReal :=
  Ideal.div (Ideal.exp (s t - Finset.univ.fold max ⊥ s)) (∑ t', Ideal.exp (s t' - Finset.univ.fold max ⊥ s))

/-- The lane that head `h` uses for its coordinate `d`, heads lying side by side. -/
def lane {n : Nat} (H D : Nat) (hn : H * D = n) (h : Fin H) (d : Fin D) : Fin n :=
  ⟨h.val * D + d.val, by
    have h1 := h.isLt; have h2 := d.isLt
    calc h.val * D + d.val < h.val * D + D := by omega
      _ = (h.val + 1) * D := by ring
      _ ≤ H * D := Nat.mul_le_mul_right _ h1
      _ = n := hn⟩

/-- The head a lane belongs to. -/
def head {n : Nat} (H D : Nat) (hn : H * D = n) (j : Fin n) : Fin H :=
  ⟨j.val / D, Nat.div_lt_of_lt_mul (by rw [Nat.mul_comm, hn]; exact j.isLt)⟩

/-- A head's score: the contraction of a query row and a key row over the head's own lanes. -/
def score {n : Nat} (H D : Nat) (hn : H * D = n) (q k : Fin n → EReal) (h : Fin H) : EReal :=
  ∑ d : Fin D, q (lane H D hn h d) * k (lane H D hn h d)

/-- Attention of one query row over `T` keys and values, head by head, scores multiplied by `c`. -/
def attn {n T : Nat} (H D : Nat) (hn : H * D = n) (c : EReal) (q : Fin n → EReal) (K V : Fin T → Fin n → EReal) (j : Fin n) : EReal :=
  ∑ t, soft (fun t' => score H D hn q (K t') (head H D hn j) * c) t * V t j

/-- Attention of one query row with the scores' exponentials shifted by `M`, whatever `M` is. -/
def attnShift {n T : Nat} (H D : Nat) (hn : H * D = n) (c M : EReal) (q : Fin n → EReal) (K V : Fin T → Fin n → EReal) (j : Fin n) : EReal :=
  ∑ t, Ideal.div (Ideal.exp (score H D hn q (K t) (head H D hn j) * c - M))
    (∑ t', Ideal.exp (score H D hn q (K t') (head H D hn j) * c - M)) * V t j

/-- The activation with its half multiplied first. -/
theorem gelu_half_first (a b h o x : EReal) : h * x * (o + Ideal.tanh (b * (x + a * (x * x * x)))) = gelu a b h o x := by
  rw [gelu, mul_comm h x, mul_assoc]

/-- What a block adds after its attention `a`: the output projection, then the two-layer network on the normalised row. -/
def tail {n p : Nat} (c e g₁ g₂ g₃ g₄ : EReal) (y a : Fin n → EReal) (Wo : Fin n → Fin n → EReal) (F₁ : Fin n → Fin p → EReal)
    (F₂ : Fin p → Fin n → EReal) (j : Fin n) : EReal :=
  (y j + mul a Wo j) + mul (fun k => gelu g₁ g₂ g₃ g₄ (mul (ln c e fun i => y i + mul a Wo i) F₁ k)) F₂ j

/-- The decoder on one row: cross-attention, two-layer network, normalisation and the output projection. -/
def logits {n p o T : Nat} (H D : Nat) (hn : H * D = n) (c e s g₁ g₂ g₃ g₄ : EReal) (y : Fin n → EReal) (K V : Fin T → Fin n → EReal)
    (Wq Wo : Fin n → Fin n → EReal) (F₁ : Fin n → Fin p → EReal) (F₂ : Fin p → Fin n → EReal) (W : Fin n → Fin o → EReal) (j : Fin o) : EReal :=
  mul (ln c e (tail c e g₁ g₂ g₃ g₄ y (attn H D hn s (mul (ln c e y) Wq) K V) Wo F₁ F₂)) W j

/-- The pattern of minus infinity. -/
theorem ofBits_neg_inf : Ideal.ofBits .f32 0xFF800000#32 = ⊥ := by simp [Ideal.ofBits, Ideal.ieee]

/-- The pattern of 768. -/
theorem ofBits_768 : Ideal.ofBits .f32 0x44400000#32 = ((768 : ℝ) : EReal) := by
  simp [Ideal.ofBits, Ideal.ieee, -EReal.coe_mul]; norm_num

/-- The pattern of 512. -/
theorem ofBits_512 : Ideal.ofBits .f32 0x44000000#32 = ((512 : ℝ) : EReal) := by
  simp [Ideal.ofBits, Ideal.ieee, -EReal.coe_mul]; norm_num

/-- One half has the same value in both formats. -/
theorem ofBits_half : Ideal.ofBits .f32 0x3F000000#32 = Ideal.ofBits .bf16 0x3F00#16 := by
  rw [show Ideal.ofBits .f32 0x3F000000#32 = ((1 / 2 : ℝ) : EReal) by
    simp [Ideal.ofBits, Ideal.ieee, -EReal.coe_mul]; norm_num]
  simp [Ideal.ofBits, Ideal.ieee, -EReal.coe_mul]; norm_num

/-- The variance's addend is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The cubic coefficient of the activation. -/
abbrev gC : EReal := ((12003091 / 268435456 : ℝ) : EReal)
/-- The inner scale of the activation. -/
abbrev gS : EReal := ((6693141 / 8388608 : ℝ) : EReal)
/-- One half in the activation's format. -/
abbrev half : EReal := Ideal.ofBits .bf16 0x3F00#16

/-- The cubic coefficient's pattern. -/
theorem ofBits_gC : Ideal.ofBits .f32 0x3D372713#32 = gC := by
  simp [Ideal.ofBits, Ideal.ieee, -EReal.coe_mul]; norm_num

/-- The inner scale's pattern. -/
theorem ofBits_gS : Ideal.ofBits .f32 0x3F4C422A#32 = gS := by
  simp [Ideal.ofBits, Ideal.ieee, -EReal.coe_mul]; norm_num

/-- A sum over lanes is a sum over heads of sums over the head's lanes. -/
theorem sum_lanes {n : Nat} (H D : Nat) (hn : H * D = n) (f : Fin n → EReal) :
    ∑ j, f j = ∑ h : Fin H, ∑ d : Fin D, f (lane H D hn h d) := by
  subst hn
  rw [← Equiv.sum_comp finProdFinEquiv, Fintype.sum_prod_type]
  refine Finset.sum_congr rfl fun h _ => Finset.sum_congr rfl fun d _ => congrArg f (Fin.ext ?_)
  show d.val + D * h.val = h.val * D + d.val
  rw [Nat.mul_comm, Nat.add_comm]

/-- The head of a head's lane. -/
theorem head_lane {n : Nat} (H D : Nat) (hn : H * D = n) (h : Fin H) (d : Fin D) : head H D hn (lane H D hn h d) = h := by
  apply Fin.ext
  show (h.val * D + d.val) / D = h.val
  have hD : 0 < D := lt_of_le_of_lt (Nat.zero_le _) d.isLt
  rw [Nat.add_comm, Nat.add_mul_div_right _ _ hD, Nat.div_eq_of_lt d.isLt, Nat.zero_add]

/-- The 0/1 mask of head `h` at a lane. -/
def mask {n : Nat} (H D : Nat) (hn : H * D = n) (h : Fin H) (j : Fin n) : EReal := if head H D hn j = h then 1 else 0

/-- A sum of terms each multiplied by the indicator of one head keeps that head's terms. -/
theorem sum_pick {H : Nat} (a : Fin H) (f : Fin H → EReal) : ∑ h, (if a = h then f h else 0) = f a := by
  rw [Finset.sum_ite_eq]; simp

/-- Contracting a query whose other heads are masked away over all lanes is the head's score. -/
theorem score_masked {n : Nat} (H D : Nat) (hn : H * D = n) (q k : Fin n → EReal) (h : Fin H) :
    ∑ j, q j * mask H D hn h j * k j = score H D hn q k h := by
  rw [sum_lanes H D hn]
  rw [Finset.sum_eq_single h]
  · refine Finset.sum_congr rfl fun d _ => ?_
    rw [mask, head_lane, if_pos rfl, mul_one]
  · intro h' _ hne
    refine Finset.sum_eq_zero fun d _ => ?_
    rw [mask, head_lane, if_neg hne, mul_zero, zero_mul]
  · intro hh; exact absurd (Finset.mem_univ _) hh

/-- Weights laid side by side head after head, times the masked values laid below each other head after head: at a lane
    only the lane's own head contributes. -/
theorem sum_stacked {n T N : Nat} (H D : Nat) (hn : H * D = n) (hN : H * T = N) (A : Fin H → Fin T → EReal) (V : Fin T → Fin n → EReal)
    (a : Fin N → EReal) (v : Fin N → EReal) (j : Fin n)
    (ha : ∀ h t, a (lane H T hN h t) = A h t) (hv : ∀ h t, v (lane H T hN h t) = V t j * mask H D hn h j) :
    ∑ c, a c * v c = ∑ t, A (head H D hn j) t * V t j := by
  rw [sum_lanes H T hN, Finset.sum_eq_single (head H D hn j)]
  · refine Finset.sum_congr rfl fun t _ => ?_
    rw [ha, hv, mask, if_pos rfl, mul_one]
  · intro h _ hne
    refine Finset.sum_eq_zero fun t _ => ?_
    rw [hv, mask, if_neg (fun e => hne e.symm), mul_zero, mul_zero]
  · intro hh; exact absurd (Finset.mem_univ _) hh

/-- Sums of all score lanes weighted with the indicator of equal heads: the head's own sum. -/
theorem sum_grouped {T N : Nat} (H : Nat) (hN : H * T = N) (e : Fin N → EReal) (g : Fin N → EReal) (h : Fin H)
    (hg : ∀ c, g c = if head H T hN c = h then 1 else 0) :
    ∑ c, e c * g c = ∑ t, e (lane H T hN h t) := by
  rw [sum_lanes H T hN, Finset.sum_eq_single h]
  · refine Finset.sum_congr rfl fun t _ => ?_
    rw [hg, head_lane, if_pos rfl, mul_one]
  · intro h' _ hne
    refine Finset.sum_eq_zero fun t _ => ?_
    rw [hg, head_lane, if_neg hne, mul_zero]
  · intro hh; exact absurd (Finset.mem_univ _) hh

/-- The lane of a lane's head and its coordinate is the lane. -/
theorem lane_head {n : Nat} (H D : Nat) (hn : H * D = n) (j : Fin n) (hj : j.val % D < D) :
    lane H D hn (head H D hn j) ⟨j.val % D, hj⟩ = j := by
  apply Fin.ext
  show j.val / D * D + j.val % D = j.val
  rw [Nat.mul_comm]; exact Nat.div_add_mod _ _

end Cert.Rows
-- ==== Proof.Lanes.lean ====
module

public import proofs.«01_k».proof.Proof.Rows

@[expose] public section

/-! The integer arithmetic of the head masks: the floor division of a lane number, and a comparison turned into a number. -/

noncomputable section

namespace Cert.Lanes

open Idealize.ShloMosaic

/-- Floor division of 32-bit words as it is spelt in a kernel body: the truncated quotient, less one where the signs differ and
    a remainder is left. -/
def fdiv (d x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector x d) 0#32))
    (IntOp.subi (IntOp.divsi ArithUnit.vector x d) 1#32)
    (IntOp.divsi ArithUnit.vector x d)

/-- The spelt-out floor division is `fdiv`. -/
theorem fdiv_fold (d x : BitVec 32) : Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt d 0#32)) (Scalar.extui (Scalar.cmpi CmpIPredicate.slt d 0#32))))
      (IntOp.cmpi CmpIPredicate.ne (IntOp.remsi ArithUnit.vector x d) 0#32))
    (IntOp.subi (IntOp.divsi ArithUnit.vector x d) 1#32)
    (IntOp.divsi ArithUnit.vector x d) = fdiv d x := rfl

/-- Lane numbers below 768 by 96. -/
theorem fdiv_96 : ∀ j : Fin 768, fdiv 96#32 (BitVec.ofNat 32 j) = BitVec.ofNat 32 (j / 96) := by decide +kernel

/-- Lane numbers below 512 by 64. -/
theorem fdiv_64 : ∀ j : Fin 512, fdiv 64#32 (BitVec.ofNat 32 j) = BitVec.ofNat 32 (j / 64) := by decide +kernel

/-- Numbers below 128 by 16. -/
theorem fdiv_16 : ∀ j : Fin 128, fdiv 16#32 (BitVec.ofNat 32 j) = BitVec.ofNat 32 (j / 16) := by decide +kernel

/-- A test for equality of two words, as a number: one or zero. -/
theorem flag (a b : BitVec 32) :
    FloatOps.sitofp (F := Ideal) FTy.f32 (BitVec.setWidth 32 (IntOp.cmpi CmpIPredicate.eq a b)) = if a = b then 1 else 0 := by
  by_cases h : a = b
  · subst h; simp [IntOp.cmpi, FloatOps.sitofp]
  · have hb : (a == b) = false := beq_eq_false_iff_ne.mpr h
    simp [IntOp.cmpi, FloatOps.sitofp, h, hb]

/-- Two small numbers are equal as words exactly when they are equal. -/
theorem ofNat_inj (a b : Nat) (ha : a < 4294967296) (hb : b < 4294967296) : BitVec.ofNat 32 a = BitVec.ofNat 32 b ↔ a = b := by
  constructor
  · intro h
    have := congrArg BitVec.toNat h
    simp only [BitVec.toNat_ofNat] at this
    omega
  · rintro rfl; rfl

end Cert.Lanes
-- ==== Proof.DecHeads.lean ====
module

public import proofs.«01_k».proof.Proof.Lanes
public import proofs.«01_k».proof.Proof.Gen.DecIdeal.Value

@[expose] public section

/-! The decoder's block computation: the values up to the attention weights, at an index. -/

noncomputable section

namespace Cert.DecBlock

open Idealize.ShloMosaic Cert.DecIdeal Cert.DecIdeal.Gen Cert.Rows Cert.Lanes

/-- The row length 768 as the programs spell it. -/
abbrev c768 : EReal := Ideal.ofBits .f32 0x44400000#32
/-- The variance's addend. -/
abbrev eps : EReal := Ideal.ofBits .f32 0x3727C5AC#32
/-- The score scale. -/
abbrev rs96 : EReal := (((Real.sqrt 96)⁻¹ : ℝ) : EReal)
/-- The head mask's flag at a lane. -/
theorem flag_lane (h : Fin 8) (j : Fin 768) :
    (if BitVec.ofNat 32 (j.val / 96) = BitVec.ofNat 32 h.val then (1 : EReal) else 0) = mask 8 96 rfl h j := by
  rw [mask]
  refine if_congr ?_ rfl rfl
  have h1 := j.isLt; have h2 := h.isLt
  rw [ofNat_inj _ _ (by omega) (by omega)]
  exact ⟨fun e => Fin.ext e, fun e => congrArg Fin.val e⟩

/-- The named scale's value. -/
theorem named_rs96 : Named.named (F := Ideal) (φ := .f32) κ "rs96" 0x3DD105EC#32 = rs96 := rfl

/-- The normalised and projected query rows. -/
theorem pay3_apply (v0 : Vec Ideal S1x1x1024 .i32) (v8 : Vec Ideal S256x768 .bf16) (v31 : Vec Ideal S768x768 .bf16) (r : Fin 1024) (j : Fin 768) :
    k0_pay3 v0 v8 v31 (ix2 r j) = mul (ln c768 eps fun k => k0_pay2 v0 v8 (ix2 r k)) (fun k j => v31 (ix2 k j)) j := by
  unfold k0_pay3
  generalize k0_pay2 v0 v8 = y
  pointwise [dot_S1024x768_S768x768_S1024x768_1_0_0_1_n_n, mul, ln, mean]

/-- The embedding rows: a one-hot matrix product picks the row the id names. -/
theorem pay2_apply (v0 : Vec Ideal S1x1x1024 .i32) (v8 : Vec Ideal S256x768 .bf16) (r : Fin 1024) (j : Fin 768) (i : Fin 256)
    (hi : v0 (ix3 0 0 r) = BitVec.ofNat 32 i.val) :
    k0_pay2 v0 v8 (ix2 r j) = v8 (ix2 i j) := by
  unfold k0_pay2
  pointwise [dot_S256x1024_S256x768_S1024x768_0_0_1_1_n_n, flag, hi]
  rw [Finset.sum_eq_single i]
  · rw [if_pos rfl, one_mul]
  · intro k _ hk
    rw [if_neg, zero_mul]
    have h1 := k.isLt; have h2 := i.isLt
    rw [ofNat_inj _ _ (by omega) (by omega)]
    exact fun e => hk (Fin.ext e)
  · intro hh; exact absurd (Finset.mem_univ _) hh

section
variable (x0 : Vec Ideal S1x1x1024 .i32) (x1 : Vec Ideal S1x16x768 .f32) (x2 : Vec Ideal S1x16x768 .f32) (x3 : Vec Ideal S256x768 .bf16) (x4 : Vec Ideal S768x768 .bf16) (x5 : Vec Ideal S768x768 .bf16) (x6 : Vec Ideal S768x2048 .bf16) (x7 : Vec Ideal S2048x768 .bf16) (x8 : Vec Ideal S768x256 .bf16)

/-- The eight masked copies of the values. -/
def vals (h : Fin 8) : FVec Ideal S16x768 .bf16 :=
  ![k0_pay59 x0 x1 x2 x3 x4 x5 x6 x7 x8, k0_pay64 x0 x1 x2 x3 x4 x5 x6 x7 x8, k0_pay67 x0 x1 x2 x3 x4 x5 x6 x7 x8, k0_pay70 x0 x1 x2 x3 x4 x5 x6 x7 x8, k0_pay72 x0 x1 x2 x3 x4 x5 x6 x7 x8, k0_pay73 x0 x1 x2 x3 x4 x5 x6 x7 x8, k0_pay78 x0 x1 x2 x3 x4 x5 x6 x7 x8, k0_pay81 x0 x1 x2 x3 x4 x5 x6 x7 x8] h

/-- The eight heads' scores. -/
def scores (q : FVec Ideal S1024x768 .f32) (K : FVec Ideal S16x768 .f32) (h : Fin 8) : FVec Ideal S1024x16 .f32 :=
  ![k0_pay8 q K, k0_pay14 q (k0_pay6 K) (iota .tc S1x768 32 [1] iota_S1x768_d1_w32) 96#32 k0_pay10 k0_pay11 k0_pay12,
    k0_pay19 q (k0_pay6 K) (iota .tc S1x768 32 [1] iota_S1x768_d1_w32) 96#32 k0_pay16 k0_pay17,
    k0_pay24 q (k0_pay6 K) k0_pay21 k0_pay22, k0_pay27 q (k0_pay6 K), k0_pay31 q (k0_pay6 K),
    k0_pay37 q (k0_pay6 K) (iota .tc S1x768 32 [1] iota_S1x768_d1_w32) 96#32 k0_pay33 k0_pay34 k0_pay35,
    mulf (matmul dot_S1024x768_S16x768_S1024x16_1_1_0_0_n_n none (truncf .bf16 (mulf q (broadcastTo S1024x768 (k0_pay41 (F := Ideal) (iota .tc S1x768 32 [1] iota_S1x768_d1_w32) 96#32 k0_pay39 k0_pay40) broadcasts_S1x768_S1024x768)) bitsLt_bf16_f32) (k0_pay6 K) (constant S1024x16 .f32 0x00000000#32)) (broadcast S1024x16 (Named.named (F := Ideal) κ "rs96" 0x3DD105EC#32 : Ideal .f32))] h

/-- Each masked copy at an index. -/
theorem vals_apply (h : Fin 8) (t : Fin 16) (j : Fin 768) :
    vals x0 x1 x2 x3 x4 x5 x6 x7 x8 h (ix2 t j) = k0_pay57 x0 x1 x2 x3 x4 x5 x6 x7 x8 (ix2 t j) * mask 8 96 rfl h j := by
  rw [← flag_lane, ← fdiv_96]
  fin_cases h <;>
  pointwise [vals, k0_pay59, k0_pay64, k0_pay67, k0_pay70, k0_pay72, k0_pay73, k0_pay78, k0_pay81, k0_pay9, k0_pay7, k0_pay5, k0_pay57,
    k0_pay15, k0_pay13, k0_pay10, k0_pay11, k0_pay12, k0_pay56, k0_pay60, k0_pay61, k0_pay62, k0_pay63, k0_pay65, k0_pay66, k0_pay68, k0_pay69,
    k0_pay20, k0_pay18, k0_pay16, k0_pay17, k0_pay25, k0_pay23, k0_pay21, k0_pay22, k0_pay29, k0_pay28, k0_pay26, k0_pay32, k0_pay30, k0_pay71,
    k0_pay38, k0_pay36, k0_pay33, k0_pay34, k0_pay35, k0_pay74, k0_pay75, k0_pay76, k0_pay42, k0_pay41, k0_pay39, k0_pay40, k0_pay77, k0_pay79, k0_pay80,
    fdiv_fold, flag, Fin.reduceFinMk]

/-- Each head's scores at an index. -/
theorem scores_apply (q : FVec Ideal S1024x768 .f32) (K : FVec Ideal S16x768 .f32) (h : Fin 8) (r : Fin 1024) (t : Fin 16) :
    scores q K h (ix2 r t) = score 8 96 rfl (fun j => q (ix2 r j)) (fun j => K (ix2 t j)) h * rs96 := by
  rw [← score_masked]
  simp only [← flag_lane, ← fdiv_96]
  fin_cases h <;>
  pointwise [scores, k0_pay8, k0_pay14, k0_pay19, k0_pay24, k0_pay27, k0_pay31, k0_pay37, k0_pay6, k0_pay7, k0_pay13, k0_pay10, k0_pay11, k0_pay12,
    k0_pay18, k0_pay16, k0_pay17, k0_pay23, k0_pay21, k0_pay22, k0_pay26, k0_pay30, k0_pay36, k0_pay33, k0_pay34, k0_pay35, k0_pay41, k0_pay39, k0_pay40,
    dot_S1024x768_S16x768_S1024x16_1_1_0_0_n_n, fdiv_fold, flag, named_rs96, Fin.reduceFinMk]
end

end Cert.DecBlock
-- ==== Proof.DecBlock.lean ====
module

public import proofs.«01_k».proof.Proof.DecHeads

@[expose] public section

/-! The decoder's block computation: from the attention weights to the logits, at an index. -/

noncomputable section

namespace Cert.DecBlock

open Idealize.ShloMosaic Cert.DecIdeal Cert.DecIdeal.Gen Cert.Rows Cert.Lanes

/-- Eight score matrices side by side, at an index. -/
theorem cat_scores (f : Fin 8 → FVec Ideal S1024x16 .f32)
    (h : Shape.Concatenates ((List.ofFn fun n : Fin 8 => (⟨S1024x16, f n⟩ : (s : Shape) × (s.Idx → EReal))).map (·.1)) S1024x128 1)
    (r : Fin 1024) (a : Fin 8) (t : Fin 16) :
    concatenate S1024x128 1 (List.ofFn fun n : Fin 8 => (⟨S1024x16, f n⟩ : (s : Shape) × (s.Idx → EReal))) h (ix2 r (lane 8 16 rfl a t))
      = f a (ix2 r t) := by
  have ht := t.isLt
  refine concatenate_ofFn_apply 1 f h rfl 16 rfl _ a ?_ _ ?_ ?_
  · show (a.val * 16 + t.val) / 16 = a.val
    omega
  · show t.val = (a.val * 16 + t.val) % 16
    omega
  · intro b hb
    match b with
    | ⟨0, _⟩ => rfl
    | ⟨1, _⟩ => exact absurd rfl hb

/-- Eight value matrices below each other, at an index. -/
theorem cat_vals (f : Fin 8 → FVec Ideal S16x768 .bf16)
    (h : Shape.Concatenates ((List.ofFn fun n : Fin 8 => (⟨S16x768, f n⟩ : (s : Shape) × (s.Idx → EReal))).map (·.1)) S128x768 0)
    (a : Fin 8) (t : Fin 16) (j : Fin 768) :
    concatenate S128x768 0 (List.ofFn fun n : Fin 8 => (⟨S16x768, f n⟩ : (s : Shape) × (s.Idx → EReal))) h (ix2 (lane 8 16 rfl a t) j)
      = f a (ix2 t j) := by
  have ht := t.isLt
  refine concatenate_ofFn_apply 0 f h rfl 16 rfl _ a ?_ _ ?_ ?_
  · show (a.val * 16 + t.val) / 16 = a.val
    omega
  · show t.val = (a.val * 16 + t.val) % 16
    omega
  · intro b hb
    match b with
    | ⟨0, _⟩ => exact absurd rfl hb
    | ⟨1, _⟩ => rfl

section
variable (x0 : Vec Ideal S1x1x1024 .i32) (x1 : Vec Ideal S1x16x768 .f32) (x2 : Vec Ideal S1x16x768 .f32) (x3 : Vec Ideal S256x768 .bf16) (x4 : Vec Ideal S768x768 .bf16) (x5 : Vec Ideal S768x768 .bf16) (x6 : Vec Ideal S768x2048 .bf16) (x7 : Vec Ideal S2048x768 .bf16) (x8 : Vec Ideal S768x256 .bf16)

/-- The concatenated scores. -/
def sc (q : FVec Ideal S1024x768 .f32) (K : FVec Ideal S16x768 .f32) : FVec Ideal S1024x128 .f32 :=
  concatenate S1024x128 1 (List.ofFn fun n : Fin 8 => (⟨S1024x16, scores q K n⟩ : (s : Shape) × (s.Idx → EReal)))
    concatenates_S1024x16_S1024x16_S1024x16_S1024x16_S1024x16_S1024x16_S1024x16_S1024x16_S1024x128_d1

/-- The stacked masked values. -/
def vcat : FVec Ideal S128x768 .bf16 :=
  concatenate S128x768 0 (List.ofFn fun n : Fin 8 => (⟨S16x768, vals x0 x1 x2 x3 x4 x5 x6 x7 x8 n⟩ : (s : Shape) × (s.Idx → EReal)))
    concatenates_S16x768_S16x768_S16x768_S16x768_S16x768_S16x768_S16x768_S16x768_S128x768_d0

/-- The exponentials of the scores, shifted by the maximum over all heads. -/
theorem pay82_apply (r : Fin 1024) (c : Fin 128) :
    k0_pay82 x0 x1 x2 x3 x4 x5 x6 x7 x8 (ix2 r c)
      = Ideal.exp (sc (k0_pay54 x0 x1 x2 x3 x4 x5 x6 x7 x8) (k0_pay55 x0 x1 x2 x3 x4 x5 x6 x7 x8) (ix2 r c)
          - Finset.univ.fold max ⊥ fun c' => sc (k0_pay54 x0 x1 x2 x3 x4 x5 x6 x7 x8) (k0_pay55 x0 x1 x2 x3 x4 x5 x6 x7 x8) (ix2 r c')) := by
  have e : k0_pay82 x0 x1 x2 x3 x4 x5 x6 x7 x8
      = exp (subf (sc (k0_pay54 x0 x1 x2 x3 x4 x5 x6 x7 x8) (k0_pay55 x0 x1 x2 x3 x4 x5 x6 x7 x8)) (broadcastTo S1024x128 (shapeCast S1024x1 (multiReduction .maximumf [1] S1024 (sc (k0_pay54 x0 x1 x2 x3 x4 x5 x6 x7 x8) (k0_pay55 x0 x1 x2 x3 x4 x5 x6 x7 x8)) 0xFF800000#32 reduces_S1024x128_S1024 (.inl rfl) rfl) shapeCasts_S1024_S1024x1) broadcasts_S1024x1_S1024x128)) := rfl
  rw [e]
  generalize sc (k0_pay54 x0 x1 x2 x3 x4 x5 x6 x7 x8) (k0_pay55 x0 x1 x2 x3 x4 x5 x6 x7 x8) = s
  pointwise [ofBits_neg_inf]

/-- The flag of two numbers with equal quotient by 16. -/
theorem flag_16 (c : Fin 128) (h : Fin 8) (t : Fin 16) :
    (if BitVec.ofNat 32 (c.val / 16) = BitVec.ofNat 32 ((lane 8 16 rfl h t : Fin 128).val / 16) then (1 : EReal) else 0)
      = if head 8 16 rfl c = h then 1 else 0 := by
  refine if_congr ?_ rfl rfl
  have h1 := c.isLt; have h2 := (lane 8 16 rfl h t : Fin 128).isLt
  rw [ofNat_inj _ _ (by omega) (by omega)]
  have e : (lane 8 16 rfl h t : Fin 128).val / 16 = h.val := congrArg Fin.val (head_lane 8 16 rfl h t)
  rw [e]
  exact ⟨fun e => Fin.ext e, fun e => congrArg Fin.val e⟩

/-- The maximum of a row's scores over all heads. -/
def allMax (r : Fin 1024) : EReal :=
  Finset.univ.fold max ⊥ fun c' => sc (k0_pay54 x0 x1 x2 x3 x4 x5 x6 x7 x8) (k0_pay55 x0 x1 x2 x3 x4 x5 x6 x7 x8) (ix2 r c')

/-- The residual rows after the attention and its output projection. -/
theorem pay86_apply (r : Fin 1024) (j : Fin 768) :
    k0_pay86 x0 x1 x2 x3 x4 x5 x6 x7 x8 (ix2 r j)
      = k0_pay53 x0 x1 x2 x3 x4 x5 x6 x7 x8 (ix2 r j)
        + mul (attnShift 8 96 rfl rs96 (allMax x0 x1 x2 x3 x4 x5 x6 x7 x8 r) (fun i => k0_pay54 x0 x1 x2 x3 x4 x5 x6 x7 x8 (ix2 r i))
            (fun t i => k0_pay55 x0 x1 x2 x3 x4 x5 x6 x7 x8 (ix2 t i)) (fun t i => k0_pay57 x0 x1 x2 x3 x4 x5 x6 x7 x8 (ix2 t i)))
          (fun k j => x5 (ix2 k j)) j := by
  have e : vcat x0 x1 x2 x3 x4 x5 x6 x7 x8 = concatenate S128x768 0 [⟨S16x768, k0_pay59 x0 x1 x2 x3 x4 x5 x6 x7 x8⟩, ⟨S16x768, k0_pay64 x0 x1 x2 x3 x4 x5 x6 x7 x8⟩, ⟨S16x768, k0_pay67 x0 x1 x2 x3 x4 x5 x6 x7 x8⟩, ⟨S16x768, k0_pay70 x0 x1 x2 x3 x4 x5 x6 x7 x8⟩, ⟨S16x768, k0_pay72 x0 x1 x2 x3 x4 x5 x6 x7 x8⟩, ⟨S16x768, k0_pay73 x0 x1 x2 x3 x4 x5 x6 x7 x8⟩, ⟨S16x768, k0_pay78 x0 x1 x2 x3 x4 x5 x6 x7 x8⟩, ⟨S16x768, k0_pay81 x0 x1 x2 x3 x4 x5 x6 x7 x8⟩] concatenates_S16x768_S16x768_S16x768_S16x768_S16x768_S16x768_S16x768_S16x768_S128x768_d0 := rfl
  have hv : ∀ (h : Fin 8) (t : Fin 16) (i : Fin 768), vcat x0 x1 x2 x3 x4 x5 x6 x7 x8 (ix2 (lane 8 16 rfl h t) i)
      = k0_pay57 x0 x1 x2 x3 x4 x5 x6 x7 x8 (ix2 t i) * mask 8 96 rfl h i :=
    fun h t i => (cat_vals _ _ h t i).trans (vals_apply x0 x1 x2 x3 x4 x5 x6 x7 x8 h t i)
  have hs : ∀ (h : Fin 8) (t : Fin 16), k0_pay82 x0 x1 x2 x3 x4 x5 x6 x7 x8 (ix2 r (lane 8 16 rfl h t))
      = Ideal.exp (score 8 96 rfl (fun i => k0_pay54 x0 x1 x2 x3 x4 x5 x6 x7 x8 (ix2 r i))
          (fun i => k0_pay55 x0 x1 x2 x3 x4 x5 x6 x7 x8 (ix2 t i)) h * rs96 - allMax x0 x1 x2 x3 x4 x5 x6 x7 x8 r) := by
    intro h t
    rw [pay82_apply, ← scores_apply]
    exact congrArg (fun z => Ideal.exp (z - _)) (cat_scores _ _ r h t)
  unfold k0_pay86 k0_pay47
  rw [← e]
  generalize vcat x0 x1 x2 x3 x4 x5 x6 x7 x8 = vc at hv
  generalize k0_pay82 x0 x1 x2 x3 x4 x5 x6 x7 x8 = ex at hs
  generalize k0_pay53 x0 x1 x2 x3 x4 x5 x6 x7 x8 = y
  pointwise [k0_pay83, k0_pay84, k0_pay85, k0_pay44, k0_pay45, k0_pay46, fdiv_fold, flag, fdiv_16, dot_S1024x128_S128x128_S1024x128_1_0_0_1_n_n, dot_S1024x128_S128x768_S1024x768_1_0_0_1_n_n, dot_S1024x768_S768x768_S1024x768_1_0_0_1_n_n]
  refine congrArg (y (ix2 r j) + ·) (Finset.sum_congr rfl fun k _ => congrArg (· * _) ?_)
  refine sum_stacked 8 96 rfl rfl
    (fun h t => Ideal.div (Ideal.exp (score 8 96 rfl (fun i => k0_pay54 x0 x1 x2 x3 x4 x5 x6 x7 x8 (ix2 r i))
          (fun i => k0_pay55 x0 x1 x2 x3 x4 x5 x6 x7 x8 (ix2 t i)) h * rs96 - allMax x0 x1 x2 x3 x4 x5 x6 x7 x8 r))
        (∑ t', Ideal.exp (score 8 96 rfl (fun i => k0_pay54 x0 x1 x2 x3 x4 x5 x6 x7 x8 (ix2 r i))
          (fun i => k0_pay55 x0 x1 x2 x3 x4 x5 x6 x7 x8 (ix2 t' i)) h * rs96 - allMax x0 x1 x2 x3 x4 x5 x6 x7 x8 r)))
    (fun t i => k0_pay57 x0 x1 x2 x3 x4 x5 x6 x7 x8 (ix2 t i)) _ _ k (fun h t => ?_) (fun h t => hv h t k)
  simp only [flag_16]
  rw [hs, sum_grouped 8 rfl (fun c => ex (ix2 r c)) (fun c => if head 8 16 rfl c = h then 1 else 0) h (fun c => rfl)]
  simp only [hs]
end

/-- The block's result from the residual rows `y` after the attention. -/
theorem pay1_apply (y : FVec Ideal S1024x768 .f32) (F₁ : Vec Ideal S768x2048 .bf16) (F₂ : Vec Ideal S2048x768 .bf16) (W : Vec Ideal S768x256 .bf16)
    (m : FVec Ideal S1024x1 .f32) (hm : ∀ r : Fin 1024, m (ix2 r 0) = ∑ k : Fin 768, y (ix2 r k)) (r : Fin 1024) (j : Fin 256) :
    k0_pay1 (k0_pay50 y m k0_pay49 F₁ F₂) (k0_pay51 y m k0_pay49 F₁ F₂) (k0_pay52 y m k0_pay49 F₁ F₂) W (ix3 0 r j)
      = mul (ln c768 eps fun i => k0_pay50 y m k0_pay49 F₁ F₂ (ix2 r i)) (fun k j => W (ix2 k j)) j := by
  unfold k0_pay1 k0_pay52 k0_pay51
  generalize k0_pay50 y m k0_pay49 F₁ F₂ = z
  pointwise [dot_S1024x768_S768x256_S1024x256_1_0_0_1_n_n, mul, ln, mean]

/-- The residual rows after the two-layer network. -/
theorem pay50_apply (y : FVec Ideal S1024x768 .f32) (F₁ : Vec Ideal S768x2048 .bf16) (F₂ : Vec Ideal S2048x768 .bf16)
    (m : FVec Ideal S1024x1 .f32) (hm : ∀ r : Fin 1024, m (ix2 r 0) = ∑ k : Fin 768, y (ix2 r k)) (r : Fin 1024) (j : Fin 768) :
    k0_pay50 y m k0_pay49 F₁ F₂ (ix2 r j)
      = y (ix2 r j) + mul (fun k => gelu gC gS half 1 (mul (ln c768 eps fun i => y (ix2 r i)) (fun k j => F₁ (ix2 k j)) k)) (fun k j => F₂ (ix2 k j)) j := by
  unfold k0_pay50
  pointwise [dot_S1024x2048_S2048x768_S1024x768_1_0_0_1_n_n, dot_S1024x768_S768x2048_S1024x2048_1_0_0_1_n_n, mul, k0_pay49, hm]
  exact congrArg (y (ix2 r j) + ·) (Finset.sum_congr rfl fun k _ => congrArg (· * _) (gelu_half_first gC gS half 1 _))

end Cert.DecBlock
-- ==== Proof.Finite.lean ====
module

public import proofs.«01_k».proof.Proof.Rows

@[expose] public section

/-! Which rows are finite, and the softmax of finite scores under any finite shift. -/

noncomputable section

namespace Cert.Rows

open Idealize.ShloMosaic

/-- An extended real that is a real. -/
def IsReal (x : EReal) : Prop := ∃ r : ℝ, x = (r : EReal)

/-- The sum of reals, read as extended reals. -/
theorem coe_sum {n : Nat} (a : Fin n → ℝ) : ((∑ k, a k : ℝ) : EReal) = ∑ k, (a k : EReal) := by
  classical
  induction (Finset.univ : Finset (Fin n)) using Finset.induction_on with
  | empty => simp
  | insert i s hi ih => rw [Finset.sum_insert hi, Finset.sum_insert hi, EReal.coe_add, ih]

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- An extended real is a real or one of the infinities. -/
theorem isReal_or (x : EReal) : IsReal x ∨ x = ⊥ ∨ x = ⊤ := by
  induction x with
  | bot => exact Or.inr (Or.inl rfl)
  | top => exact Or.inr (Or.inr rfl)
  | coe r => exact Or.inl ⟨r, rfl⟩

/-- A number of absolute value below infinity is a real. -/
theorem isReal_of_abs {x : EReal} (h : x ≠ ⊥) (h' : x ≠ ⊤) : IsReal x := by
  rcases isReal_or x with h1 | h1 | h1
  · exact h1
  · exact absurd h1 h
  · exact absurd h1 h'

/-- A finite row times a finite matrix is finite. -/
theorem isReal_mul {n p : Nat} {x : Fin n → EReal} {w : Fin n → Fin p → EReal} (hx : ∀ k, IsReal (x k)) (hw : ∀ k j, IsReal (w k j)) (j : Fin p) :
    IsReal (mul x w j) := IsReal.sum _ fun k => (hx k).mul (hw k j)

/-- Two finite rows' score is finite. -/
theorem isReal_score {n : Nat} (H D : Nat) (hn : H * D = n) {q k : Fin n → EReal} (hq : ∀ j, IsReal (q j)) (hk : ∀ j, IsReal (k j)) (h : Fin H) :
    IsReal (score H D hn q k h) := IsReal.sum _ fun d => (hq _).mul (hk _)

/-- The sum of a row with an infinite entry is infinite. -/
theorem sum_infinite {n : Nat} {x : Fin n → EReal} (k : Fin n) (hk : ¬ IsReal (x k)) : (∑ i, x i) = ⊥ ∨ (∑ i, x i) = ⊤ := by
  rw [← Finset.add_sum_erase Finset.univ x (Finset.mem_univ k)]
  generalize ∑ i ∈ Finset.univ.erase k, x i = R
  rcases isReal_or (x k) with h | h | h
  · exact absurd h hk
  · rw [h]; exact Or.inl (EReal.bot_add R)
  · rw [h]
    by_cases hR : R = ⊥
    · rw [hR]; exact Or.inl (EReal.add_bot _)
    · exact Or.inr (EReal.top_add_of_ne_bot hR)

/-- A sum of infinities of one sign. -/
theorem sum_top {n : Nat} {x : Fin n → EReal} (k : Fin n) (h : ∀ i, x i = ⊤) : (∑ i, x i) = ⊤ := by
  rw [← Finset.add_sum_erase Finset.univ x (Finset.mem_univ k), h k]
  refine EReal.top_add_of_ne_bot fun hb => ?_
  have : (0 : EReal) ≤ ∑ i ∈ Finset.univ.erase k, x i := Finset.sum_nonneg fun i _ => by rw [h i]; exact le_top
  rw [hb] at this
  exact absurd this (by simp)

/-- Anything over plus infinity is zero. -/
theorem div_top (x : EReal) : Ideal.div x ⊤ = 0 := by
  rw [Ideal.div, if_neg (by simp), EReal.inv_top, mul_zero]

/-- A normalised row is finite, whatever the row: a row with an infinite entry is normalised to zero. -/
theorem isReal_ln {n : Nat} {c e : EReal} (hc : ∃ r : ℝ, 0 < r ∧ c = r) (he : ∃ r : ℝ, 0 < r ∧ e = r) (x : Fin n → EReal) (j : Fin n) :
    IsReal (ln c e x j) := by
  obtain ⟨c, hc, rfl⟩ := hc
  obtain ⟨e, he, rfl⟩ := he
  have hc1 : (0 : ℝ) < 1 / c := by positivity
  by_cases hx : ∀ k, IsReal (x k)
  · choose a ha using hx
    obtain rfl : x = fun k => (a k : EReal) := funext ha
    have hm : mean (c : EReal) (fun k => (a k : EReal)) = (((∑ k, a k) * (1 / c) : ℝ) : EReal) := by
      rw [mean, Ideal.div_coe hc.ne', EReal.coe_mul, coe_sum]
    rw [ln, hm]
    generalize (∑ k, a k) * (1 / c) = m
    have hv : Ideal.div (∑ k, ((a k : EReal) - (m : EReal)) * ((a k : EReal) - (m : EReal))) (c : EReal) + (e : EReal)
        = (((∑ k, (a k - m) * (a k - m)) * (1 / c) + e : ℝ) : EReal) := by
      rw [Ideal.div_coe hc.ne', EReal.coe_add, EReal.coe_mul, coe_sum]
      rfl
    rw [hv]
    have hpos : 0 < (∑ k, (a k - m) * (a k - m)) * (1 / c) + e :=
      add_pos_of_nonneg_of_pos (mul_nonneg (Finset.sum_nonneg fun k _ => mul_self_nonneg _) hc1.le) he
    generalize (∑ k, (a k - m) * (a k - m)) * (1 / c) + e = v at hpos
    have hs : Ideal.sqrt (v : EReal) = ((Real.sqrt v : ℝ) : EReal) := if_neg (not_lt.mpr hpos.le)
    rw [hs, Ideal.div_coe (Real.sqrt_pos.mpr hpos).ne']
    exact IsReal.mul (IsReal.sub ⟨_, rfl⟩ ⟨_, rfl⟩) ⟨_, rfl⟩
  · push Not at hx
    obtain ⟨k, hk⟩ := hx
    have hsq : ∀ i, (x i - mean (c : EReal) x) * (x i - mean (c : EReal) x) = ⊤ := by
      intro i
      have hm : mean (c : EReal) x = ⊥ ∨ mean (c : EReal) x = ⊤ := by
        rw [mean, Ideal.div_coe hc.ne']
        rcases sum_infinite k hk with h | h
        · rw [h]; exact Or.inl (EReal.bot_mul_coe_of_pos hc1)
        · rw [h]; exact Or.inr (EReal.top_mul_coe_of_pos hc1)
      rcases hm with h | h <;> rw [h]
      · rcases isReal_or (x i) with ⟨r, h1⟩ | h1 | h1 <;> rw [h1]
        · rfl
        · rfl
        · rfl
      · rcases isReal_or (x i) with ⟨r, h1⟩ | h1 | h1 <;> rw [h1]
        · rfl
        · rfl
        · rfl
    refine ⟨0, ?_⟩
    rw [ln, sum_top k hsq, Ideal.div_coe hc.ne', EReal.top_mul_coe_of_pos hc1, EReal.top_add_coe]
    exact div_top _

/-- Weights of finite scores do not depend on the finite shift. -/
theorem shift_eq {T : Nat} (a : Fin T → ℝ) (M : ℝ) (t : Fin T) :
    Ideal.div (Ideal.exp ((a t : EReal) - (M : EReal))) (∑ t', Ideal.exp ((a t' : EReal) - (M : EReal)))
      = ((Real.exp (a t) * (1 / ∑ t', Real.exp (a t')) : ℝ) : EReal) := by
  have he : ∀ t, Ideal.exp ((a t : EReal) - (M : EReal)) = ((Real.exp (a t) * Real.exp (-M) : ℝ) : EReal) := by
    intro t
    rw [← Real.exp_add]
    rfl
  have hpos : 0 < ∑ t', Real.exp (a t') := Finset.sum_pos (fun i _ => Real.exp_pos _) ⟨t, Finset.mem_univ t⟩
  have hM := Real.exp_pos (-M)
  have hs : ∑ t', Ideal.exp ((a t' : EReal) - (M : EReal)) = (((∑ t', Real.exp (a t')) * Real.exp (-M) : ℝ) : EReal) := by
    rw [Finset.sum_mul, coe_sum]
    exact Finset.sum_congr rfl fun t _ => he t
  rw [hs, he, Ideal.div_coe (mul_pos hpos hM).ne', ← EReal.coe_mul]
  congr 1
  field_simp

/-- The maximum of finitely many reals, at least one, is a real. -/
theorem isReal_max {T : Nat} (hT : 0 < T) {s : Fin T → EReal} (hs : ∀ t, IsReal (s t)) : IsReal (Finset.univ.fold max ⊥ s) := by
  refine isReal_of_abs ?_ ?_
  · have h : ⊥ < Finset.univ.fold max ⊥ s := by
      rw [Finset.lt_fold_max]
      obtain ⟨r, hr⟩ := hs ⟨0, hT⟩
      exact Or.inr ⟨⟨0, hT⟩, Finset.mem_univ _, by rw [hr]; exact EReal.bot_lt_coe r⟩
    exact h.ne'
  · have h : Finset.univ.fold max ⊥ s < ⊤ := by
      rw [Finset.fold_max_lt]
      refine ⟨bot_lt_top, fun t _ => ?_⟩
      obtain ⟨r, hr⟩ := hs t
      rw [hr]; exact EReal.coe_lt_top r
    exact h.ne

/-- So any finite shift gives the softmax. -/
theorem soft_shift {T : Nat} {s : Fin T → EReal} (hs : ∀ t, IsReal (s t)) {M : EReal} (hM : IsReal M) (t : Fin T) :
    Ideal.div (Ideal.exp (s t - M)) (∑ t', Ideal.exp (s t' - M)) = soft s t := by
  obtain ⟨m, hm⟩ := isReal_max (lt_of_le_of_lt (Nat.zero_le _) t.isLt) hs
  obtain ⟨M, rfl⟩ := hM
  choose a ha using hs
  obtain rfl : s = fun k => (a k : EReal) := funext ha
  rw [soft, hm, shift_eq, shift_eq]

/-- Attention of finite queries and keys under any finite shift is attention. -/
theorem attn_shift {n T : Nat} (H D : Nat) (hn : H * D = n) {c M : EReal} {q : Fin n → EReal} {K : Fin T → Fin n → EReal} (V : Fin T → Fin n → EReal)
    (hc : IsReal c) (hM : IsReal M) (hq : ∀ j, IsReal (q j)) (hK : ∀ t j, IsReal (K t j)) (j : Fin n) :
    attnShift H D hn c M q K V j = attn H D hn c q K V j :=
  Finset.sum_congr rfl fun t _ => congrArg (· * V t j) (soft_shift (fun t => (isReal_score H D hn hq (hK t) _).mul hc) hM t)

end Cert.Rows
-- ==== Proof.DecOut.lean ====
module

public import proofs.«01_k».proof.Proof.DecBlock
public import proofs.«01_k».proof.Proof.Finite

@[expose] public section

/-! The decoder's block computation: the whole block's result from its operands. -/

noncomputable section

namespace Cert.DecBlock

open Idealize.ShloMosaic Cert.DecIdeal Cert.DecIdeal.Gen Cert.Rows Cert.Lanes

/-- The row length is a positive real. -/
theorem c768_pos : ∃ r : ℝ, 0 < r ∧ c768 = r := ⟨768, by norm_num, ofBits_768⟩

/-- The variance's addend is a positive real. -/
theorem eps_pos : ∃ r : ℝ, 0 < r ∧ eps = r := ofBits_eps

variable (x0 : Vec Ideal S1x1x1024 .i32) (x1 : Vec Ideal S1x16x768 .f32) (x2 : Vec Ideal S1x16x768 .f32) (x3 : Vec Ideal S256x768 .bf16) (x4 : Vec Ideal S768x768 .bf16) (x5 : Vec Ideal S768x768 .bf16) (x6 : Vec Ideal S768x2048 .bf16) (x7 : Vec Ideal S2048x768 .bf16) (x8 : Vec Ideal S768x256 .bf16)

/-- The queries of the block. -/
theorem pay54_apply (r : Fin 1024) (j : Fin 768) :
    k0_pay54 x0 x1 x2 x3 x4 x5 x6 x7 x8 (ix2 r j) = mul (ln c768 eps fun k => k0_pay53 x0 x1 x2 x3 x4 x5 x6 x7 x8 (ix2 r k)) (fun k j => x4 (ix2 k j)) j := by
  unfold k0_pay54 k0_pay53
  rw [pay3_apply, show View.ld x4 r0_2 = x4 from View.ld_unit_zero (by funext a; fin_cases a <;> rfl) _ _]

/-- The keys of the block. -/
theorem pay55_apply (t : Fin 16) (j : Fin 768) : k0_pay55 x0 x1 x2 x3 x4 x5 x6 x7 x8 (ix2 t j) = x1 (ix3 0 t j) := by
  unfold k0_pay55 k0_pay4
  pointwise

/-- The values of the block. -/
theorem pay57_apply (t : Fin 16) (j : Fin 768) : k0_pay57 x0 x1 x2 x3 x4 x5 x6 x7 x8 (ix2 t j) = x2 (ix3 0 t j) := by
  unfold k0_pay57 k0_pay5
  pointwise

/-- The residual rows of the block: the embeddings of its ids. -/
theorem pay53_apply (r : Fin 1024) (j : Fin 768) (i : Fin 256) (hi : x0 (ix3 0 0 r) = BitVec.ofNat 32 i.val) :
    k0_pay53 x0 x1 x2 x3 x4 x5 x6 x7 x8 (ix2 r j) = x3 (ix2 i j) := by
  unfold k0_pay53
  rw [pay2_apply _ _ r j i]
  · pointwise
  · pointwise
    exact hi

/-- The row sums before the second normalisation. -/
theorem pay87_apply (r : Fin 1024) : k0_pay87 x0 x1 x2 x3 x4 x5 x6 x7 x8 (ix2 r 0) = ∑ k : Fin 768, k0_pay86 x0 x1 x2 x3 x4 x5 x6 x7 x8 (ix2 r k) := by
  unfold k0_pay87 k0_pay48 k0_pay86
  pointwise

/-- The scores of the block are finite. -/
theorem isReal_sc (h1 : ∀ t j, IsReal (x1 (ix3 0 t j))) (h4 : ∀ k j, IsReal (x4 (ix2 k j))) (r : Fin 1024) (c : Fin 128) :
    IsReal (sc (k0_pay54 x0 x1 x2 x3 x4 x5 x6 x7 x8) (k0_pay55 x0 x1 x2 x3 x4 x5 x6 x7 x8) (ix2 r c)) := by
  have hc := c.isLt
  have e : c = lane 8 16 rfl ⟨c.val / 16, by omega⟩ ⟨c.val % 16, by omega⟩ := Fin.ext (by show c.val = c.val / 16 * 16 + c.val % 16; omega)
  have h : ∀ a t, sc (k0_pay54 x0 x1 x2 x3 x4 x5 x6 x7 x8) (k0_pay55 x0 x1 x2 x3 x4 x5 x6 x7 x8) (ix2 r (lane 8 16 rfl a t))
      = scores (k0_pay54 x0 x1 x2 x3 x4 x5 x6 x7 x8) (k0_pay55 x0 x1 x2 x3 x4 x5 x6 x7 x8) a (ix2 r t) := cat_scores _ _ r
  rw [e, h, scores_apply]
  refine (isReal_score 8 96 rfl (fun j => ?_) (fun j => ?_) _).mul ⟨_, rfl⟩
  · rw [pay54_apply]
    exact isReal_mul (isReal_ln c768_pos eps_pos _) h4 j
  · rw [pay55_apply]
    exact h1 _ j

/-- The residual rows after the attention and its output projection, from the operands. -/
theorem row_apply (h1 : ∀ t j, IsReal (x1 (ix3 0 t j))) (h4 : ∀ k j, IsReal (x4 (ix2 k j))) (r : Fin 1024) (i : Fin 256)
    (hi : x0 (ix3 0 0 r) = BitVec.ofNat 32 i.val) (j : Fin 768) :
    k0_pay86 x0 x1 x2 x3 x4 x5 x6 x7 x8 (ix2 r j)
      = x3 (ix2 i j) + mul (attn 8 96 rfl rs96 (mul (ln c768 eps fun j => x3 (ix2 i j)) fun k j => x4 (ix2 k j)) (fun t j => x1 (ix3 0 t j)) (fun t j => x2 (ix3 0 t j)))
          (fun k j => x5 (ix2 k j)) j := by
  have h54 : (fun j => k0_pay54 x0 x1 x2 x3 x4 x5 x6 x7 x8 (ix2 r j)) = mul (ln c768 eps fun j => x3 (ix2 i j)) fun k j => x4 (ix2 k j) := by
    funext j
    rw [pay54_apply]
    simp only [pay53_apply x0 x1 x2 x3 x4 x5 x6 x7 x8 r _ i hi]
  rw [pay86_apply, pay53_apply x0 x1 x2 x3 x4 x5 x6 x7 x8 r j i hi, h54]
  simp only [pay55_apply, pay57_apply]
  refine congrArg (fun a => _ + mul a _ j) (funext fun k => ?_)
  exact attn_shift 8 96 rfl _ ⟨_, rfl⟩ (isReal_max (by norm_num) (isReal_sc x0 x1 x2 x3 x4 x5 x6 x7 x8 h1 h4 r))
    (isReal_mul (isReal_ln c768_pos eps_pos _) h4) h1 k

/-- The whole block's result. -/
theorem out_apply (h1 : ∀ t j, IsReal (x1 (ix3 0 t j))) (h4 : ∀ k j, IsReal (x4 (ix2 k j))) (r : Fin 1024) (i : Fin 256)
    (hi : x0 (ix3 0 0 r) = BitVec.ofNat 32 i.val) (j : Fin 256) :
    out0_9 x0 x1 x2 x3 x4 x5 x6 x7 x8 (ix3 0 r j)
      = logits 8 96 rfl c768 eps rs96 gC gS half 1 (fun j => x3 (ix2 i j)) (fun t j => x1 (ix3 0 t j)) (fun t j => x2 (ix3 0 t j))
          (fun k j => x4 (ix2 k j)) (fun k j => x5 (ix2 k j)) (fun k j => x6 (ix2 k j)) (fun k j => x7 (ix2 k j)) (fun k j => x8 (ix2 k j)) j := by
  have h6 : View.ld x6 r0_4 = x6 := View.ld_unit_zero (by funext a; fin_cases a <;> rfl) _ _
  have h7 : View.ld x7 r0_5 = x7 := View.ld_unit_zero (by funext a; fin_cases a <;> rfl) _ _
  have h8 : View.ld x8 r0_6 = x8 := View.ld_unit_zero (by funext a; fin_cases a <;> rfl) _ _
  have h88 : k0_pay88 x0 x1 x2 x3 x4 x5 x6 x7 x8 = k0_pay49 := rfl
  unfold out0_9
  rw [View.canon_unit_zero (by funext a; fin_cases a <;> rfl), h6, h7, h8, h88, pay1_apply _ _ _ _ _ (pay87_apply x0 x1 x2 x3 x4 x5 x6 x7 x8)]
  simp only [pay50_apply _ _ _ _ (pay87_apply x0 x1 x2 x3 x4 x5 x6 x7 x8), row_apply x0 x1 x2 x3 x4 x5 x6 x7 x8 h1 h4 r i hi]
  rfl

end Cert.DecBlock
-- ==== Proof.DecArr.lean ====
module

public import proofs.«01_k».proof.Proof.DecOut
public import Idealize.ShloMosaic.Lib.StableHlo.RunRead

@[expose] public section

/-! The decoder's result array, at an index: the blocks of the grid and the operands they read. -/

noncomputable section

namespace Cert.DecArr

open Idealize.ShloMosaic Idealize.ShloMosaic.TcCoe Cert.DecIdeal Cert.DecIdeal.Gen Cert.Rows

variable (m : (ℓ : Loc nD τ sig) → Buf (Elt Ideal) ℓ) (c : Dev nD)

/-- The ids in blocks, as the region finds them. -/
theorem V_ids : V m c main_call0_v0 = shapeCast S16x1x1024 (m ((c : Thread nD τ).loc main_arg0)) shapeCasts_S8x2048_S16x1x1024 := by
  show StableHlo.after hostOps0 _ _ = _
  after_reads_simp
  rfl

/-- The narrowed embedding table. -/
theorem V_emb : V m c main_call0_v1 = m ((c : Thread nD τ).loc main_arg3) := by
  show StableHlo.after hostOps0 _ _ = _
  after_reads_simp
  rfl

/-- The narrowed weights. -/
theorem V_w4 : V m c main_call0_v2 = m ((c : Thread nD τ).loc main_arg4) := by
  show StableHlo.after hostOps0 _ _ = _
  after_reads_simp
  rfl

theorem V_w5 : V m c main_call0_v3 = m ((c : Thread nD τ).loc main_arg5) := by
  show StableHlo.after hostOps0 _ _ = _
  after_reads_simp
  rfl

theorem V_w6 : V m c main_call0_v4 = m ((c : Thread nD τ).loc main_arg6) := by
  show StableHlo.after hostOps0 _ _ = _
  after_reads_simp
  rfl

theorem V_w7 : V m c main_call0_v5 = m ((c : Thread nD τ).loc main_arg7) := by
  show StableHlo.after hostOps0 _ _ = _
  after_reads_simp
  rfl

theorem V_w8 : V m c main_call0_v6 = m ((c : Thread nD τ).loc main_arg8) := by
  show StableHlo.after hostOps0 _ _ = _
  after_reads_simp
  rfl

/-- The block a grid point writes: batch row and half of the sequence. -/
theorem index9 : ∀ t : Fin grid0.N, win0_9.index t = ![t.val / 2, t.val % 2, 0] := by decide +kernel

/-- The ids' block of a grid point. -/
theorem index0 : ∀ t : Fin grid0.N, win0_0.index t = ![t.val, 0, 0] := by decide +kernel

/-- The keys' block of a grid point. -/
theorem index1 : ∀ t : Fin grid0.N, win0_1.index t = ![t.val / 2, 0, 0] := by decide +kernel

/-- The values' block of a grid point. -/
theorem index2 : ∀ t : Fin grid0.N, win0_2.index t = ![t.val / 2, 0, 0] := by decide +kernel

/-- Every grid point writes its block back. -/
theorem flush9 : ∀ t : Fin grid0.N, win0_9.flush t = true := by decide +kernel

/-- The ids a grid point reads. -/
theorem iblk0 (t : Fin cfg0.N) (r : Fin 1024) (i : Fin 16) (hi : i.val = t.val) : iblk m c 0 t (ix3 0 0 r) = V m c main_call0_v0 (ix3 i 0 r) := by
  unfold iblk
  refine congrArg (V m c main_call0_v0) (funext fun a => Fin.ext ?_)
  fin_cases a
  · show win0_0.index t 0 * 1 + 1 * 0 = i.val
    rw [index0, hi]
    simp
  · show win0_0.index t 1 * 1 + 1 * 0 = 0
    rw [index0]
    simp
  · show win0_0.index t 2 * 1024 + 1 * r.val = r.val
    rw [index0]
    simp

/-- The keys a grid point reads. -/
theorem iblk1 (t : Fin cfg0.N) (b : Fin 8) (hb : b.val = t.val / 2) (k : Fin 16) (j : Fin 768) : iblk m c 1 t (ix3 0 k j) = V m c main_arg1 (ix3 b k j) := by
  unfold iblk
  refine congrArg (V m c main_arg1) (funext fun a => Fin.ext ?_)
  fin_cases a
  · show win0_1.index t 0 * 1 + 1 * 0 = b.val
    rw [index1, hb]
    simp
  · show win0_1.index t 1 * 16 + 1 * k.val = k.val
    rw [index1]
    simp
  · show win0_1.index t 2 * 768 + 1 * j.val = j.val
    rw [index1]
    simp

/-- The values a grid point reads. -/
theorem iblk2 (t : Fin cfg0.N) (b : Fin 8) (hb : b.val = t.val / 2) (k : Fin 16) (j : Fin 768) : iblk m c 2 t (ix3 0 k j) = V m c main_arg2 (ix3 b k j) := by
  unfold iblk
  refine congrArg (V m c main_arg2) (funext fun a => Fin.ext ?_)
  fin_cases a
  · show win0_2.index t 0 * 1 + 1 * 0 = b.val
    rw [index2, hb]
    simp
  · show win0_2.index t 1 * 16 + 1 * k.val = k.val
    rw [index2]
    simp
  · show win0_2.index t 2 * 768 + 1 * j.val = j.val
    rw [index2]
    simp

/-- The embedding table a grid point reads. -/
theorem iblk3 (t : Fin cfg0.N) (k : Fin 256) (j : Fin 768) : iblk m c 3 t (ix2 k j) = V m c main_call0_v1 (ix2 k j) := by
  unfold iblk
  refine congrArg (V m c main_call0_v1) (funext fun a => Fin.ext ?_)
  fin_cases a
  · show 0 * 256 + 1 * k.val = k.val
    simp
  · show 0 * 768 + 1 * j.val = j.val
    simp

/-- The query weights a grid point reads. -/
theorem iblk4 (t : Fin cfg0.N) (k : Fin 768) (j : Fin 768) : iblk m c 4 t (ix2 k j) = V m c main_call0_v2 (ix2 k j) := by
  unfold iblk
  refine congrArg (V m c main_call0_v2) (funext fun a => Fin.ext ?_)
  fin_cases a
  · show 0 * 768 + 1 * k.val = k.val
    simp
  · show 0 * 768 + 1 * j.val = j.val
    simp

/-- The output weights a grid point reads. -/
theorem iblk5 (t : Fin cfg0.N) (k : Fin 768) (j : Fin 768) : iblk m c 5 t (ix2 k j) = V m c main_call0_v3 (ix2 k j) := by
  unfold iblk
  refine congrArg (V m c main_call0_v3) (funext fun a => Fin.ext ?_)
  fin_cases a
  · show 0 * 768 + 1 * k.val = k.val
    simp
  · show 0 * 768 + 1 * j.val = j.val
    simp

/-- The network's first weights a grid point reads. -/
theorem iblk6 (t : Fin cfg0.N) (k : Fin 768) (j : Fin 2048) : iblk m c 6 t (ix2 k j) = V m c main_call0_v4 (ix2 k j) := by
  unfold iblk
  refine congrArg (V m c main_call0_v4) (funext fun a => Fin.ext ?_)
  fin_cases a
  · show 0 * 768 + 1 * k.val = k.val
    simp
  · show 0 * 2048 + 1 * j.val = j.val
    simp

/-- The network's second weights a grid point reads. -/
theorem iblk7 (t : Fin cfg0.N) (k : Fin 2048) (j : Fin 768) : iblk m c 7 t (ix2 k j) = V m c main_call0_v5 (ix2 k j) := by
  unfold iblk
  refine congrArg (V m c main_call0_v5) (funext fun a => Fin.ext ?_)
  fin_cases a
  · show 0 * 2048 + 1 * k.val = k.val
    simp
  · show 0 * 768 + 1 * j.val = j.val
    simp

/-- The logit weights a grid point reads. -/
theorem iblk8 (t : Fin cfg0.N) (k : Fin 768) (j : Fin 256) : iblk m c 8 t (ix2 k j) = V m c main_call0_v6 (ix2 k j) := by
  unfold iblk
  refine congrArg (V m c main_call0_v6) (funext fun a => Fin.ext ?_)
  fin_cases a
  · show 0 * 768 + 1 * k.val = k.val
    simp
  · show 0 * 256 + 1 * j.val = j.val
    simp

/-- The ids of a block are the ids of its batch row and half. -/
theorem ids_apply (x : Vec Ideal S8x2048 .i32) (b : Fin 8) (h : Fin 2) (r : Fin 1024) (i : Fin 16) (hi : i.val = b.val * 2 + h.val) (T : Fin 2048) (hT : T.val = h.val * 1024 + r.val) :
    shapeCast S16x1x1024 x shapeCasts_S8x2048_S16x1x1024 (ix3 i 0 r) = x (ix2 b T) := by
  refine shapeCast_apply x _ _ _ ?_
  have h1 := b.isLt; have h2 := h.isLt; have h3 := r.isLt
  rw [Shape.rowMajor_val_three, Shape.rowMajor_val_two]
  show b.val * 2048 + T.val = (i.val * 1 + 0) * 1024 + r.val
  omega

/-- The result array, read at an index of a block. -/
theorem read9 (G : Vec Ideal S8x2048x256 .f32) (t : Fin cfg0.N) (b : Fin 8) (hb : b.val = t.val / 2) (r : Fin 1024) (T : Fin 2048) (hT : T.val = t.val % 2 * 1024 + r.val) (j : Fin 256) :
    ((cfg0.win 9).blk t).view.read (Elt Ideal) G (ix3 0 r j) = G (ix3 b T j) := by
  refine congrArg G (funext fun a => Fin.ext ?_)
  fin_cases a
  · show win0_9.index t 0 * 1 + 1 * 0 = b.val
    rw [index9, hb]
    simp
  · show win0_9.index t 1 * 1024 + 1 * r.val = T.val
    rw [index9, hT]
    simp
  · show win0_9.index t 2 * 256 + 1 * j.val = j.val
    rw [index9]
    simp

/-- The result array at an index: the decoder's row. -/
theorem arr_apply (h1 : ∀ b t j, IsReal (m ((c : Thread nD τ).loc main_arg1) (ix3 b t j))) (h4 : ∀ k j, IsReal (m ((c : Thread nD τ).loc main_arg4) (ix2 k j)))
    (b : Fin 8) (T : Fin 2048) (j : Fin 256) (i : Fin 256) (hi : m ((c : Thread nD τ).loc main_arg0) (ix2 b T) = BitVec.ofNat 32 i.val) :
    (dats m 0 c).arrAt 9 cfg0.N (ix3 b T j)
      = logits 8 96 rfl DecBlock.c768 DecBlock.eps DecBlock.rs96 gC gS half 1 (fun j => m ((c : Thread nD τ).loc main_arg3) (ix2 i j))
          (fun t j => m ((c : Thread nD τ).loc main_arg1) (ix3 b t j)) (fun t j => m ((c : Thread nD τ).loc main_arg2) (ix3 b t j))
          (fun k j => m ((c : Thread nD τ).loc main_arg4) (ix2 k j)) (fun k j => m ((c : Thread nD τ).loc main_arg5) (ix2 k j))
          (fun k j => m ((c : Thread nD τ).loc main_arg6) (ix2 k j)) (fun k j => m ((c : Thread nD τ).loc main_arg7) (ix2 k j))
          (fun k j => m ((c : Thread nD τ).loc main_arg8) (ix2 k j)) j := by
  have hT := T.isLt
  have hb := b.isLt
  let t : Fin cfg0.N := ⟨b.val * 2 + T.val / 1024, by show _ < 16; omega⟩
  have ht : t.val = b.val * 2 + T.val / 1024 := rfl
  let r : Fin 1024 := ⟨T.val % 1024, by omega⟩
  have hr : r.val = T.val % 1024 := rfl
  have hbt : b.val = t.val / 2 := by omega
  rw [← read9 ((dats m 0 c).arrAt 9 cfg0.N) t b hbt r T (by omega) j, Value.blocks9 m c t (flush9 t), Value.flushed9]
  show out0_9 _ _ _ _ _ _ _ _ _ (ix3 0 r j) = _
  have e0 : iblk m c 0 t (ix3 0 0 r) = BitVec.ofNat 32 i.val := by
    rw [iblk0 m c t r ⟨b.val * 2 + T.val / 1024, by omega⟩ rfl, V_ids, ids_apply _ b ⟨T.val / 1024, by omega⟩ r _ rfl T (by show T.val = T.val / 1024 * 1024 + T.val % 1024; omega), hi]
  rw [DecBlock.out_apply (iblk m c 0 t) (iblk m c 1 t) (iblk m c 2 t) (iblk m c 3 t) (iblk m c 4 t) (iblk m c 5 t) (iblk m c 6 t) (iblk m c 7 t) (iblk m c 8 t)
    (fun k j => by rw [iblk1 m c t b hbt, V_main_arg1]; exact h1 b k j) (fun k j => by rw [iblk4, V_w4]; exact h4 k j) r i e0 j]
  simp only [iblk1 m c t b hbt, iblk2 m c t b hbt, iblk3, iblk4, iblk5, iblk6, iblk7, iblk8]
  rw [V_emb, V_w4, V_w5, V_w6, V_w7, V_w8, V_main_arg1, V_main_arg2]

end Cert.DecArr
-- ==== Proof.Take.lean ====
module

public import proofs.«01_k».proof.Proof.Rows
public import proofs.«01_k».proof.Proof.Lanes
public import Idealize.ShloMosaic.Lib.ValueIdxCore

@[expose] public section

/-! Reading rows of a table by an array of row numbers. -/

noncomputable section

namespace Cert.Take

open Idealize.ShloMosaic

/-- The dimension numbers of a row lookup: a table `[N, D]`, row numbers `[R, C, 1]`, a result `[R, C, D]`. -/
abbrev dims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- An in-range row number picks its row. -/
theorem gather_row {α : Type} {N D R C w : Nat} (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (b : Fin R) (r : Fin C) (j : Fin D) (i : Fin N)
    (hi : (idx (ix3 b r 0)).toInt = i.val) :
    Host.gather (dims N D R C wf) x idx (ix3 b r j) = x (ix2 i j) := by
  have hs : ∀ h, (dims N D R C wf).siIdx (ix3 b r j) ⟨List.idxOf (0 : Fin 2) (dims N D R C wf).startIndexMap, h⟩ = ix3 b r 0 := by
    intro h
    funext a; refine Fin.ext ?_
    match a with
    | ⟨0, _⟩ => rfl
    | ⟨1, _⟩ => rfl
    | ⟨2, _⟩ => rfl
  unfold Host.gather
  congr 1
  funext a
  refine Fin.ext ?_
  show (dims N D R C wf).start (ix3 b r j) idx a + (dims N D R C wf).batchCoord (ix3 b r j) a + (dims N D R C wf).offCoord (ix3 b r j) a = _
  rw [GatherDims.batchCoord_eq_zero _ _ _ List.not_mem_nil]
  obtain rfl | rfl : a = (0 : Fin 2) ∨ a = (1 : Fin 2) := by fin_cases a <;> simp
  · rw [GatherDims.offCoord_eq_zero _ _ _ (fun h => ((GatherDims.mem_sKept _ _).mp h).1 (List.mem_singleton.mpr rfl))]
    unfold GatherDims.start
    rw [dif_pos (show (0 : Fin 2) ∈ (dims N D R C wf).startIndexMap from List.mem_singleton.mpr rfl), hs, hi]
    show min (Int.toNat (i.val : Int)) (N - 1) + 0 + 0 = i.val
    have := i.isLt
    rw [Int.toNat_natCast]
    omega
  · unfold GatherDims.start
    rw [dif_neg (show ¬ (1 : Fin 2) ∈ (dims N D R C wf).startIndexMap by simp)]
    unfold GatherDims.offCoord
    rw [dif_pos ((GatherDims.mem_sKept _ _).mpr ⟨by simp, by simp⟩)]
    show 0 + 0 + _ = j.val
    rw [Nat.zero_add]
    rfl

/-- A row number below 256 read as a signed number. -/
theorem toInt_ofNat (i : Fin 256) : (BitVec.ofNat 32 i.val).toInt = i.val := by
  have := i.isLt
  rw [BitVec.toInt_eq_toNat_of_lt] <;> rw [BitVec.toNat_ofNat, Nat.mod_eq_of_lt (by omega)]
  omega

/-- A 32-bit number between 0 and 255. -/
theorem of_range (x : BitVec 32) (h0 : IntOp.cmpi .sge x 0#32 = 1#1) (h1 : IntOp.cmpi .slt x 256#32 = 1#1) :
    ∃ i : Fin 256, x = BitVec.ofNat 32 i.val := by
  have e0 : (0#32).sle x = true := by
    change BitVec.ofBool ((0#32).sle x) = 1#1 at h0
    revert h0; cases (0#32).sle x
    · intro h; exact absurd h (by decide)
    · intro _; rfl
  have e1 : x.slt 256#32 = true := by
    change BitVec.ofBool (x.slt 256#32) = 1#1 at h1
    revert h1; cases x.slt 256#32
    · intro h; exact absurd h (by decide)
    · intro _; rfl
  have hlt : x.toNat < 256 := by
    have h2 : x.toInt < 256 := by simpa [BitVec.slt] using e1
    have h3 : 0 ≤ x.toInt := by simpa [BitVec.sle] using e0
    rw [BitVec.toInt_eq_toNat_cond] at h2 h3
    split_ifs at h2 h3 <;> omega
  exact ⟨⟨x.toNat, hlt⟩, by simp⟩

/-- A row number below 256 is not negative. -/
theorem not_neg : ∀ i : Fin 256, IntOp.cmpi .slt (BitVec.ofNat 32 i.val) 0#32 = 0#1 := by decide +kernel

/-- A row number below 256 passes both range tests. -/
theorem in_range : ∀ i : Fin 256, IntOp.andi (IntOp.cmpi .sge (BitVec.ofNat 32 i.val) 0#32) (IntOp.cmpi .sle (BitVec.ofNat 32 i.val) 255#32) = 1#1 := by
  decide +kernel

/-- The conjunction over a single flag that is set. -/
theorem fold_one (f : Fin 1 → BitVec 1) (h : ∀ x, f x = 1#1) : Finset.univ.fold IntOp.andi 1#1 f = 1#1 := by
  rw [show (Finset.univ : Finset (Fin 1)) = {0} from rfl, Finset.fold_singleton, h]; rfl

/-- A choice whose flag is set. -/
theorem select_one {α : Type} (a b : α) : Scalar.select 1#1 a b = a := rfl

/-- A choice whose flag is clear. -/
theorem select_zero {α : Type} (a b : α) : Scalar.select 0#1 a b = b := rfl

end Cert.Take
-- ==== Proof.DecRef.lean ====
module

public import proofs.«01_k».proof.Proof.Rows
public import proofs.«01_k».proof.Proof.Gen.DecRefIdeal.Read

@[expose] public section

/-! What the decoder's reference computes, at an index. -/

noncomputable section

namespace Cert.DecRefValue

open Idealize.ShloMosaic Cert.DecRefIdeal Cert.DecRefIdeal.Read Cert.DecRefIdeal.Gen Cert.Rows

/-- The host's layer normalisation of all rows. -/
def lnHost (x : FVec Ideal S8x2048x768 .f32) : FVec Ideal S8x2048x768 .f32 :=
  let m : FVec Ideal S8x2048x1 .f32 := Host.divf (broadcastInDim S8x2048x1 ![0, 1] bcast_S8x2048_S8x2048x1_0_1 (Host.reduceAdd x (constant S_ .f32 0x00000000#32) reducesTo_S8x2048x768_S8x2048_d2 h_S_)) (broadcastInDim S8x2048x1 ![] bcast_S_S8x2048x1 (constant S_ .f32 0x44400000#32))
  let d : FVec Ideal S8x2048x768 .f32 := subf x (broadcastInDim S8x2048x768 ![0, 1, 2] bcast_S8x2048x1_S8x2048x768_0_1_2 m)
  let n : FVec Ideal S_ .f32 := subf (constant S_ .f32 0x44400000#32) (sitofp .f32 (constantI S_ 32 0#32))
  let q : FVec Ideal S8x2048x1 .f32 := Host.divf (broadcastInDim S8x2048x1 ![0, 1] bcast_S8x2048_S8x2048x1_0_1 (Host.reduceAdd (mulf d d) (constant S_ .f32 0x00000000#32) reducesTo_S8x2048x768_S8x2048_d2 h_S_)) (broadcastInDim S8x2048x1 ![] bcast_S_S8x2048x1 n)
  let v : FVec Ideal S8x2048x1 .f32 := select (broadcastInDim S8x2048x1 ![] bcast_S_S8x2048x1 (cmpf .ogt n (constant S_ .f32 0x00000000#32))) q (broadcastInDim S8x2048x1 ![] bcast_S_S8x2048x1 (constant S_ .f32 0x7FC00000#32))
  Host.divf d (broadcastInDim S8x2048x768 ![0, 1, 2] bcast_S8x2048x1_S8x2048x768_0_1_2 (Host.sqrt (addf v (broadcastInDim S8x2048x1 ![] bcast_S_S8x2048x1 (constant S_ .f32 0x3727C5AC#32)))))

/-- The variance's divisor: the row length less nothing. -/
theorem count_eq : Ideal.ofBits .f32 0x44400000#32 - FloatOps.sitofp (F := Ideal) .f32 (0#32) = Ideal.ofBits .f32 0x44400000#32 := by
  simp [FloatOps.sitofp]

/-- Each row is normalised. -/
theorem lnHost_apply (x : FVec Ideal S8x2048x768 .f32) (b : Fin 8) (r : Fin 2048) (j : Fin 768) :
    lnHost x (ix3 b r j) = ln (Ideal.ofBits .f32 0x44400000#32) (Ideal.ofBits .f32 0x3727C5AC#32) (fun k => x (ix3 b r k)) j := by
  unfold lnHost
  pointwise
  rw [count_eq, if_pos (by rw [ofBits_768]; exact EReal.coe_pos.mpr (by norm_num))]
  rfl

variable (x0 : (⟨S8x2048, .i32⟩ : BufTy).Contents (Elt Ideal)) (x1 : (⟨S8x16x768, .f32⟩ : BufTy).Contents (Elt Ideal))
  (x2 : (⟨S8x16x768, .f32⟩ : BufTy).Contents (Elt Ideal)) (x3 : (⟨S256x768, .f32⟩ : BufTy).Contents (Elt Ideal))
  (x4 x5 : (⟨S768x768, .f32⟩ : BufTy).Contents (Elt Ideal)) (x6 : (⟨S768x2048, .f32⟩ : BufTy).Contents (Elt Ideal))
  (x7 : (⟨S2048x768, .f32⟩ : BufTy).Contents (Elt Ideal)) (x8 : (⟨S768x256, .f32⟩ : BufTy).Contents (Elt Ideal))

/-- The queries. -/
theorem v13_apply (b : Fin 8) (r : Fin 2048) (j : Fin 768) :
    val_main_v13 (F := Ideal) x0 x3 x4 (ix3 b r j) = mul (ln (Ideal.ofBits .f32 0x44400000#32) (Ideal.ofBits .f32 0x3727C5AC#32) fun k => val_main_v0 (F := Ideal) x0 x3 (ix3 b r k)) (fun k j => x4 (ix2 k j)) j := by
  rw [show val_main_v13 (F := Ideal) x0 x3 x4 = Host.dotGeneral (F := Ideal) dot_S8x2048x768_S768x768_S8x2048x768_2_0_01_1_n_n none (lnHost (val_main_v0 (F := Ideal) x0 x3)) x4 from rfl]
  generalize val_main_v0 (F := Ideal) x0 x3 = y
  pointwise [dot_S8x2048x768_S768x768_S8x2048x768_2_0_01_1_n_n, mul]
  simp only [lnHost_apply]

/-- The scores' divisor: the root of 96. -/
theorem sqrt_96 : Ideal.sqrt (Ideal.ofBits .f32 0x42C00000#32) = ((Real.sqrt 96 : ℝ) : EReal) := by
  rw [show Ideal.ofBits .f32 0x42C00000#32 = ((96 : ℝ) : EReal) by simp [Ideal.ofBits, Ideal.ieee, -EReal.coe_mul]; norm_num]
  exact if_neg (by norm_num)

/-- The scores of a query row, head by head. -/
theorem v23_apply (b : Fin 8) (h : Fin 8) (r : Fin 2048) (t : Fin 16) :
    val_main_v23 (F := Ideal) x0 x1 x3 x4 (ix4 b h r t)
      = score 8 96 rfl (fun j => val_main_v13 (F := Ideal) x0 x3 x4 (ix3 b r j)) (fun j => x1 (ix3 b t j)) h * (((Real.sqrt 96)⁻¹ : ℝ) : EReal) := by
  unfold val_main_v23 val_main_v20 val_main_v17 val_main_v16 val_main_v15 val_main_v14 val_main_v22 val_main_v21 val_main_cst_2
  generalize val_main_v13 (F := Ideal) x0 x3 x4 = q
  pointwise [dot_S8x8x2048x96_S8x8x16x96_S8x8x2048x16_3_3_2_2_01_01]
  rw [sqrt_96]
  exact (Ideal.div_coe (by positivity) _).trans (congrArg _ (by rw [one_div]))

/-- The largest score of a head. -/
theorem v24_apply (b : Fin 8) (h : Fin 8) (r : Fin 2048) :
    val_main_v24 (F := Ideal) x0 x1 x3 x4 (ix3 b h r) = Finset.univ.fold max ⊥ fun t : Fin 16 => val_main_v23 (F := Ideal) x0 x1 x3 x4 (ix4 b h r t) := by
  unfold val_main_v24 val_main_cst_3
  generalize val_main_v23 (F := Ideal) x0 x1 x3 x4 = s
  pointwise [ofBits_neg_inf]

/-- The scores less their maximum. -/
theorem v29_apply (b : Fin 8) (h : Fin 8) (r : Fin 2048) (t : Fin 16) :
    val_main_v29 (F := Ideal) x0 x1 x3 x4 (ix4 b h r t)
      = val_main_v23 (F := Ideal) x0 x1 x3 x4 (ix4 b h r t) - val_main_v24 (F := Ideal) x0 x1 x3 x4 (ix3 b h r) := by
  have e : idx_main_v27 (idx_main_v28 (ix4 b h r t)) = ix3 b h r := by
    funext a; fin_cases a <;> rfl
  rw [val_main_v29_apply, val_main_v28_apply, val_main_v27_apply, e, val_main_v26_apply, val_main_v25_apply, val_main_cst_4_apply]
  generalize val_main_v23 (F := Ideal) x0 x1 x3 x4 (ix4 b h r t) = s
  generalize val_main_v24 (F := Ideal) x0 x1 x3 x4 (ix3 b h r) = m
  have hb : m = max (Ideal.ofBits .f32 0xFF800000#32) m := by rw [ofBits_neg_inf]; exact (max_eq_right bot_le).symm
  conv_rhs => rw [hb]
  rfl

/-- The sum of a head's exponentials. -/
theorem v31_apply (b : Fin 8) (h : Fin 8) (r : Fin 2048) :
    val_main_v31 (F := Ideal) x0 x1 x3 x4 (ix3 b h r) = ∑ t : Fin 16, val_main_v30 (F := Ideal) x0 x1 x3 x4 (ix4 b h r t) := by
  unfold val_main_v31 val_main_cst_5
  generalize val_main_v30 (F := Ideal) x0 x1 x3 x4 = s
  pointwise

/-- The attention weights. -/
theorem v34_apply (b : Fin 8) (h : Fin 8) (r : Fin 2048) (t : Fin 16) :
    val_main_v34 (F := Ideal) x0 x1 x3 x4 (ix4 b h r t) = soft (fun t => val_main_v23 (F := Ideal) x0 x1 x3 x4 (ix4 b h r t)) t := by
  have e : ∀ t, val_main_v30 (F := Ideal) x0 x1 x3 x4 (ix4 b h r t) = Ideal.exp (val_main_v29 (F := Ideal) x0 x1 x3 x4 (ix4 b h r t)) :=
    fun t => rfl
  have e' : val_main_v34 (F := Ideal) x0 x1 x3 x4 (ix4 b h r t)
      = Ideal.div (val_main_v30 (F := Ideal) x0 x1 x3 x4 (ix4 b h r t)) (val_main_v31 (F := Ideal) x0 x1 x3 x4 (ix3 b h r)) := by
    unfold val_main_v34 val_main_v33 val_main_v32
    generalize val_main_v30 (F := Ideal) x0 x1 x3 x4 = s
    generalize val_main_v31 (F := Ideal) x0 x1 x3 x4 = m
    pointwise
  rw [e', v31_apply]
  simp only [e, v29_apply, v24_apply]
  rfl

/-- The attention of a query row. -/
theorem v35_apply (b : Fin 8) (h : Fin 8) (r : Fin 2048) (d : Fin 96) :
    val_main_v35 (F := Ideal) x0 x1 x2 x3 x4 (ix4 b h r d)
      = attn 8 96 rfl (((Real.sqrt 96)⁻¹ : ℝ) : EReal) (fun j => val_main_v13 (F := Ideal) x0 x3 x4 (ix3 b r j))
          (fun t j => x1 (ix3 b t j)) (fun t j => x2 (ix3 b t j)) (lane 8 96 rfl h d) := by
  unfold attn
  rw [head_lane]
  simp only [← v23_apply, ← v34_apply]
  unfold val_main_v35 val_main_v19 val_main_v18
  generalize val_main_v34 (F := Ideal) x0 x1 x3 x4 = s
  pointwise [dot_S8x8x2048x16_S8x8x16x96_S8x8x2048x96_3_2_2_3_01_01]
  rfl

/-- The heads' attention laid side by side. -/
theorem v37_apply (b : Fin 8) (r : Fin 2048) (j : Fin 768) :
    val_main_v37 (F := Ideal) x0 x1 x2 x3 x4 (ix3 b r j)
      = attn 8 96 rfl (((Real.sqrt 96)⁻¹ : ℝ) : EReal) (fun j => val_main_v13 (F := Ideal) x0 x3 x4 (ix3 b r j))
          (fun t j => x1 (ix3 b t j)) (fun t j => x2 (ix3 b t j)) j := by
  have hj := lane_head 8 96 rfl j (Nat.mod_lt _ (by norm_num))
  rw [← hj, ← v35_apply, hj]
  unfold val_main_v37 val_main_v36
  generalize val_main_v35 (F := Ideal) x0 x1 x2 x3 x4 = o
  pointwise
  rfl

end Cert.DecRefValue
-- ==== Proof.DecRefTail.lean ====
module

public import proofs.«01_k».proof.Proof.DecRef

@[expose] public section

/-! What the decoder's reference computes, at an index: the layers around the attention. -/

noncomputable section

namespace Cert.DecRefValue

open Idealize.ShloMosaic Cert.DecRefIdeal Cert.DecRefIdeal.Read Cert.DecRefIdeal.Gen Cert.Rows

variable (x0 : (⟨S8x2048, .i32⟩ : BufTy).Contents (Elt Ideal)) (x1 : (⟨S8x16x768, .f32⟩ : BufTy).Contents (Elt Ideal))
  (x2 : (⟨S8x16x768, .f32⟩ : BufTy).Contents (Elt Ideal)) (x3 : (⟨S256x768, .f32⟩ : BufTy).Contents (Elt Ideal))
  (x4 x5 : (⟨S768x768, .f32⟩ : BufTy).Contents (Elt Ideal)) (x6 : (⟨S768x2048, .f32⟩ : BufTy).Contents (Elt Ideal))
  (x7 : (⟨S2048x768, .f32⟩ : BufTy).Contents (Elt Ideal)) (x8 : (⟨S768x256, .f32⟩ : BufTy).Contents (Elt Ideal))

/-- The residual rows after the attention. -/
theorem v39_apply (b : Fin 8) (r : Fin 2048) (j : Fin 768) :
    val_main_v39 (F := Ideal) x0 x1 x2 x3 x4 x5 (ix3 b r j)
      = val_main_v0 (F := Ideal) x0 x3 (ix3 b r j) + mul (fun k => val_main_v37 (F := Ideal) x0 x1 x2 x3 x4 (ix3 b r k)) (fun k j => x5 (ix2 k j)) j := by
  unfold val_main_v39 val_main_v38
  generalize val_main_v0 (F := Ideal) x0 x3 = y
  generalize val_main_v37 (F := Ideal) x0 x1 x2 x3 x4 = a
  pointwise [dot_S8x2048x768_S768x768_S8x2048x768_2_0_01_1_n_n, mul]

/-- The inner layer of the two-layer network. -/
theorem v52_apply (b : Fin 8) (r : Fin 2048) (k : Fin 2048) :
    val_main_v52 (F := Ideal) x0 x1 x2 x3 x4 x5 x6 (ix3 b r k)
      = mul (ln (Ideal.ofBits .f32 0x44400000#32) (Ideal.ofBits .f32 0x3727C5AC#32) fun j => val_main_v39 (F := Ideal) x0 x1 x2 x3 x4 x5 (ix3 b r j)) (fun k j => x6 (ix2 k j)) k := by
  have e : val_main_v51 (F := Ideal) x0 x1 x2 x3 x4 x5 = lnHost (val_main_v39 (F := Ideal) x0 x1 x2 x3 x4 x5) := rfl
  unfold val_main_v52
  rw [e]
  generalize val_main_v39 (F := Ideal) x0 x1 x2 x3 x4 x5 = y
  pointwise [dot_S8x2048x768_S768x2048_S8x2048x2048_2_0_01_1_n_n, mul]
  simp only [lnHost_apply]

/-- The activation. -/
theorem v65_apply (b : Fin 8) (r : Fin 2048) (k : Fin 2048) :
    val_main_v65 (F := Ideal) x0 x1 x2 x3 x4 x5 x6 (ix3 b r k)
      = gelu (Ideal.ofBits .f32 0x3D372713#32) (Ideal.ofBits .f32 0x3F4C422A#32) (Ideal.ofBits .f32 0x3F000000#32) (Ideal.ofBits .f32 0x3F800000#32)
          (val_main_v52 (F := Ideal) x0 x1 x2 x3 x4 x5 x6 (ix3 b r k)) := by
  unfold val_main_v65 val_main_v64 val_main_v63 val_main_v62 val_main_v61 val_main_v60 val_main_v59 val_main_v58 val_main_v57 val_main_v56 val_main_v55
    val_main_v54 val_main_v53
  generalize val_main_v52 (F := Ideal) x0 x1 x2 x3 x4 x5 x6 = y
  rfl

/-- The residual rows after the two-layer network. -/
theorem v67_apply (b : Fin 8) (r : Fin 2048) (j : Fin 768) :
    val_main_v67 (F := Ideal) x0 x1 x2 x3 x4 x5 x6 x7 (ix3 b r j)
      = val_main_v39 (F := Ideal) x0 x1 x2 x3 x4 x5 (ix3 b r j) + mul (fun k => val_main_v65 (F := Ideal) x0 x1 x2 x3 x4 x5 x6 (ix3 b r k)) (fun k j => x7 (ix2 k j)) j := by
  unfold val_main_v67 val_main_v66
  generalize val_main_v39 (F := Ideal) x0 x1 x2 x3 x4 x5 = y
  generalize val_main_v65 (F := Ideal) x0 x1 x2 x3 x4 x5 x6 = a
  pointwise [dot_S8x2048x2048_S2048x768_S8x2048x768_2_0_01_1_n_n, mul]

/-- The logits. -/
theorem v80_apply (b : Fin 8) (r : Fin 2048) (j : Fin 256) :
    val_main_v80 (F := Ideal) x0 x1 x2 x3 x4 x5 x6 x7 x8 (ix3 b r j)
      = mul (ln (Ideal.ofBits .f32 0x44400000#32) (Ideal.ofBits .f32 0x3727C5AC#32) fun j => val_main_v67 (F := Ideal) x0 x1 x2 x3 x4 x5 x6 x7 (ix3 b r j)) (fun k j => x8 (ix2 k j)) j := by
  have e : val_main_v79 (F := Ideal) x0 x1 x2 x3 x4 x5 x6 x7 = lnHost (val_main_v67 (F := Ideal) x0 x1 x2 x3 x4 x5 x6 x7) := rfl
  unfold val_main_v80
  rw [e]
  generalize val_main_v67 (F := Ideal) x0 x1 x2 x3 x4 x5 x6 x7 = y
  pointwise [dot_S8x2048x768_S768x256_S8x2048x256_2_0_01_1_n_n, mul]
  simp only [lnHost_apply]

end Cert.DecRefValue
-- ==== Proof.DecRefAll.lean ====
module

public import proofs.«01_k».proof.Proof.Take
public import proofs.«01_k».proof.Proof.DecRefTail

@[expose] public section

/-! What the decoder's reference computes, at an index: the embedding and the whole. -/

noncomputable section

namespace Cert.DecRefValue

open Idealize.ShloMosaic Cert.DecRefIdeal Cert.DecRefIdeal.Read Cert.DecRefIdeal.Gen Cert.Rows

variable (x0 : (⟨S8x2048, .i32⟩ : BufTy).Contents (Elt Ideal)) (x1 : (⟨S8x16x768, .f32⟩ : BufTy).Contents (Elt Ideal))
  (x2 : (⟨S8x16x768, .f32⟩ : BufTy).Contents (Elt Ideal)) (x3 : (⟨S256x768, .f32⟩ : BufTy).Contents (Elt Ideal))
  (x4 x5 : (⟨S768x768, .f32⟩ : BufTy).Contents (Elt Ideal)) (x6 : (⟨S768x2048, .f32⟩ : BufTy).Contents (Elt Ideal))
  (x7 : (⟨S2048x768, .f32⟩ : BufTy).Contents (Elt Ideal)) (x8 : (⟨S768x256, .f32⟩ : BufTy).Contents (Elt Ideal))

/-- The row number after the wrap of negative ones: an in-range one is kept. -/
theorem v5_take (b : Fin 8) (r : Fin 2048) (i : Fin 256) (hi : x0 (ix2 b r) = BitVec.ofNat 32 i.val) :
    val_main_call0_v5 (F := Ideal) x0 (ix3 b r 0) = BitVec.ofNat 32 i.val := by
  have e : idx_main_call0_v5 (ix3 b r 0) = ix2 b r := by funext a; fin_cases a <;> rfl
  rw [val_main_call0_v5_apply, e, val_main_call0_v4_apply, val_main_call0_v1_apply, hi, val_main_call0_v0_apply, val_main_call0_c_apply, Take.not_neg, Take.select_zero]

/-- The flag that the row number is in range. -/
theorem v12_take (b : Fin 8) (r : Fin 2048) (i : Fin 256) (hi : x0 (ix2 b r) = BitVec.ofNat 32 i.val) :
    val_main_call0_v12 (F := Ideal) x0 (ix2 b r) = 1#1 := by
  have h5 := v5_take x0 b r i hi
  unfold val_main_call0_v12 val_main_call0_v11 val_main_call0_v10 val_main_call0_v7
  generalize val_main_call0_v5 (F := Ideal) x0 = y at h5
  pointwise
  refine Take.fold_one _ fun x => ?_
  rw [Subsingleton.elim x 0, h5, val_main_call0_v6_apply, val_main_call0_v9_apply, val_main_call0_v8_apply, val_main_call0_c_1_apply, val_main_call0_c_2_apply]
  exact Take.in_range i

/-- The embedding rows. -/
theorem v0_apply (b : Fin 8) (r : Fin 2048) (j : Fin 768) (i : Fin 256) (hi : x0 (ix2 b r) = BitVec.ofNat 32 i.val) :
    val_main_v0 (F := Ideal) x0 x3 (ix3 b r j) = x3 (ix2 i j) := by
  have e : idx_main_call0_v14 (ix3 b r j) = ix2 b r := by funext a; fin_cases a <;> rfl
  have h1 : val_main_call0_v14 (F := Ideal) x0 (ix3 b r j) = 1#1 := by rw [val_main_call0_v14_apply, e, v12_take x0 b r i hi]
  have h2 : val_main_call0_v13 (F := Ideal) x0 x3 (ix3 b r j) = x3 (ix2 i j) :=
    Take.gather_row _ x3 (val_main_call0_v5 (F := Ideal) x0) b r j i (by rw [v5_take x0 b r i hi, Take.toInt_ofNat])
  rw [val_main_v0_apply, h1, h2, Take.select_one]

end Cert.DecRefValue
-- ==== Proof.DecClaim.lean ====
module

public import proofs.«01_k».proof.Defs
public import proofs.«01_k».proof.Proof.DecArr
public import proofs.«01_k».proof.Proof.DecRefAll
public import proofs.«01_k».proof.Proof.Gen.DecRefIdeal.Run
public import proofs.«01_k».proof.Proof.Gen.Pre_decoder_inputs

@[expose] public section

/-! The decoder computes its reference on the inputs the precondition admits. -/

noncomputable section

namespace Cert.DecClaim

open Idealize.ShloMosaic Idealize.SL.Sem Cert.Rows

/-- Both flags of a conjunction that is set. -/
theorem and_one (a b : BitVec 1) (h : IntOp.andi a b = 1#1) : a = 1#1 ∧ b = 1#1 := by
  revert a b; decide

/-- The pattern of one. -/
theorem ofBits_one : Ideal.ofBits .f32 0x3F800000#32 = 1 := by
  simp [Ideal.ofBits, Ideal.ieee, -EReal.coe_mul]
  norm_num

/-- A number whose absolute value is below infinity is a real. -/
theorem isReal_of_olt (x : Ideal .f32) (h : FloatOps.cmpf (F := Ideal) .olt (FloatOps.hostAbsf x) (FloatOps.ofBits .f32 0x7F800000#32) = 1#1) : IsReal x := by
  have ht : (FloatOps.ofBits .f32 0x7F800000#32 : Ideal .f32) = (⊤ : EReal) := by simp [FloatOps.ofBits, Ideal.ofBits, Ideal.ieee]
  rw [ht] at h
  refine isReal_of_abs ?_ ?_ <;> rintro rfl <;> revert h <;> simp [FloatOps.cmpf, FloatOps.hostAbsf, Ideal.cmp]

open Cert.Pre_decoder_inputs in
/-- The precondition, read: ids in range, finite query weights, finite keys. -/
theorem pre_read (x0 : IVec S8x2048 32) (x1 x2 : FVec Ideal S8x16x768 .f32) (x3 : FVec Ideal S256x768 .f32) (x4 x5 : FVec Ideal S768x768 .f32)
    (x6 : FVec Ideal S768x2048 .f32) (x7 : FVec Ideal S2048x768 .f32) (x8 : FVec Ideal S768x256 .f32)
    (h : (fn (F := Ideal) x0 x1 x2 x3 x4 x5 x6 x7 x8).1 = (fun _ => 1#1) ∧ (fn (F := Ideal) x0 x1 x2 x3 x4 x5 x6 x7 x8).2.1 = (fun _ => 1#1)
      ∧ (fn (F := Ideal) x0 x1 x2 x3 x4 x5 x6 x7 x8).2.2 = (fun _ => 1#1)) :
    (∀ i, ∃ k : Fin 256, x0 i = BitVec.ofNat 32 k.val) ∧ (∀ i, IsReal (x4 i)) ∧ (∀ i, IsReal (x1 i)) := by
  obtain ⟨h1, h2, h3⟩ := h
  simp only [fn] at h1 h2 h3
  refine ⟨fun i => ?_, fun i => ?_, fun i => ?_⟩
  · have hi := congrFun h1 i
    simp only [cmpi, broadcastInDim, constantI, andi] at hi
    obtain ⟨ha, hb⟩ := and_one _ _ hi
    exact Take.of_range _ ha hb
  · have hi := congrFun h2 i
    simp only [cmpf, broadcastInDim, constant, Host.absf] at hi
    exact isReal_of_olt _ hi
  · have hi := congrFun h3 i
    simp only [cmpf, broadcastInDim, constant, Host.absf] at hi
    exact isReal_of_olt _ hi

/-- The reference's result at an index: the decoder's row. -/
theorem ref_apply (x0 : (⟨Cert.DecRefIdeal.S8x2048, .i32⟩ : BufTy).Contents (Elt Ideal)) (x1 x2 : (⟨Cert.DecRefIdeal.S8x16x768, .f32⟩ : BufTy).Contents (Elt Ideal))
    (x3 : (⟨Cert.DecRefIdeal.S256x768, .f32⟩ : BufTy).Contents (Elt Ideal)) (x4 x5 : (⟨Cert.DecRefIdeal.S768x768, .f32⟩ : BufTy).Contents (Elt Ideal))
    (x6 : (⟨Cert.DecRefIdeal.S768x2048, .f32⟩ : BufTy).Contents (Elt Ideal)) (x7 : (⟨Cert.DecRefIdeal.S2048x768, .f32⟩ : BufTy).Contents (Elt Ideal))
    (x8 : (⟨Cert.DecRefIdeal.S768x256, .f32⟩ : BufTy).Contents (Elt Ideal))
    (b : Fin 8) (T : Fin 2048) (j : Fin 256) (i : Fin 256) (hi : x0 (ix2 b T) = BitVec.ofNat 32 i.val) :
    Cert.DecRefIdeal.Read.val_main_v80 (F := Ideal) x0 x1 x2 x3 x4 x5 x6 x7 x8 (ix3 b T j)
      = logits 8 96 rfl DecBlock.c768 DecBlock.eps DecBlock.rs96 gC gS half 1 (fun j => x3 (ix2 i j))
          (fun t j => x1 (ix3 b t j)) (fun t j => x2 (ix3 b t j)) (fun k j => x4 (ix2 k j)) (fun k j => x5 (ix2 k j))
          (fun k j => x6 (ix2 k j)) (fun k j => x7 (ix2 k j)) (fun k j => x8 (ix2 k j)) j := by
  rw [DecRefValue.v80_apply]
  simp only [DecRefValue.v67_apply, DecRefValue.v65_apply, DecRefValue.v52_apply, DecRefValue.v39_apply, DecRefValue.v37_apply, DecRefValue.v13_apply,
    DecRefValue.v0_apply x0 x3 b T _ i hi, ofBits_gC, ofBits_gS, ofBits_half, ofBits_one]
  rfl

/-- The kernel and its reference end with equal results. -/
theorem algebraic : Cert.algebraic_DecIdeal_DecRefIdeal_pre_decoder_inputs := by
  intro m g m' g' hpre hm
  refine ⟨fun c => (Cert.DecIdeal.Gen.dats m 0 c).arrAt 9 Cert.DecIdeal.cfg0.N, Cert.DecIdeal.Value.run_blocks m g, ?_⟩
  refine (θ_run Cert.DecRefIdeal.defs _ _).mono (fun r h c => ⟨?_, (h c).2⟩) (Cert.DecRefIdeal.Value.run (F := Ideal) m' g')
  refine (h c).1.trans ((Cert.DecRefIdeal.Read.val_main_v80_eq _).trans ?_)
  obtain ⟨e0, e1, e2, e3, e4, e5, e6, e7, e8⟩ := hm c
  obtain ⟨hr, hq, hk⟩ := pre_read _ _ _ _ _ _ _ _ _ (hpre c)
  funext x
  obtain ⟨b, T, j, rfl⟩ : ∃ b T j, x = ix3 b T j := ⟨x 0, x 1, x 2, (ix3_eta x).symm⟩
  obtain ⟨i, hi⟩ := hr (ix2 b T)
  refine Eq.trans ?_ (DecArr.arr_apply m c (fun b t j => hk _) (fun k j => hq _) b T j i hi).symm
  refine (ref_apply _ _ _ _ _ _ _ _ _ b T j i ((congrFun e0 _).trans hi)).trans ?_
  show logits 8 96 rfl DecBlock.c768 DecBlock.eps DecBlock.rs96 gC gS half 1 (fun j => m' (c.tc.loc Cert.DecRefIdeal.main_arg3) (ix2 i j))
      (fun t j => m' (c.tc.loc Cert.DecRefIdeal.main_arg1) (ix3 b t j)) (fun t j => m' (c.tc.loc Cert.DecRefIdeal.main_arg2) (ix3 b t j))
      (fun k j => m' (c.tc.loc Cert.DecRefIdeal.main_arg4) (ix2 k j)) (fun k j => m' (c.tc.loc Cert.DecRefIdeal.main_arg5) (ix2 k j))
      (fun k j => m' (c.tc.loc Cert.DecRefIdeal.main_arg6) (ix2 k j)) (fun k j => m' (c.tc.loc Cert.DecRefIdeal.main_arg7) (ix2 k j))
      (fun k j => m' (c.tc.loc Cert.DecRefIdeal.main_arg8) (ix2 k j)) j = _
  rw [e1, e2, e3, e4, e5, e6, e7, e8]

/-- The reference runs and keeps its arguments; it declares no semaphore. -/
theorem frame_ref : Cert.quiescent_DecRefIdeal := fun m ρ _ =>
  (θ_run Cert.DecRefIdeal.defs _ _).mono (fun r h => ⟨fun c => (h c).2, sem_eq_zero_of_no_sems (by decide) r.2⟩)
    (Cert.DecRefIdeal.Value.run (F := Ideal) m ρ)

/-- The named constants stand for the kernel's own. -/
theorem preserves : Cert.preserves_Dec_DecIdeal :=
  ⟨IdealRules.named_const.statement Cert.DecIdeal.κ "rs96" .f32 0x3DD105EC#32 _ rfl,
   IdealRules.named_const.statement Cert.DecIdeal.κ "gelu_cubic" .bf16 0x3D37#16 _ rfl,
   IdealRules.named_const.statement Cert.DecIdeal.κ "gelu_scale" .bf16 0x3F4C#16 _ rfl⟩

end Cert.DecClaim
-- ==== Proof.EncHeads.lean ====
module

public import proofs.«01_k».proof.Proof.Lanes
public import proofs.«01_k».proof.Proof.Gen.EncIdeal.Value

@[expose] public section

/-! The encoder's block computation: the embeddings, the projections and the masked copies of queries and values, at an index. -/

noncomputable section

namespace Cert.EncBlock

open Idealize.ShloMosaic Cert.EncIdeal Cert.EncIdeal.Gen Cert.Rows Cert.Lanes

/-- The row length 512 as the programs spell it. -/
abbrev c512 : EReal := Ideal.ofBits .f32 0x44000000#32
/-- The variance's addend. -/
abbrev eps : EReal := Ideal.ofBits .f32 0x3727C5AC#32
/-- The score scale, one eighth. -/
abbrev c8 : EReal := Ideal.ofBits .f32 0x3E000000#32
/-- The patch length 128. -/
abbrev c128 : EReal := Ideal.ofBits .f32 0x43000000#32

/-- The head mask's flag at a lane. -/
theorem flag_lane (h : Fin 8) (j : Fin 512) :
    (if BitVec.ofNat 32 (j.val / 64) = BitVec.ofNat 32 h.val then (1 : EReal) else 0) = mask 8 64 rfl h j := by
  rw [mask]
  refine if_congr ?_ rfl rfl
  have h1 := j.isLt; have h2 := h.isLt
  rw [ofNat_inj _ _ (by omega) (by omega)]
  exact ⟨fun e => Fin.ext e, fun e => congrArg Fin.val e⟩

/-- The embedding rows: a one-hot matrix product picks the row the id names. -/
theorem pay2_apply (v0 : Vec Ideal S1x1x512 .i32) (v8 : Vec Ideal S256x512 .bf16) (r : Fin 512) (j : Fin 512) (i : Fin 256)
    (hi : v0 (ix3 0 0 r) = BitVec.ofNat 32 i.val) :
    k0_pay2 v0 v8 (ix2 r j) = v8 (ix2 i j) := by
  unfold k0_pay2
  pointwise [dot_S256x512_S256x512_S512x512_0_0_1_1_n_n, flag, hi]
  rw [Finset.sum_eq_single i]
  · rw [if_pos rfl, one_mul]
  · intro k _ hk
    rw [if_neg, zero_mul]
    have h1 := k.isLt; have h2 := i.isLt
    rw [ofNat_inj _ _ (by omega) (by omega)]
    exact fun e => hk (Fin.ext e)
  · intro hh; exact absurd (Finset.mem_univ _) hh

/-- The normalised rows. -/
theorem pay3_apply (v0 : Vec Ideal S1x1x512 .i32) (v8 : Vec Ideal S256x512 .bf16) (r : Fin 512) (j : Fin 512) :
    k0_pay3 v0 v8 (ix2 r j) = ln c512 eps (fun k => k0_pay2 v0 v8 (ix2 r k)) j := by
  unfold k0_pay3
  generalize k0_pay2 v0 v8 = y
  pointwise [ln, mean]

/-- The normalised and projected query rows. -/
theorem pay4_apply (v0 : Vec Ideal S1x1x512 .i32) (v8 : Vec Ideal S256x512 .bf16) (v31 : Vec Ideal S512x512 .bf16) (r : Fin 512) (j : Fin 512) :
    k0_pay4 v0 v8 v31 (ix2 r j) = mul (ln c512 eps fun k => k0_pay2 v0 v8 (ix2 r k)) (fun k j => v31 (ix2 k j)) j := by
  have h : ∀ k, k0_pay3 v0 v8 (ix2 r k) = ln c512 eps (fun k => k0_pay2 v0 v8 (ix2 r k)) k := pay3_apply v0 v8 r
  unfold k0_pay4
  generalize k0_pay3 v0 v8 = y at h
  pointwise [dot_S512x512_S512x512_S512x512_1_0_0_1_n_n, mul, h]

/-- The normalised and projected key rows. -/
theorem pay5_apply (v0 : Vec Ideal S1x1x512 .i32) (v8 : Vec Ideal S256x512 .bf16) (v31 : Vec Ideal S512x512 .bf16) (r : Fin 512) (j : Fin 512) :
    k0_pay5 v0 v8 v31 (ix2 r j) = mul (ln c512 eps fun k => k0_pay2 v0 v8 (ix2 r k)) (fun k j => v31 (ix2 k j)) j := by
  have h : ∀ k, k0_pay3 v0 v8 (ix2 r k) = ln c512 eps (fun k => k0_pay2 v0 v8 (ix2 r k)) k := pay3_apply v0 v8 r
  unfold k0_pay5
  generalize k0_pay3 v0 v8 = y at h
  pointwise [dot_S512x512_S512x512_S512x512_1_0_0_1_n_n, mul, h]

/-- The normalised and projected value rows. -/
theorem pay6_apply (v0 : Vec Ideal S1x1x512 .i32) (v8 : Vec Ideal S256x512 .bf16) (v31 : Vec Ideal S512x512 .bf16) (r : Fin 512) (j : Fin 512) :
    k0_pay6 (k0_pay3 v0 v8) v31 (ix2 r j) = mul (ln c512 eps fun k => k0_pay2 v0 v8 (ix2 r k)) (fun k j => v31 (ix2 k j)) j := by
  have h : ∀ k, k0_pay3 v0 v8 (ix2 r k) = ln c512 eps (fun k => k0_pay2 v0 v8 (ix2 r k)) k := pay3_apply v0 v8 r
  unfold k0_pay6
  generalize k0_pay3 v0 v8 = y at h
  pointwise [dot_S512x512_S512x512_S512x512_1_0_0_1_n_n, mul, h]

/-- The eight masked copies of the queries. -/
def qs (q : FVec Ideal S512x512 .f32) (h : Fin 8) : FVec Ideal S512x512 .bf16 :=
  ![k0_pay7 q, k0_pay10 q (iota .tc S1x512 32 [1] iota_S1x512_d1_w32) 64#32 k0_pay8 k0_pay9 (Scalar.extui (Scalar.cmpi .sgt 64#32 0#32)),
    k0_pay12 q k0_pay11, k0_pay13 q,
    k0_pay16 q (iota .tc S1x512 32 [1] iota_S1x512_d1_w32) 64#32 k0_pay14 k0_pay15 (Scalar.extui (Scalar.cmpi .sgt 64#32 0#32)),
    k0_pay18 q k0_pay17, k0_pay19 q,
    k0_pay22 q (iota .tc S1x512 32 [1] iota_S1x512_d1_w32) 64#32 k0_pay20 k0_pay21 (Scalar.extui (Scalar.cmpi .sgt 64#32 0#32))] h

/-- The eight masked copies of the values. -/
def vs (v : FVec Ideal S512x512 .f32) (h : Fin 8) : FVec Ideal S512x512 .bf16 :=
  ![k0_pay24 v k0_pay23, k0_pay25 v,
    k0_pay28 v (iota .tc S1x512 32 [1] iota_S1x512_d1_w32) 64#32 k0_pay26 k0_pay27 (Scalar.extui (Scalar.cmpi .sgt 64#32 0#32)),
    k0_pay30 v k0_pay29, k0_pay31 v,
    k0_pay34 v (iota .tc S1x512 32 [1] iota_S1x512_d1_w32) 64#32 k0_pay32 k0_pay33 (Scalar.extui (Scalar.cmpi .sgt 64#32 0#32)),
    k0_pay36 v k0_pay35, k0_pay37 v] h

/-- Each masked copy of the queries at an index. -/
theorem qs_apply (q : FVec Ideal S512x512 .f32) (h : Fin 8) (r j : Fin 512) : qs q h (ix2 r j) = q (ix2 r j) * mask 8 64 rfl h j := by
  rw [← flag_lane, ← fdiv_64]
  fin_cases h <;>
  pointwise [qs, k0_pay7, k0_pay8, k0_pay9, k0_pay10, k0_pay11, k0_pay12, k0_pay13, k0_pay14, k0_pay15, k0_pay16, k0_pay17, k0_pay18, k0_pay19, k0_pay20,
    k0_pay21, k0_pay22, fdiv_fold, flag, Fin.reduceFinMk]

/-- Each masked copy of the values at an index. -/
theorem vs_apply (v : FVec Ideal S512x512 .f32) (h : Fin 8) (r j : Fin 512) : vs v h (ix2 r j) = v (ix2 r j) * mask 8 64 rfl h j := by
  rw [← flag_lane, ← fdiv_64]
  fin_cases h <;>
  pointwise [vs, k0_pay23, k0_pay24, k0_pay25, k0_pay26, k0_pay27, k0_pay28, k0_pay29, k0_pay30, k0_pay31, k0_pay32, k0_pay33, k0_pay34, k0_pay35, k0_pay36,
    k0_pay37, fdiv_fold, flag, Fin.reduceFinMk]

end Cert.EncBlock
-- ==== Proof.EncPatch.lean ====
module

public import proofs.«01_k».proof.Proof.EncHeads

@[expose] public section

/-! The encoder's attention within one patch of 128 rows. -/

noncomputable section

namespace Cert.EncBlock

open Idealize.ShloMosaic Cert.EncIdeal Cert.EncIdeal.Gen Cert.Rows Cert.Lanes

/-- One head's attention weights: the softmax of the scaled scores. -/
def wgt (q k : FVec Ideal S128x512 .bf16) : FVec Ideal S128x128 .f32 :=
  let s : FVec Ideal S128x128 .f32 := mulf (matmul dot_S128x512_S128x512_S128x128_1_1_0_0_n_n none q k (constant S128x128 .f32 0x00000000#32)) (broadcast S128x128 (Scalar.ofBits .f32 0x3E000000#32 : Ideal .f32))
  let e : FVec Ideal S128x128 .f32 := exp (subf s (broadcastTo S128x128 (shapeCast S128x1 (multiReduction .maximumf [1] S128 s 0xFF800000#32 reduces_S128x128_S128 (.inl rfl) rfl) shapeCasts_S128_S128x1) broadcasts_S128x1_S128x128))
  divf e (broadcastTo S128x128 (shapeCast S128x1 (multiReduction .add [1] S128 e 0x00000000#32 reduces_S128x128_S128 (.inl rfl) rfl) shapeCasts_S128_S128x1) broadcasts_S128x1_S128x128)

/-- The weights at an index. -/
theorem wgt_apply (q k : FVec Ideal S128x512 .bf16) (r t : Fin 128) :
    wgt q k (ix2 r t) = soft (fun t' => (∑ j, q (ix2 r j) * k (ix2 t' j)) * c8) t := by
  have hs : ∀ t', (mulf (matmul dot_S128x512_S128x512_S128x128_1_1_0_0_n_n none q k (constant S128x128 .f32 0x00000000#32)) (broadcast S128x128 (Scalar.ofBits .f32 0x3E000000#32 : Ideal .f32)) : FVec Ideal S128x128 .f32) (ix2 r t') = (∑ j, q (ix2 r j) * k (ix2 t' j)) * c8 := by
    intro t'
    pointwise [dot_S128x512_S128x512_S128x128_1_1_0_0_n_n]
  simp only [← hs]
  unfold wgt
  generalize (mulf (matmul dot_S128x512_S128x512_S128x128_1_1_0_0_n_n none q k (constant S128x128 .f32 0x00000000#32)) (broadcast S128x128 (Scalar.ofBits .f32 0x3E000000#32 : Ideal .f32)) : FVec Ideal S128x128 .f32) = s
  pointwise [ofBits_neg_inf, soft]

/-- Eight weight matrices side by side, at an index. -/
theorem cat_wgt (f : Fin 8 → FVec Ideal S128x128 .f32)
    (h : Shape.Concatenates ((List.ofFn fun n : Fin 8 => (⟨S128x128, f n⟩ : (s : Shape) × (s.Idx → EReal))).map (·.1)) S128x1024 1)
    (r : Fin 128) (a : Fin 8) (t : Fin 128) :
    concatenate S128x1024 1 (List.ofFn fun n : Fin 8 => (⟨S128x128, f n⟩ : (s : Shape) × (s.Idx → EReal))) h (ix2 r (lane 8 128 rfl a t))
      = f a (ix2 r t) := by
  have ht := t.isLt
  refine concatenate_ofFn_apply 1 f h rfl 128 rfl _ a ?_ _ ?_ ?_
  · show (a.val * 128 + t.val) / 128 = a.val
    omega
  · show t.val = (a.val * 128 + t.val) % 128
    omega
  · intro b hb
    match b with
    | ⟨0, _⟩ => rfl
    | ⟨1, _⟩ => exact absurd rfl hb

/-- Eight value matrices below each other, at an index. -/
theorem cat_vals (f : Fin 8 → FVec Ideal S128x512 .bf16)
    (h : Shape.Concatenates ((List.ofFn fun n : Fin 8 => (⟨S128x512, f n⟩ : (s : Shape) × (s.Idx → EReal))).map (·.1)) S1024x512 0)
    (a : Fin 8) (t : Fin 128) (j : Fin 512) :
    concatenate S1024x512 0 (List.ofFn fun n : Fin 8 => (⟨S128x512, f n⟩ : (s : Shape) × (s.Idx → EReal))) h (ix2 (lane 8 128 rfl a t) j)
      = f a (ix2 t j) := by
  have ht := t.isLt
  refine concatenate_ofFn_apply 0 f h rfl 128 rfl _ a ?_ _ ?_ ?_
  · show (a.val * 128 + t.val) / 128 = a.val
    omega
  · show t.val = (a.val * 128 + t.val) % 128
    omega
  · intro b hb
    match b with
    | ⟨0, _⟩ => exact absurd rfl hb
    | ⟨1, _⟩ => rfl

/-- Four blocks of rows below each other, at an index. -/
theorem cat_rows (f : Fin 4 → FVec Ideal S128x512 .f32)
    (h : Shape.Concatenates ((List.ofFn fun n : Fin 4 => (⟨S128x512, f n⟩ : (s : Shape) × (s.Idx → EReal))).map (·.1)) S512x512 0)
    (a : Fin 4) (t : Fin 128) (j : Fin 512) :
    concatenate S512x512 0 (List.ofFn fun n : Fin 4 => (⟨S128x512, f n⟩ : (s : Shape) × (s.Idx → EReal))) h (ix2 (lane 4 128 rfl a t) j)
      = f a (ix2 t j) := by
  have ht := t.isLt
  refine concatenate_ofFn_apply 0 f h rfl 128 rfl _ a ?_ _ ?_ ?_
  · show (a.val * 128 + t.val) / 128 = a.val
    omega
  · show t.val = (a.val * 128 + t.val) % 128
    omega
  · intro b hb
    match b with
    | ⟨0, _⟩ => exact absurd rfl hb
    | ⟨1, _⟩ => rfl

/-- Four single rows below each other, at an index. -/
theorem cat_means (f : Fin 4 → FVec Ideal S1x512 .f32)
    (h : Shape.Concatenates ((List.ofFn fun n : Fin 4 => (⟨S1x512, f n⟩ : (s : Shape) × (s.Idx → EReal))).map (·.1)) S4x512 0)
    (a : Fin 4) (j : Fin 512) :
    concatenate S4x512 0 (List.ofFn fun n : Fin 4 => (⟨S1x512, f n⟩ : (s : Shape) × (s.Idx → EReal))) h (ix2 a j)
      = f a (ix2 0 j) := by
  refine concatenate_ofFn_apply 0 f h rfl 1 rfl _ a ?_ _ ?_ ?_
  · show a.val / 1 = a.val
    omega
  · show 0 = a.val % 1
    omega
  · intro b hb
    match b with
    | ⟨0, _⟩ => exact absurd rfl hb
    | ⟨1, _⟩ => rfl

/-- Weights times stacked values, at an index. -/
theorem weighted_apply (A : FVec Ideal S128x1024 .f32) (B : FVec Ideal S1024x512 .bf16) (r : Fin 128) (j : Fin 512) :
    matmul dot_S128x1024_S1024x512_S128x512_1_0_0_1_n_n none (truncf .bf16 A bitsLt_bf16_f32) B (constant S128x512 .f32 0x00000000#32) (ix2 r j)
      = ∑ c, A (ix2 r c) * B (ix2 c j) := by
  pointwise [dot_S128x1024_S1024x512_S128x512_1_0_0_1_n_n]

/-- The attention of one patch: its rows of the masked queries and values and of the keys. -/
def patch (q v : Fin 8 → FVec Ideal S512x512 .bf16) (k : FVec Ideal S512x512 .bf16) (o : Fin 2 → Nat) (ho : S512x512.Slices o S128x512) : FVec Ideal S128x512 .f32 :=
  matmul dot_S128x1024_S1024x512_S128x512_1_0_0_1_n_n none
    (truncf .bf16 (concatenate S128x1024 1 (List.ofFn fun n : Fin 8 => (⟨S128x128, wgt (extractStridedSlice S128x512 o (q n) ho) (extractStridedSlice S128x512 o k ho)⟩ : (s : Shape) × (s.Idx → EReal)))
      concatenates_S128x128_S128x128_S128x128_S128x128_S128x128_S128x128_S128x128_S128x128_S128x1024_d1 : FVec Ideal S128x1024 .f32) bitsLt_bf16_f32)
    (concatenate S1024x512 0 (List.ofFn fun n : Fin 8 => (⟨S128x512, extractStridedSlice S128x512 o (v n) ho⟩ : (s : Shape) × (s.Idx → EReal)))
      concatenates_S128x512_S128x512_S128x512_S128x512_S128x512_S128x512_S128x512_S128x512_S1024x512_d0 : FVec Ideal S1024x512 .bf16)
    (constant S128x512 .f32 0x00000000#32)

/-- Rows cut out of a block. -/
theorem cut_apply {φ : FTy} (x : FVec Ideal S512x512 φ) (p : Fin 4) (o : Fin 2 → Nat) (ho : S512x512.Slices o S128x512) (h0 : o 0 = p.val * 128) (h1 : o 1 = 0) (r : Fin 128) (j : Fin 512) :
    extractStridedSlice S128x512 o x ho (ix2 r j) = x (ix2 (lane 4 128 rfl p r) j) := by
  refine extractStridedSlice_apply o x ho _ _ (fun a => ?_)
  fin_cases a
  · show p.val * 128 + r.val = o 0 + r.val
    rw [h0]
  · show j.val = o 1 + j.val
    rw [h1, Nat.zero_add]

/-- The patch's attention at an index. -/
theorem patch_apply (q v : Fin 8 → FVec Ideal S512x512 .bf16) (k : FVec Ideal S512x512 .bf16) (Q V : FVec Ideal S512x512 .f32)
    (hq : ∀ h r j, q h (ix2 r j) = Q (ix2 r j) * mask 8 64 rfl h j) (hv : ∀ h r j, v h (ix2 r j) = V (ix2 r j) * mask 8 64 rfl h j)
    (p : Fin 4) (o : Fin 2 → Nat) (ho : S512x512.Slices o S128x512) (h0 : o 0 = p.val * 128) (h1 : o 1 = 0) (r : Fin 128) (j : Fin 512) :
    patch q v k o ho (ix2 r j)
      = attn 8 64 rfl c8 (fun i => Q (ix2 (lane 4 128 rfl p r) i)) (fun t i => k (ix2 (lane 4 128 rfl p t) i)) (fun t i => V (ix2 (lane 4 128 rfl p t) i)) j := by
  have ha : ∀ h t, (concatenate S128x1024 1 (List.ofFn fun n : Fin 8 => (⟨S128x128, wgt (extractStridedSlice S128x512 o (q n) ho) (extractStridedSlice S128x512 o k ho)⟩ : (s : Shape) × (s.Idx → EReal)))
      concatenates_S128x128_S128x128_S128x128_S128x128_S128x128_S128x128_S128x128_S128x128_S128x1024_d1 : FVec Ideal S128x1024 .f32) (ix2 r (lane 8 128 rfl h t))
      = soft (fun t' => score 8 64 rfl (fun i => Q (ix2 (lane 4 128 rfl p r) i)) (fun i => k (ix2 (lane 4 128 rfl p t') i)) h * c8) t := by
    intro h t
    refine (cat_wgt _ _ r h t).trans ?_
    rw [wgt_apply]
    simp only [cut_apply _ p o ho h0 h1, hq, score_masked]
  have hb : ∀ h t, (concatenate S1024x512 0 (List.ofFn fun n : Fin 8 => (⟨S128x512, extractStridedSlice S128x512 o (v n) ho⟩ : (s : Shape) × (s.Idx → EReal)))
      concatenates_S128x512_S128x512_S128x512_S128x512_S128x512_S128x512_S128x512_S128x512_S1024x512_d0 : FVec Ideal S1024x512 .bf16) (ix2 (lane 8 128 rfl h t) j)
      = V (ix2 (lane 4 128 rfl p t) j) * mask 8 64 rfl h j := by
    intro h t
    refine (cat_vals _ _ h t j).trans ?_
    rw [cut_apply _ p o ho h0 h1, hv]
  unfold patch
  rw [weighted_apply]
  exact sum_stacked 8 64 rfl rfl (fun h t => soft (fun t' => score 8 64 rfl (fun i => Q (ix2 (lane 4 128 rfl p r) i)) (fun i => k (ix2 (lane 4 128 rfl p t') i)) h * c8) t)
    (fun t i => V (ix2 (lane 4 128 rfl p t) i)) _ _ j ha hb

end Cert.EncBlock
-- ==== Proof.EncRow.lean ====
module

public import proofs.«01_k».proof.Proof.Rows

@[expose] public section

/-! The mathematics of the encoder on one patch. -/

noncomputable section

namespace Cert.Rows

open Idealize.ShloMosaic

/-- The encoder on one row of a patch: self-attention over the patch's rows, then the two-layer network. -/
def encRow {n p T : Nat} (H D : Nat) (hn : H * D = n) (c e s g₁ g₂ g₃ g₄ : EReal) (x : Fin T → Fin n → EReal)
    (Wq Wk Wv Wo : Fin n → Fin n → EReal) (F₁ : Fin n → Fin p → EReal) (F₂ : Fin p → Fin n → EReal) (r : Fin T) (j : Fin n) : EReal :=
  tail c e g₁ g₂ g₃ g₄ (x r) (attn H D hn s (mul (ln c e (x r)) Wq) (fun t => mul (ln c e (x t)) Wk) (fun t => mul (ln c e (x t)) Wv)) Wo F₁ F₂ j

/-- The encoder on one patch: the mean of its rows, by the count `d`. -/
def encPatch {n p T : Nat} (H D : Nat) (hn : H * D = n) (d c e s g₁ g₂ g₃ g₄ : EReal) (x : Fin T → Fin n → EReal)
    (Wq Wk Wv Wo : Fin n → Fin n → EReal) (F₁ : Fin n → Fin p → EReal) (F₂ : Fin p → Fin n → EReal) (j : Fin n) : EReal :=
  Ideal.div (∑ r, encRow H D hn c e s g₁ g₂ g₃ g₄ x Wq Wk Wv Wo F₁ F₂ r j) d

end Cert.Rows
-- ==== Proof.EncOut.lean ====
module

public import proofs.«01_k».proof.Proof.EncPatch
public import proofs.«01_k».proof.Proof.EncRow

@[expose] public section

/-! The encoder's block computation: the whole block's result from its operands. -/

noncomputable section

namespace Cert.EncBlock

open Idealize.ShloMosaic Cert.EncIdeal Cert.EncIdeal.Gen Cert.Rows Cert.Lanes

variable (x0 : Vec Ideal S1x1x512 .i32) (x1 : Vec Ideal S256x512 .bf16) (x2 : Vec Ideal S512x512 .bf16) (x3 : Vec Ideal S512x512 .bf16) (x4 : Vec Ideal S512x512 .bf16) (x5 : Vec Ideal S512x512 .bf16) (x6 : Vec Ideal S512x2048 .bf16) (x7 : Vec Ideal S2048x512 .bf16)

/-- The four patches' offsets in the block. -/
def offs (p : Fin 4) : Fin 2 → Nat := ![![0, 0], ![128, 0], ![256, 0], ![384, 0]] p

/-- A patch's rows lie within the block. -/
theorem offs_slices (p : Fin 4) : S512x512.Slices (offs p) S128x512 := by
  fin_cases p
  · exact slices_S512x512_o0_0_S128x512
  · exact slices_S512x512_o128_0_S128x512
  · exact slices_S512x512_o256_0_S128x512
  · exact slices_S512x512_o384_0_S128x512

/-- The first patch's attention. -/
theorem pay115_eq : k0_pay115 x0 x1 x2 x3 x4 x5 x6 x7
    = patch (qs (k0_pay94 x0 x1 x2 x3 x4 x5 x6 x7)) (vs (k0_pay96 x0 x1 x2 x3 x4 x5 x6 x7)) (k0_pay113 x0 x1 x2 x3 x4 x5 x6 x7) ![0, 0] slices_S512x512_o0_0_S128x512 := rfl

/-- The second patch's attention. -/
theorem pay117_eq : k0_pay117 x0 x1 x2 x3 x4 x5 x6 x7
    = patch (qs (k0_pay94 x0 x1 x2 x3 x4 x5 x6 x7)) (vs (k0_pay96 x0 x1 x2 x3 x4 x5 x6 x7)) (k0_pay113 x0 x1 x2 x3 x4 x5 x6 x7) ![128, 0] slices_S512x512_o128_0_S128x512 := rfl

/-- The third patch's attention. -/
theorem pay119_eq : k0_pay119 x0 x1 x2 x3 x4 x5 x6 x7
    = patch (qs (k0_pay94 x0 x1 x2 x3 x4 x5 x6 x7)) (vs (k0_pay96 x0 x1 x2 x3 x4 x5 x6 x7)) (k0_pay113 x0 x1 x2 x3 x4 x5 x6 x7) ![256, 0] slices_S512x512_o256_0_S128x512 := rfl

/-- The four patches' attention, below each other. -/
def att : FVec Ideal S512x512 .f32 :=
  concatenate S512x512 0 (List.ofFn fun n : Fin 4 => (⟨S128x512, patch (qs (k0_pay94 x0 x1 x2 x3 x4 x5 x6 x7)) (vs (k0_pay96 x0 x1 x2 x3 x4 x5 x6 x7)) (k0_pay113 x0 x1 x2 x3 x4 x5 x6 x7) (offs n) (offs_slices n)⟩ : (s : Shape) × (s.Idx → EReal)))
    concatenates_S128x512_S128x512_S128x512_S128x512_S512x512_d0

/-- The residual rows after the attention, from the four patches. -/
theorem pay129_eq : k0_pay129 x0 x1 x2 x3 x4 x5 x6 x7
    = addf (k0_pay93 x0 x1 x2 x3 x4 x5 x6 x7) (matmul (φ₂ := .bf16) dot_S512x512_S512x512_S512x512_1_0_0_1_n_n none (truncf .bf16 (att x0 x1 x2 x3 x4 x5 x6 x7) bitsLt_bf16_f32) (shapeCast S512x512 (View.ld x5 r0_2) shapeCasts_S512x512_S512x512) (constant S512x512 .f32 0x00000000#32)) := rfl

/-- The residual rows of the block: the embeddings of its ids. -/
theorem pay93_apply (r : Fin 512) (j : Fin 512) (i : Fin 256) (hi : x0 (ix3 0 0 r) = BitVec.ofNat 32 i.val) :
    k0_pay93 x0 x1 x2 x3 x4 x5 x6 x7 (ix2 r j) = x1 (ix2 i j) := by
  unfold k0_pay93
  rw [show View.ld x0 r0_0 = x0 from View.ld_unit_zero (by funext a; fin_cases a <;> rfl) _ _,
    show View.ld x1 r0_1 = x1 from View.ld_unit_zero (by funext a; fin_cases a <;> rfl) _ _, pay2_apply _ _ r j i hi]

/-- The queries, keys and values of the block. -/
theorem pay94_apply (r : Fin 512) (j : Fin 512) (i : Fin 256) (hi : x0 (ix3 0 0 r) = BitVec.ofNat 32 i.val) :
    k0_pay94 x0 x1 x2 x3 x4 x5 x6 x7 (ix2 r j) = mul (ln c512 eps fun k => x1 (ix2 i k)) (fun k j => x2 (ix2 k j)) j := by
  unfold k0_pay94
  rw [show View.ld x0 r0_0 = x0 from View.ld_unit_zero (by funext a; fin_cases a <;> rfl) _ _,
    show View.ld x1 r0_1 = x1 from View.ld_unit_zero (by funext a; fin_cases a <;> rfl) _ _,
    show View.ld x2 r0_2 = x2 from View.ld_unit_zero (by funext a; fin_cases a <;> rfl) _ _, pay4_apply]
  simp only [pay2_apply x0 x1 r _ i hi]

theorem pay113_apply (r : Fin 512) (j : Fin 512) (i : Fin 256) (hi : x0 (ix3 0 0 r) = BitVec.ofNat 32 i.val) :
    k0_pay113 x0 x1 x2 x3 x4 x5 x6 x7 (ix2 r j) = mul (ln c512 eps fun k => x1 (ix2 i k)) (fun k j => x3 (ix2 k j)) j := by
  have e : k0_pay113 x0 x1 x2 x3 x4 x5 x6 x7 (ix2 r j) = k0_pay5 (View.ld x0 r0_0) (View.ld x1 r0_1) (View.ld x3 r0_2) (ix2 r j) := rfl
  rw [e, show View.ld x0 r0_0 = x0 from View.ld_unit_zero (by funext a; fin_cases a <;> rfl) _ _,
    show View.ld x1 r0_1 = x1 from View.ld_unit_zero (by funext a; fin_cases a <;> rfl) _ _,
    show View.ld x3 r0_2 = x3 from View.ld_unit_zero (by funext a; fin_cases a <;> rfl) _ _, pay5_apply]
  simp only [pay2_apply x0 x1 r _ i hi]

theorem pay96_apply (r : Fin 512) (j : Fin 512) (i : Fin 256) (hi : x0 (ix3 0 0 r) = BitVec.ofNat 32 i.val) :
    k0_pay96 x0 x1 x2 x3 x4 x5 x6 x7 (ix2 r j) = mul (ln c512 eps fun k => x1 (ix2 i k)) (fun k j => x4 (ix2 k j)) j := by
  unfold k0_pay96
  rw [show View.ld x0 r0_0 = x0 from View.ld_unit_zero (by funext a; fin_cases a <;> rfl) _ _,
    show View.ld x1 r0_1 = x1 from View.ld_unit_zero (by funext a; fin_cases a <;> rfl) _ _,
    show View.ld x4 r0_2 = x4 from View.ld_unit_zero (by funext a; fin_cases a <;> rfl) _ _, pay6_apply]
  simp only [pay2_apply x0 x1 r _ i hi]

/-- The block's attention at an index. -/
theorem att_apply (p : Fin 4) (i : Fin 128 → Fin 256) (hi : ∀ r, x0 (ix3 0 0 (lane 4 128 rfl p r)) = BitVec.ofNat 32 (i r).val) (r : Fin 128) (j : Fin 512) :
    att x0 x1 x2 x3 x4 x5 x6 x7 (ix2 (lane 4 128 rfl p r) j)
      = attn 8 64 rfl c8 (mul (ln c512 eps fun k => x1 (ix2 (i r) k)) fun k j => x2 (ix2 k j))
          (fun t => mul (ln c512 eps fun k => x1 (ix2 (i t) k)) fun k j => x3 (ix2 k j)) (fun t => mul (ln c512 eps fun k => x1 (ix2 (i t) k)) fun k j => x4 (ix2 k j)) j := by
  refine (cat_rows _ _ p r j).trans ?_
  rw [patch_apply _ _ _ _ _ (qs_apply _) (vs_apply _) p (offs p) (offs_slices p) (by fin_cases p <;> rfl) (by fin_cases p <;> rfl)]
  simp only [fun r j => pay94_apply x0 x1 x2 x3 x4 x5 x6 x7 (lane 4 128 rfl p r) j (i r) (hi r), fun r j => pay113_apply x0 x1 x2 x3 x4 x5 x6 x7 (lane 4 128 rfl p r) j (i r) (hi r),
    fun r j => pay96_apply x0 x1 x2 x3 x4 x5 x6 x7 (lane 4 128 rfl p r) j (i r) (hi r)]

/-- Rows plus projected rows, at an index. -/
theorem proj_apply (y a : FVec Ideal S512x512 .f32) (w : Vec Ideal S512x512 .bf16) (r j : Fin 512) :
    addf y (matmul (φ₂ := .bf16) dot_S512x512_S512x512_S512x512_1_0_0_1_n_n none (truncf .bf16 a bitsLt_bf16_f32) (shapeCast S512x512 w shapeCasts_S512x512_S512x512) (constant S512x512 .f32 0x00000000#32)) (ix2 r j)
      = y (ix2 r j) + mul (fun k => a (ix2 r k)) (fun k j => w (ix2 k j)) j := by
  pointwise [dot_S512x512_S512x512_S512x512_1_0_0_1_n_n, mul]

/-- The residual rows after the attention and its output projection, from the operands. -/
theorem pay129_apply (p : Fin 4) (i : Fin 128 → Fin 256) (hi : ∀ r, x0 (ix3 0 0 (lane 4 128 rfl p r)) = BitVec.ofNat 32 (i r).val) (r : Fin 128) (j : Fin 512) :
    k0_pay129 x0 x1 x2 x3 x4 x5 x6 x7 (ix2 (lane 4 128 rfl p r) j)
      = x1 (ix2 (i r) j) + mul (attn 8 64 rfl c8 (mul (ln c512 eps fun k => x1 (ix2 (i r) k)) fun k j => x2 (ix2 k j))
          (fun t => mul (ln c512 eps fun k => x1 (ix2 (i t) k)) fun k j => x3 (ix2 k j)) (fun t => mul (ln c512 eps fun k => x1 (ix2 (i t) k)) fun k j => x4 (ix2 k j)))
          (fun k j => x5 (ix2 k j)) j := by
  rw [pay129_eq, proj_apply, pay93_apply x0 x1 x2 x3 x4 x5 x6 x7 _ j (i r) (hi r),
    show View.ld x5 r0_2 = x5 from View.ld_unit_zero (by funext a; fin_cases a <;> rfl) _ _]
  simp only [att_apply x0 x1 x2 x3 x4 x5 x6 x7 p i hi]

/-- The row means before the second normalisation. -/
theorem pay130_apply (r : Fin 512) : k0_pay130 x0 x1 x2 x3 x4 x5 x6 x7 (ix2 r 0) = mean c512 fun k => k0_pay129 x0 x1 x2 x3 x4 x5 x6 x7 (ix2 r k) := by
  unfold k0_pay130 k0_pay89 k0_pay129
  pointwise [mean]

/-- The residual rows after the two-layer network. -/
theorem pay90_apply (y : FVec Ideal S512x512 .f32) (F₁ : Vec Ideal S512x2048 .bf16) (F₂ : Vec Ideal S2048x512 .bf16)
    (m : FVec Ideal S512x1 .f32) (hm : ∀ r : Fin 512, m (ix2 r 0) = mean c512 fun k => y (ix2 r k)) (r : Fin 512) (j : Fin 512) :
    k0_pay90 y m F₁ F₂ (ix2 r j)
      = y (ix2 r j) + mul (fun k => gelu gC gS half (Ideal.ofBits .bf16 0x3F80#16) (mul (ln c512 eps fun i => y (ix2 r i)) (fun k j => F₁ (ix2 k j)) k)) (fun k j => F₂ (ix2 k j)) j := by
  unfold k0_pay90
  pointwise [dot_S512x2048_S2048x512_S512x512_1_0_0_1_n_n, dot_S512x512_S512x2048_S512x2048_1_0_0_1_n_n, mul, hm]
  exact congrArg (y (ix2 r j) + ·) (Finset.sum_congr rfl fun k _ => congrArg (· * _) (gelu_half_first gC gS half _ _))

/-- One patch's mean row. -/
def pool (z : FVec Ideal S512x512 .f32) (o : Fin 2 → Nat) (ho : S512x512.Slices o S128x512) : FVec Ideal S1x512 .f32 :=
  divf (shapeCast S1x512 (multiReduction .add [0] S512 (extractStridedSlice S128x512 o z ho) 0x00000000#32 reduces_S128x512_S512 (.inl rfl) rfl) shapeCasts_S512_S1x512) (broadcast S1x512 (Scalar.ofBits .f32 0x43000000#32 : Ideal .f32))

/-- A mean row at an index. -/
theorem pool_apply (z : FVec Ideal S512x512 .f32) (p : Fin 4) (j : Fin 512) :
    pool z (offs p) (offs_slices p) (ix2 0 j) = Ideal.div (∑ r, z (ix2 (lane 4 128 rfl p r) j)) c128 := by
  have h : ∀ r, extractStridedSlice S128x512 (offs p) z (offs_slices p) (ix2 r j) = z (ix2 (lane 4 128 rfl p r) j) :=
    fun r => cut_apply z p (offs p) (offs_slices p) (by fin_cases p <;> rfl) (by fin_cases p <;> rfl) r j
  simp only [← h]
  unfold pool
  generalize extractStridedSlice S128x512 (offs p) z (offs_slices p) = x
  pointwise

/-- The four mean rows. -/
def pools (z : FVec Ideal S512x512 .f32) : FVec Ideal S4x512 .f32 :=
  concatenate S4x512 0 (List.ofFn fun n : Fin 4 => (⟨S1x512, pool z (offs n) (offs_slices n)⟩ : (s : Shape) × (s.Idx → EReal))) concatenates_S1x512_S1x512_S1x512_S1x512_S4x512_d0

/-- The block's result: the four mean rows. -/
theorem pay1_eq (y : FVec Ideal S512x512 .f32) (m : FVec Ideal S512x1 .f32) (F₁ : Vec Ideal S512x2048 .bf16) (F₂ : Vec Ideal S2048x512 .bf16) :
    k0_pay1 (k0_pay90 y m F₁ F₂) (k0_pay91 y m F₁ F₂) (k0_pay92 y m F₁ F₂) = shapeCast S1x4x512 (pools (k0_pay90 y m F₁ F₂)) shapeCasts_S4x512_S1x4x512 := rfl

/-- The whole block's result. -/
theorem out_apply (p : Fin 4) (i : Fin 128 → Fin 256) (hi : ∀ r, x0 (ix3 0 0 (lane 4 128 rfl p r)) = BitVec.ofNat 32 (i r).val) (j : Fin 512) :
    out0_8 x0 x1 x2 x3 x4 x5 x6 x7 (ix3 0 p j)
      = encPatch 8 64 rfl c128 c512 eps c8 gC gS half (Ideal.ofBits .bf16 0x3F80#16) (fun r j => x1 (ix2 (i r) j))
          (fun k j => x2 (ix2 k j)) (fun k j => x3 (ix2 k j)) (fun k j => x4 (ix2 k j)) (fun k j => x5 (ix2 k j)) (fun k j => x6 (ix2 k j)) (fun k j => x7 (ix2 k j)) j := by
  have h6 : View.ld x6 r0_3 = x6 := View.ld_unit_zero (by funext a; fin_cases a <;> rfl) _ _
  have h7 : View.ld x7 r0_4 = x7 := View.ld_unit_zero (by funext a; fin_cases a <;> rfl) _ _
  have hp : ∀ z : FVec Ideal S512x512 .f32, shapeCast S1x4x512 (pools z) shapeCasts_S4x512_S1x4x512 (ix3 0 p j) = Ideal.div (∑ r, z (ix2 (lane 4 128 rfl p r) j)) c128 := by
    intro z
    have hz : pools z (ix2 p j) = pool z (offs p) (offs_slices p) (ix2 0 j) := cat_means _ _ p j
    rw [← pool_apply, ← hz]
    generalize pools z = w
    refine shapeCast_apply _ _ _ _ ?_
    rw [Shape.rowMajor_val_three, Shape.rowMajor_val_two]
    show p.val * 512 + j.val = (0 * 4 + p.val) * 512 + j.val
    omega
  unfold out0_8
  rw [View.canon_unit_zero (by funext a; fin_cases a <;> rfl), h6, h7, pay1_eq, hp]
  simp only [pay90_apply _ _ _ _ (pay130_apply x0 x1 x2 x3 x4 x5 x6 x7), pay129_apply x0 x1 x2 x3 x4 x5 x6 x7 p i hi]
  rfl

end Cert.EncBlock
-- ==== Proof.EncArr.lean ====
module

public import proofs.«01_k».proof.Proof.EncOut
public import Idealize.ShloMosaic.Lib.StableHlo.RunRead

@[expose] public section

/-! The encoder's result array, at an index: the blocks of the grid and the operands they read. -/

noncomputable section

namespace Cert.EncArr

open Idealize.ShloMosaic Idealize.ShloMosaic.TcCoe Cert.EncIdeal Cert.EncIdeal.Gen Cert.Rows

variable (m : (ℓ : Loc nD τ sig) → Buf (Elt Ideal) ℓ) (c : Dev nD)

/-- The ids in blocks, as the region finds them. -/
theorem V_ids : V m c main_call0_v0 = shapeCast S32x1x512 (m ((c : Thread nD τ).loc main_arg0)) shapeCasts_S8x2048_S32x1x512 := by
  show StableHlo.after hostOps0 _ _ = _
  after_reads_simp
  rfl

/-- The narrowed embedding table. -/
theorem V_w1 : V m c main_call0_v1 = m ((c : Thread nD τ).loc main_arg1) := by
  show StableHlo.after hostOps0 _ _ = _
  after_reads_simp
  rfl

/-- The narrowed query weights. -/
theorem V_w2 : V m c main_call0_v2 = m ((c : Thread nD τ).loc main_arg2) := by
  show StableHlo.after hostOps0 _ _ = _
  after_reads_simp
  rfl

/-- The narrowed key weights. -/
theorem V_w3 : V m c main_call0_v3 = m ((c : Thread nD τ).loc main_arg3) := by
  show StableHlo.after hostOps0 _ _ = _
  after_reads_simp
  rfl

/-- The narrowed value weights. -/
theorem V_w4 : V m c main_call0_v4 = m ((c : Thread nD τ).loc main_arg4) := by
  show StableHlo.after hostOps0 _ _ = _
  after_reads_simp
  rfl

/-- The narrowed output weights. -/
theorem V_w5 : V m c main_call0_v5 = m ((c : Thread nD τ).loc main_arg5) := by
  show StableHlo.after hostOps0 _ _ = _
  after_reads_simp
  rfl

/-- The network's narrowed first weights. -/
theorem V_w6 : V m c main_call0_v6 = m ((c : Thread nD τ).loc main_arg6) := by
  show StableHlo.after hostOps0 _ _ = _
  after_reads_simp
  rfl

/-- The network's narrowed second weights. -/
theorem V_w7 : V m c main_call0_v7 = m ((c : Thread nD τ).loc main_arg7) := by
  show StableHlo.after hostOps0 _ _ = _
  after_reads_simp
  rfl

/-- The block a grid point writes. -/
theorem index8 : ∀ t : Fin grid0.N, win0_8.index t = ![t.val, 0, 0] := by decide +kernel

/-- The ids' block of a grid point. -/
theorem index0 : ∀ t : Fin grid0.N, win0_0.index t = ![t.val, 0, 0] := by decide +kernel

/-- Every grid point writes its block back. -/
theorem flush8 : ∀ t : Fin grid0.N, win0_8.flush t = true := by decide +kernel

/-- The ids a grid point reads. -/
theorem iblk0 (t : Fin cfg0.N) (r : Fin 512) (i : Fin 32) (hi : i.val = t.val) : iblk m c 0 t (ix3 0 0 r) = V m c main_call0_v0 (ix3 i 0 r) := by
  unfold iblk
  refine congrArg (V m c main_call0_v0) (funext fun a => Fin.ext ?_)
  fin_cases a
  · show win0_0.index t 0 * 1 + 1 * 0 = i.val
    rw [index0, hi]
    simp
  · show win0_0.index t 1 * 1 + 1 * 0 = 0
    rw [index0]
    simp
  · show win0_0.index t 2 * 512 + 1 * r.val = r.val
    rw [index0]
    simp

/-- The embedding table a grid point reads. -/
theorem iblk1 (t : Fin cfg0.N) (k : Fin 256) (j : Fin 512) : iblk m c 1 t (ix2 k j) = V m c main_call0_v1 (ix2 k j) := by
  unfold iblk
  refine congrArg (V m c main_call0_v1) (funext fun a => Fin.ext ?_)
  fin_cases a
  · show 0 * 256 + 1 * k.val = k.val
    simp
  · show 0 * 512 + 1 * j.val = j.val
    simp

/-- The query weights a grid point reads. -/
theorem iblk2 (t : Fin cfg0.N) (k : Fin 512) (j : Fin 512) : iblk m c 2 t (ix2 k j) = V m c main_call0_v2 (ix2 k j) := by
  unfold iblk
  refine congrArg (V m c main_call0_v2) (funext fun a => Fin.ext ?_)
  fin_cases a
  · show 0 * 512 + 1 * k.val = k.val
    simp
  · show 0 * 512 + 1 * j.val = j.val
    simp

/-- The key weights a grid point reads. -/
theorem iblk3 (t : Fin cfg0.N) (k : Fin 512) (j : Fin 512) : iblk m c 3 t (ix2 k j) = V m c main_call0_v3 (ix2 k j) := by
  unfold iblk
  refine congrArg (V m c main_call0_v3) (funext fun a => Fin.ext ?_)
  fin_cases a
  · show 0 * 512 + 1 * k.val = k.val
    simp
  · show 0 * 512 + 1 * j.val = j.val
    simp

/-- The value weights a grid point reads. -/
theorem iblk4 (t : Fin cfg0.N) (k : Fin 512) (j : Fin 512) : iblk m c 4 t (ix2 k j) = V m c main_call0_v4 (ix2 k j) := by
  unfold iblk
  refine congrArg (V m c main_call0_v4) (funext fun a => Fin.ext ?_)
  fin_cases a
  · show 0 * 512 + 1 * k.val = k.val
    simp
  · show 0 * 512 + 1 * j.val = j.val
    simp

/-- The output weights a grid point reads. -/
theorem iblk5 (t : Fin cfg0.N) (k : Fin 512) (j : Fin 512) : iblk m c 5 t (ix2 k j) = V m c main_call0_v5 (ix2 k j) := by
  unfold iblk
  refine congrArg (V m c main_call0_v5) (funext fun a => Fin.ext ?_)
  fin_cases a
  · show 0 * 512 + 1 * k.val = k.val
    simp
  · show 0 * 512 + 1 * j.val = j.val
    simp

/-- The network's first weights a grid point reads. -/
theorem iblk6 (t : Fin cfg0.N) (k : Fin 512) (j : Fin 2048) : iblk m c 6 t (ix2 k j) = V m c main_call0_v6 (ix2 k j) := by
  unfold iblk
  refine congrArg (V m c main_call0_v6) (funext fun a => Fin.ext ?_)
  fin_cases a
  · show 0 * 512 + 1 * k.val = k.val
    simp
  · show 0 * 2048 + 1 * j.val = j.val
    simp

/-- The network's second weights a grid point reads. -/
theorem iblk7 (t : Fin cfg0.N) (k : Fin 2048) (j : Fin 512) : iblk m c 7 t (ix2 k j) = V m c main_call0_v7 (ix2 k j) := by
  unfold iblk
  refine congrArg (V m c main_call0_v7) (funext fun a => Fin.ext ?_)
  fin_cases a
  · show 0 * 2048 + 1 * k.val = k.val
    simp
  · show 0 * 512 + 1 * j.val = j.val
    simp

/-- The ids of a block are the ids of its quarter of a batch row. -/
theorem ids_apply (x : Vec Ideal S8x2048 .i32) (b : Fin 8) (r : Fin 512) (i : Fin 32) (hb : b.val = i.val / 4) (T : Fin 2048) (hT : T.val = i.val % 4 * 512 + r.val) :
    shapeCast S32x1x512 x shapeCasts_S8x2048_S32x1x512 (ix3 i 0 r) = x (ix2 b T) := by
  refine shapeCast_apply x _ _ _ ?_
  have h1 := i.isLt; have h3 := r.isLt
  rw [Shape.rowMajor_val_three, Shape.rowMajor_val_two]
  show b.val * 2048 + T.val = (i.val * 1 + 0) * 512 + r.val
  omega

/-- The result array, read at an index of a block. -/
theorem read8 (G : Vec Ideal S32x4x512 .f32) (t : Fin cfg0.N) (g : Fin 32) (hg : g.val = t.val) (p : Fin 4) (j : Fin 512) :
    ((cfg0.win 8).blk t).view.read (Elt Ideal) G (ix3 0 p j) = G (ix3 g p j) := by
  refine congrArg G (funext fun a => Fin.ext ?_)
  fin_cases a
  · show win0_8.index t 0 * 1 + 1 * 0 = g.val
    rw [index8, hg]
    simp
  · show win0_8.index t 1 * 4 + 1 * p.val = p.val
    rw [index8]
    simp
  · show win0_8.index t 2 * 512 + 1 * j.val = j.val
    rw [index8]
    simp

/-- The result array at an index: the encoder on the patch, whose rows are the table's rows the ids name. -/
theorem arr_apply (g : Fin 32) (p : Fin 4) (j : Fin 512) (b : Fin 8) (hb : b.val = g.val / 4) (T : Fin 128 → Fin 2048)
    (hT : ∀ r, (T r).val = g.val % 4 * 512 + p.val * 128 + r.val) (i : Fin 128 → Fin 256)
    (hi : ∀ r, m ((c : Thread nD τ).loc main_arg0) (ix2 b (T r)) = BitVec.ofNat 32 (i r).val) :
    (dats m 0 c).arrAt 8 cfg0.N (ix3 g p j)
      = encPatch 8 64 rfl EncBlock.c128 EncBlock.c512 EncBlock.eps EncBlock.c8 gC gS half (Ideal.ofBits .bf16 0x3F80#16)
          (fun r j => m ((c : Thread nD τ).loc main_arg1) (ix2 (i r) j)) (fun k j => m ((c : Thread nD τ).loc main_arg2) (ix2 k j))
          (fun k j => m ((c : Thread nD τ).loc main_arg3) (ix2 k j)) (fun k j => m ((c : Thread nD τ).loc main_arg4) (ix2 k j))
          (fun k j => m ((c : Thread nD τ).loc main_arg5) (ix2 k j)) (fun k j => m ((c : Thread nD τ).loc main_arg6) (ix2 k j))
          (fun k j => m ((c : Thread nD τ).loc main_arg7) (ix2 k j)) j := by
  have hg := g.isLt
  let t : Fin cfg0.N := ⟨g.val, hg⟩
  rw [← read8 ((dats m 0 c).arrAt 8 cfg0.N) t g rfl p j, Value.blocks8 m c t (flush8 t), Value.flushed8]
  show out0_8 _ _ _ _ _ _ _ _ (ix3 0 p j) = _
  have e0 : ∀ r, iblk m c 0 t (ix3 0 0 (lane 4 128 rfl p r)) = BitVec.ofNat 32 (i r).val := by
    intro r
    rw [iblk0 m c t _ g rfl, V_ids, ids_apply _ b _ g hb (T r) ((hT r).trans (Nat.add_assoc _ _ _)), hi]
  rw [EncBlock.out_apply (iblk m c 0 t) (iblk m c 1 t) (iblk m c 2 t) (iblk m c 3 t) (iblk m c 4 t) (iblk m c 5 t) (iblk m c 6 t) (iblk m c 7 t) p i e0 j]
  simp only [iblk1, iblk2, iblk3, iblk4, iblk5, iblk6, iblk7]
  rw [V_w1, V_w2, V_w3, V_w4, V_w5, V_w6, V_w7]

end Cert.EncArr
-- ==== Proof.EncRef.lean ====
module

public import proofs.«01_k».proof.Proof.EncRow
public import proofs.«01_k».proof.Proof.Gen.EncRefIdeal.Read

@[expose] public section

/-! What the encoder's reference computes, at an index: the normalisation, the projections and the scores. -/

noncomputable section

namespace Cert.EncRefValue

open Idealize.ShloMosaic Cert.EncRefIdeal Cert.EncRefIdeal.Read Cert.EncRefIdeal.Gen Cert.Rows

/-- The host's layer normalisation of all rows. -/
def lnHost (x : FVec Ideal S128x128x512 .f32) : FVec Ideal S128x128x512 .f32 :=
  let m : FVec Ideal S128x128x1 .f32 := Host.divf (broadcastInDim S128x128x1 ![0, 1] bcast_S128x128_S128x128x1_0_1 (Host.reduceAdd x (constant S_ .f32 0x00000000#32) reducesTo_S128x128x512_S128x128_d2 h_S_)) (broadcastInDim S128x128x1 ![] bcast_S_S128x128x1 (constant S_ .f32 0x44000000#32))
  let d : FVec Ideal S128x128x512 .f32 := subf x (broadcastInDim S128x128x512 ![0, 1, 2] bcast_S128x128x1_S128x128x512_0_1_2 m)
  let n : FVec Ideal S_ .f32 := subf (constant S_ .f32 0x44000000#32) (sitofp .f32 (constantI S_ 32 0#32))
  let q : FVec Ideal S128x128x1 .f32 := Host.divf (broadcastInDim S128x128x1 ![0, 1] bcast_S128x128_S128x128x1_0_1 (Host.reduceAdd (mulf d d) (constant S_ .f32 0x00000000#32) reducesTo_S128x128x512_S128x128_d2 h_S_)) (broadcastInDim S128x128x1 ![] bcast_S_S128x128x1 n)
  let v : FVec Ideal S128x128x1 .f32 := select (broadcastInDim S128x128x1 ![] bcast_S_S128x128x1 (cmpf .ogt n (constant S_ .f32 0x00000000#32))) q (broadcastInDim S128x128x1 ![] bcast_S_S128x128x1 (constant S_ .f32 0x7FC00000#32))
  Host.divf d (broadcastInDim S128x128x512 ![0, 1, 2] bcast_S128x128x1_S128x128x512_0_1_2 (Host.sqrt (addf v (broadcastInDim S128x128x1 ![] bcast_S_S128x128x1 (constant S_ .f32 0x3727C5AC#32)))))

/-- The pattern of 512. -/
theorem ofBits_512 : Ideal.ofBits .f32 0x44000000#32 = ((512 : ℝ) : EReal) := by
  simp [Ideal.ofBits, Ideal.ieee, -EReal.coe_mul]
  norm_num

/-- The variance's divisor: the row length less nothing. -/
theorem count_eq : Ideal.ofBits .f32 0x44000000#32 - FloatOps.sitofp (F := Ideal) .f32 (0#32) = Ideal.ofBits .f32 0x44000000#32 := by
  simp [FloatOps.sitofp]

/-- Each row is normalised. -/
theorem lnHost_apply (x : FVec Ideal S128x128x512 .f32) (p r : Fin 128) (j : Fin 512) :
    lnHost x (ix3 p r j) = ln (Ideal.ofBits .f32 0x44000000#32) (Ideal.ofBits .f32 0x3727C5AC#32) (fun k => x (ix3 p r k)) j := by
  unfold lnHost
  pointwise
  rw [count_eq, if_pos (by rw [ofBits_512]; exact EReal.coe_pos.mpr (by norm_num))]
  rfl

/-- A projection of the normalised rows. -/
theorem proj_apply (y : FVec Ideal S128x128x512 .f32) (w : FVec Ideal S512x512 .f32) (p r : Fin 128) (j : Fin 512) :
    Host.dotGeneral (F := Ideal) dot_S128x128x512_S512x512_S128x128x512_2_0_01_1_n_n none (lnHost y) w (ix3 p r j)
      = mul (ln (Ideal.ofBits .f32 0x44000000#32) (Ideal.ofBits .f32 0x3727C5AC#32) fun k => y (ix3 p r k)) (fun k j => w (ix2 k j)) j := by
  pointwise [dot_S128x128x512_S512x512_S128x128x512_2_0_01_1_n_n, mul]
  simp only [lnHost_apply]

variable (x0 : (⟨S8x2048, .i32⟩ : BufTy).Contents (Elt Ideal)) (x1 : (⟨S256x512, .f32⟩ : BufTy).Contents (Elt Ideal))
  (x2 x3 x4 x5 : (⟨S512x512, .f32⟩ : BufTy).Contents (Elt Ideal)) (x6 : (⟨S512x2048, .f32⟩ : BufTy).Contents (Elt Ideal))
  (x7 : (⟨S2048x512, .f32⟩ : BufTy).Contents (Elt Ideal))

/-- The queries. -/
theorem v14_apply (p r : Fin 128) (j : Fin 512) :
    val_main_v14 (F := Ideal) x0 x1 x2 (ix3 p r j)
      = mul (ln (Ideal.ofBits .f32 0x44000000#32) (Ideal.ofBits .f32 0x3727C5AC#32) fun k => val_main_v1 (F := Ideal) x0 x1 (ix3 p r k)) (fun k j => x2 (ix2 k j)) j :=
  proj_apply (val_main_v1 (F := Ideal) x0 x1) x2 p r j

/-- The keys. -/
theorem v15_apply (p r : Fin 128) (j : Fin 512) :
    val_main_v15 (F := Ideal) x0 x1 x3 (ix3 p r j)
      = mul (ln (Ideal.ofBits .f32 0x44000000#32) (Ideal.ofBits .f32 0x3727C5AC#32) fun k => val_main_v1 (F := Ideal) x0 x1 (ix3 p r k)) (fun k j => x3 (ix2 k j)) j :=
  proj_apply (val_main_v1 (F := Ideal) x0 x1) x3 p r j

/-- The values. -/
theorem v16_apply (p r : Fin 128) (j : Fin 512) :
    val_main_v16 (F := Ideal) x0 x1 x4 (ix3 p r j)
      = mul (ln (Ideal.ofBits .f32 0x44000000#32) (Ideal.ofBits .f32 0x3727C5AC#32) fun k => val_main_v1 (F := Ideal) x0 x1 (ix3 p r k)) (fun k j => x4 (ix2 k j)) j :=
  proj_apply (val_main_v1 (F := Ideal) x0 x1) x4 p r j

/-- The scores' divisor: the root of 64. -/
theorem sqrt_64 : Ideal.sqrt (Ideal.ofBits .f32 0x42800000#32) = ((8 : ℝ) : EReal) := by
  rw [show Ideal.ofBits .f32 0x42800000#32 = ((64 : ℝ) : EReal) by simp [Ideal.ofBits, Ideal.ieee, -EReal.coe_mul]; norm_num]
  refine (if_neg (by norm_num)).trans (congrArg _ ?_)
  rw [show (64 : ℝ) = 8 ^ 2 by norm_num]
  exact Real.sqrt_sq (by norm_num)

/-- The pattern of an eighth. -/
theorem ofBits_eighth : Ideal.ofBits .f32 0x3E000000#32 = ((1 / 8 : ℝ) : EReal) := by
  simp [Ideal.ofBits, Ideal.ieee, -EReal.coe_mul]
  norm_num

/-- The scores of a query row, head by head. -/
theorem v26_apply (p : Fin 128) (h : Fin 8) (r t : Fin 128) :
    val_main_v26 (F := Ideal) x0 x1 x2 x3 (ix4 p h r t)
      = score 8 64 rfl (fun j => val_main_v14 (F := Ideal) x0 x1 x2 (ix3 p r j)) (fun j => val_main_v15 (F := Ideal) x0 x1 x3 (ix3 p t j)) h * Ideal.ofBits .f32 0x3E000000#32 := by
  unfold val_main_v26 val_main_v23 val_main_v18 val_main_v17 val_main_v20 val_main_v19 val_main_v25 val_main_v24 val_main_cst_2
  generalize val_main_v14 (F := Ideal) x0 x1 x2 = q
  generalize val_main_v15 (F := Ideal) x0 x1 x3 = k
  pointwise [dot_S128x8x128x64_S128x8x128x64_S128x8x128x128_3_3_2_2_01_01]
  rw [sqrt_64, ofBits_eighth]
  exact Ideal.div_coe (by norm_num) _

end Cert.EncRefValue
-- ==== Proof.EncRefAttn.lean ====
module

public import proofs.«01_k».proof.Proof.EncRef

@[expose] public section

/-! What the encoder's reference computes, at an index: the attention. -/

noncomputable section

namespace Cert.EncRefValue

open Idealize.ShloMosaic Cert.EncRefIdeal Cert.EncRefIdeal.Read Cert.EncRefIdeal.Gen Cert.Rows

variable (x0 : (⟨S8x2048, .i32⟩ : BufTy).Contents (Elt Ideal)) (x1 : (⟨S256x512, .f32⟩ : BufTy).Contents (Elt Ideal))
  (x2 x3 x4 x5 : (⟨S512x512, .f32⟩ : BufTy).Contents (Elt Ideal)) (x6 : (⟨S512x2048, .f32⟩ : BufTy).Contents (Elt Ideal))
  (x7 : (⟨S2048x512, .f32⟩ : BufTy).Contents (Elt Ideal))

/-- The largest score of a head. -/
theorem v27_apply (p : Fin 128) (h : Fin 8) (r : Fin 128) :
    val_main_v27 (F := Ideal) x0 x1 x2 x3 (ix3 p h r) = Finset.univ.fold max ⊥ fun t : Fin 128 => val_main_v26 (F := Ideal) x0 x1 x2 x3 (ix4 p h r t) := by
  unfold val_main_v27 val_main_cst_3
  generalize val_main_v26 (F := Ideal) x0 x1 x2 x3 = s
  pointwise [ofBits_neg_inf]

/-- The scores less their maximum. -/
theorem v32_apply (p : Fin 128) (h : Fin 8) (r t : Fin 128) :
    val_main_v32 (F := Ideal) x0 x1 x2 x3 (ix4 p h r t)
      = val_main_v26 (F := Ideal) x0 x1 x2 x3 (ix4 p h r t) - val_main_v27 (F := Ideal) x0 x1 x2 x3 (ix3 p h r) := by
  have e : idx_main_v30 (idx_main_v31 (ix4 p h r t)) = ix3 p h r := by
    funext a; fin_cases a <;> rfl
  rw [val_main_v32_apply, val_main_v31_apply, val_main_v30_apply, e, val_main_v29_apply, val_main_v28_apply, val_main_cst_4_apply]
  generalize val_main_v26 (F := Ideal) x0 x1 x2 x3 (ix4 p h r t) = s
  generalize val_main_v27 (F := Ideal) x0 x1 x2 x3 (ix3 p h r) = m
  have hb : m = max (Ideal.ofBits .f32 0xFF800000#32) m := by rw [ofBits_neg_inf]; exact (max_eq_right bot_le).symm
  conv_rhs => rw [hb]
  rfl

/-- The sum of a head's exponentials. -/
theorem v34_apply (p : Fin 128) (h : Fin 8) (r : Fin 128) :
    val_main_v34 (F := Ideal) x0 x1 x2 x3 (ix3 p h r) = ∑ t : Fin 128, val_main_v33 (F := Ideal) x0 x1 x2 x3 (ix4 p h r t) := by
  unfold val_main_v34 val_main_cst_5
  generalize val_main_v33 (F := Ideal) x0 x1 x2 x3 = s
  pointwise

/-- The attention weights. -/
theorem v37_apply (p : Fin 128) (h : Fin 8) (r t : Fin 128) :
    val_main_v37 (F := Ideal) x0 x1 x2 x3 (ix4 p h r t) = soft (fun t => val_main_v26 (F := Ideal) x0 x1 x2 x3 (ix4 p h r t)) t := by
  have e : ∀ t, val_main_v33 (F := Ideal) x0 x1 x2 x3 (ix4 p h r t) = Ideal.exp (val_main_v32 (F := Ideal) x0 x1 x2 x3 (ix4 p h r t)) :=
    fun t => rfl
  have e' : val_main_v37 (F := Ideal) x0 x1 x2 x3 (ix4 p h r t)
      = Ideal.div (val_main_v33 (F := Ideal) x0 x1 x2 x3 (ix4 p h r t)) (val_main_v34 (F := Ideal) x0 x1 x2 x3 (ix3 p h r)) := by
    unfold val_main_v37 val_main_v36 val_main_v35
    generalize val_main_v33 (F := Ideal) x0 x1 x2 x3 = s
    generalize val_main_v34 (F := Ideal) x0 x1 x2 x3 = m
    pointwise
  rw [e', v34_apply]
  simp only [e, v32_apply, v27_apply]
  rfl

/-- The attention of a query row. -/
theorem v38_apply (p : Fin 128) (h : Fin 8) (r : Fin 128) (d : Fin 64) :
    val_main_v38 (F := Ideal) x0 x1 x2 x3 x4 (ix4 p h r d)
      = attn 8 64 rfl (Ideal.ofBits .f32 0x3E000000#32) (fun j => val_main_v14 (F := Ideal) x0 x1 x2 (ix3 p r j))
          (fun t j => val_main_v15 (F := Ideal) x0 x1 x3 (ix3 p t j)) (fun t j => val_main_v16 (F := Ideal) x0 x1 x4 (ix3 p t j)) (lane 8 64 rfl h d) := by
  unfold attn
  rw [head_lane]
  simp only [← v26_apply, ← v37_apply]
  unfold val_main_v38 val_main_v22 val_main_v21
  generalize val_main_v37 (F := Ideal) x0 x1 x2 x3 = s
  generalize val_main_v16 (F := Ideal) x0 x1 x4 = v
  pointwise [dot_S128x8x128x128_S128x8x128x64_S128x8x128x64_3_2_2_3_01_01]
  rfl

/-- The heads' attention laid side by side. -/
theorem v40_apply (p r : Fin 128) (j : Fin 512) :
    val_main_v40 (F := Ideal) x0 x1 x2 x3 x4 (ix3 p r j)
      = attn 8 64 rfl (Ideal.ofBits .f32 0x3E000000#32) (fun j => val_main_v14 (F := Ideal) x0 x1 x2 (ix3 p r j))
          (fun t j => val_main_v15 (F := Ideal) x0 x1 x3 (ix3 p t j)) (fun t j => val_main_v16 (F := Ideal) x0 x1 x4 (ix3 p t j)) j := by
  have hj := lane_head 8 64 rfl j (Nat.mod_lt _ (by norm_num))
  rw [← hj, ← v38_apply, hj]
  unfold val_main_v40 val_main_v39
  generalize val_main_v38 (F := Ideal) x0 x1 x2 x3 x4 = o
  pointwise
  rfl

end Cert.EncRefValue
-- ==== Proof.EncRefTail.lean ====
module

public import proofs.«01_k».proof.Proof.EncRefAttn

@[expose] public section

/-! What the encoder's reference computes, at an index: the layers around the attention. -/

noncomputable section

namespace Cert.EncRefValue

open Idealize.ShloMosaic Cert.EncRefIdeal Cert.EncRefIdeal.Read Cert.EncRefIdeal.Gen Cert.Rows

variable (x0 : (⟨S8x2048, .i32⟩ : BufTy).Contents (Elt Ideal)) (x1 : (⟨S256x512, .f32⟩ : BufTy).Contents (Elt Ideal))
  (x2 x3 x4 x5 : (⟨S512x512, .f32⟩ : BufTy).Contents (Elt Ideal)) (x6 : (⟨S512x2048, .f32⟩ : BufTy).Contents (Elt Ideal))
  (x7 : (⟨S2048x512, .f32⟩ : BufTy).Contents (Elt Ideal))

/-- The residual rows after the attention. -/
theorem v42_apply (p r : Fin 128) (j : Fin 512) :
    val_main_v42 (F := Ideal) x0 x1 x2 x3 x4 x5 (ix3 p r j)
      = val_main_v1 (F := Ideal) x0 x1 (ix3 p r j) + mul (fun k => val_main_v40 (F := Ideal) x0 x1 x2 x3 x4 (ix3 p r k)) (fun k j => x5 (ix2 k j)) j := by
  unfold val_main_v42 val_main_v41
  generalize val_main_v1 (F := Ideal) x0 x1 = y
  generalize val_main_v40 (F := Ideal) x0 x1 x2 x3 x4 = a
  pointwise [dot_S128x128x512_S512x512_S128x128x512_2_0_01_1_n_n, mul]

/-- The inner layer of the two-layer network. -/
theorem v55_apply (p r : Fin 128) (k : Fin 2048) :
    val_main_v55 (F := Ideal) x0 x1 x2 x3 x4 x5 x6 (ix3 p r k) = mul (ln (Ideal.ofBits .f32 0x44000000#32) (Ideal.ofBits .f32 0x3727C5AC#32) fun j => val_main_v42 (F := Ideal) x0 x1 x2 x3 x4 x5 (ix3 p r j)) (fun k j => x6 (ix2 k j)) k := by
  have e : val_main_v54 (F := Ideal) x0 x1 x2 x3 x4 x5 = lnHost (val_main_v42 (F := Ideal) x0 x1 x2 x3 x4 x5) := rfl
  unfold val_main_v55
  rw [e]
  generalize val_main_v42 (F := Ideal) x0 x1 x2 x3 x4 x5 = y
  pointwise [dot_S128x128x512_S512x2048_S128x128x2048_2_0_01_1_n_n, mul]
  simp only [lnHost_apply]

/-- The activation. -/
theorem v68_apply (p r : Fin 128) (k : Fin 2048) :
    val_main_v68 (F := Ideal) x0 x1 x2 x3 x4 x5 x6 (ix3 p r k)
      = gelu (Ideal.ofBits .f32 0x3D372713#32) (Ideal.ofBits .f32 0x3F4C422A#32) (Ideal.ofBits .f32 0x3F000000#32) (Ideal.ofBits .f32 0x3F800000#32)
          (val_main_v55 (F := Ideal) x0 x1 x2 x3 x4 x5 x6 (ix3 p r k)) := by
  unfold val_main_v68 val_main_v67 val_main_v66 val_main_v65 val_main_v64 val_main_v63 val_main_v62 val_main_v61 val_main_v60 val_main_v59 val_main_v58 val_main_v57 val_main_v56
  generalize val_main_v55 (F := Ideal) x0 x1 x2 x3 x4 x5 x6 = y
  rfl

/-- The residual rows after the two-layer network. -/
theorem v70_apply (p r : Fin 128) (j : Fin 512) :
    val_main_v70 (F := Ideal) x0 x1 x2 x3 x4 x5 x6 x7 (ix3 p r j)
      = val_main_v42 (F := Ideal) x0 x1 x2 x3 x4 x5 (ix3 p r j) + mul (fun k => val_main_v68 (F := Ideal) x0 x1 x2 x3 x4 x5 x6 (ix3 p r k)) (fun k j => x7 (ix2 k j)) j := by
  unfold val_main_v70 val_main_v69
  generalize val_main_v42 (F := Ideal) x0 x1 x2 x3 x4 x5 = y
  generalize val_main_v68 (F := Ideal) x0 x1 x2 x3 x4 x5 x6 = a
  pointwise [dot_S128x128x2048_S2048x512_S128x128x512_2_0_01_1_n_n, mul]

/-- The means of the patches. -/
theorem v73_apply (p : Fin 128) (j : Fin 512) :
    val_main_v73 (F := Ideal) x0 x1 x2 x3 x4 x5 x6 x7 (ix2 p j)
      = Ideal.div (∑ r : Fin 128, val_main_v70 (F := Ideal) x0 x1 x2 x3 x4 x5 x6 x7 (ix3 p r j)) (Ideal.ofBits .f32 0x43000000#32) := by
  unfold val_main_v73 val_main_v71 val_main_v72 val_main_cst_14 val_main_cst_15
  generalize val_main_v70 (F := Ideal) x0 x1 x2 x3 x4 x5 x6 x7 = y
  pointwise

end Cert.EncRefValue
-- ==== Proof.EncRefAll.lean ====
module

public import proofs.«01_k».proof.Proof.Take
public import proofs.«01_k».proof.Proof.EncRefTail

@[expose] public section

/-! What the encoder's reference computes, at an index: the embedding, and the patches laid out. -/

noncomputable section

namespace Cert.EncRefValue

open Idealize.ShloMosaic Cert.EncRefIdeal Cert.EncRefIdeal.Read Cert.EncRefIdeal.Gen Cert.Rows

variable (x0 : (⟨S8x2048, .i32⟩ : BufTy).Contents (Elt Ideal)) (x1 : (⟨S256x512, .f32⟩ : BufTy).Contents (Elt Ideal))
  (x2 x3 x4 x5 : (⟨S512x512, .f32⟩ : BufTy).Contents (Elt Ideal)) (x6 : (⟨S512x2048, .f32⟩ : BufTy).Contents (Elt Ideal))
  (x7 : (⟨S2048x512, .f32⟩ : BufTy).Contents (Elt Ideal))

/-- The row number after the wrap of negative ones: an in-range one is kept. -/
theorem v5_take (b : Fin 8) (r : Fin 2048) (i : Fin 256) (hi : x0 (ix2 b r) = BitVec.ofNat 32 i.val) :
    val_main_call0_v5 (F := Ideal) x0 (ix3 b r 0) = BitVec.ofNat 32 i.val := by
  have e : idx_main_call0_v5 (ix3 b r 0) = ix2 b r := by funext a; fin_cases a <;> rfl
  rw [val_main_call0_v5_apply, e, val_main_call0_v4_apply, val_main_call0_v1_apply, hi, val_main_call0_v0_apply, val_main_call0_c_apply, Take.not_neg, Take.select_zero]

/-- The flag that the row number is in range. -/
theorem v12_take (b : Fin 8) (r : Fin 2048) (i : Fin 256) (hi : x0 (ix2 b r) = BitVec.ofNat 32 i.val) :
    val_main_call0_v12 (F := Ideal) x0 (ix2 b r) = 1#1 := by
  have h5 := v5_take x0 b r i hi
  unfold val_main_call0_v12 val_main_call0_v11 val_main_call0_v10 val_main_call0_v7
  generalize val_main_call0_v5 (F := Ideal) x0 = y at h5
  pointwise
  refine Take.fold_one _ fun x => ?_
  rw [Subsingleton.elim x 0, h5, val_main_call0_v6_apply, val_main_call0_v9_apply, val_main_call0_v8_apply, val_main_call0_c_1_apply, val_main_call0_c_2_apply]
  exact Take.in_range i

/-- The embedding rows. -/
theorem v0_apply (b : Fin 8) (r : Fin 2048) (j : Fin 512) (i : Fin 256) (hi : x0 (ix2 b r) = BitVec.ofNat 32 i.val) :
    val_main_v0 (F := Ideal) x0 x1 (ix3 b r j) = x1 (ix2 i j) := by
  have e : idx_main_call0_v14 (ix3 b r j) = ix2 b r := by funext a; fin_cases a <;> rfl
  have h1 : val_main_call0_v14 (F := Ideal) x0 (ix3 b r j) = 1#1 := by rw [val_main_call0_v14_apply, e, v12_take x0 b r i hi]
  have h2 : val_main_call0_v13 (F := Ideal) x0 x1 (ix3 b r j) = x1 (ix2 i j) :=
    Take.gather_row _ x1 (val_main_call0_v5 (F := Ideal) x0) b r j i (by rw [v5_take x0 b r i hi, Take.toInt_ofNat])
  rw [val_main_v0_apply, h1, h2, Take.select_one]

/-- The rows of a patch are the embedding rows of its ids. -/
theorem v1_apply (p r : Fin 128) (j : Fin 512) (b : Fin 8) (hb : b.val = p.val / 16) (T : Fin 2048) (hT : T.val = p.val % 16 * 128 + r.val) (i : Fin 256)
    (hi : x0 (ix2 b T) = BitVec.ofNat 32 i.val) :
    val_main_v1 (F := Ideal) x0 x1 (ix3 p r j) = x1 (ix2 i j) := by
  refine Eq.trans ?_ (v0_apply x0 x1 b T j i hi)
  unfold val_main_v1
  generalize val_main_v0 (F := Ideal) x0 x1 = y
  refine shapeCast_apply y _ _ _ ?_
  have h1 := p.isLt; have h2 := r.isLt; have h3 := j.isLt
  rw [Shape.rowMajor_val_three, Shape.rowMajor_val_three]
  show (b.val * 2048 + T.val) * 512 + j.val = (p.val * 128 + r.val) * 512 + j.val
  omega

/-- The result: the means, four patches to a group. -/
theorem v74_apply (g : Fin 32) (q : Fin 4) (j : Fin 512) (p : Fin 128) (hp : p.val = g.val * 4 + q.val) :
    val_main_v74 (F := Ideal) x0 x1 x2 x3 x4 x5 x6 x7 (ix3 g q j) = val_main_v73 (F := Ideal) x0 x1 x2 x3 x4 x5 x6 x7 (ix2 p j) := by
  unfold val_main_v74
  generalize val_main_v73 (F := Ideal) x0 x1 x2 x3 x4 x5 x6 x7 = y
  refine shapeCast_apply y _ _ _ ?_
  rw [Shape.rowMajor_val_three, Shape.rowMajor_val_two]
  show p.val * 512 + j.val = (g.val * 4 + q.val) * 512 + j.val
  rw [hp]

end Cert.EncRefValue
-- ==== Proof.EncClaim.lean ====
module

public import proofs.«01_k».proof.Defs
public import proofs.«01_k».proof.Proof.DecClaim
public import proofs.«01_k».proof.Proof.EncArr
public import proofs.«01_k».proof.Proof.EncRefAll
public import proofs.«01_k».proof.Proof.Gen.EncRefIdeal.Run
public import proofs.«01_k».proof.Proof.Gen.Pre_ids_in_range

@[expose] public section

/-! The encoder computes its reference on the ids the precondition admits. -/

noncomputable section

namespace Cert.EncClaim

open Idealize.ShloMosaic Idealize.SL.Sem Cert.Rows

/-- The pattern of one, in the narrow format. -/
theorem ofBits_one_bf16 : Ideal.ofBits .bf16 0x3F80#16 = 1 := by
  simp [Ideal.ofBits, Ideal.ieee, -EReal.coe_mul]
  norm_num

open Cert.Pre_ids_in_range in
/-- The precondition, read: every id is a row number of the table. -/
theorem pre_read (x0 : IVec S8x2048 32) (x1 : FVec Ideal S256x512 .f32) (x2 x3 x4 x5 : FVec Ideal S512x512 .f32)
    (x6 : FVec Ideal S512x2048 .f32) (x7 : FVec Ideal S2048x512 .f32) (h : fn (F := Ideal) x0 x1 x2 x3 x4 x5 x6 x7 = (fun _ => 1#1)) :
    ∀ i, ∃ k : Fin 256, x0 i = BitVec.ofNat 32 k.val := by
  intro i
  simp only [fn] at h
  have hi := congrFun h i
  simp only [cmpi, broadcastInDim, constantI, andi] at hi
  obtain ⟨ha, hb⟩ := DecClaim.and_one _ _ hi
  exact Take.of_range _ ha hb

/-- The reference's result at an index: the encoder on the patch. -/
theorem ref_apply (x0 : (⟨Cert.EncRefIdeal.S8x2048, .i32⟩ : BufTy).Contents (Elt Ideal)) (x1 : (⟨Cert.EncRefIdeal.S256x512, .f32⟩ : BufTy).Contents (Elt Ideal))
    (x2 x3 x4 x5 : (⟨Cert.EncRefIdeal.S512x512, .f32⟩ : BufTy).Contents (Elt Ideal)) (x6 : (⟨Cert.EncRefIdeal.S512x2048, .f32⟩ : BufTy).Contents (Elt Ideal))
    (x7 : (⟨Cert.EncRefIdeal.S2048x512, .f32⟩ : BufTy).Contents (Elt Ideal))
    (g : Fin 32) (q : Fin 4) (j : Fin 512) (b : Fin 8) (hb : b.val = g.val / 4) (T : Fin 128 → Fin 2048)
    (hT : ∀ r, (T r).val = g.val % 4 * 512 + q.val * 128 + r.val) (i : Fin 128 → Fin 256) (hi : ∀ r, x0 (ix2 b (T r)) = BitVec.ofNat 32 (i r).val) :
    Cert.EncRefIdeal.Read.val_main_v74 (F := Ideal) x0 x1 x2 x3 x4 x5 x6 x7 (ix3 g q j)
      = encPatch 8 64 rfl EncBlock.c128 EncBlock.c512 EncBlock.eps EncBlock.c8 gC gS half (Ideal.ofBits .bf16 0x3F80#16)
          (fun r j => x1 (ix2 (i r) j)) (fun k j => x2 (ix2 k j)) (fun k j => x3 (ix2 k j)) (fun k j => x4 (ix2 k j)) (fun k j => x5 (ix2 k j))
          (fun k j => x6 (ix2 k j)) (fun k j => x7 (ix2 k j)) j := by
  have hg := g.isLt
  have hq := q.isLt
  let p : Fin 128 := ⟨g.val * 4 + q.val, by omega⟩
  have hp : p.val = g.val * 4 + q.val := rfl
  have e1 : ∀ r j, Cert.EncRefIdeal.Read.val_main_v1 (F := Ideal) x0 x1 (ix3 p r j) = x1 (ix2 (i r) j) := fun r j =>
    EncRefValue.v1_apply x0 x1 p r j b (by omega) (T r) (by have := hT r; omega) (i r) (hi r)
  rw [EncRefValue.v74_apply x0 x1 x2 x3 x4 x5 x6 x7 g q j p hp, EncRefValue.v73_apply]
  simp only [EncRefValue.v70_apply, EncRefValue.v68_apply, EncRefValue.v55_apply, EncRefValue.v42_apply, EncRefValue.v40_apply,
    EncRefValue.v14_apply, EncRefValue.v15_apply, EncRefValue.v16_apply, e1, ofBits_gC, ofBits_gS, ofBits_half, DecClaim.ofBits_one, ofBits_one_bf16]
  rfl

/-- The kernel and its reference end with equal results. -/
theorem algebraic : Cert.algebraic_EncIdeal_EncRefIdeal_pre_ids_in_range := by
  intro m g m' g' hpre hm
  refine ⟨fun c => (Cert.EncIdeal.Gen.dats m 0 c).arrAt 8 Cert.EncIdeal.cfg0.N, Cert.EncIdeal.Value.run_blocks m g, ?_⟩
  refine (θ_run Cert.EncRefIdeal.defs _ _).mono (fun r h c => ⟨?_, (h c).2⟩) (Cert.EncRefIdeal.Value.run (F := Ideal) m' g')
  refine (h c).1.trans ((Cert.EncRefIdeal.Read.val_main_v74_eq _).trans ?_)
  obtain ⟨e0, e1, e2, e3, e4, e5, e6, e7⟩ := hm c
  have hr := pre_read _ _ _ _ _ _ _ _ (hpre c)
  funext x
  obtain ⟨u, q, j, rfl⟩ : ∃ u q j, x = ix3 u q j := ⟨x 0, x 1, x 2, (ix3_eta x).symm⟩
  have hu : u.val < 32 := u.isLt
  have hq : q.val < 4 := q.isLt
  let b : Fin 8 := ⟨u.val / 4, by omega⟩
  let T : Fin 128 → Fin 2048 := fun r => ⟨u.val % 4 * 512 + q.val * 128 + r.val, by have := r.isLt; omega⟩
  choose i hi using fun r => hr (ix2 b (T r))
  refine Eq.trans ?_ (EncArr.arr_apply m c u q j b rfl T (fun _ => rfl) i hi).symm
  refine (ref_apply _ _ _ _ _ _ _ _ u q j b rfl T (fun _ => rfl) i (fun r => (congrFun e0 _).trans (hi r))).trans ?_
  show encPatch 8 64 rfl EncBlock.c128 EncBlock.c512 EncBlock.eps EncBlock.c8 gC gS half (Ideal.ofBits .bf16 0x3F80#16)
      (fun r j => m' (c.tc.loc Cert.EncRefIdeal.main_arg1) (ix2 (i r) j)) (fun k j => m' (c.tc.loc Cert.EncRefIdeal.main_arg2) (ix2 k j))
      (fun k j => m' (c.tc.loc Cert.EncRefIdeal.main_arg3) (ix2 k j)) (fun k j => m' (c.tc.loc Cert.EncRefIdeal.main_arg4) (ix2 k j))
      (fun k j => m' (c.tc.loc Cert.EncRefIdeal.main_arg5) (ix2 k j)) (fun k j => m' (c.tc.loc Cert.EncRefIdeal.main_arg6) (ix2 k j))
      (fun k j => m' (c.tc.loc Cert.EncRefIdeal.main_arg7) (ix2 k j)) j = _
  rw [e1, e2, e3, e4, e5, e6, e7]

/-- The reference runs and keeps its arguments; it declares no semaphore. -/
theorem frame_ref : Cert.quiescent_EncRefIdeal := fun m ρ _ =>
  (θ_run Cert.EncRefIdeal.defs _ _).mono (fun r h => ⟨fun c => (h c).2, sem_eq_zero_of_no_sems (by decide) r.2⟩)
    (Cert.EncRefIdeal.Value.run (F := Ideal) m ρ)

/-- The named constants stand for the kernel's own. -/
theorem preserves : Cert.preserves_Enc_EncIdeal :=
  ⟨IdealRules.named_const.statement Cert.EncIdeal.κ "gelu_cubic" .bf16 0x3D37#16 _ rfl,
   IdealRules.named_const.statement Cert.EncIdeal.κ "gelu_scale" .bf16 0x3F4C#16 _ rfl⟩

end Cert.EncClaim
-- ==== Proof.LayRow.lean ====
module

public import proofs.«01_k».proof.Proof.Finite

@[expose] public section

/-! The mathematics of a complex attention layer: attention with the sum of two scores, the softmax over one block of a masked row, and
    the layer on the rows of one batch element. -/

noncomputable section

namespace Cert.Rows

open Idealize.ShloMosaic

/-- The scaled score of a complex query and a complex key in one head: the real parts' score plus the imaginary parts' score. -/
def cscore {n : Nat} (H D : Nat) (hn : H * D = n) (c : EReal) (qr qi kr ki : Fin n → EReal) (h : Fin H) : EReal :=
  (score H D hn qr kr h + score H D hn qi ki h) * c

/-- Attention of one complex query row over `T` complex keys, to one part of the values. -/
def cattn {n T : Nat} (H D : Nat) (hn : H * D = n) (c : EReal) (qr qi : Fin n → EReal) (Kr Ki V : Fin T → Fin n → EReal) (j : Fin n) : EReal :=
  ∑ t, soft (fun t' => cscore H D hn c qr qi (Kr t') (Ki t') (head H D hn j)) t * V t j

/-- The real part of a complex row times a complex matrix. -/
def cre {n p : Nat} (x y : Fin n → EReal) (wr wi : Fin n → Fin p → EReal) (j : Fin p) : EReal := mul x wr j - mul y wi j

/-- The imaginary part of a complex row times a complex matrix. -/
def cim {n p : Nat} (x y : Fin n → EReal) (wr wi : Fin n → Fin p → EReal) (j : Fin p) : EReal := mul x wi j + mul y wr j

/-- The real part of what a row attends to. -/
def attR {n T : Nat} (H D : Nat) (hn : H * D = n) (s : EReal) (W : Fin 8 → Fin n → Fin n → EReal) (x y : Fin T → Fin n → EReal) (t : Fin T) : Fin n → EReal :=
  cattn H D hn s (cre (x t) (y t) (W 0) (W 1)) (cim (x t) (y t) (W 0) (W 1)) (fun u => cre (x u) (y u) (W 2) (W 3)) (fun u => cim (x u) (y u) (W 2) (W 3))
    (fun u => cre (x u) (y u) (W 4) (W 5))

/-- The imaginary part of what a row attends to. -/
def attI {n T : Nat} (H D : Nat) (hn : H * D = n) (s : EReal) (W : Fin 8 → Fin n → Fin n → EReal) (x y : Fin T → Fin n → EReal) (t : Fin T) : Fin n → EReal :=
  cattn H D hn s (cre (x t) (y t) (W 0) (W 1)) (cim (x t) (y t) (W 0) (W 1)) (fun u => cre (x u) (y u) (W 2) (W 3)) (fun u => cim (x u) (y u) (W 2) (W 3))
    (fun u => cim (x u) (y u) (W 4) (W 5))

/-- The real part of a layer's rows: attention, output product, residual, normalisation. -/
def layR {n T : Nat} (H D : Nat) (hn : H * D = n) (c e s : EReal) (W : Fin 8 → Fin n → Fin n → EReal) (x y : Fin T → Fin n → EReal) (t : Fin T) : Fin n → EReal :=
  ln c e fun j => x t j + cre (attR H D hn s W x y t) (attI H D hn s W x y t) (W 6) (W 7) j

/-- The imaginary part of a layer's rows. -/
def layI {n T : Nat} (H D : Nat) (hn : H * D = n) (c e s : EReal) (W : Fin 8 → Fin n → Fin n → EReal) (x y : Fin T → Fin n → EReal) (t : Fin T) : Fin n → EReal :=
  ln c e fun j => y t j + cim (attR H D hn s W x y t) (attI H D hn s W x y t) (W 6) (W 7) j

/-- The rows after the first `k` layers, real and imaginary parts. -/
def lays {n T : Nat} (H D : Nat) (hn : H * D = n) (c e s : EReal) (W : Nat → Fin 8 → Fin n → Fin n → EReal) (x y : Fin T → Fin n → EReal) :
    Nat → (Fin T → Fin n → EReal) × (Fin T → Fin n → EReal)
  | 0 => (x, y)
  | k + 1 => (layR H D hn c e s (W k) (lays H D hn c e s W x y k).1 (lays H D hn c e s W x y k).2,
      layI H D hn c e s (W k) (lays H D hn c e s W x y k).1 (lays H D hn c e s W x y k).2)

/-- A finite complex row times a finite complex matrix has a finite real part. -/
theorem isReal_cre {n p : Nat} {x y : Fin n → EReal} {wr wi : Fin n → Fin p → EReal} (hx : ∀ k, IsReal (x k)) (hy : ∀ k, IsReal (y k))
    (hr : ∀ k j, IsReal (wr k j)) (hi : ∀ k j, IsReal (wi k j)) (j : Fin p) : IsReal (cre x y wr wi j) :=
  (isReal_mul hx hr j).sub (isReal_mul hy hi j)

/-- A finite complex row times a finite complex matrix has a finite imaginary part. -/
theorem isReal_cim {n p : Nat} {x y : Fin n → EReal} {wr wi : Fin n → Fin p → EReal} (hx : ∀ k, IsReal (x k)) (hy : ∀ k, IsReal (y k))
    (hr : ∀ k j, IsReal (wr k j)) (hi : ∀ k j, IsReal (wi k j)) (j : Fin p) : IsReal (cim x y wr wi j) :=
  (isReal_mul hx hi j).add (isReal_mul hy hr j)

/-- A row of scores kept within block `b` and minus infinity elsewhere. -/
def only {N : Nat} (B T : Nat) (hN : B * T = N) (b : Fin B) (s : Fin N → EReal) (t : Fin N) : EReal := if head B T hN t = b then s t else ⊥

/-- The maximum of a masked row is the block's maximum. -/
theorem max_only {N : Nat} (B T : Nat) (hN : B * T = N) (b : Fin B) (s : Fin N → EReal) :
    Finset.univ.fold max ⊥ (only B T hN b s) = Finset.univ.fold max ⊥ (fun u => s (lane B T hN b u)) := by
  apply le_antisymm
  · rw [Finset.fold_max_le]
    refine ⟨bot_le, fun t _ => ?_⟩
    unfold only
    split_ifs with h
    · have hT : 0 < T := by
        rcases Nat.eq_zero_or_pos T with h0 | h0
        · have h1 : N = 0 := by rw [← hN, h0]; exact Nat.mul_zero B
          have h2 := t.isLt
          omega
        · exact h0
      rw [Finset.le_fold_max]
      refine Or.inr ⟨⟨t.val % T, Nat.mod_lt _ hT⟩, Finset.mem_univ _, ?_⟩
      rw [← h, lane_head B T hN t (Nat.mod_lt _ hT)]
    · exact bot_le
  · rw [Finset.fold_max_le]
    refine ⟨bot_le, fun u _ => ?_⟩
    rw [Finset.le_fold_max]
    refine Or.inr ⟨lane B T hN b u, Finset.mem_univ _, ?_⟩
    rw [only, head_lane, if_pos rfl]

/-- The exponential of minus infinity shifted by anything is zero. -/
theorem exp_bot_sub (M : EReal) : Ideal.exp (⊥ - M) = 0 := by
  rw [sub_eq_add_neg, EReal.bot_add]
  rfl

/-- The sum of a masked row's exponentials is the block's sum. -/
theorem sum_only {N : Nat} (B T : Nat) (hN : B * T = N) (b : Fin B) (s : Fin N → EReal) (M : EReal) :
    ∑ t, Ideal.exp (only B T hN b s t - M) = ∑ u, Ideal.exp (s (lane B T hN b u) - M) := by
  rw [sum_lanes B T hN, Finset.sum_eq_single b]
  · refine Finset.sum_congr rfl fun u _ => ?_
    rw [only, head_lane, if_pos rfl]
  · intro h _ hne
    refine Finset.sum_eq_zero fun u _ => ?_
    rw [only, head_lane, if_neg hne, exp_bot_sub]
  · intro hh; exact absurd (Finset.mem_univ _) hh

/-- A sum of exponentials of finite scores under a finite shift is not zero. -/
theorem sum_exp_ne {T : Nat} (hT : 0 < T) {s : Fin T → EReal} (hs : ∀ t, IsReal (s t)) {M : EReal} (hM : IsReal M) : ∑ t, Ideal.exp (s t - M) ≠ 0 := by
  obtain ⟨M, rfl⟩ := hM
  choose a ha using hs
  obtain rfl : s = fun k => (a k : EReal) := funext ha
  have he : ∑ t, Ideal.exp ((a t : EReal) - (M : EReal)) = ((∑ t, Real.exp (a t - M) : ℝ) : EReal) := by
    rw [coe_sum]
    rfl
  rw [he]
  have hpos : 0 < ∑ t, Real.exp (a t - M) := Finset.sum_pos (fun i _ => Real.exp_pos _) ⟨⟨0, hT⟩, Finset.mem_univ _⟩
  intro h0
  exact hpos.ne' (EReal.coe_eq_zero.mp h0)

/-- Weights of a masked row, its block's scores finite, times values: only the block's rows contribute, with the block's own softmax. -/
theorem sum_soft_only {N : Nat} (B T : Nat) (hN : B * T = N) (hT : 0 < T) (b : Fin B) (s v : Fin N → EReal) (hs : ∀ u, IsReal (s (lane B T hN b u))) :
    ∑ t, soft (only B T hN b s) t * v t = ∑ u, soft (fun u' => s (lane B T hN b u')) u * v (lane B T hN b u) := by
  rw [sum_lanes B T hN, Finset.sum_eq_single b]
  · refine Finset.sum_congr rfl fun u _ => ?_
    rw [soft, max_only, sum_only, only, head_lane, if_pos rfl, soft]
  · intro h _ hne
    refine Finset.sum_eq_zero fun u _ => ?_
    rw [soft, max_only, sum_only, only, head_lane, if_neg hne, exp_bot_sub, Ideal.div, if_neg (sum_exp_ne hT hs (isReal_max hT hs)), zero_mul, zero_mul]
  · intro hh; exact absurd (Finset.mem_univ _) hh

end Cert.Rows
-- ==== Proof.LayHeads.lean ====
module

public import proofs.«01_k».proof.Proof.Lanes
public import proofs.«01_k».proof.Proof.LayRow
public import proofs.«01_k».proof.Proof.Gen.LayersIdeal.Value

@[expose] public section

/-! The complex layers' body in a few named pieces: head masks, block mask, weights, attention, and the new rows. -/

noncomputable section

namespace Cert.LayBlock

open Idealize.ShloMosaic Cert.LayersIdeal Cert.LayersIdeal.Gen Cert.Rows Cert.Lanes

/-- The row length 512 as the programs spell it. -/
abbrev c512 : EReal := Ideal.ofBits .f32 0x44000000#32
/-- The variance's addend. -/
abbrev eps : EReal := Ideal.ofBits .f32 0x3727C5AC#32
/-- The score scale, one eighth. -/
abbrev c8 : EReal := Ideal.ofBits .f32 0x3E000000#32

/-- The eight head masks as rows. -/
def hm (h : Fin 8) : FVec Ideal S1x512 .f32 :=
  ![k0_pay31 (iota .tc S1x512 32 [1] iota_S1x512_d1_w32) 64#32 k0_pay29 k0_pay30 (Scalar.extui (Scalar.cmpi .sgt 64#32 0#32)) (Scalar.cmpi .slt 64#32 0#32),
    k0_pay37 (iota .tc S1x512 32 [1] iota_S1x512_d1_w32) 64#32 k0_pay35 k0_pay36, k0_pay42, k0_pay48,
    k0_pay56 k0_pay54 k0_pay55, k0_pay63 (iota .tc S1x512 32 [1] iota_S1x512_d1_w32) k0_pay60 k0_pay61 k0_pay62,
    k0_pay70 (iota .tc S1x512 32 [1] iota_S1x512_d1_w32) 64#32 k0_pay67 k0_pay68 k0_pay69, k0_pay74 (iota .tc S1x512 32 [1] iota_S1x512_d1_w32)] h

/-- The head mask's flag at a lane. -/
theorem flag_lane (h : Fin 8) (j : Fin 512) :
    (if BitVec.ofNat 32 (j.val / 64) = BitVec.ofNat 32 h.val then (1 : EReal) else 0) = mask 8 64 rfl h j := by
  rw [mask]
  refine if_congr ?_ rfl rfl
  have h1 := j.isLt; have h2 := h.isLt
  rw [ofNat_inj _ _ (by omega) (by omega)]
  exact ⟨fun e => Fin.ext e, fun e => congrArg Fin.val e⟩

/-- The head masks at a lane. -/
theorem hm_apply (h : Fin 8) (j : Fin 512) : hm h (ix2 0 j) = mask 8 64 rfl h j := by
  rw [← flag_lane, ← fdiv_64]
  fin_cases h <;>
  pointwise [hm, k0_pay29, k0_pay30, k0_pay31, k0_pay35, k0_pay36, k0_pay37, k0_pay42, k0_pay48, k0_pay54, k0_pay55, k0_pay56, k0_pay60, k0_pay61, k0_pay62,
    k0_pay63, k0_pay67, k0_pay68, k0_pay69, k0_pay70, k0_pay74, fdiv_fold, flag, Fin.reduceFinMk]

/-- The mask of equal batch elements. -/
def bm : IVec S128x128 1 := k0_pay26 (iota .tc S128x128 32 [1] iota_S128x128_d1_w32) k0_pay23 k0_pay24 k0_pay25

/-- A choice by a test for equality of two words. -/
theorem choose_eq (a b : BitVec 32) (x y : EReal) : (if IntOp.cmpi CmpIPredicate.eq a b = 1#1 then x else y) = if a = b then x else y := by
  by_cases h : a = b
  · subst h; simp [IntOp.cmpi]
  · have hb : (a == b) = false := beq_eq_false_iff_ne.mpr h
    simp [IntOp.cmpi, h, hb]

/-- A choice by the mask of equal batch elements, at an index. -/
theorem bm_apply (r t : Fin 128) (x y : EReal) : (if bm (ix2 r t) = 1#1 then x else y) = if head 8 16 rfl t = head 8 16 rfl r then x else y := by
  have h : bm (ix2 r t) = IntOp.cmpi CmpIPredicate.eq (fdiv 16#32 (BitVec.ofNat 32 r.val)) (fdiv 16#32 (BitVec.ofNat 32 t.val)) := by
    pointwise [bm, k0_pay23, k0_pay24, k0_pay25, k0_pay26, fdiv_fold]
  rw [h, choose_eq, fdiv_16, fdiv_16]
  refine if_congr ?_ rfl rfl
  have h1 := r.isLt; have h2 := t.isLt
  rw [ofNat_inj _ _ (by omega) (by omega)]
  exact ⟨fun e => Fin.ext e.symm, fun e => (congrArg Fin.val e).symm⟩

/-- A copy with all but one head masked away. -/
def msk (x : FVec Ideal S128x512 .f32) (h : Fin 8) : FVec Ideal S128x512 .bf16 :=
  truncf .bf16 (mulf x (broadcastTo S128x512 (hm h) broadcasts_S1x512_S128x512)) bitsLt_bf16_f32

/-- The masked copy at an index. -/
theorem msk_apply (x : FVec Ideal S128x512 .f32) (h : Fin 8) (r : Fin 128) (j : Fin 512) : msk x h (ix2 r j) = x (ix2 r j) * mask 8 64 rfl h j := by
  rw [← hm_apply]
  unfold msk
  generalize hm h = w
  pointwise []

/-- One head's masked and scaled scores. -/
def scs (q₁ q₂ k₁ k₂ : FVec Ideal S128x512 .bf16) : FVec Ideal S128x128 .f32 :=
  select bm
    (mulf (addf (matmul dot_S128x512_S128x512_S128x128_1_1_0_0_n_n none q₁ k₁ (constant S128x128 .f32 0x00000000#32))
      (matmul dot_S128x512_S128x512_S128x128_1_1_0_0_n_n none q₂ k₂ (constant S128x128 .f32 0x00000000#32))) (broadcast S128x128 (Scalar.ofBits .f32 0x3E000000#32 : Ideal .f32)))
    (broadcast S128x128 (Named.named κ "mask" 0xF149F2CA#32 : Ideal .f32))

/-- The softmax of the rows of a score matrix. -/
def smx (s : FVec Ideal S128x128 .f32) : FVec Ideal S128x128 .f32 :=
  let e : FVec Ideal S128x128 .f32 := exp (subf s (broadcastTo S128x128 (shapeCast S128x1 (multiReduction .maximumf [1] S128 s 0xFF800000#32 reduces_S128x128_S128 (.inl rfl) rfl) shapeCasts_S128_S128x1) broadcasts_S128x1_S128x128))
  divf e (broadcastTo S128x128 (shapeCast S128x1 (multiReduction .add [1] S128 e 0x00000000#32 reduces_S128x128_S128 (.inl rfl) rfl) shapeCasts_S128_S128x1) broadcasts_S128x1_S128x128)

/-- A row times a weight matrix. -/
def mm (x : FVec Ideal S128x512 .f32) (w : FVec Ideal S512x512 .bf16) : FVec Ideal S128x512 .f32 :=
  matmul dot_S128x512_S512x512_S128x512_1_0_0_1_n_n none (truncf .bf16 x bitsLt_bf16_f32 : FVec Ideal S128x512 .bf16) w (constant S128x512 .f32 0x00000000#32)

/-- A layer's weight matrix out of its block. -/
def wt (w : Vec Ideal S1x512x512 .bf16) : FVec Ideal S512x512 .bf16 := shapeCast S512x512 w shapeCasts_S1x512x512_S512x512

/-- The real part of a complex product. -/
def pre (x y : FVec Ideal S128x512 .f32) (wr wi : Vec Ideal S1x512x512 .bf16) : FVec Ideal S128x512 .f32 := subf (mm x (wt wr)) (mm y (wt wi))
/-- The imaginary part of a complex product. -/
def pim (x y : FVec Ideal S128x512 .f32) (wr wi : Vec Ideal S1x512x512 .bf16) : FVec Ideal S128x512 .f32 := addf (mm x (wt wi)) (mm y (wt wr))

/-- All heads' weights side by side times the masked values below each other. -/
def att (q₁ q₂ k₁ k₂ v : FVec Ideal S128x512 .f32) : FVec Ideal S128x512 .f32 :=
  matmul dot_S128x1024_S1024x512_S128x512_1_0_0_1_n_n none
    (truncf .bf16 (concatenate S128x1024 1 (List.ofFn fun n : Fin 8 => (⟨S128x128, smx (scs (msk q₁ n) (msk q₂ n) (truncf .bf16 k₁ bitsLt_bf16_f32) (truncf .bf16 k₂ bitsLt_bf16_f32))⟩ : (s : Shape) × (s.Idx → EReal)))
      concatenates_S128x128_S128x128_S128x128_S128x128_S128x128_S128x128_S128x128_S128x128_S128x1024_d1 : FVec Ideal S128x1024 .f32) bitsLt_bf16_f32 : FVec Ideal S128x1024 .bf16)
    (concatenate S1024x512 0 (List.ofFn fun n : Fin 8 => (⟨S128x512, msk v n⟩ : (s : Shape) × (s.Idx → EReal)))
      concatenates_S128x512_S128x512_S128x512_S128x512_S128x512_S128x512_S128x512_S128x512_S1024x512_d0 : FVec Ideal S1024x512 .bf16)
    (constant S128x512 .f32 0x00000000#32)

/-- The real part of the attention of all rows. -/
def aR (x y : FVec Ideal S128x512 .f32) (w₀ w₁ w₂ w₃ w₄ w₅ : Vec Ideal S1x512x512 .bf16) : FVec Ideal S128x512 .f32 :=
  att (pre x y w₀ w₁) (pim x y w₀ w₁) (pre x y w₂ w₃) (pim x y w₂ w₃) (pre x y w₄ w₅)
/-- The imaginary part of the attention of all rows. -/
def aI (x y : FVec Ideal S128x512 .f32) (w₀ w₁ w₂ w₃ w₄ w₅ : Vec Ideal S1x512x512 .bf16) : FVec Ideal S128x512 .f32 :=
  att (pre x y w₀ w₁) (pim x y w₀ w₁) (pre x y w₂ w₃) (pim x y w₂ w₃) (pim x y w₄ w₅)

/-- The real parts before normalisation. -/
def rR (x y : FVec Ideal S128x512 .f32) (w₀ w₁ w₂ w₃ w₄ w₅ w₆ w₇ : Vec Ideal S1x512x512 .bf16) : FVec Ideal S128x512 .f32 :=
  addf x (pre (aR x y w₀ w₁ w₂ w₃ w₄ w₅) (aI x y w₀ w₁ w₂ w₃ w₄ w₅) w₆ w₇)
/-- The imaginary parts before normalisation. -/
def rI (x y : FVec Ideal S128x512 .f32) (w₀ w₁ w₂ w₃ w₄ w₅ w₆ w₇ : Vec Ideal S1x512x512 .bf16) : FVec Ideal S128x512 .f32 :=
  addf y (pim (aR x y w₀ w₁ w₂ w₃ w₄ w₅) (aI x y w₀ w₁ w₂ w₃ w₄ w₅) w₆ w₇)

end Cert.LayBlock
-- ==== Proof.LayOut.lean ====
module

public import proofs.«01_k».proof.Proof.LayHeads
public import Idealize.ShloMosaic.Lib.VecWindow

@[expose] public section

/-! What each kind of grid step leaves in the carried rows and in the results, by the named pieces. -/

noncomputable section

namespace Cert.LayBlock

open Idealize.ShloMosaic Cert.LayersIdeal Cert.LayersIdeal.Gen Cert.Rows Cert.Lanes

/-- The normalised rows. -/
def nrm (x : FVec Ideal S128x512 .f32) : FVec Ideal S128x512 .f32 := k0_pay1 x

/-- The rows as they are stored. -/
def sh (x : FVec Ideal S128x512 .f32) : FVec Ideal S128x512 .f32 := shapeCast S128x512 x shapeCasts_S128x512_S128x512

/-- A whole buffer loaded whole is its contents. -/
theorem ld {s : Shape} {e : EltTy} {m : Memref sig .tc .vmem s e} (h : m.IsWhole) (x : Vec Ideal s e) {off : Fin s.rank → ℕ} (inb : ∀ a, off a + s.size a ≤ s.size a) :
    View.readAt (Elt Ideal) m.view (Rect.unit off s.size inb).toLoadRect (h.unread x) = x := by
  rw [View.readAt_full, Memref.IsWhole.read_unread]

/-- A whole buffer stored whole and loaded whole is what was stored. -/
theorem cov {s : Shape} {e : EltTy} {m : Memref sig .tc .vmem s e} (_ : m.IsWhole) {off off' : Fin s.rank → ℕ} (inb : ∀ a, off a + s.size a ≤ s.size a)
    (inb' : ∀ a, off' a + s.size a ≤ s.size a) (w : Vec Ideal s e) :
    m.view.readCov [(⟨Rect.unit off' s.size inb', w⟩ : View.Piece (Elt Ideal) s e)] (Rect.unit off s.size inb).toLoadRect = w :=
  View.readCov_full _ _ _ _ _

variable (c : Dev nD) (i : grid0.Coords)
variable (arg1 : Memref sig .tc .vmem S128x512 .f32) (harg1 : arg1.IsWhole) (arg2 : Memref sig .tc .vmem S512x512 .bf16) (harg2 : arg2.IsWhole) (arg3 : Memref sig .tc .vmem S512x512 .bf16) (harg3 : arg3.IsWhole)
variable (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole)
variable (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole)
variable (arg10 : Memref sig .tc .vmem S1x512x512 .bf16) (harg10 : arg10.IsWhole) (arg11 : Memref sig .tc .vmem S1x512x512 .bf16) (harg11 : arg11.IsWhole) (arg12 : Memref sig .tc .vmem S1024x768 .bf16) (harg12 : arg12.IsWhole)
variable (arg13 : Memref sig .tc .vmem S768x768 .bf16) (harg13 : arg13.IsWhole) (arg14 : Memref sig .tc .vmem S768x768 .bf16) (harg14 : arg14.IsWhole) (arg15 : Memref sig .tc .vmem S128x768 .f32) (harg15 : arg15.IsWhole)
variable (arg16 : Memref sig .tc .vmem S128x768 .f32) (harg16 : arg16.IsWhole) (arg17 : Memref sig .tc .vmem S128x512 .f32) (harg17 : arg17.IsWhole) (arg18 : Memref sig .tc .vmem S128x512 .f32) (harg18 : arg18.IsWhole)

/-- The real parts the first step leaves. -/
theorem sout0_A_0_eq (hc0 : cond0_0 i) (hc1 : ¬cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 = sh (nrm (rR (k0_pay7 x0 x1) (k0_pay8 x0 x2) x3 x4 x5 x6 x7 x8 x9 x10)) := by
  unfold sout0_A_0
  refine (View.read_writes_full _ _ _ _ _).trans ?_
  trans sh (nrm (rR (arg17.view.readCov [(⟨Rect.unit (s := S128x512) ![0, 0] S128x512.size inb_S128x512_S128x512_0_0, k0_pay7 (View.readAt (Elt Ideal) arg1.view (Rect.unit (s := S128x512) ![0, 0] S128x512.size inb_S128x512_S128x512_0_0).toLoadRect (harg1.unread x0)) (View.readAt (Elt Ideal) arg2.view (Rect.unit (s := S512x512) ![0, 0] S512x512.size inb_S512x512_S512x512_0_0).toLoadRect (harg2.unread x1))⟩ : View.Piece (Elt Ideal) S128x512 .f32)] (Rect.unit (s := S128x512) ![0, 0] S128x512.size inb_S128x512_S128x512_0_0).toLoadRect) (arg18.view.readCov [(⟨Rect.unit (s := S128x512) ![0, 0] S128x512.size inb_S128x512_S128x512_0_0, k0_pay8 (View.readAt (Elt Ideal) arg1.view (Rect.unit (s := S128x512) ![0, 0] S128x512.size inb_S128x512_S128x512_0_0).toLoadRect (harg1.unread x0)) (View.readAt (Elt Ideal) arg3.view (Rect.unit (s := S512x512) ![0, 0] S512x512.size inb_S512x512_S512x512_0_0).toLoadRect (harg3.unread x2))⟩ : View.Piece (Elt Ideal) S128x512 .f32)] (Rect.unit (s := S128x512) ![0, 0] S128x512.size inb_S128x512_S128x512_0_0).toLoadRect) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))))
  · rfl
  · rw [cov harg17, cov harg18, ld harg1, ld harg2, ld harg3, ld harg4, ld harg5, ld harg6, ld harg7, ld harg8, ld harg9, ld harg10, ld harg11]

/-- The imaginary parts the first step leaves. -/
theorem sout0_A_1_eq (hc0 : cond0_0 i) (hc1 : ¬cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 = sh (nrm (rI (k0_pay7 x0 x1) (k0_pay8 x0 x2) x3 x4 x5 x6 x7 x8 x9 x10)) := by
  unfold sout0_A_1
  refine (View.read_writes_full _ _ _ _ _).trans ?_
  trans sh (nrm (rI (arg17.view.readCov [(⟨Rect.unit (s := S128x512) ![0, 0] S128x512.size inb_S128x512_S128x512_0_0, k0_pay7 (View.readAt (Elt Ideal) arg1.view (Rect.unit (s := S128x512) ![0, 0] S128x512.size inb_S128x512_S128x512_0_0).toLoadRect (harg1.unread x0)) (View.readAt (Elt Ideal) arg2.view (Rect.unit (s := S512x512) ![0, 0] S512x512.size inb_S512x512_S512x512_0_0).toLoadRect (harg2.unread x1))⟩ : View.Piece (Elt Ideal) S128x512 .f32)] (Rect.unit (s := S128x512) ![0, 0] S128x512.size inb_S128x512_S128x512_0_0).toLoadRect) (arg18.view.readCov [(⟨Rect.unit (s := S128x512) ![0, 0] S128x512.size inb_S128x512_S128x512_0_0, k0_pay8 (View.readAt (Elt Ideal) arg1.view (Rect.unit (s := S128x512) ![0, 0] S128x512.size inb_S128x512_S128x512_0_0).toLoadRect (harg1.unread x0)) (View.readAt (Elt Ideal) arg3.view (Rect.unit (s := S512x512) ![0, 0] S512x512.size inb_S512x512_S512x512_0_0).toLoadRect (harg3.unread x2))⟩ : View.Piece (Elt Ideal) S128x512 .f32)] (Rect.unit (s := S128x512) ![0, 0] S128x512.size inb_S128x512_S128x512_0_0).toLoadRect) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))))
  · rfl
  · rw [cov harg17, cov harg18, ld harg1, ld harg2, ld harg3, ld harg4, ld harg5, ld harg6, ld harg7, ld harg8, ld harg9, ld harg10, ld harg11]

/-- The real parts the middle step leaves. -/
theorem sout0_B_0_eq (hc0 : ¬cond0_0 i) (hc1 : ¬cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) (xs0 xs1 : Vec Ideal S128x512 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 xs1 = sh (nrm (rR xs0 xs1 x3 x4 x5 x6 x7 x8 x9 x10)) := by
  unfold sout0_B_0
  refine (View.read_writes_full _ _ _ _ _).trans ?_
  trans sh (nrm (rR (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))))
  · rfl
  · rw [ld harg17, ld harg18, ld harg4, ld harg5, ld harg6, ld harg7, ld harg8, ld harg9, ld harg10, ld harg11]

/-- The imaginary parts the middle step leaves. -/
theorem sout0_B_1_eq (hc0 : ¬cond0_0 i) (hc1 : ¬cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) (xs0 xs1 : Vec Ideal S128x512 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 xs1 = sh (nrm (rI xs0 xs1 x3 x4 x5 x6 x7 x8 x9 x10)) := by
  unfold sout0_B_1
  refine (View.read_writes_full _ _ _ _ _).trans ?_
  trans sh (nrm (rI (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))))
  · rfl
  · rw [ld harg17, ld harg18, ld harg4, ld harg5, ld harg6, ld harg7, ld harg8, ld harg9, ld harg10, ld harg11]

/-- The real parts the last step leaves. -/
theorem sout0_C_0_eq (hc0 : ¬cond0_0 i) (hc1 : cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) (xs0 xs1 : Vec Ideal S128x512 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 xs1 = sh (nrm (rR xs0 xs1 x3 x4 x5 x6 x7 x8 x9 x10)) := by
  unfold sout0_C_0
  refine (View.read_writes_full _ _ _ _ _).trans ?_
  trans sh (nrm (rR (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))))
  · rfl
  · rw [ld harg17, ld harg18, ld harg4, ld harg5, ld harg6, ld harg7, ld harg8, ld harg9, ld harg10, ld harg11]

/-- The imaginary parts the last step leaves. -/
theorem sout0_C_1_eq (hc0 : ¬cond0_0 i) (hc1 : cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) (xs0 xs1 : Vec Ideal S128x512 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 xs1 = sh (nrm (rI xs0 xs1 x3 x4 x5 x6 x7 x8 x9 x10)) := by
  unfold sout0_C_1
  refine (View.read_writes_full _ _ _ _ _).trans ?_
  trans sh (nrm (rI (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))))
  · rfl
  · rw [ld harg17, ld harg18, ld harg4, ld harg5, ld harg6, ld harg7, ld harg8, ld harg9, ld harg10, ld harg11]

/-- The last step's keys. -/
theorem out0_C_14_eq (hc0 : ¬cond0_0 i) (hc1 : cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) (xs0 xs1 : Vec Ideal S128x512 .f32) :
    out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 xs1 = k0_pay5 (nrm (rR xs0 xs1 x3 x4 x5 x6 x7 x8 x9 x10)) (rI xs0 xs1 x3 x4 x5 x6 x7 x8 x9 x10) x11 x12 := by
  unfold out0_C_14
  refine (View.read_writes_full _ _ _ _ _).trans ?_
  trans k0_pay5 (nrm (rR (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10)))) (rI (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))) (View.readAt (Elt Ideal) arg12.view (Rect.unit (s := S1024x768) ![0, 0] S1024x768.size inb_S1024x768_S1024x768_0_0).toLoadRect (harg12.unread x11)) (View.readAt (Elt Ideal) arg13.view (Rect.unit (s := S768x768) ![0, 0] S768x768.size inb_S768x768_S768x768_0_0).toLoadRect (harg13.unread x12))
  · rfl
  · rw [ld harg17, ld harg18, ld harg4, ld harg5, ld harg6, ld harg7, ld harg8, ld harg9, ld harg10, ld harg11, ld harg12, ld harg13]

/-- The last step's values. -/
theorem out0_C_15_eq (hc0 : ¬cond0_0 i) (hc1 : cond0_1 i) (x0 : Vec Ideal S128x512 .f32) (x1 : Vec Ideal S512x512 .bf16) (x2 : Vec Ideal S512x512 .bf16) (x3 : Vec Ideal S1x512x512 .bf16) (x4 : Vec Ideal S1x512x512 .bf16) (x5 : Vec Ideal S1x512x512 .bf16) (x6 : Vec Ideal S1x512x512 .bf16) (x7 : Vec Ideal S1x512x512 .bf16) (x8 : Vec Ideal S1x512x512 .bf16) (x9 : Vec Ideal S1x512x512 .bf16) (x10 : Vec Ideal S1x512x512 .bf16) (x11 : Vec Ideal S1024x768 .bf16) (x12 : Vec Ideal S768x768 .bf16) (x13 : Vec Ideal S768x768 .bf16) (xs0 xs1 : Vec Ideal S128x512 .f32) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 xs0 xs1 = k0_pay6 (nrm (rR xs0 xs1 x3 x4 x5 x6 x7 x8 x9 x10)) (rI xs0 xs1 x3 x4 x5 x6 x7 x8 x9 x10) x11 x13 := by
  unfold out0_C_15
  refine (View.read_writes_full _ _ _ _ _).trans ?_
  trans k0_pay6 (nrm (rR (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10)))) (rI (View.readAt (Elt Ideal) arg17.view (Rect.unit (s := S128x512) ![0, 0] S128x512.size inb_S128x512_S128x512_0_0).toLoadRect (harg17.unread xs0)) (View.readAt (Elt Ideal) arg18.view (Rect.unit (s := S128x512) ![0, 0] S128x512.size inb_S128x512_S128x512_0_0).toLoadRect (harg18.unread xs1)) (View.readAt (Elt Ideal) arg4.view (Rect.unit (s := S1x512x512) ![0, 0, 0] S1x512x512.size inb_S1x512x512_S1x512x512_0_0_0).toLoadRect (harg4.unread x3)) (View.readAt (Elt Ideal) arg5.view (Rect.unit (s := S1x512x512) ![0, 0, 0] S1x512x512.size inb_S1x512x512_S1x512x512_0_0_0).toLoadRect (harg5.unread x4)) (View.readAt (Elt Ideal) arg6.view (Rect.unit (s := S1x512x512) ![0, 0, 0] S1x512x512.size inb_S1x512x512_S1x512x512_0_0_0).toLoadRect (harg6.unread x5)) (View.readAt (Elt Ideal) arg7.view (Rect.unit (s := S1x512x512) ![0, 0, 0] S1x512x512.size inb_S1x512x512_S1x512x512_0_0_0).toLoadRect (harg7.unread x6)) (View.readAt (Elt Ideal) arg8.view (Rect.unit (s := S1x512x512) ![0, 0, 0] S1x512x512.size inb_S1x512x512_S1x512x512_0_0_0).toLoadRect (harg8.unread x7)) (View.readAt (Elt Ideal) arg9.view (Rect.unit (s := S1x512x512) ![0, 0, 0] S1x512x512.size inb_S1x512x512_S1x512x512_0_0_0).toLoadRect (harg9.unread x8)) (View.readAt (Elt Ideal) arg10.view (Rect.unit (s := S1x512x512) ![0, 0, 0] S1x512x512.size inb_S1x512x512_S1x512x512_0_0_0).toLoadRect (harg10.unread x9)) (View.readAt (Elt Ideal) arg11.view (Rect.unit (s := S1x512x512) ![0, 0, 0] S1x512x512.size inb_S1x512x512_S1x512x512_0_0_0).toLoadRect (harg11.unread x10))) (View.readAt (Elt Ideal) arg12.view (Rect.unit (s := S1024x768) ![0, 0] S1024x768.size inb_S1024x768_S1024x768_0_0).toLoadRect (harg12.unread x11)) (View.readAt (Elt Ideal) arg14.view (Rect.unit (s := S768x768) ![0, 0] S768x768.size inb_S768x768_S768x768_0_0).toLoadRect (harg14.unread x13))
  · rfl
  · rw [ld harg17, ld harg18, ld harg4, ld harg5, ld harg6, ld harg7, ld harg8, ld harg9, ld harg10, ld harg11, ld harg12, ld harg14]

end Cert.LayBlock
-- ==== Proof.LayStep.lean ====
module

public import proofs.«01_k».proof.Proof.LayHeads
public import proofs.«01_k».proof.Proof.LayOut

@[expose] public section

/-! One complex layer's body at an index: on the rows of a batch element it is the layer of `LayRow`. -/

noncomputable section

namespace Cert.LayBlock

open Idealize.ShloMosaic Cert.LayersIdeal Cert.LayersIdeal.Gen Cert.Rows Cert.Lanes

/-- The normalised rows at an index. -/
theorem nrm_apply (x : FVec Ideal S128x512 .f32) (r : Fin 128) (j : Fin 512) : nrm x (ix2 r j) = ln c512 eps (fun k => x (ix2 r k)) j := by
  unfold nrm k0_pay1
  pointwise [ln, mean]

/-- The rows as stored are the rows. -/
theorem sh_eq (x : FVec Ideal S128x512 .f32) : sh x = x := by
  funext i
  unfold sh
  exact shapeCast_apply _ _ _ _ rfl

/-- The mask's value. -/
theorem mask_bot : (Named.named κ "mask" 0xF149F2CA#32 : Ideal .f32) = ⊥ := by
  rfl

/-- The masked scores at an index. -/
theorem scs_apply (q₁ q₂ k₁ k₂ : FVec Ideal S128x512 .bf16) (r t : Fin 128) :
    scs q₁ q₂ k₁ k₂ (ix2 r t) = if head 8 16 rfl t = head 8 16 rfl r then ((∑ j, q₁ (ix2 r j) * k₁ (ix2 t j)) + ∑ j, q₂ (ix2 r j) * k₂ (ix2 t j)) * c8 else ⊥ := by
  have h := bm_apply r t
  unfold scs
  rw [mask_bot]
  generalize bm = b at h ⊢
  rw [← h]
  pointwise [dot_S128x512_S128x512_S128x128_1_1_0_0_n_n]
  rfl

/-- The softmax of a score matrix at an index. -/
theorem smx_apply (s : FVec Ideal S128x128 .f32) (r t : Fin 128) : smx s (ix2 r t) = soft (fun t' => s (ix2 r t')) t := by
  unfold smx
  pointwise [ofBits_neg_inf, soft]

/-- A row times a weight matrix, at an index. -/
theorem mm_apply (x : FVec Ideal S128x512 .f32) (w : FVec Ideal S512x512 .bf16) (r : Fin 128) (j : Fin 512) :
    mm x w (ix2 r j) = mul (fun k => x (ix2 r k)) (fun k j => w (ix2 k j)) j := by
  unfold mm
  pointwise [dot_S128x512_S512x512_S128x512_1_0_0_1_n_n, mul]

/-- A layer's weight matrix at an index. -/
theorem wt_apply (w : Vec Ideal S1x512x512 .bf16) (k j : Fin 512) : wt w (ix2 k j) = w (ix3 0 k j) := by
  unfold wt
  refine shapeCast_apply _ _ _ _ ?_
  rw [Shape.rowMajor_val_three, Shape.rowMajor_val_two]
  show (0 * 512 + k.val) * 512 + j.val = k.val * 512 + j.val
  omega

/-- The real part of a complex product at an index. -/
theorem pre_apply (x y : FVec Ideal S128x512 .f32) (wr wi : Vec Ideal S1x512x512 .bf16) (r : Fin 128) (j : Fin 512) :
    pre x y wr wi (ix2 r j) = cre (fun k => x (ix2 r k)) (fun k => y (ix2 r k)) (fun k j => wr (ix3 0 k j)) (fun k j => wi (ix3 0 k j)) j := by
  show mm x (wt wr) (ix2 r j) - mm y (wt wi) (ix2 r j) = _
  simp only [mm_apply, wt_apply]
  rfl

/-- The imaginary part of a complex product at an index. -/
theorem pim_apply (x y : FVec Ideal S128x512 .f32) (wr wi : Vec Ideal S1x512x512 .bf16) (r : Fin 128) (j : Fin 512) :
    pim x y wr wi (ix2 r j) = cim (fun k => x (ix2 r k)) (fun k => y (ix2 r k)) (fun k j => wr (ix3 0 k j)) (fun k j => wi (ix3 0 k j)) j := by
  show mm x (wt wi) (ix2 r j) + mm y (wt wr) (ix2 r j) = _
  simp only [mm_apply, wt_apply]
  rfl

/-- Eight weight matrices side by side, at an index. -/
theorem cat_wgt (f : Fin 8 → FVec Ideal S128x128 .f32)
    (h : Shape.Concatenates ((List.ofFn fun n : Fin 8 => (⟨S128x128, f n⟩ : (s : Shape) × (s.Idx → EReal))).map (·.1)) S128x1024 1)
    (r : Fin 128) (a : Fin 8) (t : Fin 128) :
    concatenate S128x1024 1 (List.ofFn fun n : Fin 8 => (⟨S128x128, f n⟩ : (s : Shape) × (s.Idx → EReal))) h (ix2 r (lane 8 128 rfl a t))
      = f a (ix2 r t) := by
  have ht := t.isLt
  refine concatenate_ofFn_apply 1 f h rfl 128 rfl _ a ?_ _ ?_ ?_
  · show (a.val * 128 + t.val) / 128 = a.val
    omega
  · show t.val = (a.val * 128 + t.val) % 128
    omega
  · intro b hb
    match b with
    | ⟨0, _⟩ => rfl
    | ⟨1, _⟩ => exact absurd rfl hb

/-- Eight value matrices below each other, at an index. -/
theorem cat_vals (f : Fin 8 → FVec Ideal S128x512 .bf16)
    (h : Shape.Concatenates ((List.ofFn fun n : Fin 8 => (⟨S128x512, f n⟩ : (s : Shape) × (s.Idx → EReal))).map (·.1)) S1024x512 0)
    (a : Fin 8) (t : Fin 128) (j : Fin 512) :
    concatenate S1024x512 0 (List.ofFn fun n : Fin 8 => (⟨S128x512, f n⟩ : (s : Shape) × (s.Idx → EReal))) h (ix2 (lane 8 128 rfl a t) j)
      = f a (ix2 t j) := by
  have ht := t.isLt
  refine concatenate_ofFn_apply 0 f h rfl 128 rfl _ a ?_ _ ?_ ?_
  · show (a.val * 128 + t.val) / 128 = a.val
    omega
  · show t.val = (a.val * 128 + t.val) % 128
    omega
  · intro b hb
    match b with
    | ⟨0, _⟩ => exact absurd rfl hb
    | ⟨1, _⟩ => rfl

/-- Weights times stacked values, at an index. -/
theorem weighted_apply (A : FVec Ideal S128x1024 .f32) (B : FVec Ideal S1024x512 .bf16) (r : Fin 128) (j : Fin 512) :
    matmul dot_S128x1024_S1024x512_S128x512_1_0_0_1_n_n none (truncf .bf16 A bitsLt_bf16_f32 : FVec Ideal S128x1024 .bf16) B (constant S128x512 .f32 0x00000000#32) (ix2 r j)
      = ∑ c, A (ix2 r c) * B (ix2 c j) := by
  pointwise [dot_S128x1024_S1024x512_S128x512_1_0_0_1_n_n]

/-- The attention of all rows at an index: the softmax over all rows of the scores masked to the row's own batch element. -/
theorem att_only (q₁ q₂ k₁ k₂ v : FVec Ideal S128x512 .f32) (r : Fin 128) (j : Fin 512) :
    att q₁ q₂ k₁ k₂ v (ix2 r j)
      = ∑ t, soft (only 8 16 rfl (head 8 16 rfl r) fun t' => cscore 8 64 rfl c8 (fun i => q₁ (ix2 r i)) (fun i => q₂ (ix2 r i)) (fun i => k₁ (ix2 t' i)) (fun i => k₂ (ix2 t' i)) (head 8 64 rfl j)) t
          * v (ix2 t j) := by
  have ha : ∀ h t, (concatenate S128x1024 1 (List.ofFn fun n : Fin 8 => (⟨S128x128, smx (scs (msk q₁ n) (msk q₂ n) (truncf .bf16 k₁ bitsLt_bf16_f32) (truncf .bf16 k₂ bitsLt_bf16_f32))⟩ : (s : Shape) × (s.Idx → EReal)))
      concatenates_S128x128_S128x128_S128x128_S128x128_S128x128_S128x128_S128x128_S128x128_S128x1024_d1 : FVec Ideal S128x1024 .f32) (ix2 r (lane 8 128 rfl h t))
      = soft (only 8 16 rfl (head 8 16 rfl r) fun t' => cscore 8 64 rfl c8 (fun i => q₁ (ix2 r i)) (fun i => q₂ (ix2 r i)) (fun i => k₁ (ix2 t' i)) (fun i => k₂ (ix2 t' i)) h) t := by
    intro h t
    refine (cat_wgt _ _ r h t).trans ?_
    rw [smx_apply]
    refine congrArg (fun s => soft s t) (funext fun t' => ?_)
    rw [scs_apply]
    simp only [msk_apply]
    show (if _ then ((∑ j, q₁ (ix2 r j) * mask 8 64 rfl h j * k₁ (ix2 t' j)) + ∑ j, q₂ (ix2 r j) * mask 8 64 rfl h j * k₂ (ix2 t' j)) * c8 else ⊥) = _
    rw [score_masked 8 64 rfl (fun i => q₁ (ix2 r i)) (fun i => k₁ (ix2 t' i)), score_masked 8 64 rfl (fun i => q₂ (ix2 r i)) (fun i => k₂ (ix2 t' i))]
    rfl
  have hb : ∀ h t, (concatenate S1024x512 0 (List.ofFn fun n : Fin 8 => (⟨S128x512, msk v n⟩ : (s : Shape) × (s.Idx → EReal)))
      concatenates_S128x512_S128x512_S128x512_S128x512_S128x512_S128x512_S128x512_S128x512_S1024x512_d0 : FVec Ideal S1024x512 .bf16) (ix2 (lane 8 128 rfl h t) j)
      = v (ix2 t j) * mask 8 64 rfl h j := by
    intro h t
    refine (cat_vals _ _ h t j).trans ?_
    rw [msk_apply]
  unfold att
  rw [weighted_apply]
  exact sum_stacked 8 64 rfl rfl (fun h t => soft (only 8 16 rfl (head 8 16 rfl r) fun t' => cscore 8 64 rfl c8 (fun i => q₁ (ix2 r i)) (fun i => q₂ (ix2 r i)) (fun i => k₁ (ix2 t' i)) (fun i => k₂ (ix2 t' i)) h) t)
    (fun t i => v (ix2 t i)) _ _ j ha hb

/-- The scale is finite. -/
theorem isReal_c8 : IsReal c8 := ⟨1 / 8, by simp [c8, Ideal.ofBits, Ideal.ieee, -EReal.coe_mul]; norm_num⟩

/-- The attention of finite queries and keys at a batch element's row: attention over the batch element's rows. -/
theorem att_apply (q₁ q₂ k₁ k₂ v : FVec Ideal S128x512 .f32) (h₁ : ∀ r j, IsReal (q₁ (ix2 r j))) (h₂ : ∀ r j, IsReal (q₂ (ix2 r j)))
    (g₁ : ∀ r j, IsReal (k₁ (ix2 r j))) (g₂ : ∀ r j, IsReal (k₂ (ix2 r j))) (b : Fin 8) (t : Fin 16) (j : Fin 512) :
    att q₁ q₂ k₁ k₂ v (ix2 (lane 8 16 rfl b t) j)
      = cattn 8 64 rfl c8 (fun i => q₁ (ix2 (lane 8 16 rfl b t) i)) (fun i => q₂ (ix2 (lane 8 16 rfl b t) i)) (fun u i => k₁ (ix2 (lane 8 16 rfl b u) i))
          (fun u i => k₂ (ix2 (lane 8 16 rfl b u) i)) (fun u i => v (ix2 (lane 8 16 rfl b u) i)) j := by
  rw [att_only, head_lane]
  exact sum_soft_only 8 16 rfl (by omega) b _ (fun t => v (ix2 t j)) fun u =>
    ((isReal_score 8 64 rfl (h₁ _) (g₁ _) _).add (isReal_score 8 64 rfl (h₂ _) (g₂ _) _)).mul isReal_c8

/-- A layer's eight weight matrices, in the body's order. -/
def wts (w₀ w₁ w₂ w₃ w₄ w₅ w₆ w₇ : Vec Ideal S1x512x512 .bf16) (n : Fin 8) (k j : Fin 512) : EReal := (![w₀, w₁, w₂, w₃, w₄, w₅, w₆, w₇] n : Vec Ideal S1x512x512 .bf16) (ix3 0 k j)

section
variable (x y : FVec Ideal S128x512 .f32) (w₀ w₁ w₂ w₃ w₄ w₅ w₆ w₇ : Vec Ideal S1x512x512 .bf16)
  (hx : ∀ r j, IsReal (x (ix2 r j))) (hy : ∀ r j, IsReal (y (ix2 r j)))
  (h₀ : ∀ k j, IsReal (w₀ (ix3 0 k j))) (h₁ : ∀ k j, IsReal (w₁ (ix3 0 k j))) (h₂ : ∀ k j, IsReal (w₂ (ix3 0 k j))) (h₃ : ∀ k j, IsReal (w₃ (ix3 0 k j)))
  (b : Fin 8) (t : Fin 16) (j : Fin 512)
include hx hy h₀ h₁ h₂ h₃

/-- The real part of the attention at a batch element's row. -/
theorem aR_apply : aR x y w₀ w₁ w₂ w₃ w₄ w₅ (ix2 (lane 8 16 rfl b t) j)
    = attR 8 64 rfl c8 (wts w₀ w₁ w₂ w₃ w₄ w₅ w₆ w₇) (fun u k => x (ix2 (lane 8 16 rfl b u) k)) (fun u k => y (ix2 (lane 8 16 rfl b u) k)) t j := by
  unfold aR
  rw [att_apply _ _ _ _ _ (fun r j => by rw [pre_apply]; exact isReal_cre (hx r) (hy r) h₀ h₁ j) (fun r j => by rw [pim_apply]; exact isReal_cim (hx r) (hy r) h₀ h₁ j)
    (fun r j => by rw [pre_apply]; exact isReal_cre (hx r) (hy r) h₂ h₃ j) (fun r j => by rw [pim_apply]; exact isReal_cim (hx r) (hy r) h₂ h₃ j)]
  simp only [pre_apply, pim_apply]
  rfl

/-- The imaginary part of the attention at a batch element's row. -/
theorem aI_apply : aI x y w₀ w₁ w₂ w₃ w₄ w₅ (ix2 (lane 8 16 rfl b t) j)
    = attI 8 64 rfl c8 (wts w₀ w₁ w₂ w₃ w₄ w₅ w₆ w₇) (fun u k => x (ix2 (lane 8 16 rfl b u) k)) (fun u k => y (ix2 (lane 8 16 rfl b u) k)) t j := by
  unfold aI
  rw [att_apply _ _ _ _ _ (fun r j => by rw [pre_apply]; exact isReal_cre (hx r) (hy r) h₀ h₁ j) (fun r j => by rw [pim_apply]; exact isReal_cim (hx r) (hy r) h₀ h₁ j)
    (fun r j => by rw [pre_apply]; exact isReal_cre (hx r) (hy r) h₂ h₃ j) (fun r j => by rw [pim_apply]; exact isReal_cim (hx r) (hy r) h₂ h₃ j)]
  simp only [pre_apply, pim_apply]
  rfl

/-- The layer's new real parts at a batch element's row. -/
theorem nrmR_apply : nrm (rR x y w₀ w₁ w₂ w₃ w₄ w₅ w₆ w₇) (ix2 (lane 8 16 rfl b t) j)
    = layR 8 64 rfl c512 eps c8 (wts w₀ w₁ w₂ w₃ w₄ w₅ w₆ w₇) (fun u k => x (ix2 (lane 8 16 rfl b u) k)) (fun u k => y (ix2 (lane 8 16 rfl b u) k)) t j := by
  rw [nrm_apply]
  refine congrArg (fun z => ln c512 eps z j) (funext fun k => ?_)
  show x _ + pre _ _ w₆ w₇ (ix2 (lane 8 16 rfl b t) k) = _
  rw [pre_apply]
  simp only [aR_apply x y w₀ w₁ w₂ w₃ w₄ w₅ w₆ w₇ hx hy h₀ h₁ h₂ h₃, aI_apply x y w₀ w₁ w₂ w₃ w₄ w₅ w₆ w₇ hx hy h₀ h₁ h₂ h₃]
  rfl

/-- The layer's new imaginary parts at a batch element's row. -/
theorem nrmI_apply : nrm (rI x y w₀ w₁ w₂ w₃ w₄ w₅ w₆ w₇) (ix2 (lane 8 16 rfl b t) j)
    = layI 8 64 rfl c512 eps c8 (wts w₀ w₁ w₂ w₃ w₄ w₅ w₆ w₇) (fun u k => x (ix2 (lane 8 16 rfl b u) k)) (fun u k => y (ix2 (lane 8 16 rfl b u) k)) t j := by
  rw [nrm_apply]
  refine congrArg (fun z => ln c512 eps z j) (funext fun k => ?_)
  show y _ + pim _ _ w₆ w₇ (ix2 (lane 8 16 rfl b t) k) = _
  rw [pim_apply]
  simp only [aR_apply x y w₀ w₁ w₂ w₃ w₄ w₅ w₆ w₇ hx hy h₀ h₁ h₂ h₃, aI_apply x y w₀ w₁ w₂ w₃ w₄ w₅ w₆ w₇ hx hy h₀ h₁ h₂ h₃]
  rfl

end

end Cert.LayBlock
-- ==== Proof.LayArr.lean ====
module

public import proofs.«01_k».proof.Proof.LayStep
public import proofs.«01_k».proof.Proof.Gen.LayersIdeal.Value
public import Idealize.ShloMosaic.Lib.StableHlo.RunRead

@[expose] public section

/-! The arrays the complex layers' program computes: its grid steps, one layer each, composed, and its two results. -/

noncomputable section

namespace Cert.LayBlock

open Idealize.ShloMosaic Idealize.ShloMosaic.TcCoe Cert.LayersIdeal Cert.LayersIdeal.Gen Cert.LayersIdeal.Value Cert.Rows Cert.Lanes

variable (m : (ℓ : Loc nD τ sig) → Buf (Elt Ideal) ℓ) (c : Dev nD)

/-- The patch rows, as the region finds them. -/
theorem V_w0 : V m c main_arg0 = m ((c : Thread nD τ).loc main_arg0) := by
  show StableHlo.after hostOps0 _ _ = _
  after_reads_simp

/-- The narrowed real projection weights. -/
theorem V_w1 : V m c main_call0_v0 = m ((c : Thread nD τ).loc main_arg1) := by
  show StableHlo.after hostOps0 _ _ = _
  after_reads_simp
  rfl

/-- The narrowed imaginary projection weights. -/
theorem V_w2 : V m c main_call0_v1 = m ((c : Thread nD τ).loc main_arg2) := by
  show StableHlo.after hostOps0 _ _ = _
  after_reads_simp
  rfl

/-- The narrowed real query weights. -/
theorem V_w3 : V m c main_call0_v2 = m ((c : Thread nD τ).loc main_arg3) := by
  show StableHlo.after hostOps0 _ _ = _
  after_reads_simp
  rfl

/-- The narrowed imaginary query weights. -/
theorem V_w4 : V m c main_call0_v3 = m ((c : Thread nD τ).loc main_arg4) := by
  show StableHlo.after hostOps0 _ _ = _
  after_reads_simp
  rfl

/-- The narrowed real key weights. -/
theorem V_w5 : V m c main_call0_v4 = m ((c : Thread nD τ).loc main_arg5) := by
  show StableHlo.after hostOps0 _ _ = _
  after_reads_simp
  rfl

/-- The narrowed imaginary key weights. -/
theorem V_w6 : V m c main_call0_v5 = m ((c : Thread nD τ).loc main_arg6) := by
  show StableHlo.after hostOps0 _ _ = _
  after_reads_simp
  rfl

/-- The narrowed real value weights. -/
theorem V_w7 : V m c main_call0_v6 = m ((c : Thread nD τ).loc main_arg7) := by
  show StableHlo.after hostOps0 _ _ = _
  after_reads_simp
  rfl

/-- The narrowed imaginary value weights. -/
theorem V_w8 : V m c main_call0_v7 = m ((c : Thread nD τ).loc main_arg8) := by
  show StableHlo.after hostOps0 _ _ = _
  after_reads_simp
  rfl

/-- The narrowed real output weights. -/
theorem V_w9 : V m c main_call0_v8 = m ((c : Thread nD τ).loc main_arg9) := by
  show StableHlo.after hostOps0 _ _ = _
  after_reads_simp
  rfl

/-- The narrowed imaginary output weights. -/
theorem V_w10 : V m c main_call0_v9 = m ((c : Thread nD τ).loc main_arg10) := by
  show StableHlo.after hostOps0 _ _ = _
  after_reads_simp
  rfl

/-- The narrowed memory weights. -/
theorem V_w11 : V m c main_call0_v10 = m ((c : Thread nD τ).loc main_arg11) := by
  show StableHlo.after hostOps0 _ _ = _
  after_reads_simp
  rfl

/-- The narrowed decoder key weights. -/
theorem V_w12 : V m c main_call0_v11 = m ((c : Thread nD τ).loc main_arg12) := by
  show StableHlo.after hostOps0 _ _ = _
  after_reads_simp
  rfl

/-- The narrowed decoder value weights. -/
theorem V_w13 : V m c main_call0_v12 = m ((c : Thread nD τ).loc main_arg13) := by
  show StableHlo.after hostOps0 _ _ = _
  after_reads_simp
  rfl

/-- The place of an entry of a block that is a whole matrix. -/
theorem whole {n p : Nat} (k : Fin n) (j : Fin p) (a : Fin 2) :
    (![0, 0] : Fin 2 → Nat) a * (![n, p] : Fin 2 → Nat) a + 1 * ((ix2 k j : Shape.Idx ⟨2, ![n, p]⟩) a).val = ((ix2 k j : Shape.Idx ⟨2, ![n, p]⟩) a).val := by
  fin_cases a
  · show 0 * n + 1 * k.val = k.val
    omega
  · show 0 * p + 1 * j.val = j.val
    omega

/-- Operand 0 as a grid step reads it. -/
theorem iblk0 (t : Fin cfg0.N) (k : Fin 128) (j : Fin 512) : iblk m c 0 t (ix2 k j) = (m ((c : Thread nD τ).loc main_arg0) : FVec Ideal S128x512 .f32) (ix2 k j) := by
  refine Eq.trans ?_ (congrFun (V_w0 m c) _)
  unfold iblk
  exact congrArg (V m c main_arg0) (funext fun a => Fin.ext (whole k j a))

/-- Operand 1 as a grid step reads it. -/
theorem iblk1 (t : Fin cfg0.N) (k : Fin 512) (j : Fin 512) : iblk m c 1 t (ix2 k j) = (m ((c : Thread nD τ).loc main_arg1) : FVec Ideal S512x512 .f32) (ix2 k j) := by
  refine Eq.trans ?_ (congrFun (V_w1 m c) _)
  unfold iblk
  exact congrArg (V m c main_call0_v0) (funext fun a => Fin.ext (whole k j a))

/-- Operand 2 as a grid step reads it. -/
theorem iblk2 (t : Fin cfg0.N) (k : Fin 512) (j : Fin 512) : iblk m c 2 t (ix2 k j) = (m ((c : Thread nD τ).loc main_arg2) : FVec Ideal S512x512 .f32) (ix2 k j) := by
  refine Eq.trans ?_ (congrFun (V_w2 m c) _)
  unfold iblk
  exact congrArg (V m c main_call0_v1) (funext fun a => Fin.ext (whole k j a))

/-- Operand 11 as a grid step reads it. -/
theorem iblk11 (t : Fin cfg0.N) (k : Fin 1024) (j : Fin 768) : iblk m c 11 t (ix2 k j) = (m ((c : Thread nD τ).loc main_arg11) : FVec Ideal S1024x768 .f32) (ix2 k j) := by
  refine Eq.trans ?_ (congrFun (V_w11 m c) _)
  unfold iblk
  exact congrArg (V m c main_call0_v10) (funext fun a => Fin.ext (whole k j a))

/-- Operand 12 as a grid step reads it. -/
theorem iblk12 (t : Fin cfg0.N) (k : Fin 768) (j : Fin 768) : iblk m c 12 t (ix2 k j) = (m ((c : Thread nD τ).loc main_arg12) : FVec Ideal S768x768 .f32) (ix2 k j) := by
  refine Eq.trans ?_ (congrFun (V_w12 m c) _)
  unfold iblk
  exact congrArg (V m c main_call0_v11) (funext fun a => Fin.ext (whole k j a))

/-- Operand 13 as a grid step reads it. -/
theorem iblk13 (t : Fin cfg0.N) (k : Fin 768) (j : Fin 768) : iblk m c 13 t (ix2 k j) = (m ((c : Thread nD τ).loc main_arg13) : FVec Ideal S768x768 .f32) (ix2 k j) := by
  refine Eq.trans ?_ (congrFun (V_w13 m c) _)
  unfold iblk
  exact congrArg (V m c main_call0_v12) (funext fun a => Fin.ext (whole k j a))

/-- The place, in a stack of layers, of an entry of the block at layer `t`. -/
theorem place (t : Nat) (l : Fin 6) (hl : l.val = t) (ix : Fin 3 → Nat) (h : ix = ![t, 0, 0]) (k j : Fin 512) (a : Fin 3) :
    ix a * S1x512x512.size a + 1 * (ix3 (0 : Fin 1) k j : S1x512x512.Idx) a = ((ix3 l k j : S6x512x512.Idx) a).val := by
  subst h
  fin_cases a
  · show t * 1 + 1 * 0 = l.val
    omega
  · show 0 * 512 + 1 * k.val = k.val
    omega
  · show 0 * 512 + 1 * j.val = j.val
    omega

/-- The block of operand 3 that a grid step reads. -/
theorem index3 : ∀ t : Fin grid0.N, win0_3.index t = ![t.val, 0, 0] := by decide +kernel

/-- Operand 3 as a grid step reads it: its own layer's matrix. -/
theorem iblk3 (t : Fin cfg0.N) (l : Fin 6) (hl : l.val = t.val) (k j : Fin 512) : iblk m c 3 t (ix3 0 k j) = (m ((c : Thread nD τ).loc main_arg3) : FVec Ideal S6x512x512 .f32) (ix3 l k j) := by
  refine Eq.trans ?_ (congrFun (V_w3 m c) _)
  unfold iblk
  exact congrArg (V m c main_call0_v2) (funext fun a => Fin.ext (place t.val l hl (win0_3.index t) (index3 t) k j a))

/-- The block of operand 4 that a grid step reads. -/
theorem index4 : ∀ t : Fin grid0.N, win0_4.index t = ![t.val, 0, 0] := by decide +kernel

/-- Operand 4 as a grid step reads it: its own layer's matrix. -/
theorem iblk4 (t : Fin cfg0.N) (l : Fin 6) (hl : l.val = t.val) (k j : Fin 512) : iblk m c 4 t (ix3 0 k j) = (m ((c : Thread nD τ).loc main_arg4) : FVec Ideal S6x512x512 .f32) (ix3 l k j) := by
  refine Eq.trans ?_ (congrFun (V_w4 m c) _)
  unfold iblk
  exact congrArg (V m c main_call0_v3) (funext fun a => Fin.ext (place t.val l hl (win0_4.index t) (index4 t) k j a))

/-- The block of operand 5 that a grid step reads. -/
theorem index5 : ∀ t : Fin grid0.N, win0_5.index t = ![t.val, 0, 0] := by decide +kernel

/-- Operand 5 as a grid step reads it: its own layer's matrix. -/
theorem iblk5 (t : Fin cfg0.N) (l : Fin 6) (hl : l.val = t.val) (k j : Fin 512) : iblk m c 5 t (ix3 0 k j) = (m ((c : Thread nD τ).loc main_arg5) : FVec Ideal S6x512x512 .f32) (ix3 l k j) := by
  refine Eq.trans ?_ (congrFun (V_w5 m c) _)
  unfold iblk
  exact congrArg (V m c main_call0_v4) (funext fun a => Fin.ext (place t.val l hl (win0_5.index t) (index5 t) k j a))

/-- The block of operand 6 that a grid step reads. -/
theorem index6 : ∀ t : Fin grid0.N, win0_6.index t = ![t.val, 0, 0] := by decide +kernel

/-- Operand 6 as a grid step reads it: its own layer's matrix. -/
theorem iblk6 (t : Fin cfg0.N) (l : Fin 6) (hl : l.val = t.val) (k j : Fin 512) : iblk m c 6 t (ix3 0 k j) = (m ((c : Thread nD τ).loc main_arg6) : FVec Ideal S6x512x512 .f32) (ix3 l k j) := by
  refine Eq.trans ?_ (congrFun (V_w6 m c) _)
  unfold iblk
  exact congrArg (V m c main_call0_v5) (funext fun a => Fin.ext (place t.val l hl (win0_6.index t) (index6 t) k j a))

/-- The block of operand 7 that a grid step reads. -/
theorem index7 : ∀ t : Fin grid0.N, win0_7.index t = ![t.val, 0, 0] := by decide +kernel

/-- Operand 7 as a grid step reads it: its own layer's matrix. -/
theorem iblk7 (t : Fin cfg0.N) (l : Fin 6) (hl : l.val = t.val) (k j : Fin 512) : iblk m c 7 t (ix3 0 k j) = (m ((c : Thread nD τ).loc main_arg7) : FVec Ideal S6x512x512 .f32) (ix3 l k j) := by
  refine Eq.trans ?_ (congrFun (V_w7 m c) _)
  unfold iblk
  exact congrArg (V m c main_call0_v6) (funext fun a => Fin.ext (place t.val l hl (win0_7.index t) (index7 t) k j a))

/-- The block of operand 8 that a grid step reads. -/
theorem index8 : ∀ t : Fin grid0.N, win0_8.index t = ![t.val, 0, 0] := by decide +kernel

/-- Operand 8 as a grid step reads it: its own layer's matrix. -/
theorem iblk8 (t : Fin cfg0.N) (l : Fin 6) (hl : l.val = t.val) (k j : Fin 512) : iblk m c 8 t (ix3 0 k j) = (m ((c : Thread nD τ).loc main_arg8) : FVec Ideal S6x512x512 .f32) (ix3 l k j) := by
  refine Eq.trans ?_ (congrFun (V_w8 m c) _)
  unfold iblk
  exact congrArg (V m c main_call0_v7) (funext fun a => Fin.ext (place t.val l hl (win0_8.index t) (index8 t) k j a))

/-- The block of operand 9 that a grid step reads. -/
theorem index9 : ∀ t : Fin grid0.N, win0_9.index t = ![t.val, 0, 0] := by decide +kernel

/-- Operand 9 as a grid step reads it: its own layer's matrix. -/
theorem iblk9 (t : Fin cfg0.N) (l : Fin 6) (hl : l.val = t.val) (k j : Fin 512) : iblk m c 9 t (ix3 0 k j) = (m ((c : Thread nD τ).loc main_arg9) : FVec Ideal S6x512x512 .f32) (ix3 l k j) := by
  refine Eq.trans ?_ (congrFun (V_w9 m c) _)
  unfold iblk
  exact congrArg (V m c main_call0_v8) (funext fun a => Fin.ext (place t.val l hl (win0_9.index t) (index9 t) k j a))

/-- The block of operand 10 that a grid step reads. -/
theorem index10 : ∀ t : Fin grid0.N, win0_10.index t = ![t.val, 0, 0] := by decide +kernel

/-- Operand 10 as a grid step reads it: its own layer's matrix. -/
theorem iblk10 (t : Fin cfg0.N) (l : Fin 6) (hl : l.val = t.val) (k j : Fin 512) : iblk m c 10 t (ix3 0 k j) = (m ((c : Thread nD τ).loc main_arg10) : FVec Ideal S6x512x512 .f32) (ix3 l k j) := by
  refine Eq.trans ?_ (congrFun (V_w10 m c) _)
  unfold iblk
  exact congrArg (V m c main_call0_v9) (funext fun a => Fin.ext (place t.val l hl (win0_10.index t) (index10 t) k j a))

/-- The real parts carried out of a first step. -/
theorem stepA_R (t : Fin cfg0.N) (acc : Vec Ideal S128x768 .f32 × Vec Ideal S128x768 .f32 × Vec Ideal S128x512 .f32 × Vec Ideal S128x512 .f32) (h0 : t.val % 6 = 0) (h1 : ¬t.val % 6 = 5) :
    (stAt0 m c t.val t.isLt acc).2.2.1 = nrm (rR (k0_pay7 (iblk m c 0 t) (iblk m c 1 t)) (k0_pay8 (iblk m c 0 t) (iblk m c 2 t)) (iblk m c 3 t) (iblk m c 4 t) (iblk m c 5 t) (iblk m c 6 t) (iblk m c 7 t) (iblk m c 8 t) (iblk m c 9 t) (iblk m c 10 t)) := by
  rw [stAt0_A m c t acc h0 h1]
  dsimp only
  rw [sout0_A_0_eq, sh_eq]

/-- The imaginary parts carried out of a first step. -/
theorem stepA_I (t : Fin cfg0.N) (acc : Vec Ideal S128x768 .f32 × Vec Ideal S128x768 .f32 × Vec Ideal S128x512 .f32 × Vec Ideal S128x512 .f32) (h0 : t.val % 6 = 0) (h1 : ¬t.val % 6 = 5) :
    (stAt0 m c t.val t.isLt acc).2.2.2 = nrm (rI (k0_pay7 (iblk m c 0 t) (iblk m c 1 t)) (k0_pay8 (iblk m c 0 t) (iblk m c 2 t)) (iblk m c 3 t) (iblk m c 4 t) (iblk m c 5 t) (iblk m c 6 t) (iblk m c 7 t) (iblk m c 8 t) (iblk m c 9 t) (iblk m c 10 t)) := by
  rw [stAt0_A m c t acc h0 h1]
  dsimp only
  rw [sout0_A_1_eq, sh_eq]

/-- The real parts carried out of a later step. -/
theorem stepB_R (t : Fin cfg0.N) (acc : Vec Ideal S128x768 .f32 × Vec Ideal S128x768 .f32 × Vec Ideal S128x512 .f32 × Vec Ideal S128x512 .f32) (h0 : ¬t.val % 6 = 0) (h1 : ¬t.val % 6 = 5) :
    (stAt0 m c t.val t.isLt acc).2.2.1 = nrm (rR acc.2.2.1 acc.2.2.2 (iblk m c 3 t) (iblk m c 4 t) (iblk m c 5 t) (iblk m c 6 t) (iblk m c 7 t) (iblk m c 8 t) (iblk m c 9 t) (iblk m c 10 t)) := by
  rw [stAt0_B m c t acc h0 h1]
  dsimp only
  rw [sout0_B_0_eq, sh_eq]

/-- The imaginary parts carried out of a later step. -/
theorem stepB_I (t : Fin cfg0.N) (acc : Vec Ideal S128x768 .f32 × Vec Ideal S128x768 .f32 × Vec Ideal S128x512 .f32 × Vec Ideal S128x512 .f32) (h0 : ¬t.val % 6 = 0) (h1 : ¬t.val % 6 = 5) :
    (stAt0 m c t.val t.isLt acc).2.2.2 = nrm (rI acc.2.2.1 acc.2.2.2 (iblk m c 3 t) (iblk m c 4 t) (iblk m c 5 t) (iblk m c 6 t) (iblk m c 7 t) (iblk m c 8 t) (iblk m c 9 t) (iblk m c 10 t)) := by
  rw [stAt0_B m c t acc h0 h1]
  dsimp only
  rw [sout0_B_1_eq, sh_eq]

/-- The keys out of the last step. -/
theorem stepC_14 (t : Fin cfg0.N) (acc : Vec Ideal S128x768 .f32 × Vec Ideal S128x768 .f32 × Vec Ideal S128x512 .f32 × Vec Ideal S128x512 .f32) (h0 : ¬t.val % 6 = 0) (h1 : t.val % 6 = 5) :
    (stAt0 m c t.val t.isLt acc).1 = k0_pay5 (nrm (rR acc.2.2.1 acc.2.2.2 (iblk m c 3 t) (iblk m c 4 t) (iblk m c 5 t) (iblk m c 6 t) (iblk m c 7 t) (iblk m c 8 t) (iblk m c 9 t) (iblk m c 10 t))) (rI acc.2.2.1 acc.2.2.2 (iblk m c 3 t) (iblk m c 4 t) (iblk m c 5 t) (iblk m c 6 t) (iblk m c 7 t) (iblk m c 8 t) (iblk m c 9 t) (iblk m c 10 t)) (iblk m c 11 t) (iblk m c 12 t) := by
  rw [stAt0_C m c t acc h0 h1]
  dsimp only
  rw [out0_C_14_eq]

/-- The values out of the last step. -/
theorem stepC_15 (t : Fin cfg0.N) (acc : Vec Ideal S128x768 .f32 × Vec Ideal S128x768 .f32 × Vec Ideal S128x512 .f32 × Vec Ideal S128x512 .f32) (h0 : ¬t.val % 6 = 0) (h1 : t.val % 6 = 5) :
    (stAt0 m c t.val t.isLt acc).2.1 = k0_pay6 (nrm (rR acc.2.2.1 acc.2.2.2 (iblk m c 3 t) (iblk m c 4 t) (iblk m c 5 t) (iblk m c 6 t) (iblk m c 7 t) (iblk m c 8 t) (iblk m c 9 t) (iblk m c 10 t))) (rI acc.2.2.1 acc.2.2.2 (iblk m c 3 t) (iblk m c 4 t) (iblk m c 5 t) (iblk m c 6 t) (iblk m c 7 t) (iblk m c 8 t) (iblk m c 9 t) (iblk m c 10 t)) (iblk m c 11 t) (iblk m c 13 t) := by
  rw [stAt0_C m c t acc h0 h1]
  dsimp only
  rw [out0_C_15_eq]

end Cert.LayBlock
-- ==== Proof.LayFin.lean ====
module

public import proofs.«01_k».proof.Proof.LayArr

@[expose] public section

/-! The complex layers' program, its grid steps composed: the carried rows after each step, and the two results, at an index. -/

noncomputable section

namespace Cert.Rows

/-- The memory row of a real and an imaginary row: the two side by side, through the weights. -/
def memo {n p q : Nat} (hn : 2 * n = p) (x y : Fin n → EReal) (C : Fin p → Fin q → EReal) (j : Fin q) : EReal :=
  ∑ a : Fin 2, ∑ d : Fin n, (![x, y] a) d * C (lane 2 n hn a d) j

end Cert.Rows

namespace Cert.LayBlock

open Idealize.ShloMosaic Idealize.ShloMosaic.TcCoe Cert.LayersIdeal Cert.LayersIdeal.Gen Cert.LayersIdeal.Value Cert.Rows Cert.Lanes

/-- Two row blocks side by side, at an index. -/
theorem cat_mem (f : Fin 2 → FVec Ideal S128x512 .f32)
    (h : Shape.Concatenates ((List.ofFn fun n : Fin 2 => (⟨S128x512, f n⟩ : (s : Shape) × (s.Idx → EReal))).map (·.1)) S128x1024 1)
    (r : Fin 128) (a : Fin 2) (d : Fin 512) :
    concatenate S128x1024 1 (List.ofFn fun n : Fin 2 => (⟨S128x512, f n⟩ : (s : Shape) × (s.Idx → EReal))) h (ix2 r (lane 2 512 rfl a d))
      = f a (ix2 r d) := by
  have ht := d.isLt
  refine concatenate_ofFn_apply 1 f h rfl 512 rfl _ a ?_ _ ?_ ?_
  · show (a.val * 512 + d.val) / 512 = a.val
    omega
  · show d.val = (a.val * 512 + d.val) % 512
    omega
  · intro b hb
    match b with
    | ⟨0, _⟩ => rfl
    | ⟨1, _⟩ => exact absurd rfl hb

/-- The product of a block with 1024 columns and a matrix, at an index. -/
theorem mm_mem (x : FVec Ideal S128x1024 .bf16) (w : FVec Ideal S1024x768 .bf16) (r : Fin 128) (j : Fin 768) :
    matmul dot_S128x1024_S1024x768_S128x768_1_0_0_1_n_n none x w (constant S128x768 .f32 0x00000000#32) (ix2 r j)
      = ∑ k : Fin 1024, x (ix2 r k) * w (ix2 k j) := by
  pointwise [dot_S128x1024_S1024x768_S128x768_1_0_0_1_n_n]

/-- The product of a block with 768 columns and a matrix, at an index. -/
theorem mm_dec (x : FVec Ideal S128x768 .bf16) (w : FVec Ideal S768x768 .bf16) (r : Fin 128) (j : Fin 768) :
    matmul dot_S128x768_S768x768_S128x768_1_0_0_1_n_n none x w (constant S128x768 .f32 0x00000000#32) (ix2 r j)
      = mul (fun k => x (ix2 r k)) (fun k j => w (ix2 k j)) j := by
  pointwise [dot_S128x768_S768x768_S128x768_1_0_0_1_n_n, mul]

/-- The memory block, at an index. -/
theorem pay4_apply (z y : FVec Ideal S128x512 .f32) (C : Vec Ideal S1024x768 .bf16) (r : Fin 128) (j : Fin 768) :
    k0_pay4 z y C (ix2 r j) = memo rfl (fun k => z (ix2 r k)) (fun k => nrm y (ix2 r k)) (fun k j => C (ix2 k j)) j := by
  unfold k0_pay4
  refine (mm_mem _ _ r j).trans ?_
  rw [sum_lanes 2 512 rfl]
  refine Finset.sum_congr rfl fun a _ => Finset.sum_congr rfl fun d _ => ?_
  refine congr (congrArg HMul.hMul ?_) ?_
  · refine (cat_mem ![z, k0_pay1 y] concatenates_S128x512_S128x512_S128x1024_d1 r a d).trans ?_
    fin_cases a <;> rfl
  · exact congrFun (shapeCast_self C _) _

/-- The keys' block, at an index. -/
theorem pay5_apply (z y : FVec Ideal S128x512 .f32) (C : Vec Ideal S1024x768 .bf16) (w : Vec Ideal S768x768 .bf16) (r : Fin 128) (j : Fin 768) :
    k0_pay5 z y C w (ix2 r j) = mul (memo rfl (fun k => z (ix2 r k)) (fun k => nrm y (ix2 r k)) (fun k j => C (ix2 k j))) (fun k j => w (ix2 k j)) j := by
  unfold k0_pay5
  refine (mm_dec _ _ r j).trans ?_
  rw [shapeCast_self]
  exact congrArg (fun x => mul x _ j) (funext fun k => pay4_apply z y C r k)

/-- The values' block, at an index. -/
theorem pay6_apply (z y : FVec Ideal S128x512 .f32) (C : Vec Ideal S1024x768 .bf16) (w : Vec Ideal S768x768 .bf16) (r : Fin 128) (j : Fin 768) :
    k0_pay6 z y C w (ix2 r j) = mul (memo rfl (fun k => z (ix2 r k)) (fun k => nrm y (ix2 r k)) (fun k j => C (ix2 k j))) (fun k j => w (ix2 k j)) j := by
  unfold k0_pay6
  refine (mm_dec _ _ r j).trans ?_
  rw [shapeCast_self]
  exact congrArg (fun x => mul x _ j) (funext fun k => pay4_apply z y C r k)

/-- The real start, at an index. -/
theorem pay7_apply (x : Vec Ideal S128x512 .f32) (w : Vec Ideal S512x512 .bf16) (r : Fin 128) (j : Fin 512) :
    k0_pay7 x w (ix2 r j) = mul (fun k => x (ix2 r k)) (fun k j => w (ix2 k j)) j := by
  unfold k0_pay7
  rw [shapeCast_self, shapeCast_self]
  exact mm_apply x w r j

/-- The imaginary start, at an index. -/
theorem pay8_apply (x : Vec Ideal S128x512 .f32) (w : Vec Ideal S512x512 .bf16) (r : Fin 128) (j : Fin 512) :
    k0_pay8 x w (ix2 r j) = mul (fun k => x (ix2 r k)) (fun k j => w (ix2 k j)) j := by
  unfold k0_pay8
  rw [shapeCast_self, shapeCast_self]
  exact mm_apply x w r j

/-- The rows' length is a positive real. -/
theorem pos_c512 : ∃ r : ℝ, 0 < r ∧ c512 = r := ⟨512, by norm_num, ofBits_512⟩

variable (m : (ℓ : Loc nD τ sig) → Buf (Elt Ideal) ℓ) (c : Dev nD)

/-- One of the eight stacks of layer weights. -/
def stack (n : Fin 8) : FVec Ideal S6x512x512 .f32 :=
  (![m ((c : Thread nD τ).loc main_arg3), m ((c : Thread nD τ).loc main_arg4), m ((c : Thread nD τ).loc main_arg5), m ((c : Thread nD τ).loc main_arg6),
    m ((c : Thread nD τ).loc main_arg7), m ((c : Thread nD τ).loc main_arg8), m ((c : Thread nD τ).loc main_arg9), m ((c : Thread nD τ).loc main_arg10)] : Fin 8 → FVec Ideal S6x512x512 .f32) n

/-- A layer's eight weights, as functions of row and column. -/
def lw (w : Fin 8 → FVec Ideal S6x512x512 .f32) (l : Nat) (n : Fin 8) (k j : Fin 512) : EReal :=
  if h : l < 6 then w n (ix3 ⟨l, h⟩ k j) else 0

/-- The rows before the layers: a patch row through a projection. -/
def proj (x : FVec Ideal S128x512 .f32) (w : FVec Ideal S512x512 .f32) (b : Fin 8) (t : Fin 16) (j : Fin 512) : EReal :=
  mul (fun k => x (ix2 (lane 8 16 rfl b t) k)) (fun k j => w (ix2 k j)) j

/-- Batch row `b`'s real and imaginary rows after `n` layers. -/
def after (x : FVec Ideal S128x512 .f32) (p q : FVec Ideal S512x512 .f32) (w : Fin 8 → FVec Ideal S6x512x512 .f32) (b : Fin 8) (n : Nat) :
    (Fin 16 → Fin 512 → EReal) × (Fin 16 → Fin 512 → EReal) :=
  lays 8 64 rfl c512 eps c8 (lw w) (proj x p b) (proj x q b) n

/-- The eight blocks a grid step reads are its layer's weights. -/
theorem wts_blocks (t : Fin cfg0.N) (l : Fin 6) (hl : l.val = t.val) :
    wts (iblk m c 3 t) (iblk m c 4 t) (iblk m c 5 t) (iblk m c 6 t) (iblk m c 7 t) (iblk m c 8 t) (iblk m c 9 t) (iblk m c 10 t) = lw (stack m c) t.val := by
  funext n k j
  unfold lw
  rw [dif_pos (hl ▸ l.isLt)]
  have e : (⟨t.val, hl ▸ l.isLt⟩ : Fin 6) = l := Fin.ext hl.symm
  rw [e]
  fin_cases n
  · exact iblk3 m c t l hl k j
  · exact iblk4 m c t l hl k j
  · exact iblk5 m c t l hl k j
  · exact iblk6 m c t l hl k j
  · exact iblk7 m c t l hl k j
  · exact iblk8 m c t l hl k j
  · exact iblk9 m c t l hl k j
  · exact iblk10 m c t l hl k j

/-- The inputs whose finiteness the scores need. -/
structure Finite : Prop where
  x : ∀ i, IsReal ((m ((c : Thread nD τ).loc main_arg0) : FVec Ideal S128x512 .f32) i)
  p : ∀ i, IsReal ((m ((c : Thread nD τ).loc main_arg1) : FVec Ideal S512x512 .f32) i)
  q : ∀ i, IsReal ((m ((c : Thread nD τ).loc main_arg2) : FVec Ideal S512x512 .f32) i)
  w3 : ∀ i, IsReal ((m ((c : Thread nD τ).loc main_arg3) : FVec Ideal S6x512x512 .f32) i)
  w4 : ∀ i, IsReal ((m ((c : Thread nD τ).loc main_arg4) : FVec Ideal S6x512x512 .f32) i)
  w5 : ∀ i, IsReal ((m ((c : Thread nD τ).loc main_arg5) : FVec Ideal S6x512x512 .f32) i)
  w6 : ∀ i, IsReal ((m ((c : Thread nD τ).loc main_arg6) : FVec Ideal S6x512x512 .f32) i)

variable {m c}

/-- Batch row `b`'s rows after `n` layers, from the program's own arguments. -/
abbrev rows (m : (ℓ : Loc nD τ sig) → Buf (Elt Ideal) ℓ) (c : Dev nD) (b : Fin 8) (n : Nat) : (Fin 16 → Fin 512 → EReal) × (Fin 16 → Fin 512 → EReal) :=
  after (m ((c : Thread nD τ).loc main_arg0)) (m ((c : Thread nD τ).loc main_arg1)) (m ((c : Thread nD τ).loc main_arg2)) (stack m c) b n

/-- A row number's batch row and place. -/
theorem row_split (r : Fin 128) : ∃ b t, r = lane 8 16 rfl b t := by
  have hr := r.isLt
  exact ⟨⟨r.val / 16, by omega⟩, ⟨r.val % 16, by omega⟩, Fin.ext (by show r.val = r.val / 16 * 16 + r.val % 16; omega)⟩

/-- The rows a step starts from are finite. -/
theorem rows_real (hf : Finite m c) (b : Fin 8) (n : Nat) (t : Fin 16) (j : Fin 512) : IsReal ((rows m c b n).1 t j) ∧ IsReal ((rows m c b n).2 t j) := by
  cases n with
  | zero => exact ⟨isReal_mul (fun _ => hf.x _) (fun _ _ => hf.p _) j, isReal_mul (fun _ => hf.x _) (fun _ _ => hf.q _) j⟩
  | succ n => exact ⟨isReal_ln pos_c512 ofBits_eps _ j, isReal_ln pos_c512 ofBits_eps _ j⟩

/-- A step's normalised rows, from rows that hold `n` layers' results. -/
theorem layer_apply (hf : Finite m c) (t : Fin cfg0.N) (l : Fin 6) (hl : l.val = t.val) (z y : FVec Ideal S128x512 .f32)
    (hz : ∀ b u j, z (ix2 (lane 8 16 rfl b u) j) = (rows m c b t.val).1 u j) (hy : ∀ b u j, y (ix2 (lane 8 16 rfl b u) j) = (rows m c b t.val).2 u j)
    (b : Fin 8) (u : Fin 16) (j : Fin 512) :
    nrm (rR z y (iblk m c 3 t) (iblk m c 4 t) (iblk m c 5 t) (iblk m c 6 t) (iblk m c 7 t) (iblk m c 8 t) (iblk m c 9 t) (iblk m c 10 t)) (ix2 (lane 8 16 rfl b u) j)
        = (rows m c b (t.val + 1)).1 u j
      ∧ nrm (rI z y (iblk m c 3 t) (iblk m c 4 t) (iblk m c 5 t) (iblk m c 6 t) (iblk m c 7 t) (iblk m c 8 t) (iblk m c 9 t) (iblk m c 10 t)) (ix2 (lane 8 16 rfl b u) j)
        = (rows m c b (t.val + 1)).2 u j := by
  have rz : ∀ r j, IsReal (z (ix2 r j)) := fun r j => by
    obtain ⟨b, u, rfl⟩ := row_split r
    rw [hz]
    exact (rows_real hf b t.val u j).1
  have ry : ∀ r j, IsReal (y (ix2 r j)) := fun r j => by
    obtain ⟨b, u, rfl⟩ := row_split r
    rw [hy]
    exact (rows_real hf b t.val u j).2
  have r3 : ∀ k j, IsReal ((iblk m c 3 t : Vec Ideal S1x512x512 .bf16) (ix3 0 k j)) := fun k j => by rw [iblk3 m c t l hl k j]; exact hf.w3 _
  have r4 : ∀ k j, IsReal ((iblk m c 4 t : Vec Ideal S1x512x512 .bf16) (ix3 0 k j)) := fun k j => by rw [iblk4 m c t l hl k j]; exact hf.w4 _
  have r5 : ∀ k j, IsReal ((iblk m c 5 t : Vec Ideal S1x512x512 .bf16) (ix3 0 k j)) := fun k j => by rw [iblk5 m c t l hl k j]; exact hf.w5 _
  have r6 : ∀ k j, IsReal ((iblk m c 6 t : Vec Ideal S1x512x512 .bf16) (ix3 0 k j)) := fun k j => by rw [iblk6 m c t l hl k j]; exact hf.w6 _
  have ez : (fun u k => z (ix2 (lane 8 16 rfl b u) k)) = (rows m c b t.val).1 := funext fun u => funext fun k => hz b u k
  have ey : (fun u k => y (ix2 (lane 8 16 rfl b u) k)) = (rows m c b t.val).2 := funext fun u => funext fun k => hy b u k
  have hR := nrmR_apply z y (iblk m c 3 t) (iblk m c 4 t) (iblk m c 5 t) (iblk m c 6 t) (iblk m c 7 t) (iblk m c 8 t) (iblk m c 9 t) (iblk m c 10 t) rz ry r3 r4 r5 r6 b u j
  have hI := nrmI_apply z y (iblk m c 3 t) (iblk m c 4 t) (iblk m c 5 t) (iblk m c 6 t) (iblk m c 7 t) (iblk m c 8 t) (iblk m c 9 t) (iblk m c 10 t) rz ry r3 r4 r5 r6 b u j
  rw [wts_blocks m c t l hl, ez, ey] at hR hI
  exact ⟨hR, hI⟩

/-- The carried rows after step `n`: `n + 1` layers' results. -/
theorem carried (hf : Finite m c) (n : Nat) (hn : n < 5) (hN : n < cfg0.N) :
    (∀ b u j, (outsAt0 m c n hN).2.2.1 (ix2 (lane 8 16 rfl b u) j) = (rows m c b (n + 1)).1 u j)
      ∧ ∀ b u j, (outsAt0 m c n hN).2.2.2 (ix2 (lane 8 16 rfl b u) j) = (rows m c b (n + 1)).2 u j := by
  induction n with
  | zero =>
    have hz : ∀ b u j, k0_pay7 (iblk m c 0 ⟨0, hN⟩) (iblk m c 1 ⟨0, hN⟩) (ix2 (lane 8 16 rfl b u) j) = (rows m c b 0).1 u j := fun b u j => by
      rw [pay7_apply]
      simp only [iblk0, iblk1]
      rfl
    have hy : ∀ b u j, k0_pay8 (iblk m c 0 ⟨0, hN⟩) (iblk m c 2 ⟨0, hN⟩) (ix2 (lane 8 16 rfl b u) j) = (rows m c b 0).2 u j := fun b u j => by
      rw [pay8_apply]
      simp only [iblk0, iblk2]
      rfl
    have key := layer_apply hf ⟨0, hN⟩ 0 rfl _ _ hz hy
    rw [outsAt0_zero]
    have eR := stepA_R m c ⟨0, hN⟩ junk0 rfl (by show ¬0 % 6 = 5; omega)
    have eI := stepA_I m c ⟨0, hN⟩ junk0 rfl (by show ¬0 % 6 = 5; omega)
    exact ⟨fun b u j => (congrFun eR _).trans (key b u j).1, fun b u j => (congrFun eI _).trans (key b u j).2⟩
  | succ n ih =>
    obtain ⟨hz, hy⟩ := ih (by omega) (Nat.lt_of_succ_lt hN)
    have key := layer_apply hf ⟨n + 1, hN⟩ ⟨n + 1, by omega⟩ rfl _ _ hz hy
    rw [outsAt0_succ]
    have h0 : ¬(n + 1) % 6 = 0 := by omega
    have h1 : ¬(n + 1) % 6 = 5 := by omega
    have eR := stepB_R m c ⟨n + 1, hN⟩ (outsAt0 m c n (Nat.lt_of_succ_lt hN)) h0 h1
    have eI := stepB_I m c ⟨n + 1, hN⟩ (outsAt0 m c n (Nat.lt_of_succ_lt hN)) h0 h1
    exact ⟨fun b u j => (congrFun eR _).trans (key b u j).1, fun b u j => (congrFun eI _).trans (key b u j).2⟩

/-- A memory row through a decoder projection. -/
def out (z y : Fin 512 → EReal) (C : FVec Ideal S1024x768 .f32) (w : FVec Ideal S768x768 .f32) (j : Fin 768) : EReal :=
  mul (memo rfl z y (fun k j => C (ix2 k j))) (fun k j => w (ix2 k j)) j

/-- The program's first result, at an index. -/
theorem G14_apply (hf : Finite m c) (b : Fin 8) (u : Fin 16) (j : Fin 768) :
    G14 m c (ix2 (lane 8 16 rfl b u) j) = out ((rows m c b 6).1 u) ((rows m c b 6).2 u) (m ((c : Thread nD τ).loc main_arg11)) (m ((c : Thread nD τ).loc main_arg12)) j := by
  have hN : 4 + 1 < cfg0.N := lt_of_lt_of_eq (by decide) N_0.symm
  obtain ⟨hz, hy⟩ := carried hf 4 (by omega) (Nat.lt_of_succ_lt hN)
  have key := layer_apply hf ⟨4 + 1, hN⟩ ⟨5, by omega⟩ rfl _ _ hz hy
  rw [G14_last, ← outsAt0_sweep m c 5 hN, outsAt0_succ]
  refine (congrFun (stepC_14 m c ⟨4 + 1, hN⟩ (outsAt0 m c 4 (Nat.lt_of_succ_lt hN)) (by show ¬5 % 6 = 0; omega) (by show 5 % 6 = 5; omega)) _).trans ?_
  rw [pay5_apply]
  simp only [fun k => (key b u k).1, fun k => (key b u k).2, iblk11, iblk12]
  rfl

/-- The program's second result, at an index. -/
theorem G15_apply (hf : Finite m c) (b : Fin 8) (u : Fin 16) (j : Fin 768) :
    G15 m c (ix2 (lane 8 16 rfl b u) j) = out ((rows m c b 6).1 u) ((rows m c b 6).2 u) (m ((c : Thread nD τ).loc main_arg11)) (m ((c : Thread nD τ).loc main_arg13)) j := by
  have hN : 4 + 1 < cfg0.N := lt_of_lt_of_eq (by decide) N_0.symm
  obtain ⟨hz, hy⟩ := carried hf 4 (by omega) (Nat.lt_of_succ_lt hN)
  have key := layer_apply hf ⟨4 + 1, hN⟩ ⟨5, by omega⟩ rfl _ _ hz hy
  rw [G15_last, ← outsAt0_sweep m c 5 hN, outsAt0_succ]
  refine (congrFun (stepC_15 m c ⟨4 + 1, hN⟩ (outsAt0 m c 4 (Nat.lt_of_succ_lt hN)) (by show ¬5 % 6 = 0; omega) (by show 5 % 6 = 5; omega)) _).trans ?_
  rw [pay6_apply]
  simp only [fun k => (key b u k).1, fun k => (key b u k).2, iblk11, iblk13]
  rfl

end Cert.LayBlock
-- ==== Proof.LayRef.lean ====
module

public import proofs.«01_k».proof.Proof.LayFin
public import proofs.«01_k».proof.Proof.EncRefAttn
public import proofs.«01_k».proof.Proof.Gen.LayersRefIdeal

@[expose] public section

/-! What the complex layers' reference computes, at an index: one layer, and the memory. -/

noncomputable section

namespace Cert.LayRefValue

open Idealize.ShloMosaic Cert.LayersRefIdeal Cert.LayersRefIdeal.Gen Cert.Rows Cert.LayBlock

/-- The host's product of all rows with a matrix. -/
def hp (z : FVec Ideal S8x16x512 .f32) (w : FVec Ideal S512x512 .f32) : FVec Ideal S8x16x512 .f32 :=
  Host.dotGeneral dot_S8x16x512_S512x512_S8x16x512_2_0_01_1_n_n none z w

/-- The product, at an index. -/
theorem hp_apply (z : FVec Ideal S8x16x512 .f32) (w : FVec Ideal S512x512 .f32) (b : Fin 8) (t : Fin 16) (j : Fin 512) :
    hp z w (ix3 b t j) = mul (fun k => z (ix3 b t k)) (fun k j => w (ix2 k j)) j := by
  unfold hp
  pointwise [dot_S8x16x512_S512x512_S8x16x512_2_0_01_1_n_n, mul]

/-- The real part of a complex product. -/
def hre (z y : FVec Ideal S8x16x512 .f32) (a b : FVec Ideal S512x512 .f32) : FVec Ideal S8x16x512 .f32 := subf (hp z a) (hp y b)

/-- The imaginary part of a complex product. -/
def him (z y : FVec Ideal S8x16x512 .f32) (a b : FVec Ideal S512x512 .f32) : FVec Ideal S8x16x512 .f32 := addf (hp z b) (hp y a)

/-- The real part, at an index. -/
theorem hre_apply (z y : FVec Ideal S8x16x512 .f32) (p q : FVec Ideal S512x512 .f32) (b : Fin 8) (t : Fin 16) (j : Fin 512) :
    hre z y p q (ix3 b t j) = cre (fun k => z (ix3 b t k)) (fun k => y (ix3 b t k)) (fun k j => p (ix2 k j)) (fun k j => q (ix2 k j)) j := by
  show hp z p (ix3 b t j) - hp y q (ix3 b t j) = _
  rw [hp_apply, hp_apply]
  rfl

/-- The imaginary part, at an index. -/
theorem him_apply (z y : FVec Ideal S8x16x512 .f32) (p q : FVec Ideal S512x512 .f32) (b : Fin 8) (t : Fin 16) (j : Fin 512) :
    him z y p q (ix3 b t j) = cim (fun k => z (ix3 b t k)) (fun k => y (ix3 b t k)) (fun k j => p (ix2 k j)) (fun k j => q (ix2 k j)) j := by
  show hp z q (ix3 b t j) + hp y p (ix3 b t j) = _
  rw [hp_apply, hp_apply]
  rfl

/-- The rows split into heads. -/
def hspl (x : FVec Ideal S8x16x512 .f32) : FVec Ideal S8x8x16x64 .f32 :=
  transpose S8x8x16x64 [0, 2, 1, 3] (shapeCast S8x16x8x64 x shapeCasts_S8x16x512_S8x16x8x64) transposes_S8x16x8x64_S8x8x16x64_0_2_1_3

/-- The host's scores of all rows against all rows of their batch row. -/
def hsc (q p k l : FVec Ideal S8x16x512 .f32) : FVec Ideal S8x8x16x16 .f32 :=
  Host.divf (addf (Host.dotGeneral dot_S8x8x16x64_S8x8x16x64_S8x8x16x16_3_3_2_2_01_01 none (hspl q) (hspl k))
      (Host.dotGeneral dot_S8x8x16x64_S8x8x16x64_S8x8x16x16_3_3_2_2_01_01 none (hspl p) (hspl l)))
    (broadcastInDim S8x8x16x16 ![] bcast_S_S8x8x16x16 (constant S_ .f32 0x41000000#32))

/-- The pattern of eight. -/
theorem ofBits_eight : Ideal.ofBits .f32 0x41000000#32 = ((8 : ℝ) : EReal) := by
  simp [Ideal.ofBits, Ideal.ieee, -EReal.coe_mul]
  norm_num

/-- One product of heads, at an index. -/
theorem hdot_apply (q k : FVec Ideal S8x16x512 .f32) (b h : Fin 8) (t u : Fin 16) :
    Host.dotGeneral dot_S8x8x16x64_S8x8x16x64_S8x8x16x16_3_3_2_2_01_01 none (hspl q) (hspl k) (ix4 b h t u)
      = score 8 64 rfl (fun j => q (ix3 b t j)) (fun j => k (ix3 b u j)) h := by
  unfold hspl
  pointwise [dot_S8x8x16x64_S8x8x16x64_S8x8x16x16_3_3_2_2_01_01]
  rfl

/-- The scores, at an index. -/
theorem hsc_apply (q p k l : FVec Ideal S8x16x512 .f32) (b h : Fin 8) (t u : Fin 16) :
    hsc q p k l (ix4 b h t u) = cscore 8 64 rfl c8 (fun j => q (ix3 b t j)) (fun j => p (ix3 b t j)) (fun j => k (ix3 b u j)) (fun j => l (ix3 b u j)) h := by
  show Ideal.div (Host.dotGeneral dot_S8x8x16x64_S8x8x16x64_S8x8x16x16_3_3_2_2_01_01 none (hspl q) (hspl k) (ix4 b h t u)
    + Host.dotGeneral dot_S8x8x16x64_S8x8x16x64_S8x8x16x16_3_3_2_2_01_01 none (hspl p) (hspl l) (ix4 b h t u)) (Ideal.ofBits .f32 0x41000000#32) = _
  rw [hdot_apply, hdot_apply, ofBits_eight, cscore, c8, EncRefValue.ofBits_eighth]
  exact (Ideal.div_coe (by norm_num) _).trans (by norm_num)

/-- The host's exponentials of the scores less their maximum. -/
def hex (s : FVec Ideal S8x8x16x16 .f32) : FVec Ideal S8x8x16x16 .f32 :=
  Host.exp (subf s (broadcastInDim S8x8x16x16 ![0, 1, 2, 3] bcast_S8x8x16x1_S8x8x16x16_0_1_2_3 (broadcastInDim S8x8x16x1 ![0, 1, 2] bcast_S8x8x16_S8x8x16x1_0_1_2 (maximumf (broadcastInDim S8x8x16 ![] bcast_S_S8x8x16 (constant S_ .f32 0xFF800000#32)) (Host.reduce FloatOps.maximumf s (constant S_ .f32 0xFF800000#32) reducesTo_S8x8x16x16_S8x8x16_d3 h_S_)))))

/-- The largest score of a head. -/
theorem hmax_apply (s : FVec Ideal S8x8x16x16 .f32) (b h : Fin 8) (t : Fin 16) :
    Host.reduce FloatOps.maximumf s (constant S_ .f32 0xFF800000#32) reducesTo_S8x8x16x16_S8x8x16_d3 h_S_ (ix3 b h t) = Finset.univ.fold max ⊥ fun u : Fin 16 => s (ix4 b h t u) := by
  pointwise [ofBits_neg_inf]

/-- The exponentials, at an index. -/
theorem hex_apply (s : FVec Ideal S8x8x16x16 .f32) (b h : Fin 8) (t u : Fin 16) :
    hex s (ix4 b h t u) = Ideal.exp (s (ix4 b h t u) - Finset.univ.fold max ⊥ fun u : Fin 16 => s (ix4 b h t u)) := by
  rw [← hmax_apply]
  unfold hex
  generalize Host.reduce FloatOps.maximumf s (constant S_ .f32 0xFF800000#32) reducesTo_S8x8x16x16_S8x8x16_d3 h_S_ = m
  have hb : m (ix3 b h t) = max (Ideal.ofBits .f32 0xFF800000#32) (m (ix3 b h t)) := by rw [ofBits_neg_inf]; exact (max_eq_right bot_le).symm
  generalize hM : (maximumf (broadcastInDim S8x8x16 ![] bcast_S_S8x8x16 (constant S_ .f32 0xFF800000#32)) m : FVec Ideal S8x8x16 .f32) = M
  have hm : M (ix3 b h t) = m (ix3 b h t) := by rw [← hM]; exact hb.symm
  rw [← hm]
  pointwise

/-- The host's attention weights. -/
def hsm (s : FVec Ideal S8x8x16x16 .f32) : FVec Ideal S8x8x16x16 .f32 :=
  Host.divf (hex s) (broadcastInDim S8x8x16x16 ![0, 1, 2, 3] bcast_S8x8x16x1_S8x8x16x16_0_1_2_3 (broadcastInDim S8x8x16x1 ![0, 1, 2] bcast_S8x8x16_S8x8x16x1_0_1_2 (Host.reduceAdd (hex s) (constant S_ .f32 0x00000000#32) reducesTo_S8x8x16x16_S8x8x16_d3 h_S_)))

/-- The weights, at an index. -/
theorem hsm_apply (s : FVec Ideal S8x8x16x16 .f32) (b h : Fin 8) (t u : Fin 16) :
    hsm s (ix4 b h t u) = soft (fun u => s (ix4 b h t u)) u := by
  have e : hsm s (ix4 b h t u) = Ideal.div (hex s (ix4 b h t u)) (∑ u : Fin 16, hex s (ix4 b h t u)) := by
    unfold hsm
    generalize hex s = x
    pointwise
  rw [e]
  simp only [hex_apply]
  rfl

/-- The host's weighted values, the heads side by side. -/
def hmg (a : FVec Ideal S8x8x16x16 .f32) (v : FVec Ideal S8x16x512 .f32) : FVec Ideal S8x16x512 .f32 :=
  shapeCast S8x16x512 (transpose S8x16x8x64 [0, 2, 1, 3] (Host.dotGeneral dot_S8x8x16x16_S8x8x16x64_S8x8x16x64_3_2_2_3_01_01 none a (hspl v)) transposes_S8x8x16x64_S8x16x8x64_0_2_1_3) shapeCasts_S8x16x8x64_S8x16x512

/-- The weighted values of one head, at an index. -/
theorem hav_apply (a : FVec Ideal S8x8x16x16 .f32) (v : FVec Ideal S8x16x512 .f32) (b h : Fin 8) (t : Fin 16) (d : Fin 64) :
    Host.dotGeneral dot_S8x8x16x16_S8x8x16x64_S8x8x16x64_3_2_2_3_01_01 none a (hspl v) (ix4 b h t d) = ∑ u : Fin 16, a (ix4 b h t u) * v (ix3 b u (lane 8 64 rfl h d)) := by
  unfold hspl
  pointwise [dot_S8x8x16x16_S8x8x16x64_S8x8x16x64_3_2_2_3_01_01]
  rfl

/-- The weighted values, at an index. -/
theorem hmg_apply (a : FVec Ideal S8x8x16x16 .f32) (v : FVec Ideal S8x16x512 .f32) (b : Fin 8) (t : Fin 16) (j : Fin 512) :
    hmg a v (ix3 b t j) = ∑ u : Fin 16, a (ix4 b (head 8 64 rfl j) t u) * v (ix3 b u j) := by
  have hj := lane_head 8 64 rfl j (Nat.mod_lt _ (by norm_num))
  have e := hav_apply a v b (head 8 64 rfl j) t ⟨j.val % 64, Nat.mod_lt _ (by norm_num)⟩
  rw [hj] at e
  rw [← e]
  unfold hmg
  generalize Host.dotGeneral dot_S8x8x16x16_S8x8x16x64_S8x8x16x64_3_2_2_3_01_01 none a (hspl v) = o
  pointwise
  rfl

/-- The attention, at an index. -/
theorem hattn_apply (q p k l v : FVec Ideal S8x16x512 .f32) (b : Fin 8) (t : Fin 16) (j : Fin 512) :
    hmg (hsm (hsc q p k l)) v (ix3 b t j)
      = cattn 8 64 rfl c8 (fun j => q (ix3 b t j)) (fun j => p (ix3 b t j)) (fun u j => k (ix3 b u j)) (fun u j => l (ix3 b u j)) (fun u j => v (ix3 b u j)) j := by
  rw [hmg_apply]
  simp only [hsm_apply, hsc_apply]
  rfl

/-- The host's normalisation of all rows. -/
def hln (x : FVec Ideal S8x16x512 .f32) : FVec Ideal S8x16x512 .f32 :=
  let m : FVec Ideal S8x16x1 .f32 := Host.divf (broadcastInDim S8x16x1 ![0, 1] bcast_S8x16_S8x16x1_0_1 (Host.reduceAdd x (constant S_ .f32 0x00000000#32) reducesTo_S8x16x512_S8x16_d2 h_S_)) (broadcastInDim S8x16x1 ![] bcast_S_S8x16x1 (constant S_ .f32 0x44000000#32))
  let d : FVec Ideal S8x16x512 .f32 := subf x (broadcastInDim S8x16x512 ![0, 1, 2] bcast_S8x16x1_S8x16x512_0_1_2 m)
  let n : FVec Ideal S_ .f32 := subf (constant S_ .f32 0x44000000#32) (sitofp .f32 (constantI S_ 32 0#32))
  let q : FVec Ideal S8x16x1 .f32 := Host.divf (broadcastInDim S8x16x1 ![0, 1] bcast_S8x16_S8x16x1_0_1 (Host.reduceAdd (mulf d d) (constant S_ .f32 0x00000000#32) reducesTo_S8x16x512_S8x16_d2 h_S_)) (broadcastInDim S8x16x1 ![] bcast_S_S8x16x1 n)
  let v : FVec Ideal S8x16x1 .f32 := select (broadcastInDim S8x16x1 ![] bcast_S_S8x16x1 (cmpf .ogt n (constant S_ .f32 0x00000000#32))) q (broadcastInDim S8x16x1 ![] bcast_S_S8x16x1 (constant S_ .f32 0x7FC00000#32))
  Host.divf d (broadcastInDim S8x16x512 ![0, 1, 2] bcast_S8x16x1_S8x16x512_0_1_2 (Host.sqrt (addf v (broadcastInDim S8x16x1 ![] bcast_S_S8x16x1 (constant S_ .f32 0x3727C5AC#32)))))

/-- Each row is normalised. -/
theorem hln_apply (x : FVec Ideal S8x16x512 .f32) (b : Fin 8) (t : Fin 16) (j : Fin 512) :
    hln x (ix3 b t j) = ln c512 eps (fun k => x (ix3 b t k)) j := by
  unfold hln
  pointwise
  rw [EncRefValue.count_eq, if_pos (by rw [ofBits_512]; exact EReal.coe_pos.mpr (by norm_num))]
  rfl

/-- A layer's real part of the attention, before the output weights. -/
def hattR (z y : FVec Ideal S8x16x512 .f32) (w : Fin 8 → FVec Ideal S512x512 .f32) : FVec Ideal S8x16x512 .f32 :=
  hmg (hsm (hsc (hre z y (w 0) (w 1)) (him z y (w 0) (w 1)) (hre z y (w 2) (w 3)) (him z y (w 2) (w 3)))) (hre z y (w 4) (w 5))

/-- A layer's imaginary part of the attention, before the output weights. -/
def hattI (z y : FVec Ideal S8x16x512 .f32) (w : Fin 8 → FVec Ideal S512x512 .f32) : FVec Ideal S8x16x512 .f32 :=
  hmg (hsm (hsc (hre z y (w 0) (w 1)) (him z y (w 0) (w 1)) (hre z y (w 2) (w 3)) (him z y (w 2) (w 3)))) (him z y (w 4) (w 5))

/-- A layer's real rows. -/
def hlayR (z y : FVec Ideal S8x16x512 .f32) (w : Fin 8 → FVec Ideal S512x512 .f32) : FVec Ideal S8x16x512 .f32 :=
  hln (addf z (hre (hattR z y w) (hattI z y w) (w 6) (w 7)))

/-- A layer's imaginary rows. -/
def hlayI (z y : FVec Ideal S8x16x512 .f32) (w : Fin 8 → FVec Ideal S512x512 .f32) : FVec Ideal S8x16x512 .f32 :=
  hln (addf y (him (hattR z y w) (hattI z y w) (w 6) (w 7)))

variable (z y : FVec Ideal S8x16x512 .f32) (w : Fin 8 → FVec Ideal S512x512 .f32) (b : Fin 8) (t : Fin 16) (j : Fin 512)

/-- The real part of the attention, at an index. -/
theorem hattR_apply : hattR z y w (ix3 b t j)
    = attR 8 64 rfl c8 (fun n k j => w n (ix2 k j)) (fun u k => z (ix3 b u k)) (fun u k => y (ix3 b u k)) t j := by
  unfold hattR
  rw [hattn_apply]
  simp only [hre_apply, him_apply]
  rfl

/-- The imaginary part of the attention, at an index. -/
theorem hattI_apply : hattI z y w (ix3 b t j)
    = attI 8 64 rfl c8 (fun n k j => w n (ix2 k j)) (fun u k => z (ix3 b u k)) (fun u k => y (ix3 b u k)) t j := by
  unfold hattI
  rw [hattn_apply]
  simp only [hre_apply, him_apply]
  rfl

/-- A layer's real rows, at an index. -/
theorem hlayR_apply : hlayR z y w (ix3 b t j)
    = layR 8 64 rfl c512 eps c8 (fun n k j => w n (ix2 k j)) (fun u k => z (ix3 b u k)) (fun u k => y (ix3 b u k)) t j := by
  unfold hlayR
  rw [hln_apply]
  refine congrArg (fun x => ln c512 eps x j) (funext fun k => ?_)
  show z (ix3 b t k) + hre (hattR z y w) (hattI z y w) (w 6) (w 7) (ix3 b t k) = _
  rw [hre_apply]
  simp only [hattR_apply, hattI_apply]

/-- A layer's imaginary rows, at an index. -/
theorem hlayI_apply : hlayI z y w (ix3 b t j)
    = layI 8 64 rfl c512 eps c8 (fun n k j => w n (ix2 k j)) (fun u k => z (ix3 b u k)) (fun u k => y (ix3 b u k)) t j := by
  unfold hlayI
  rw [hln_apply]
  refine congrArg (fun x => ln c512 eps x j) (funext fun k => ?_)
  show y (ix3 b t k) + him (hattR z y w) (hattI z y w) (w 6) (w 7) (ix3 b t k) = _
  rw [him_apply]
  simp only [hattR_apply, hattI_apply]

/-- The host's memory: real and imaginary rows side by side, through the weights. -/
def hmem (z y : FVec Ideal S8x16x512 .f32) (C : FVec Ideal S1024x768 .f32) : FVec Ideal S8x16x768 .f32 :=
  Host.dotGeneral dot_S8x16x1024_S1024x768_S8x16x768_2_0_01_1_n_n none (concatenate S8x16x1024 2 [⟨S8x16x512, z⟩, ⟨S8x16x512, y⟩] concatenates_S8x16x512_S8x16x512_S8x16x1024_d2) C

/-- The rows side by side, at an index. -/
theorem hcat_apply (f : Fin 2 → FVec Ideal S8x16x512 .f32)
    (h : Shape.Concatenates ((List.ofFn fun n : Fin 2 => (⟨S8x16x512, f n⟩ : (s : Shape) × (s.Idx → EReal))).map (·.1)) S8x16x1024 2)
    (b : Fin 8) (t : Fin 16) (a : Fin 2) (d : Fin 512) :
    concatenate S8x16x1024 2 (List.ofFn fun n : Fin 2 => (⟨S8x16x512, f n⟩ : (s : Shape) × (s.Idx → EReal))) h (ix3 b t (lane 2 512 rfl a d))
      = f a (ix3 b t d) := by
  have ht := d.isLt
  refine concatenate_ofFn_apply 2 f h rfl 512 rfl _ a ?_ _ ?_ ?_
  · show (a.val * 512 + d.val) / 512 = a.val
    omega
  · show d.val = (a.val * 512 + d.val) % 512
    omega
  · intro i hi
    match i with
    | ⟨0, _⟩ => rfl
    | ⟨1, _⟩ => rfl
    | ⟨2, _⟩ => exact absurd rfl hi

/-- The product of the wide rows, at an index. -/
theorem hpm_apply (x : FVec Ideal S8x16x1024 .f32) (C : FVec Ideal S1024x768 .f32) (b : Fin 8) (t : Fin 16) (j : Fin 768) :
    Host.dotGeneral dot_S8x16x1024_S1024x768_S8x16x768_2_0_01_1_n_n none x C (ix3 b t j) = ∑ k : Fin 1024, x (ix3 b t k) * C (ix2 k j) := by
  pointwise [dot_S8x16x1024_S1024x768_S8x16x768_2_0_01_1_n_n]

/-- The memory, at an index. -/
theorem hmem_apply (z y : FVec Ideal S8x16x512 .f32) (C : FVec Ideal S1024x768 .f32) (b : Fin 8) (t : Fin 16) (j : Fin 768) :
    hmem z y C (ix3 b t j) = memo rfl (fun k => z (ix3 b t k)) (fun k => y (ix3 b t k)) (fun k j => C (ix2 k j)) j := by
  unfold hmem
  refine (hpm_apply _ _ b t j).trans ?_
  rw [sum_lanes 2 512 rfl]
  refine Finset.sum_congr rfl fun a _ => Finset.sum_congr rfl fun d _ => ?_
  refine congrArg (· * C (ix2 (lane 2 512 rfl a d) j)) ?_
  refine (hcat_apply ![z, y] concatenates_S8x16x512_S8x16x512_S8x16x1024_d2 b t a d).trans ?_
  fin_cases a <;> rfl

/-- The host's result: the memory through a decoder projection, in rows. -/
def hout (M : FVec Ideal S8x16x768 .f32) (w : FVec Ideal S768x768 .f32) : FVec Ideal S128x768 .f32 :=
  shapeCast S128x768 (Host.dotGeneral dot_S8x16x768_S768x768_S8x16x768_2_0_01_1_n_n none M w) shapeCasts_S8x16x768_S128x768

/-- The result, at an index. -/
theorem hout_apply (M : FVec Ideal S8x16x768 .f32) (w : FVec Ideal S768x768 .f32) (b : Fin 8) (t : Fin 16) (j : Fin 768) :
    hout M w (ix2 (lane 8 16 rfl b t) j) = mul (fun k => M (ix3 b t k)) (fun k j => w (ix2 k j)) j := by
  have hp : Host.dotGeneral dot_S8x16x768_S768x768_S8x16x768_2_0_01_1_n_n none M w (ix3 b t j) = mul (fun k => M (ix3 b t k)) (fun k j => w (ix2 k j)) j := by
    pointwise [dot_S8x16x768_S768x768_S8x16x768_2_0_01_1_n_n, mul]
  rw [← hp]
  refine shapeCast_apply _ _ _ _ ?_
  rw [Shape.rowMajor_val_three, Shape.rowMajor_val_two]
  show (b.val * 16 + t.val) * 768 + j.val = (b.val * 16 + t.val) * 768 + j.val
  rfl

/-- The patch rows by batch row. -/
def hpatch (x : FVec Ideal S128x512 .f32) : FVec Ideal S8x16x512 .f32 := shapeCast S8x16x512 x shapeCasts_S128x512_S8x16x512

/-- The patch rows, at an index. -/
theorem hpatch_apply (x : FVec Ideal S128x512 .f32) (b : Fin 8) (t : Fin 16) (k : Fin 512) : hpatch x (ix3 b t k) = x (ix2 (lane 8 16 rfl b t) k) := by
  unfold hpatch
  refine shapeCast_apply _ _ _ _ ?_
  rw [Shape.rowMajor_val_three, Shape.rowMajor_val_two]
  show (b.val * 16 + t.val) * 512 + k.val = (b.val * 16 + t.val) * 512 + k.val
  rfl

/-- A layer's matrix lies in its stack. -/
theorem slices_layer : ∀ l : Fin 6, S6x512x512.Slices ![l.val, 0, 0] S1x512x512 := by decide

/-- The matrix of layer `l` in a stack. -/
def hs (l : Fin 6) (w : FVec Ideal S6x512x512 .f32) : FVec Ideal S512x512 .f32 :=
  shapeCast S512x512 (extractStridedSlice S1x512x512 ![l.val, 0, 0] w (slices_layer l)) shapeCasts_S1x512x512_S512x512

/-- The matrix of layer `l`, at an index. -/
theorem hs_apply (l : Fin 6) (w : FVec Ideal S6x512x512 .f32) (k j : Fin 512) : hs l w (ix2 k j) = w (ix3 l k j) := by
  unfold hs
  refine (shapeCast_apply _ _ _ (ix3 0 k j) ?_).trans (congrArg w (funext fun a => Fin.ext ?_))
  · rw [Shape.rowMajor_val_three, Shape.rowMajor_val_two]
    show (0 * 512 + k.val) * 512 + j.val = k.val * 512 + j.val
    omega
  · fin_cases a
    · show l.val + 0 = l.val
      rfl
    · show 0 + k.val = k.val
      omega
    · show 0 + j.val = j.val
      omega

end Cert.LayRefValue
-- ==== Proof.LayRefAll.lean ====
module

public import proofs.«01_k».proof.Proof.LayRef
public import proofs.«01_k».proof.Proof.Gen.LayersRefIdeal.Run

@[expose] public section

/-! What the complex layers' reference computes, at an index: its six layers composed, and its two results. -/

noncomputable section

namespace Cert.LayRefValue

open Idealize.ShloMosaic Idealize.ShloMosaic.TcCoe Idealize.ShloMosaic.StableHlo Cert.LayersRefIdeal Cert.LayersRefIdeal.Gen Cert.LayersRefIdeal.Value Cert.Rows Cert.LayBlock

variable (V0 : Valuation τ sig (Elt Ideal))

/-- The eight stacks of layer weights, as the reference reads them. -/
def rstack (n : Fin 8) : FVec Ideal S6x512x512 .f32 :=
  (![V0 (Proc.devRef .tc main_arg3), V0 (Proc.devRef .tc main_arg4), V0 (Proc.devRef .tc main_arg5), V0 (Proc.devRef .tc main_arg6),
    V0 (Proc.devRef .tc main_arg7), V0 (Proc.devRef .tc main_arg8), V0 (Proc.devRef .tc main_arg9), V0 (Proc.devRef .tc main_arg10)] : Fin 8 → FVec Ideal S6x512x512 .f32) n

/-- Batch row `b`'s rows after `n` layers, from the reference's arguments. -/
abbrev rrows (b : Fin 8) (n : Nat) : (Fin 16 → Fin 512 → EReal) × (Fin 16 → Fin 512 → EReal) :=
  after (V0 (Proc.devRef .tc main_arg0)) (V0 (Proc.devRef .tc main_arg1)) (V0 (Proc.devRef .tc main_arg2)) (rstack V0) b n

/-- The real start, at an index. -/
theorem z0_apply (b : Fin 8) (t : Fin 16) (j : Fin 512) : (res_main_v1 (F := Ideal) V0 : FVec Ideal S8x16x512 .f32) (ix3 b t j) = (rrows V0 b 0).1 t j := by
  have e : res_main_v1 (F := Ideal) V0 = hp (hpatch (V0 (Proc.devRef .tc main_arg0))) (V0 (Proc.devRef .tc main_arg1)) := rfl
  rw [e, hp_apply]
  simp only [hpatch_apply]
  rfl

/-- The imaginary start, at an index. -/
theorem y0_apply (b : Fin 8) (t : Fin 16) (j : Fin 512) : (res_main_v2 (F := Ideal) V0 : FVec Ideal S8x16x512 .f32) (ix3 b t j) = (rrows V0 b 0).2 t j := by
  have e : res_main_v2 (F := Ideal) V0 = hp (hpatch (V0 (Proc.devRef .tc main_arg0))) (V0 (Proc.devRef .tc main_arg2)) := rfl
  rw [e, hp_apply]
  simp only [hpatch_apply]
  rfl

/-- Layer `l`'s eight matrices. -/
def rw (l : Fin 6) (n : Fin 8) : FVec Ideal S512x512 .f32 := hs l (rstack V0 n)

/-- The rows after one more layer, from the rows before it, at an index. -/
theorem step (l : Fin 6) (z y : FVec Ideal S8x16x512 .f32) (b : Fin 8)
    (h : ∀ t j, z (ix3 b t j) = (rrows V0 b l.val).1 t j ∧ y (ix3 b t j) = (rrows V0 b l.val).2 t j) (t : Fin 16) (j : Fin 512) :
    hlayR z y (rw V0 l) (ix3 b t j) = (rrows V0 b (l.val + 1)).1 t j ∧ hlayI z y (rw V0 l) (ix3 b t j) = (rrows V0 b (l.val + 1)).2 t j := by
  have hz : (fun u k => z (ix3 b u k)) = (rrows V0 b l.val).1 := funext fun u => funext fun k => (h u k).1
  have hy : (fun u k => y (ix3 b u k)) = (rrows V0 b l.val).2 := funext fun u => funext fun k => (h u k).2
  have hw : (fun n k j => rw V0 l n (ix2 k j)) = lw (rstack V0) l.val := by
    funext n k j
    unfold rw lw
    rw [hs_apply, dif_pos l.isLt]
  rw [hlayR_apply, hlayI_apply, hw, hz, hy]
  exact ⟨rfl, rfl⟩

/-- Layer 0's real rows. -/
theorem real0 : res_main_v89 (F := Ideal) V0 = hlayR (res_main_v1 (F := Ideal) V0) (res_main_v2 (F := Ideal) V0) (rw V0 0) := rfl

/-- Layer 0's imaginary rows. -/
theorem imag0 : res_main_v102 (F := Ideal) V0 = hlayI (res_main_v1 (F := Ideal) V0) (res_main_v2 (F := Ideal) V0) (rw V0 0) := rfl

/-- Layer 1's real rows. -/
theorem real1 : res_main_v189 (F := Ideal) V0 = hlayR (res_main_v89 (F := Ideal) V0) (res_main_v102 (F := Ideal) V0) (rw V0 1) := rfl

/-- Layer 1's imaginary rows. -/
theorem imag1 : res_main_v202 (F := Ideal) V0 = hlayI (res_main_v89 (F := Ideal) V0) (res_main_v102 (F := Ideal) V0) (rw V0 1) := rfl

/-- Layer 2's real rows. -/
theorem real2 : res_main_v289 (F := Ideal) V0 = hlayR (res_main_v189 (F := Ideal) V0) (res_main_v202 (F := Ideal) V0) (rw V0 2) := rfl

/-- Layer 2's imaginary rows. -/
theorem imag2 : res_main_v302 (F := Ideal) V0 = hlayI (res_main_v189 (F := Ideal) V0) (res_main_v202 (F := Ideal) V0) (rw V0 2) := rfl

/-- Layer 3's real rows. -/
theorem real3 : res_main_v389 (F := Ideal) V0 = hlayR (res_main_v289 (F := Ideal) V0) (res_main_v302 (F := Ideal) V0) (rw V0 3) := rfl

/-- Layer 3's imaginary rows. -/
theorem imag3 : res_main_v402 (F := Ideal) V0 = hlayI (res_main_v289 (F := Ideal) V0) (res_main_v302 (F := Ideal) V0) (rw V0 3) := rfl

/-- Layer 4's real rows. -/
theorem real4 : res_main_v489 (F := Ideal) V0 = hlayR (res_main_v389 (F := Ideal) V0) (res_main_v402 (F := Ideal) V0) (rw V0 4) := rfl

/-- Layer 4's imaginary rows. -/
theorem imag4 : res_main_v502 (F := Ideal) V0 = hlayI (res_main_v389 (F := Ideal) V0) (res_main_v402 (F := Ideal) V0) (rw V0 4) := rfl

/-- Layer 5's real rows. -/
theorem real5 : hln (res_main_v577 (F := Ideal) V0) = hlayR (res_main_v489 (F := Ideal) V0) (res_main_v502 (F := Ideal) V0) (rw V0 5) := rfl

/-- Layer 5's imaginary rows. -/
theorem imag5 : hln (res_main_v590 (F := Ideal) V0) = hlayI (res_main_v489 (F := Ideal) V0) (res_main_v502 (F := Ideal) V0) (rw V0 5) := rfl

/-- The rows after the last layer, at an index. -/
theorem rows_last (b : Fin 8) (t : Fin 16) (j : Fin 512) :
    hln (res_main_v577 (F := Ideal) V0) (ix3 b t j) = (rrows V0 b 6).1 t j ∧ hln (res_main_v590 (F := Ideal) V0) (ix3 b t j) = (rrows V0 b 6).2 t j := by
  rw [real5, imag5]
  refine step V0 5 _ _ b (fun t j => ?_) t j
  rw [real4, imag4]
  refine step V0 4 _ _ b (fun t j => ?_) t j
  rw [real3, imag3]
  refine step V0 3 _ _ b (fun t j => ?_) t j
  rw [real2, imag2]
  refine step V0 2 _ _ b (fun t j => ?_) t j
  rw [real1, imag1]
  refine step V0 1 _ _ b (fun t j => ?_) t j
  rw [real0, imag0]
  exact step V0 0 _ _ b (fun t j => ⟨z0_apply V0 b t j, y0_apply V0 b t j⟩) t j

/-- The memory. -/
theorem mem_eq : res_main_v604 (F := Ideal) V0 = hmem (hln (res_main_v577 (F := Ideal) V0)) (hln (res_main_v590 (F := Ideal) V0)) (V0 (Proc.devRef .tc main_arg11)) := rfl

/-- A result, at an index. -/
theorem out_apply (w : FVec Ideal S768x768 .f32) (b : Fin 8) (t : Fin 16) (j : Fin 768) :
    hout (res_main_v604 (F := Ideal) V0) w (ix2 (lane 8 16 rfl b t) j)
      = out ((rrows V0 b 6).1 t) ((rrows V0 b 6).2 t) (V0 (Proc.devRef .tc main_arg11)) w j := by
  rw [hout_apply, mem_eq]
  simp only [hmem_apply, fun k => (rows_last V0 b t k).1, fun k => (rows_last V0 b t k).2]
  rfl

end Cert.LayRefValue
-- ==== Proof.LayClaim.lean ====
module

public import proofs.«01_k».proof.Defs
public import proofs.«01_k».proof.Proof.DecClaim
public import proofs.«01_k».proof.Proof.LayFin
public import proofs.«01_k».proof.Proof.LayRefAll
public import proofs.«01_k».proof.Proof.Gen.LayersRefIdeal.Run
public import proofs.«01_k».proof.Proof.Gen.Pre_layers_inputs

@[expose] public section

/-! The complex layers compute their reference on the inputs the precondition admits. -/

noncomputable section

namespace Cert.LayClaim

open Idealize.ShloMosaic Idealize.SL.Sem Cert.Rows Cert.LayBlock

open Cert.Pre_layers_inputs in
/-- The precondition, read: finite patch rows, projections, query weights and key weights. -/
theorem pre_read (x0 : FVec Ideal S128x512 .f32) (x1 : FVec Ideal S512x512 .f32) (x2 : FVec Ideal S512x512 .f32) (x3 : FVec Ideal S6x512x512 .f32) (x4 : FVec Ideal S6x512x512 .f32) (x5 : FVec Ideal S6x512x512 .f32) (x6 : FVec Ideal S6x512x512 .f32) (x7 : FVec Ideal S6x512x512 .f32) (x8 : FVec Ideal S6x512x512 .f32) (x9 : FVec Ideal S6x512x512 .f32) (x10 : FVec Ideal S6x512x512 .f32) (x11 : FVec Ideal S1024x768 .f32) (x12 : FVec Ideal S768x768 .f32) (x13 : FVec Ideal S768x768 .f32)
    (h : (fn (F := Ideal) x0 x1 x2 x3 x4 x5 x6 x7 x8 x9 x10 x11 x12 x13).1 = (fun _ => 1#1)
      ∧ (fn (F := Ideal) x0 x1 x2 x3 x4 x5 x6 x7 x8 x9 x10 x11 x12 x13).2.1 = (fun _ => 1#1)
      ∧ (fn (F := Ideal) x0 x1 x2 x3 x4 x5 x6 x7 x8 x9 x10 x11 x12 x13).2.2.1 = (fun _ => 1#1)
      ∧ (fn (F := Ideal) x0 x1 x2 x3 x4 x5 x6 x7 x8 x9 x10 x11 x12 x13).2.2.2.1 = (fun _ => 1#1)
      ∧ (fn (F := Ideal) x0 x1 x2 x3 x4 x5 x6 x7 x8 x9 x10 x11 x12 x13).2.2.2.2.1 = (fun _ => 1#1)
      ∧ (fn (F := Ideal) x0 x1 x2 x3 x4 x5 x6 x7 x8 x9 x10 x11 x12 x13).2.2.2.2.2.1 = (fun _ => 1#1)
      ∧ (fn (F := Ideal) x0 x1 x2 x3 x4 x5 x6 x7 x8 x9 x10 x11 x12 x13).2.2.2.2.2.2 = (fun _ => 1#1)) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) := by
  obtain ⟨h0, h1, h2, h3, h4, h5, h6⟩ := h
  simp only [fn, fn_part1] at h0 h1 h2 h3 h4 h5 h6
  refine ⟨fun i => ?_, fun i => ?_, fun i => ?_, fun i => ?_, fun i => ?_, fun i => ?_, fun i => ?_⟩
  · have hi := congrFun h0 i
    simp only [cmpf, broadcastInDim, constant, Host.absf] at hi
    exact DecClaim.isReal_of_olt _ hi
  · have hi := congrFun h1 i
    simp only [cmpf, broadcastInDim, constant, Host.absf] at hi
    exact DecClaim.isReal_of_olt _ hi
  · have hi := congrFun h2 i
    simp only [cmpf, broadcastInDim, constant, Host.absf] at hi
    exact DecClaim.isReal_of_olt _ hi
  · have hi := congrFun h3 i
    simp only [cmpf, broadcastInDim, constant, Host.absf] at hi
    exact DecClaim.isReal_of_olt _ hi
  · have hi := congrFun h4 i
    simp only [cmpf, broadcastInDim, constant, Host.absf] at hi
    exact DecClaim.isReal_of_olt _ hi
  · have hi := congrFun h5 i
    simp only [cmpf, broadcastInDim, constant, Host.absf] at hi
    exact DecClaim.isReal_of_olt _ hi
  · have hi := congrFun h6 i
    simp only [cmpf, broadcastInDim, constant, Host.absf] at hi
    exact DecClaim.isReal_of_olt _ hi

/-- The kernel and its reference end with equal results. -/
theorem algebraic : Cert.algebraic_LayersIdeal_LayersRefIdeal_pre_layers_inputs := by
  intro m g m' g' hpre hm
  refine ⟨fun c => Cert.LayersIdeal.Value.G14 m c, fun c => Cert.LayersIdeal.Value.G15 m c, Cert.LayersIdeal.Value.run m g, ?_⟩
  refine (θ_run Cert.LayersRefIdeal.defs _ _).mono (fun r h c => ⟨(h c).1.trans ?_, (h c).2.1.trans ?_, (h c).2.2⟩) (Cert.LayersRefIdeal.Value.run (F := Ideal) m' g')
  all_goals
    obtain ⟨e0, e1, e2, e3, e4, e5, e6, e7, e8, e9, e10, e11, e12, e13⟩ := hm c
    obtain ⟨h0, h1, h2, h3, h4, h5, h6⟩ := pre_read _ _ _ _ _ _ _ _ _ _ _ _ _ _ (hpre c)
    have hf : Finite m c := ⟨h0, h1, h2, h3, h4, h5, h6⟩
    have hst : LayRefValue.rstack (StableHlo.launchContents m' c) = stack m c := by
      funext n
      fin_cases n
      · exact e3
      · exact e4
      · exact e5
      · exact e6
      · exact e7
      · exact e8
      · exact e9
      · exact e10
    have hrow : ∀ b, LayRefValue.rrows (StableHlo.launchContents m' c) b 6 = rows m c b 6 := fun b => by
      show after (m' (c.tc.loc Cert.LayersRefIdeal.main_arg0)) (m' (c.tc.loc Cert.LayersRefIdeal.main_arg1)) (m' (c.tc.loc Cert.LayersRefIdeal.main_arg2)) _ b 6 = _
      rw [hst, e0, e1, e2]
    funext x
    obtain ⟨u, j, rfl⟩ : ∃ u j, x = ix2 u j := ⟨x 0, x 1, (ix2_eta x).symm⟩
    obtain ⟨b, t, rfl⟩ := row_split u
  · refine Eq.trans ?_ (G14_apply hf b t j).symm
    refine (LayRefValue.out_apply (StableHlo.launchContents m' c) _ b t j).trans ?_
    rw [hrow]
    show out _ _ (m' (c.tc.loc Cert.LayersRefIdeal.main_arg11)) (m' (c.tc.loc Cert.LayersRefIdeal.main_arg12)) j = _
    rw [e11, e12]
  · refine Eq.trans ?_ (G15_apply hf b t j).symm
    refine (LayRefValue.out_apply (StableHlo.launchContents m' c) _ b t j).trans ?_
    rw [hrow]
    show out _ _ (m' (c.tc.loc Cert.LayersRefIdeal.main_arg11)) (m' (c.tc.loc Cert.LayersRefIdeal.main_arg13)) j = _
    rw [e11, e13]

/-- The reference runs and keeps its arguments; it declares no semaphore. -/
theorem frame_ref : Cert.quiescent_LayersRefIdeal := fun m ρ _ =>
  (θ_run Cert.LayersRefIdeal.defs _ _).mono (fun r h => ⟨fun c => (h c).2.2, sem_eq_zero_of_no_sems (by decide) r.2⟩)
    (Cert.LayersRefIdeal.Value.run (F := Ideal) m ρ)

/-- The named constant stands for the kernel's own. -/
theorem preserves : Cert.preserves_Layers_LayersIdeal :=
  IdealRules.named_const.statement Cert.LayersIdeal.κ "mask" .f32 0xF149F2CA#32 _ rfl

end Cert.LayClaim
-- ==== Proof.lean ====
/- The encoder call's, the complex layers' call's and the decoder call's claims: each runs whole, its idealization is its own, and over the extended reals it computes its reference. -/
module

public import proofs.«01_k».proof.Defs
public import proofs.«01_k».proof.Proof.Gen.Dec.Frame
public import proofs.«01_k».proof.Proof.Gen.DecIdeal.Frame
public import proofs.«01_k».proof.Proof.Gen.DecIdeal.Value
public import proofs.«01_k».proof.Proof.Gen.DecRefIdeal.Run
public import proofs.«01_k».proof.Proof.Gen.DecRefIdeal.Read
public import proofs.«01_k».proof.Proof.DecClaim
public import proofs.«01_k».proof.Proof.Gen.Enc.Frame
public import proofs.«01_k».proof.Proof.Gen.EncIdeal.Frame
public import proofs.«01_k».proof.Proof.Gen.EncIdeal.Value
public import proofs.«01_k».proof.Proof.Gen.EncRefIdeal.Run
public import proofs.«01_k».proof.Proof.Gen.EncRefIdeal.Read
public import proofs.«01_k».proof.Proof.Gen.Pre_ids_in_range
public import proofs.«01_k».proof.Proof.EncClaim
public import proofs.«01_k».proof.Proof.Gen.Layers.Frame
public import proofs.«01_k».proof.Proof.Gen.LayersIdeal.Frame
public import proofs.«01_k».proof.Proof.Gen.LayersIdeal.Value
public import proofs.«01_k».proof.Proof.Gen.LayersRefIdeal.Run
public import proofs.«01_k».proof.Proof.Gen.Pre_layers_inputs
public import proofs.«01_k».proof.Proof.LayClaim

@[expose] public section

noncomputable section

namespace Cert.Proof

open Idealize.ShloMosaic Idealize.SL.Sem

/-- Everything claimed: the frames, that the named constants are the kernel's own, and that the results are the reference's. -/
theorem claim : Cert.Claim :=
  ⟨Cert.Dec.Gen.facts, Cert.DecIdeal.Gen.facts, Cert.DecRefIdeal.Gen.facts, Cert.Enc.Gen.facts, Cert.EncIdeal.Gen.facts, Cert.EncRefIdeal.Gen.facts,
   Cert.Layers.Gen.facts, Cert.LayersIdeal.Gen.facts, Cert.LayersRefIdeal.Gen.facts,
   Cert.Pre_decoder_inputs.Gen.facts, Cert.Pre_ids_in_range.Gen.facts, Cert.Pre_layers_inputs.Gen.facts,
   fun m ρ _ => Cert.Dec.Gen.frame m ρ, fun m ρ _ => Cert.DecIdeal.Gen.frame m ρ, fun m ρ _ => Cert.DecIdeal.Gen.frame m ρ,
   Cert.DecClaim.frame_ref, fun m ρ _ => Cert.DecClaim.frame_ref m ρ trivial,
   fun m ρ _ => Cert.Enc.Gen.frame m ρ, fun m ρ _ => Cert.EncIdeal.Gen.frame m ρ, fun m ρ _ => Cert.EncIdeal.Gen.frame m ρ,
   Cert.EncClaim.frame_ref, fun m ρ _ => Cert.EncClaim.frame_ref m ρ trivial,
   fun m ρ _ => Cert.Layers.Gen.frame m ρ, fun m ρ _ => Cert.LayersIdeal.Gen.frame m ρ, fun m ρ _ => Cert.LayersIdeal.Gen.frame m ρ,
   Cert.LayClaim.frame_ref, fun m ρ _ => Cert.LayClaim.frame_ref m ρ trivial,
   Cert.DecClaim.preserves, Cert.DecClaim.algebraic, Cert.EncClaim.preserves, Cert.EncClaim.algebraic,
   Cert.LayClaim.preserves, Cert.LayClaim.algebraic⟩

end Cert.Proof

end
